-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpDh (m : (ℓ : Loc Cert.MlpDh.nD Cert.MlpDh.τ Cert.MlpDh.sig) → Buf (Elt Bits) ℓ) : Prop :=
  True

def Pre_MlpDhIdeal (m : (ℓ : Loc Cert.MlpDhIdeal.nD Cert.MlpDhIdeal.τ Cert.MlpDhIdeal.sig) → Buf (Elt Ideal) ℓ) : Prop :=
  True

def Pre_MlpDhRefIdeal (m : (ℓ : Loc Cert.MlpDhRefIdeal.nD Cert.MlpDhRefIdeal.τ Cert.MlpDhRefIdeal.sig) → Buf (Elt Ideal) ℓ) : Prop :=
  True

def Pre_MlpDw2 (m : (ℓ : Loc Cert.MlpDw2.nD Cert.MlpDw2.τ Cert.MlpDw2.sig) → Buf (Elt Bits) ℓ) : Prop :=
  True

def Pre_MlpDw2Ideal (m : (ℓ : Loc Cert.MlpDw2Ideal.nD Cert.MlpDw2Ideal.τ Cert.MlpDw2Ideal.sig) → Buf (Elt Ideal) ℓ) : Prop :=
  True

def Pre_MlpDw2RefIdeal (m : (ℓ : Loc Cert.MlpDw2RefIdeal.nD Cert.MlpDw2RefIdeal.τ Cert.MlpDw2RefIdeal.sig) → Buf (Elt Ideal) ℓ) : Prop :=
  True

def Pre_MlpDu (m : (ℓ : Loc Cert.MlpDu.nD Cert.MlpDu.τ Cert.MlpDu.sig) → Buf (Elt Bits) ℓ) : Prop :=
  True

def Pre_MlpDuIdeal (m : (ℓ : Loc Cert.MlpDuIdeal.nD Cert.MlpDuIdeal.τ Cert.MlpDuIdeal.sig) → Buf (Elt Ideal) ℓ) : Prop :=
  True

def Pre_MlpDuRefIdeal (m : (ℓ : Loc Cert.MlpDuRefIdeal.nD Cert.MlpDuRefIdeal.τ Cert.MlpDuRefIdeal.sig) → Buf (Elt Ideal) ℓ) : Prop :=
  True

def Pre_MlpDw1 (m : (ℓ : Loc Cert.MlpDw1.nD Cert.MlpDw1.τ Cert.MlpDw1.sig) → Buf (Elt Bits) ℓ) : Prop :=
  True

def Pre_MlpDw1Ideal (m : (ℓ : Loc Cert.MlpDw1Ideal.nD Cert.MlpDw1Ideal.τ Cert.MlpDw1Ideal.sig) → Buf (Elt Ideal) ℓ) : Prop :=
  True

def Pre_MlpDw1RefIdeal (m : (ℓ : Loc Cert.MlpDw1RefIdeal.nD Cert.MlpDw1RefIdeal.τ Cert.MlpDw1RefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_AbInDw (m : (ℓ : Loc Cert.AbInDw.nD Cert.AbInDw.τ Cert.AbInDw.sig) → Buf (Elt Bits) ℓ) : Prop :=
  True

def Pre_AbInDwIdeal (m : (ℓ : Loc Cert.AbInDwIdeal.nD Cert.AbInDwIdeal.τ Cert.AbInDwIdeal.sig) → Buf (Elt Ideal) ℓ) : Prop :=
  True

def Pre_AbInDwRefIdeal (m : (ℓ : Loc Cert.AbInDwRefIdeal.nD Cert.AbInDwRefIdeal.τ Cert.AbInDwRefIdeal.sig) → Buf (Elt Ideal) ℓ) : Prop :=
  True

def Pre_AbInDx (m : (ℓ : Loc Cert.AbInDx.nD Cert.AbInDx.τ Cert.AbInDx.sig) → Buf (Elt Bits) ℓ) : Prop :=
  True

def Pre_AbInDxIdeal (m : (ℓ : Loc Cert.AbInDxIdeal.nD Cert.AbInDxIdeal.τ Cert.AbInDxIdeal.sig) → Buf (Elt Ideal) ℓ) : Prop :=
  True

def Pre_AbInDxRefIdeal (m : (ℓ : Loc Cert.AbInDxRefIdeal.nD Cert.AbInDxRefIdeal.τ Cert.AbInDxRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_AbOutDw (m : (ℓ : Loc Cert.AbOutDw.nD Cert.AbOutDw.τ Cert.AbOutDw.sig) → Buf (Elt Bits) ℓ) : Prop :=
  True

def Pre_AbOutDwIdeal (m : (ℓ : Loc Cert.AbOutDwIdeal.nD Cert.AbOutDwIdeal.τ Cert.AbOutDwIdeal.sig) → Buf (Elt Ideal) ℓ) : Prop :=
  True

def Pre_AbOutDwRefIdeal (m : (ℓ : Loc Cert.AbOutDwRefIdeal.nD Cert.AbOutDwRefIdeal.τ Cert.AbOutDwRefIdeal.sig) → Buf (Elt Ideal) ℓ) : Prop :=
  True

def Pre_AbOutDx (m : (ℓ : Loc Cert.AbOutDx.nD Cert.AbOutDx.τ Cert.AbOutDx.sig) → Buf (Elt Bits) ℓ) : Prop :=
  True

def Pre_AbOutDxIdeal (m : (ℓ : Loc Cert.AbOutDxIdeal.nD Cert.AbOutDxIdeal.τ Cert.AbOutDxIdeal.sig) → Buf (Elt Ideal) ℓ) : Prop :=
  True

def Pre_AbOutDxRefIdeal (m : (ℓ : Loc Cert.AbOutDxRefIdeal.nD Cert.AbOutDxRefIdeal.τ Cert.AbOutDxRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_DilOut (m : (ℓ : Loc Cert.DilOut.nD Cert.DilOut.τ Cert.DilOut.sig) → Buf (Elt Bits) ℓ) : Prop :=
  True

def Pre_DilOutIdeal (m : (ℓ : Loc Cert.DilOutIdeal.nD Cert.DilOutIdeal.τ Cert.DilOutIdeal.sig) → Buf (Elt Ideal) ℓ) : Prop :=
  True

def Pre_DilOutRefIdeal (m : (ℓ : Loc Cert.DilOutRefIdeal.nD Cert.DilOutRefIdeal.τ Cert.DilOutRefIdeal.sig) → Buf (Elt Ideal) ℓ) : Prop :=
  True

def Pre_DilOutDw (m : (ℓ : Loc Cert.DilOutDw.nD Cert.DilOutDw.τ Cert.DilOutDw.sig) → Buf (Elt Bits) ℓ) : Prop :=
  True

def Pre_DilOutDwIdeal (m : (ℓ : Loc Cert.DilOutDwIdeal.nD Cert.DilOutDwIdeal.τ Cert.DilOutDwIdeal.sig) → Buf (Elt Ideal) ℓ) : Prop :=
  True

def Pre_DilOutDwRefIdeal (m : (ℓ : Loc Cert.DilOutDwRefIdeal.nD Cert.DilOutDwRefIdeal.τ Cert.DilOutDwRefIdeal.sig) → Buf (Elt Ideal) ℓ) : Prop :=
  True

def Pre_DilOutDx (m : (ℓ : Loc Cert.DilOutDx.nD Cert.DilOutDx.τ Cert.DilOutDx.sig) → Buf (Elt Bits) ℓ) : Prop :=
  True

def Pre_DilOutDxIdeal (m : (ℓ : Loc Cert.DilOutDxIdeal.nD Cert.DilOutDxIdeal.τ Cert.DilOutDxIdeal.sig) → Buf (Elt Ideal) ℓ) : Prop :=
  True

def Pre_DilOutDxRefIdeal (m : (ℓ : Loc Cert.DilOutDxRefIdeal.nD Cert.DilOutDxRefIdeal.τ Cert.DilOutDxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_MlpDh [hMlpDh : Cert.MlpDh.Facts] : Prop :=
  ∀ (m : (ℓ : Loc Cert.MlpDh.nD Cert.MlpDh.τ Cert.MlpDh.sig) → Buf (Elt Bits) ℓ) (g : Dev Cert.MlpDh.nD → PrngReg), Pre_MlpDh m →
    θ_run (Cert.MlpDh.defs (F := Bits)) (onTc (τ := Cert.MlpDh.τ) (Cert.MlpDh.main (F := Bits))) ⟨m, fun _ => 0, g⟩ (fun r => (∀ c : Dev Cert.MlpDh.nD,
      r.2.mem ((c.tc : Thread Cert.MlpDh.nD Cert.MlpDh.τ).loc Cert.MlpDh.main_arg0) = m ((c.tc : Thread Cert.MlpDh.nD Cert.MlpDh.τ).loc Cert.MlpDh.main_arg0)
      ∧ r.2.mem ((c.tc : Thread Cert.MlpDh.nD Cert.MlpDh.τ).loc Cert.MlpDh.main_arg1) = m ((c.tc : Thread Cert.MlpDh.nD Cert.MlpDh.τ).loc Cert.MlpDh.main_arg1)
      ∧ r.2.mem ((c.tc : Thread Cert.MlpDh.nD Cert.MlpDh.τ).loc Cert.MlpDh.main_arg2) = m ((c.tc : Thread Cert.MlpDh.nD Cert.MlpDh.τ).loc Cert.MlpDh.main_arg2))
      ∧ r.2.sem = fun _ => 0)

def quiescent_MlpDhIdeal [hMlpDhIdeal : Cert.MlpDhIdeal.Facts] : Prop :=
  ∀ (m : (ℓ : Loc Cert.MlpDhIdeal.nD Cert.MlpDhIdeal.τ Cert.MlpDhIdeal.sig) → Buf (Elt Ideal) ℓ) (g : Dev Cert.MlpDhIdeal.nD → PrngReg), Pre_MlpDhIdeal m →
    θ_run (Cert.MlpDhIdeal.defs (F := Ideal)) (onTc (τ := Cert.MlpDhIdeal.τ) (Cert.MlpDhIdeal.main (F := Ideal))) ⟨m, fun _ => 0, g⟩ (fun r => (∀ c : Dev Cert.MlpDhIdeal.nD,
      r.2.mem ((c.tc : Thread Cert.MlpDhIdeal.nD Cert.MlpDhIdeal.τ).loc Cert.MlpDhIdeal.main_arg0) = m ((c.tc : Thread Cert.MlpDhIdeal.nD Cert.MlpDhIdeal.τ).loc Cert.MlpDhIdeal.main_arg0)
      ∧ r.2.mem ((c.tc : Thread Cert.MlpDhIdeal.nD Cert.MlpDhIdeal.τ).loc Cert.MlpDhIdeal.main_arg1) = m ((c.tc : Thread Cert.MlpDhIdeal.nD Cert.MlpDhIdeal.τ).loc Cert.MlpDhIdeal.main_arg1)
      ∧ r.2.mem ((c.tc : Thread Cert.MlpDhIdeal.nD Cert.MlpDhIdeal.τ).loc Cert.MlpDhIdeal.main_arg2) = m ((c.tc : Thread Cert.MlpDhIdeal.nD Cert.MlpDhIdeal.τ).loc Cert.MlpDhIdeal.main_arg2))
      ∧ r.2.sem = fun _ => 0)

def quiescent_MlpDhRefIdeal [hMlpDhRefIdeal : Cert.MlpDhRefIdeal.Facts] : Prop :=
  ∀ (m : (ℓ : Loc Cert.MlpDhRefIdeal.nD Cert.MlpDhRefIdeal.τ Cert.MlpDhRefIdeal.sig) → Buf (Elt Ideal) ℓ) (g : Dev Cert.MlpDhRefIdeal.nD → PrngReg), Pre_MlpDhRefIdeal m →
    θ_run (Cert.MlpDhRefIdeal.defs (F := Ideal)) (onTc (τ := Cert.MlpDhRefIdeal.τ) (Cert.MlpDhRefIdeal.main (F := Ideal))) ⟨m, fun _ => 0, g⟩ (fun r => (∀ c : Dev Cert.MlpDhRefIdeal.nD,
      r.2.mem ((c.tc : Thread Cert.MlpDhRefIdeal.nD Cert.MlpDhRefIdeal.τ).loc Cert.MlpDhRefIdeal.main_arg0) = m ((c.tc : Thread Cert.MlpDhRefIdeal.nD Cert.MlpDhRefIdeal.τ).loc Cert.MlpDhRefIdeal.main_arg0)
      ∧ r.2.mem ((c.tc : Thread Cert.MlpDhRefIdeal.nD Cert.MlpDhRefIdeal.τ).loc Cert.MlpDhRefIdeal.main_arg1) = m ((c.tc : Thread Cert.MlpDhRefIdeal.nD Cert.MlpDhRefIdeal.τ).loc Cert.MlpDhRefIdeal.main_arg1)
      ∧ r.2.mem ((c.tc : Thread Cert.MlpDhRefIdeal.nD Cert.MlpDhRefIdeal.τ).loc Cert.MlpDhRefIdeal.main_arg2) = m ((c.tc : Thread Cert.MlpDhRefIdeal.nD Cert.MlpDhRefIdeal.τ).loc Cert.MlpDhRefIdeal.main_arg2))
      ∧ r.2.sem = fun _ => 0)

def quiescent_MlpDw2 [hMlpDw2 : Cert.MlpDw2.Facts] : Prop :=
  ∀ (m : (ℓ : Loc Cert.MlpDw2.nD Cert.MlpDw2.τ Cert.MlpDw2.sig) → Buf (Elt Bits) ℓ) (g : Dev Cert.MlpDw2.nD → PrngReg), Pre_MlpDw2 m →
    θ_run (Cert.MlpDw2.defs (F := Bits)) (onTc (τ := Cert.MlpDw2.τ) (Cert.MlpDw2.main (F := Bits))) ⟨m, fun _ => 0, g⟩ (fun r => (∀ c : Dev Cert.MlpDw2.nD,
      r.2.mem ((c.tc : Thread Cert.MlpDw2.nD Cert.MlpDw2.τ).loc Cert.MlpDw2.main_arg0) = m ((c.tc : Thread Cert.MlpDw2.nD Cert.MlpDw2.τ).loc Cert.MlpDw2.main_arg0)
      ∧ r.2.mem ((c.tc : Thread Cert.MlpDw2.nD Cert.MlpDw2.τ).loc Cert.MlpDw2.main_arg1) = m ((c.tc : Thread Cert.MlpDw2.nD Cert.MlpDw2.τ).loc Cert.MlpDw2.main_arg1))
      ∧ r.2.sem = fun _ => 0)

def quiescent_MlpDw2Ideal [hMlpDw2Ideal : Cert.MlpDw2Ideal.Facts] : Prop :=
  ∀ (m : (ℓ : Loc Cert.MlpDw2Ideal.nD Cert.MlpDw2Ideal.τ Cert.MlpDw2Ideal.sig) → Buf (Elt Ideal) ℓ) (g : Dev Cert.MlpDw2Ideal.nD → PrngReg), Pre_MlpDw2Ideal m →
    θ_run (Cert.MlpDw2Ideal.defs (F := Ideal)) (onTc (τ := Cert.MlpDw2Ideal.τ) (Cert.MlpDw2Ideal.main (F := Ideal))) ⟨m, fun _ => 0, g⟩ (fun r => (∀ c : Dev Cert.MlpDw2Ideal.nD,
      r.2.mem ((c.tc : Thread Cert.MlpDw2Ideal.nD Cert.MlpDw2Ideal.τ).loc Cert.MlpDw2Ideal.main_arg0) = m ((c.tc : Thread Cert.MlpDw2Ideal.nD Cert.MlpDw2Ideal.τ).loc Cert.MlpDw2Ideal.main_arg0)
      ∧ r.2.mem ((c.tc : Thread Cert.MlpDw2Ideal.nD Cert.MlpDw2Ideal.τ).loc Cert.MlpDw2Ideal.main_arg1) = m ((c.tc : Thread Cert.MlpDw2Ideal.nD Cert.MlpDw2Ideal.τ).loc Cert.MlpDw2Ideal.main_arg1))
      ∧ r.2.sem = fun _ => 0)

def quiescent_MlpDw2RefIdeal [hMlpDw2RefIdeal : Cert.MlpDw2RefIdeal.Facts] : Prop :=
  ∀ (m : (ℓ : Loc Cert.MlpDw2RefIdeal.nD Cert.MlpDw2RefIdeal.τ Cert.MlpDw2RefIdeal.sig) → Buf (Elt Ideal) ℓ) (g : Dev Cert.MlpDw2RefIdeal.nD → PrngReg), Pre_MlpDw2RefIdeal m →
    θ_run (Cert.MlpDw2RefIdeal.defs (F := Ideal)) (onTc (τ := Cert.MlpDw2RefIdeal.τ) (Cert.MlpDw2RefIdeal.main (F := Ideal))) ⟨m, fun _ => 0, g⟩ (fun r => (∀ c : Dev Cert.MlpDw2RefIdeal.nD,
      r.2.mem ((c.tc : Thread Cert.MlpDw2RefIdeal.nD Cert.MlpDw2RefIdeal.τ).loc Cert.MlpDw2RefIdeal.main_arg0) = m ((c.tc : Thread Cert.MlpDw2RefIdeal.nD Cert.MlpDw2RefIdeal.τ).loc Cert.MlpDw2RefIdeal.main_arg0)
      ∧ r.2.mem ((c.tc : Thread Cert.MlpDw2RefIdeal.nD Cert.MlpDw2RefIdeal.τ).loc Cert.MlpDw2RefIdeal.main_arg1) = m ((c.tc : Thread Cert.MlpDw2RefIdeal.nD Cert.MlpDw2RefIdeal.τ).loc Cert.MlpDw2RefIdeal.main_arg1))
      ∧ r.2.sem = fun _ => 0)

def quiescent_MlpDu [hMlpDu : Cert.MlpDu.Facts] : Prop :=
  ∀ (m : (ℓ : Loc Cert.MlpDu.nD Cert.MlpDu.τ Cert.MlpDu.sig) → Buf (Elt Bits) ℓ) (g : Dev Cert.MlpDu.nD → PrngReg), Pre_MlpDu m →
    θ_run (Cert.MlpDu.defs (F := Bits)) (onTc (τ := Cert.MlpDu.τ) (Cert.MlpDu.main (F := Bits))) ⟨m, fun _ => 0, g⟩ (fun r => (∀ c : Dev Cert.MlpDu.nD,
      r.2.mem ((c.tc : Thread Cert.MlpDu.nD Cert.MlpDu.τ).loc Cert.MlpDu.main_arg0) = m ((c.tc : Thread Cert.MlpDu.nD Cert.MlpDu.τ).loc Cert.MlpDu.main_arg0)
      ∧ r.2.mem ((c.tc : Thread Cert.MlpDu.nD Cert.MlpDu.τ).loc Cert.MlpDu.main_arg1) = m ((c.tc : Thread Cert.MlpDu.nD Cert.MlpDu.τ).loc Cert.MlpDu.main_arg1))
      ∧ r.2.sem = fun _ => 0)

def quiescent_MlpDuIdeal [hMlpDuIdeal : Cert.MlpDuIdeal.Facts] : Prop :=
  ∀ (m : (ℓ : Loc Cert.MlpDuIdeal.nD Cert.MlpDuIdeal.τ Cert.MlpDuIdeal.sig) → Buf (Elt Ideal) ℓ) (g : Dev Cert.MlpDuIdeal.nD → PrngReg), Pre_MlpDuIdeal m →
    θ_run (Cert.MlpDuIdeal.defs (F := Ideal)) (onTc (τ := Cert.MlpDuIdeal.τ) (Cert.MlpDuIdeal.main (F := Ideal))) ⟨m, fun _ => 0, g⟩ (fun r => (∀ c : Dev Cert.MlpDuIdeal.nD,
      r.2.mem ((c.tc : Thread Cert.MlpDuIdeal.nD Cert.MlpDuIdeal.τ).loc Cert.MlpDuIdeal.main_arg0) = m ((c.tc : Thread Cert.MlpDuIdeal.nD Cert.MlpDuIdeal.τ).loc Cert.MlpDuIdeal.main_arg0)
      ∧ r.2.mem ((c.tc : Thread Cert.MlpDuIdeal.nD Cert.MlpDuIdeal.τ).loc Cert.MlpDuIdeal.main_arg1) = m ((c.tc : Thread Cert.MlpDuIdeal.nD Cert.MlpDuIdeal.τ).loc Cert.MlpDuIdeal.main_arg1))
      ∧ r.2.sem = fun _ => 0)

def quiescent_MlpDuRefIdeal [hMlpDuRefIdeal : Cert.MlpDuRefIdeal.Facts] : Prop :=
  ∀ (m : (ℓ : Loc Cert.MlpDuRefIdeal.nD Cert.MlpDuRefIdeal.τ Cert.MlpDuRefIdeal.sig) → Buf (Elt Ideal) ℓ) (g : Dev Cert.MlpDuRefIdeal.nD → PrngReg), Pre_MlpDuRefIdeal m →
    θ_run (Cert.MlpDuRefIdeal.defs (F := Ideal)) (onTc (τ := Cert.MlpDuRefIdeal.τ) (Cert.MlpDuRefIdeal.main (F := Ideal))) ⟨m, fun _ => 0, g⟩ (fun r => (∀ c : Dev Cert.MlpDuRefIdeal.nD,
      r.2.mem ((c.tc : Thread Cert.MlpDuRefIdeal.nD Cert.MlpDuRefIdeal.τ).loc Cert.MlpDuRefIdeal.main_arg0) = m ((c.tc : Thread Cert.MlpDuRefIdeal.nD Cert.MlpDuRefIdeal.τ).loc Cert.MlpDuRefIdeal.main_arg0)
      ∧ r.2.mem ((c.tc : Thread Cert.MlpDuRefIdeal.nD Cert.MlpDuRefIdeal.τ).loc Cert.MlpDuRefIdeal.main_arg1) = m ((c.tc : Thread Cert.MlpDuRefIdeal.nD Cert.MlpDuRefIdeal.τ).loc Cert.MlpDuRefIdeal.main_arg1))
      ∧ r.2.sem = fun _ => 0)

def quiescent_MlpDw1 [hMlpDw1 : Cert.MlpDw1.Facts] : Prop :=
  ∀ (m : (ℓ : Loc Cert.MlpDw1.nD Cert.MlpDw1.τ Cert.MlpDw1.sig) → Buf (Elt Bits) ℓ) (g : Dev Cert.MlpDw1.nD → PrngReg), Pre_MlpDw1 m →
    θ_run (Cert.MlpDw1.defs (F := Bits)) (onTc (τ := Cert.MlpDw1.τ) (Cert.MlpDw1.main (F := Bits))) ⟨m, fun _ => 0, g⟩ (fun r => (∀ c : Dev Cert.MlpDw1.nD,
      r.2.mem ((c.tc : Thread Cert.MlpDw1.nD Cert.MlpDw1.τ).loc Cert.MlpDw1.main_arg0) = m ((c.tc : Thread Cert.MlpDw1.nD Cert.MlpDw1.τ).loc Cert.MlpDw1.main_arg0)
      ∧ r.2.mem ((c.tc : Thread Cert.MlpDw1.nD Cert.MlpDw1.τ).loc Cert.MlpDw1.main_arg1) = m ((c.tc : Thread Cert.MlpDw1.nD Cert.MlpDw1.τ).loc Cert.MlpDw1.main_arg1))
      ∧ r.2.sem = fun _ => 0)

def quiescent_MlpDw1Ideal [hMlpDw1Ideal : Cert.MlpDw1Ideal.Facts] : Prop :=
  ∀ (m : (ℓ : Loc Cert.MlpDw1Ideal.nD Cert.MlpDw1Ideal.τ Cert.MlpDw1Ideal.sig) → Buf (Elt Ideal) ℓ) (g : Dev Cert.MlpDw1Ideal.nD → PrngReg), Pre_MlpDw1Ideal m →
    θ_run (Cert.MlpDw1Ideal.defs (F := Ideal)) (onTc (τ := Cert.MlpDw1Ideal.τ) (Cert.MlpDw1Ideal.main (F := Ideal))) ⟨m, fun _ => 0, g⟩ (fun r => (∀ c : Dev Cert.MlpDw1Ideal.nD,
      r.2.mem ((c.tc : Thread Cert.MlpDw1Ideal.nD Cert.MlpDw1Ideal.τ).loc Cert.MlpDw1Ideal.main_arg0) = m ((c.tc : Thread Cert.MlpDw1Ideal.nD Cert.MlpDw1Ideal.τ).loc Cert.MlpDw1Ideal.main_arg0)
      ∧ r.2.mem ((c.tc : Thread Cert.MlpDw1Ideal.nD Cert.MlpDw1Ideal.τ).loc Cert.MlpDw1Ideal.main_arg1) = m ((c.tc : Thread Cert.MlpDw1Ideal.nD Cert.MlpDw1Ideal.τ).loc Cert.MlpDw1Ideal.main_arg1))
      ∧ r.2.sem = fun _ => 0)

def quiescent_MlpDw1RefIdeal [hMlpDw1RefIdeal : Cert.MlpDw1RefIdeal.Facts] : Prop :=
  ∀ (m : (ℓ : Loc Cert.MlpDw1RefIdeal.nD Cert.MlpDw1RefIdeal.τ Cert.MlpDw1RefIdeal.sig) → Buf (Elt Ideal) ℓ) (g : Dev Cert.MlpDw1RefIdeal.nD → PrngReg), Pre_MlpDw1RefIdeal m →
    θ_run (Cert.MlpDw1RefIdeal.defs (F := Ideal)) (onTc (τ := Cert.MlpDw1RefIdeal.τ) (Cert.MlpDw1RefIdeal.main (F := Ideal))) ⟨m, fun _ => 0, g⟩ (fun r => (∀ c : Dev Cert.MlpDw1RefIdeal.nD,
      r.2.mem ((c.tc : Thread Cert.MlpDw1RefIdeal.nD Cert.MlpDw1RefIdeal.τ).loc Cert.MlpDw1RefIdeal.main_arg0) = m ((c.tc : Thread Cert.MlpDw1RefIdeal.nD Cert.MlpDw1RefIdeal.τ).loc Cert.MlpDw1RefIdeal.main_arg0)
      ∧ r.2.mem ((c.tc : Thread Cert.MlpDw1RefIdeal.nD Cert.MlpDw1RefIdeal.τ).loc Cert.MlpDw1RefIdeal.main_arg1) = m ((c.tc : Thread Cert.MlpDw1RefIdeal.nD Cert.MlpDw1RefIdeal.τ).loc Cert.MlpDw1RefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_AbInDw [hAbInDw : Cert.AbInDw.Facts] : Prop :=
  ∀ (m : (ℓ : Loc Cert.AbInDw.nD Cert.AbInDw.τ Cert.AbInDw.sig) → Buf (Elt Bits) ℓ) (g : Dev Cert.AbInDw.nD → PrngReg), Pre_AbInDw m →
    θ_run (Cert.AbInDw.defs (F := Bits)) (onTc (τ := Cert.AbInDw.τ) (Cert.AbInDw.main (F := Bits))) ⟨m, fun _ => 0, g⟩ (fun r => (∀ c : Dev Cert.AbInDw.nD,
      r.2.mem ((c.tc : Thread Cert.AbInDw.nD Cert.AbInDw.τ).loc Cert.AbInDw.main_arg0) = m ((c.tc : Thread Cert.AbInDw.nD Cert.AbInDw.τ).loc Cert.AbInDw.main_arg0)
      ∧ r.2.mem ((c.tc : Thread Cert.AbInDw.nD Cert.AbInDw.τ).loc Cert.AbInDw.main_arg1) = m ((c.tc : Thread Cert.AbInDw.nD Cert.AbInDw.τ).loc Cert.AbInDw.main_arg1))
      ∧ r.2.sem = fun _ => 0)

def quiescent_AbInDwIdeal [hAbInDwIdeal : Cert.AbInDwIdeal.Facts] : Prop :=
  ∀ (m : (ℓ : Loc Cert.AbInDwIdeal.nD Cert.AbInDwIdeal.τ Cert.AbInDwIdeal.sig) → Buf (Elt Ideal) ℓ) (g : Dev Cert.AbInDwIdeal.nD → PrngReg), Pre_AbInDwIdeal m →
    θ_run (Cert.AbInDwIdeal.defs (F := Ideal)) (onTc (τ := Cert.AbInDwIdeal.τ) (Cert.AbInDwIdeal.main (F := Ideal))) ⟨m, fun _ => 0, g⟩ (fun r => (∀ c : Dev Cert.AbInDwIdeal.nD,
      r.2.mem ((c.tc : Thread Cert.AbInDwIdeal.nD Cert.AbInDwIdeal.τ).loc Cert.AbInDwIdeal.main_arg0) = m ((c.tc : Thread Cert.AbInDwIdeal.nD Cert.AbInDwIdeal.τ).loc Cert.AbInDwIdeal.main_arg0)
      ∧ r.2.mem ((c.tc : Thread Cert.AbInDwIdeal.nD Cert.AbInDwIdeal.τ).loc Cert.AbInDwIdeal.main_arg1) = m ((c.tc : Thread Cert.AbInDwIdeal.nD Cert.AbInDwIdeal.τ).loc Cert.AbInDwIdeal.main_arg1))
      ∧ r.2.sem = fun _ => 0)

def quiescent_AbInDwRefIdeal [hAbInDwRefIdeal : Cert.AbInDwRefIdeal.Facts] : Prop :=
  ∀ (m : (ℓ : Loc Cert.AbInDwRefIdeal.nD Cert.AbInDwRefIdeal.τ Cert.AbInDwRefIdeal.sig) → Buf (Elt Ideal) ℓ) (g : Dev Cert.AbInDwRefIdeal.nD → PrngReg), Pre_AbInDwRefIdeal m →
    θ_run (Cert.AbInDwRefIdeal.defs (F := Ideal)) (onTc (τ := Cert.AbInDwRefIdeal.τ) (Cert.AbInDwRefIdeal.main (F := Ideal))) ⟨m, fun _ => 0, g⟩ (fun r => (∀ c : Dev Cert.AbInDwRefIdeal.nD,
      r.2.mem ((c.tc : Thread Cert.AbInDwRefIdeal.nD Cert.AbInDwRefIdeal.τ).loc Cert.AbInDwRefIdeal.main_arg0) = m ((c.tc : Thread Cert.AbInDwRefIdeal.nD Cert.AbInDwRefIdeal.τ).loc Cert.AbInDwRefIdeal.main_arg0)
      ∧ r.2.mem ((c.tc : Thread Cert.AbInDwRefIdeal.nD Cert.AbInDwRefIdeal.τ).loc Cert.AbInDwRefIdeal.main_arg1) = m ((c.tc : Thread Cert.AbInDwRefIdeal.nD Cert.AbInDwRefIdeal.τ).loc Cert.AbInDwRefIdeal.main_arg1))
      ∧ r.2.sem = fun _ => 0)

def quiescent_AbInDx [hAbInDx : Cert.AbInDx.Facts] : Prop :=
  ∀ (m : (ℓ : Loc Cert.AbInDx.nD Cert.AbInDx.τ Cert.AbInDx.sig) → Buf (Elt Bits) ℓ) (g : Dev Cert.AbInDx.nD → PrngReg), Pre_AbInDx m →
    θ_run (Cert.AbInDx.defs (F := Bits)) (onTc (τ := Cert.AbInDx.τ) (Cert.AbInDx.main (F := Bits))) ⟨m, fun _ => 0, g⟩ (fun r => (∀ c : Dev Cert.AbInDx.nD,
      r.2.mem ((c.tc : Thread Cert.AbInDx.nD Cert.AbInDx.τ).loc Cert.AbInDx.main_arg0) = m ((c.tc : Thread Cert.AbInDx.nD Cert.AbInDx.τ).loc Cert.AbInDx.main_arg0)
      ∧ r.2.mem ((c.tc : Thread Cert.AbInDx.nD Cert.AbInDx.τ).loc Cert.AbInDx.main_arg1) = m ((c.tc : Thread Cert.AbInDx.nD Cert.AbInDx.τ).loc Cert.AbInDx.main_arg1))
      ∧ r.2.sem = fun _ => 0)

def quiescent_AbInDxIdeal [hAbInDxIdeal : Cert.AbInDxIdeal.Facts] : Prop :=
  ∀ (m : (ℓ : Loc Cert.AbInDxIdeal.nD Cert.AbInDxIdeal.τ Cert.AbInDxIdeal.sig) → Buf (Elt Ideal) ℓ) (g : Dev Cert.AbInDxIdeal.nD → PrngReg), Pre_AbInDxIdeal m →
    θ_run (Cert.AbInDxIdeal.defs (F := Ideal)) (onTc (τ := Cert.AbInDxIdeal.τ) (Cert.AbInDxIdeal.main (F := Ideal))) ⟨m, fun _ => 0, g⟩ (fun r => (∀ c : Dev Cert.AbInDxIdeal.nD,
      r.2.mem ((c.tc : Thread Cert.AbInDxIdeal.nD Cert.AbInDxIdeal.τ).loc Cert.AbInDxIdeal.main_arg0) = m ((c.tc : Thread Cert.AbInDxIdeal.nD Cert.AbInDxIdeal.τ).loc Cert.AbInDxIdeal.main_arg0)
      ∧ r.2.mem ((c.tc : Thread Cert.AbInDxIdeal.nD Cert.AbInDxIdeal.τ).loc Cert.AbInDxIdeal.main_arg1) = m ((c.tc : Thread Cert.AbInDxIdeal.nD Cert.AbInDxIdeal.τ).loc Cert.AbInDxIdeal.main_arg1))
      ∧ r.2.sem = fun _ => 0)

def quiescent_AbInDxRefIdeal [hAbInDxRefIdeal : Cert.AbInDxRefIdeal.Facts] : Prop :=
  ∀ (m : (ℓ : Loc Cert.AbInDxRefIdeal.nD Cert.AbInDxRefIdeal.τ Cert.AbInDxRefIdeal.sig) → Buf (Elt Ideal) ℓ) (g : Dev Cert.AbInDxRefIdeal.nD → PrngReg), Pre_AbInDxRefIdeal m →
    θ_run (Cert.AbInDxRefIdeal.defs (F := Ideal)) (onTc (τ := Cert.AbInDxRefIdeal.τ) (Cert.AbInDxRefIdeal.main (F := Ideal))) ⟨m, fun _ => 0, g⟩ (fun r => (∀ c : Dev Cert.AbInDxRefIdeal.nD,
      r.2.mem ((c.tc : Thread Cert.AbInDxRefIdeal.nD Cert.AbInDxRefIdeal.τ).loc Cert.AbInDxRefIdeal.main_arg0) = m ((c.tc : Thread Cert.AbInDxRefIdeal.nD Cert.AbInDxRefIdeal.τ).loc Cert.AbInDxRefIdeal.main_arg0)
      ∧ r.2.mem ((c.tc : Thread Cert.AbInDxRefIdeal.nD Cert.AbInDxRefIdeal.τ).loc Cert.AbInDxRefIdeal.main_arg1) = m ((c.tc : Thread Cert.AbInDxRefIdeal.nD Cert.AbInDxRefIdeal.τ).loc Cert.AbInDxRefIdeal.main_arg1))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1))
      ∧ r.2.sem = fun _ => 0)

def quiescent_AbOutDw [hAbOutDw : Cert.AbOutDw.Facts] : Prop :=
  ∀ (m : (ℓ : Loc Cert.AbOutDw.nD Cert.AbOutDw.τ Cert.AbOutDw.sig) → Buf (Elt Bits) ℓ) (g : Dev Cert.AbOutDw.nD → PrngReg), Pre_AbOutDw m →
    θ_run (Cert.AbOutDw.defs (F := Bits)) (onTc (τ := Cert.AbOutDw.τ) (Cert.AbOutDw.main (F := Bits))) ⟨m, fun _ => 0, g⟩ (fun r => (∀ c : Dev Cert.AbOutDw.nD,
      r.2.mem ((c.tc : Thread Cert.AbOutDw.nD Cert.AbOutDw.τ).loc Cert.AbOutDw.main_arg0) = m ((c.tc : Thread Cert.AbOutDw.nD Cert.AbOutDw.τ).loc Cert.AbOutDw.main_arg0)
      ∧ r.2.mem ((c.tc : Thread Cert.AbOutDw.nD Cert.AbOutDw.τ).loc Cert.AbOutDw.main_arg1) = m ((c.tc : Thread Cert.AbOutDw.nD Cert.AbOutDw.τ).loc Cert.AbOutDw.main_arg1))
      ∧ r.2.sem = fun _ => 0)

def quiescent_AbOutDwIdeal [hAbOutDwIdeal : Cert.AbOutDwIdeal.Facts] : Prop :=
  ∀ (m : (ℓ : Loc Cert.AbOutDwIdeal.nD Cert.AbOutDwIdeal.τ Cert.AbOutDwIdeal.sig) → Buf (Elt Ideal) ℓ) (g : Dev Cert.AbOutDwIdeal.nD → PrngReg), Pre_AbOutDwIdeal m →
    θ_run (Cert.AbOutDwIdeal.defs (F := Ideal)) (onTc (τ := Cert.AbOutDwIdeal.τ) (Cert.AbOutDwIdeal.main (F := Ideal))) ⟨m, fun _ => 0, g⟩ (fun r => (∀ c : Dev Cert.AbOutDwIdeal.nD,
      r.2.mem ((c.tc : Thread Cert.AbOutDwIdeal.nD Cert.AbOutDwIdeal.τ).loc Cert.AbOutDwIdeal.main_arg0) = m ((c.tc : Thread Cert.AbOutDwIdeal.nD Cert.AbOutDwIdeal.τ).loc Cert.AbOutDwIdeal.main_arg0)
      ∧ r.2.mem ((c.tc : Thread Cert.AbOutDwIdeal.nD Cert.AbOutDwIdeal.τ).loc Cert.AbOutDwIdeal.main_arg1) = m ((c.tc : Thread Cert.AbOutDwIdeal.nD Cert.AbOutDwIdeal.τ).loc Cert.AbOutDwIdeal.main_arg1))
      ∧ r.2.sem = fun _ => 0)

def quiescent_AbOutDwRefIdeal [hAbOutDwRefIdeal : Cert.AbOutDwRefIdeal.Facts] : Prop :=
  ∀ (m : (ℓ : Loc Cert.AbOutDwRefIdeal.nD Cert.AbOutDwRefIdeal.τ Cert.AbOutDwRefIdeal.sig) → Buf (Elt Ideal) ℓ) (g : Dev Cert.AbOutDwRefIdeal.nD → PrngReg), Pre_AbOutDwRefIdeal m →
    θ_run (Cert.AbOutDwRefIdeal.defs (F := Ideal)) (onTc (τ := Cert.AbOutDwRefIdeal.τ) (Cert.AbOutDwRefIdeal.main (F := Ideal))) ⟨m, fun _ => 0, g⟩ (fun r => (∀ c : Dev Cert.AbOutDwRefIdeal.nD,
      r.2.mem ((c.tc : Thread Cert.AbOutDwRefIdeal.nD Cert.AbOutDwRefIdeal.τ).loc Cert.AbOutDwRefIdeal.main_arg0) = m ((c.tc : Thread Cert.AbOutDwRefIdeal.nD Cert.AbOutDwRefIdeal.τ).loc Cert.AbOutDwRefIdeal.main_arg0)
      ∧ r.2.mem ((c.tc : Thread Cert.AbOutDwRefIdeal.nD Cert.AbOutDwRefIdeal.τ).loc Cert.AbOutDwRefIdeal.main_arg1) = m ((c.tc : Thread Cert.AbOutDwRefIdeal.nD Cert.AbOutDwRefIdeal.τ).loc Cert.AbOutDwRefIdeal.main_arg1))
      ∧ r.2.sem = fun _ => 0)

def quiescent_AbOutDx [hAbOutDx : Cert.AbOutDx.Facts] : Prop :=
  ∀ (m : (ℓ : Loc Cert.AbOutDx.nD Cert.AbOutDx.τ Cert.AbOutDx.sig) → Buf (Elt Bits) ℓ) (g : Dev Cert.AbOutDx.nD → PrngReg), Pre_AbOutDx m →
    θ_run (Cert.AbOutDx.defs (F := Bits)) (onTc (τ := Cert.AbOutDx.τ) (Cert.AbOutDx.main (F := Bits))) ⟨m, fun _ => 0, g⟩ (fun r => (∀ c : Dev Cert.AbOutDx.nD,
      r.2.mem ((c.tc : Thread Cert.AbOutDx.nD Cert.AbOutDx.τ).loc Cert.AbOutDx.main_arg0) = m ((c.tc : Thread Cert.AbOutDx.nD Cert.AbOutDx.τ).loc Cert.AbOutDx.main_arg0)
      ∧ r.2.mem ((c.tc : Thread Cert.AbOutDx.nD Cert.AbOutDx.τ).loc Cert.AbOutDx.main_arg1) = m ((c.tc : Thread Cert.AbOutDx.nD Cert.AbOutDx.τ).loc Cert.AbOutDx.main_arg1))
      ∧ r.2.sem = fun _ => 0)

def quiescent_AbOutDxIdeal [hAbOutDxIdeal : Cert.AbOutDxIdeal.Facts] : Prop :=
  ∀ (m : (ℓ : Loc Cert.AbOutDxIdeal.nD Cert.AbOutDxIdeal.τ Cert.AbOutDxIdeal.sig) → Buf (Elt Ideal) ℓ) (g : Dev Cert.AbOutDxIdeal.nD → PrngReg), Pre_AbOutDxIdeal m →
    θ_run (Cert.AbOutDxIdeal.defs (F := Ideal)) (onTc (τ := Cert.AbOutDxIdeal.τ) (Cert.AbOutDxIdeal.main (F := Ideal))) ⟨m, fun _ => 0, g⟩ (fun r => (∀ c : Dev Cert.AbOutDxIdeal.nD,
      r.2.mem ((c.tc : Thread Cert.AbOutDxIdeal.nD Cert.AbOutDxIdeal.τ).loc Cert.AbOutDxIdeal.main_arg0) = m ((c.tc : Thread Cert.AbOutDxIdeal.nD Cert.AbOutDxIdeal.τ).loc Cert.AbOutDxIdeal.main_arg0)
      ∧ r.2.mem ((c.tc : Thread Cert.AbOutDxIdeal.nD Cert.AbOutDxIdeal.τ).loc Cert.AbOutDxIdeal.main_arg1) = m ((c.tc : Thread Cert.AbOutDxIdeal.nD Cert.AbOutDxIdeal.τ).loc Cert.AbOutDxIdeal.main_arg1))
      ∧ r.2.sem = fun _ => 0)

def quiescent_AbOutDxRefIdeal [hAbOutDxRefIdeal : Cert.AbOutDxRefIdeal.Facts] : Prop :=
  ∀ (m : (ℓ : Loc Cert.AbOutDxRefIdeal.nD Cert.AbOutDxRefIdeal.τ Cert.AbOutDxRefIdeal.sig) → Buf (Elt Ideal) ℓ) (g : Dev Cert.AbOutDxRefIdeal.nD → PrngReg), Pre_AbOutDxRefIdeal m →
    θ_run (Cert.AbOutDxRefIdeal.defs (F := Ideal)) (onTc (τ := Cert.AbOutDxRefIdeal.τ) (Cert.AbOutDxRefIdeal.main (F := Ideal))) ⟨m, fun _ => 0, g⟩ (fun r => (∀ c : Dev Cert.AbOutDxRefIdeal.nD,
      r.2.mem ((c.tc : Thread Cert.AbOutDxRefIdeal.nD Cert.AbOutDxRefIdeal.τ).loc Cert.AbOutDxRefIdeal.main_arg0) = m ((c.tc : Thread Cert.AbOutDxRefIdeal.nD Cert.AbOutDxRefIdeal.τ).loc Cert.AbOutDxRefIdeal.main_arg0)
      ∧ r.2.mem ((c.tc : Thread Cert.AbOutDxRefIdeal.nD Cert.AbOutDxRefIdeal.τ).loc Cert.AbOutDxRefIdeal.main_arg1) = m ((c.tc : Thread Cert.AbOutDxRefIdeal.nD Cert.AbOutDxRefIdeal.τ).loc Cert.AbOutDxRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1))
      ∧ r.2.sem = fun _ => 0)

def quiescent_DilOut [hDilOut : Cert.DilOut.Facts] : Prop :=
  ∀ (m : (ℓ : Loc Cert.DilOut.nD Cert.DilOut.τ Cert.DilOut.sig) → Buf (Elt Bits) ℓ) (g : Dev Cert.DilOut.nD → PrngReg), Pre_DilOut m →
    θ_run (Cert.DilOut.defs (F := Bits)) (onTc (τ := Cert.DilOut.τ) (Cert.DilOut.main (F := Bits))) ⟨m, fun _ => 0, g⟩ (fun r => (∀ c : Dev Cert.DilOut.nD,
      r.2.mem ((c.tc : Thread Cert.DilOut.nD Cert.DilOut.τ).loc Cert.DilOut.main_arg0) = m ((c.tc : Thread Cert.DilOut.nD Cert.DilOut.τ).loc Cert.DilOut.main_arg0)
      ∧ r.2.mem ((c.tc : Thread Cert.DilOut.nD Cert.DilOut.τ).loc Cert.DilOut.main_arg1) = m ((c.tc : Thread Cert.DilOut.nD Cert.DilOut.τ).loc Cert.DilOut.main_arg1))
      ∧ r.2.sem = fun _ => 0)

def quiescent_DilOutIdeal [hDilOutIdeal : Cert.DilOutIdeal.Facts] : Prop :=
  ∀ (m : (ℓ : Loc Cert.DilOutIdeal.nD Cert.DilOutIdeal.τ Cert.DilOutIdeal.sig) → Buf (Elt Ideal) ℓ) (g : Dev Cert.DilOutIdeal.nD → PrngReg), Pre_DilOutIdeal m →
    θ_run (Cert.DilOutIdeal.defs (F := Ideal)) (onTc (τ := Cert.DilOutIdeal.τ) (Cert.DilOutIdeal.main (F := Ideal))) ⟨m, fun _ => 0, g⟩ (fun r => (∀ c : Dev Cert.DilOutIdeal.nD,
      r.2.mem ((c.tc : Thread Cert.DilOutIdeal.nD Cert.DilOutIdeal.τ).loc Cert.DilOutIdeal.main_arg0) = m ((c.tc : Thread Cert.DilOutIdeal.nD Cert.DilOutIdeal.τ).loc Cert.DilOutIdeal.main_arg0)
      ∧ r.2.mem ((c.tc : Thread Cert.DilOutIdeal.nD Cert.DilOutIdeal.τ).loc Cert.DilOutIdeal.main_arg1) = m ((c.tc : Thread Cert.DilOutIdeal.nD Cert.DilOutIdeal.τ).loc Cert.DilOutIdeal.main_arg1))
      ∧ r.2.sem = fun _ => 0)

def quiescent_DilOutRefIdeal [hDilOutRefIdeal : Cert.DilOutRefIdeal.Facts] : Prop :=
  ∀ (m : (ℓ : Loc Cert.DilOutRefIdeal.nD Cert.DilOutRefIdeal.τ Cert.DilOutRefIdeal.sig) → Buf (Elt Ideal) ℓ) (g : Dev Cert.DilOutRefIdeal.nD → PrngReg), Pre_DilOutRefIdeal m →
    θ_run (Cert.DilOutRefIdeal.defs (F := Ideal)) (onTc (τ := Cert.DilOutRefIdeal.τ) (Cert.DilOutRefIdeal.main (F := Ideal))) ⟨m, fun _ => 0, g⟩ (fun r => (∀ c : Dev Cert.DilOutRefIdeal.nD,
      r.2.mem ((c.tc : Thread Cert.DilOutRefIdeal.nD Cert.DilOutRefIdeal.τ).loc Cert.DilOutRefIdeal.main_arg0) = m ((c.tc : Thread Cert.DilOutRefIdeal.nD Cert.DilOutRefIdeal.τ).loc Cert.DilOutRefIdeal.main_arg0)
      ∧ r.2.mem ((c.tc : Thread Cert.DilOutRefIdeal.nD Cert.DilOutRefIdeal.τ).loc Cert.DilOutRefIdeal.main_arg1) = m ((c.tc : Thread Cert.DilOutRefIdeal.nD Cert.DilOutRefIdeal.τ).loc Cert.DilOutRefIdeal.main_arg1))
      ∧ r.2.sem = fun _ => 0)

def quiescent_DilOutDw [hDilOutDw : Cert.DilOutDw.Facts] : Prop :=
  ∀ (m : (ℓ : Loc Cert.DilOutDw.nD Cert.DilOutDw.τ Cert.DilOutDw.sig) → Buf (Elt Bits) ℓ) (g : Dev Cert.DilOutDw.nD → PrngReg), Pre_DilOutDw m →
    θ_run (Cert.DilOutDw.defs (F := Bits)) (onTc (τ := Cert.DilOutDw.τ) (Cert.DilOutDw.main (F := Bits))) ⟨m, fun _ => 0, g⟩ (fun r => (∀ c : Dev Cert.DilOutDw.nD,
      r.2.mem ((c.tc : Thread Cert.DilOutDw.nD Cert.DilOutDw.τ).loc Cert.DilOutDw.main_arg0) = m ((c.tc : Thread Cert.DilOutDw.nD Cert.DilOutDw.τ).loc Cert.DilOutDw.main_arg0)
      ∧ r.2.mem ((c.tc : Thread Cert.DilOutDw.nD Cert.DilOutDw.τ).loc Cert.DilOutDw.main_arg1) = m ((c.tc : Thread Cert.DilOutDw.nD Cert.DilOutDw.τ).loc Cert.DilOutDw.main_arg1))
      ∧ r.2.sem = fun _ => 0)

def quiescent_DilOutDwIdeal [hDilOutDwIdeal : Cert.DilOutDwIdeal.Facts] : Prop :=
  ∀ (m : (ℓ : Loc Cert.DilOutDwIdeal.nD Cert.DilOutDwIdeal.τ Cert.DilOutDwIdeal.sig) → Buf (Elt Ideal) ℓ) (g : Dev Cert.DilOutDwIdeal.nD → PrngReg), Pre_DilOutDwIdeal m →
    θ_run (Cert.DilOutDwIdeal.defs (F := Ideal)) (onTc (τ := Cert.DilOutDwIdeal.τ) (Cert.DilOutDwIdeal.main (F := Ideal))) ⟨m, fun _ => 0, g⟩ (fun r => (∀ c : Dev Cert.DilOutDwIdeal.nD,
      r.2.mem ((c.tc : Thread Cert.DilOutDwIdeal.nD Cert.DilOutDwIdeal.τ).loc Cert.DilOutDwIdeal.main_arg0) = m ((c.tc : Thread Cert.DilOutDwIdeal.nD Cert.DilOutDwIdeal.τ).loc Cert.DilOutDwIdeal.main_arg0)
      ∧ r.2.mem ((c.tc : Thread Cert.DilOutDwIdeal.nD Cert.DilOutDwIdeal.τ).loc Cert.DilOutDwIdeal.main_arg1) = m ((c.tc : Thread Cert.DilOutDwIdeal.nD Cert.DilOutDwIdeal.τ).loc Cert.DilOutDwIdeal.main_arg1))
      ∧ r.2.sem = fun _ => 0)

def quiescent_DilOutDwRefIdeal [hDilOutDwRefIdeal : Cert.DilOutDwRefIdeal.Facts] : Prop :=
  ∀ (m : (ℓ : Loc Cert.DilOutDwRefIdeal.nD Cert.DilOutDwRefIdeal.τ Cert.DilOutDwRefIdeal.sig) → Buf (Elt Ideal) ℓ) (g : Dev Cert.DilOutDwRefIdeal.nD → PrngReg), Pre_DilOutDwRefIdeal m →
    θ_run (Cert.DilOutDwRefIdeal.defs (F := Ideal)) (onTc (τ := Cert.DilOutDwRefIdeal.τ) (Cert.DilOutDwRefIdeal.main (F := Ideal))) ⟨m, fun _ => 0, g⟩ (fun r => (∀ c : Dev Cert.DilOutDwRefIdeal.nD,
      r.2.mem ((c.tc : Thread Cert.DilOutDwRefIdeal.nD Cert.DilOutDwRefIdeal.τ).loc Cert.DilOutDwRefIdeal.main_arg0) = m ((c.tc : Thread Cert.DilOutDwRefIdeal.nD Cert.DilOutDwRefIdeal.τ).loc Cert.DilOutDwRefIdeal.main_arg0)
      ∧ r.2.mem ((c.tc : Thread Cert.DilOutDwRefIdeal.nD Cert.DilOutDwRefIdeal.τ).loc Cert.DilOutDwRefIdeal.main_arg1) = m ((c.tc : Thread Cert.DilOutDwRefIdeal.nD Cert.DilOutDwRefIdeal.τ).loc Cert.DilOutDwRefIdeal.main_arg1))
      ∧ r.2.sem = fun _ => 0)

def quiescent_DilOutDx [hDilOutDx : Cert.DilOutDx.Facts] : Prop :=
  ∀ (m : (ℓ : Loc Cert.DilOutDx.nD Cert.DilOutDx.τ Cert.DilOutDx.sig) → Buf (Elt Bits) ℓ) (g : Dev Cert.DilOutDx.nD → PrngReg), Pre_DilOutDx m →
    θ_run (Cert.DilOutDx.defs (F := Bits)) (onTc (τ := Cert.DilOutDx.τ) (Cert.DilOutDx.main (F := Bits))) ⟨m, fun _ => 0, g⟩ (fun r => (∀ c : Dev Cert.DilOutDx.nD,
      r.2.mem ((c.tc : Thread Cert.DilOutDx.nD Cert.DilOutDx.τ).loc Cert.DilOutDx.main_arg0) = m ((c.tc : Thread Cert.DilOutDx.nD Cert.DilOutDx.τ).loc Cert.DilOutDx.main_arg0)
      ∧ r.2.mem ((c.tc : Thread Cert.DilOutDx.nD Cert.DilOutDx.τ).loc Cert.DilOutDx.main_arg1) = m ((c.tc : Thread Cert.DilOutDx.nD Cert.DilOutDx.τ).loc Cert.DilOutDx.main_arg1))
      ∧ r.2.sem = fun _ => 0)

def quiescent_DilOutDxIdeal [hDilOutDxIdeal : Cert.DilOutDxIdeal.Facts] : Prop :=
  ∀ (m : (ℓ : Loc Cert.DilOutDxIdeal.nD Cert.DilOutDxIdeal.τ Cert.DilOutDxIdeal.sig) → Buf (Elt Ideal) ℓ) (g : Dev Cert.DilOutDxIdeal.nD → PrngReg), Pre_DilOutDxIdeal m →
    θ_run (Cert.DilOutDxIdeal.defs (F := Ideal)) (onTc (τ := Cert.DilOutDxIdeal.τ) (Cert.DilOutDxIdeal.main (F := Ideal))) ⟨m, fun _ => 0, g⟩ (fun r => (∀ c : Dev Cert.DilOutDxIdeal.nD,
      r.2.mem ((c.tc : Thread Cert.DilOutDxIdeal.nD Cert.DilOutDxIdeal.τ).loc Cert.DilOutDxIdeal.main_arg0) = m ((c.tc : Thread Cert.DilOutDxIdeal.nD Cert.DilOutDxIdeal.τ).loc Cert.DilOutDxIdeal.main_arg0)
      ∧ r.2.mem ((c.tc : Thread Cert.DilOutDxIdeal.nD Cert.DilOutDxIdeal.τ).loc Cert.DilOutDxIdeal.main_arg1) = m ((c.tc : Thread Cert.DilOutDxIdeal.nD Cert.DilOutDxIdeal.τ).loc Cert.DilOutDxIdeal.main_arg1))
      ∧ r.2.sem = fun _ => 0)

def quiescent_DilOutDxRefIdeal [hDilOutDxRefIdeal : Cert.DilOutDxRefIdeal.Facts] : Prop :=
  ∀ (m : (ℓ : Loc Cert.DilOutDxRefIdeal.nD Cert.DilOutDxRefIdeal.τ Cert.DilOutDxRefIdeal.sig) → Buf (Elt Ideal) ℓ) (g : Dev Cert.DilOutDxRefIdeal.nD → PrngReg), Pre_DilOutDxRefIdeal m →
    θ_run (Cert.DilOutDxRefIdeal.defs (F := Ideal)) (onTc (τ := Cert.DilOutDxRefIdeal.τ) (Cert.DilOutDxRefIdeal.main (F := Ideal))) ⟨m, fun _ => 0, g⟩ (fun r => (∀ c : Dev Cert.DilOutDxRefIdeal.nD,
      r.2.mem ((c.tc : Thread Cert.DilOutDxRefIdeal.nD Cert.DilOutDxRefIdeal.τ).loc Cert.DilOutDxRefIdeal.main_arg0) = m ((c.tc : Thread Cert.DilOutDxRefIdeal.nD Cert.DilOutDxRefIdeal.τ).loc Cert.DilOutDxRefIdeal.main_arg0)
      ∧ r.2.mem ((c.tc : Thread Cert.DilOutDxRefIdeal.nD Cert.DilOutDxRefIdeal.τ).loc Cert.DilOutDxRefIdeal.main_arg1) = m ((c.tc : Thread Cert.DilOutDxRefIdeal.nD Cert.DilOutDxRefIdeal.τ).loc Cert.DilOutDxRefIdeal.main_arg1))
      ∧ r.2.sem = fun _ => 0)

def preserves_Kernel_KernelIdeal : Prop :=
  True

def preserves_MlpDh_MlpDhIdeal : Prop :=
  True

def algebraic_MlpDhIdeal_MlpDhRefIdeal [hMlpDhIdeal : Cert.MlpDhIdeal.Facts] [hMlpDhRefIdeal : Cert.MlpDhRefIdeal.Facts] : Prop :=
  ∀ (m : (ℓ : Loc Cert.MlpDhIdeal.nD Cert.MlpDhIdeal.τ Cert.MlpDhIdeal.sig) → Buf (Elt Ideal) ℓ) (g : Dev Cert.MlpDhIdeal.nD → PrngReg)
    (m' : (ℓ : Loc Cert.MlpDhRefIdeal.nD Cert.MlpDhRefIdeal.τ Cert.MlpDhRefIdeal.sig) → Buf (Elt Ideal) ℓ) (g' : Dev Cert.MlpDhRefIdeal.nD → PrngReg), Pre_MlpDhIdeal m →
    (∀ c : Dev Cert.MlpDhIdeal.nD,
      m' ((c.tc : Thread Cert.MlpDhRefIdeal.nD Cert.MlpDhRefIdeal.τ).loc Cert.MlpDhRefIdeal.main_arg0) = m ((c.tc : Thread Cert.MlpDhIdeal.nD Cert.MlpDhIdeal.τ).loc Cert.MlpDhIdeal.main_arg0)
      ∧ m' ((c.tc : Thread Cert.MlpDhRefIdeal.nD Cert.MlpDhRefIdeal.τ).loc Cert.MlpDhRefIdeal.main_arg1) = m ((c.tc : Thread Cert.MlpDhIdeal.nD Cert.MlpDhIdeal.τ).loc Cert.MlpDhIdeal.main_arg1)
      ∧ m' ((c.tc : Thread Cert.MlpDhRefIdeal.nD Cert.MlpDhRefIdeal.τ).loc Cert.MlpDhRefIdeal.main_arg2) = m ((c.tc : Thread Cert.MlpDhIdeal.nD Cert.MlpDhIdeal.τ).loc Cert.MlpDhIdeal.main_arg2)) →
    ∃ (v0 : (c : Dev Cert.MlpDhIdeal.nD) → Buf (Elt Ideal) ((c.tc : Thread Cert.MlpDhIdeal.nD Cert.MlpDhIdeal.τ).loc Cert.MlpDhIdeal.main_v2)),
      θ_run (Cert.MlpDhIdeal.defs (F := Ideal)) (onTc (τ := Cert.MlpDhIdeal.τ) (Cert.MlpDhIdeal.main (F := Ideal))) ⟨m, fun _ => 0, g⟩ (fun r => ∀ c : Dev Cert.MlpDhIdeal.nD,
          r.2.mem ((c.tc : Thread Cert.MlpDhIdeal.nD Cert.MlpDhIdeal.τ).loc Cert.MlpDhIdeal.main_v2) = v0 c
          ∧ r.2.mem ((c.tc : Thread Cert.MlpDhIdeal.nD Cert.MlpDhIdeal.τ).loc Cert.MlpDhIdeal.main_arg0) = m ((c.tc : Thread Cert.MlpDhIdeal.nD Cert.MlpDhIdeal.τ).loc Cert.MlpDhIdeal.main_arg0)
          ∧ r.2.mem ((c.tc : Thread Cert.MlpDhIdeal.nD Cert.MlpDhIdeal.τ).loc Cert.MlpDhIdeal.main_arg1) = m ((c.tc : Thread Cert.MlpDhIdeal.nD Cert.MlpDhIdeal.τ).loc Cert.MlpDhIdeal.main_arg1)
          ∧ r.2.mem ((c.tc : Thread Cert.MlpDhIdeal.nD Cert.MlpDhIdeal.τ).loc Cert.MlpDhIdeal.main_arg2) = m ((c.tc : Thread Cert.MlpDhIdeal.nD Cert.MlpDhIdeal.τ).loc Cert.MlpDhIdeal.main_arg2))
      ∧ θ_run (Cert.MlpDhRefIdeal.defs (F := Ideal)) (onTc (τ := Cert.MlpDhRefIdeal.τ) (Cert.MlpDhRefIdeal.main (F := Ideal))) ⟨m', fun _ => 0, g'⟩ (fun r => ∀ c : Dev Cert.MlpDhRefIdeal.nD,
          r.2.mem ((c.tc : Thread Cert.MlpDhRefIdeal.nD Cert.MlpDhRefIdeal.τ).loc Cert.MlpDhRefIdeal.main_v12) = v0 c
          ∧ r.2.mem ((c.tc : Thread Cert.MlpDhRefIdeal.nD Cert.MlpDhRefIdeal.τ).loc Cert.MlpDhRefIdeal.main_arg0) = m' ((c.tc : Thread Cert.MlpDhRefIdeal.nD Cert.MlpDhRefIdeal.τ).loc Cert.MlpDhRefIdeal.main_arg0)
          ∧ r.2.mem ((c.tc : Thread Cert.MlpDhRefIdeal.nD Cert.MlpDhRefIdeal.τ).loc Cert.MlpDhRefIdeal.main_arg1) = m' ((c.tc : Thread Cert.MlpDhRefIdeal.nD Cert.MlpDhRefIdeal.τ).loc Cert.MlpDhRefIdeal.main_arg1)
          ∧ r.2.mem ((c.tc : Thread Cert.MlpDhRefIdeal.nD Cert.MlpDhRefIdeal.τ).loc Cert.MlpDhRefIdeal.main_arg2) = m' ((c.tc : Thread Cert.MlpDhRefIdeal.nD Cert.MlpDhRefIdeal.τ).loc Cert.MlpDhRefIdeal.main_arg2))

def preserves_MlpDw2_MlpDw2Ideal : Prop :=
  True

def algebraic_MlpDw2Ideal_MlpDw2RefIdeal [hMlpDw2Ideal : Cert.MlpDw2Ideal.Facts] [hMlpDw2RefIdeal : Cert.MlpDw2RefIdeal.Facts] : Prop :=
  ∀ (m : (ℓ : Loc Cert.MlpDw2Ideal.nD Cert.MlpDw2Ideal.τ Cert.MlpDw2Ideal.sig) → Buf (Elt Ideal) ℓ) (g : Dev Cert.MlpDw2Ideal.nD → PrngReg)
    (m' : (ℓ : Loc Cert.MlpDw2RefIdeal.nD Cert.MlpDw2RefIdeal.τ Cert.MlpDw2RefIdeal.sig) → Buf (Elt Ideal) ℓ) (g' : Dev Cert.MlpDw2RefIdeal.nD → PrngReg), Pre_MlpDw2Ideal m →
    (∀ c : Dev Cert.MlpDw2Ideal.nD,
      m' ((c.tc : Thread Cert.MlpDw2RefIdeal.nD Cert.MlpDw2RefIdeal.τ).loc Cert.MlpDw2RefIdeal.main_arg0) = m ((c.tc : Thread Cert.MlpDw2Ideal.nD Cert.MlpDw2Ideal.τ).loc Cert.MlpDw2Ideal.main_arg0)
      ∧ m' ((c.tc : Thread Cert.MlpDw2RefIdeal.nD Cert.MlpDw2RefIdeal.τ).loc Cert.MlpDw2RefIdeal.main_arg1) = m ((c.tc : Thread Cert.MlpDw2Ideal.nD Cert.MlpDw2Ideal.τ).loc Cert.MlpDw2Ideal.main_arg1)) →
    ∃ (v0 : (c : Dev Cert.MlpDw2Ideal.nD) → Buf (Elt Ideal) ((c.tc : Thread Cert.MlpDw2Ideal.nD Cert.MlpDw2Ideal.τ).loc Cert.MlpDw2Ideal.main_v6)),
      θ_run (Cert.MlpDw2Ideal.defs (F := Ideal)) (onTc (τ := Cert.MlpDw2Ideal.τ) (Cert.MlpDw2Ideal.main (F := Ideal))) ⟨m, fun _ => 0, g⟩ (fun r => ∀ c : Dev Cert.MlpDw2Ideal.nD,
          r.2.mem ((c.tc : Thread Cert.MlpDw2Ideal.nD Cert.MlpDw2Ideal.τ).loc Cert.MlpDw2Ideal.main_v6) = v0 c
          ∧ r.2.mem ((c.tc : Thread Cert.MlpDw2Ideal.nD Cert.MlpDw2Ideal.τ).loc Cert.MlpDw2Ideal.main_arg0) = m ((c.tc : Thread Cert.MlpDw2Ideal.nD Cert.MlpDw2Ideal.τ).loc Cert.MlpDw2Ideal.main_arg0)
          ∧ r.2.mem ((c.tc : Thread Cert.MlpDw2Ideal.nD Cert.MlpDw2Ideal.τ).loc Cert.MlpDw2Ideal.main_arg1) = m ((c.tc : Thread Cert.MlpDw2Ideal.nD Cert.MlpDw2Ideal.τ).loc Cert.MlpDw2Ideal.main_arg1))
      ∧ θ_run (Cert.MlpDw2RefIdeal.defs (F := Ideal)) (onTc (τ := Cert.MlpDw2RefIdeal.τ) (Cert.MlpDw2RefIdeal.main (F := Ideal))) ⟨m', fun _ => 0, g'⟩ (fun r => ∀ c : Dev Cert.MlpDw2RefIdeal.nD,
          r.2.mem ((c.tc : Thread Cert.MlpDw2RefIdeal.nD Cert.MlpDw2RefIdeal.τ).loc Cert.MlpDw2RefIdeal.main_v5) = v0 c
          ∧ r.2.mem ((c.tc : Thread Cert.MlpDw2RefIdeal.nD Cert.MlpDw2RefIdeal.τ).loc Cert.MlpDw2RefIdeal.main_arg0) = m' ((c.tc : Thread Cert.MlpDw2RefIdeal.nD Cert.MlpDw2RefIdeal.τ).loc Cert.MlpDw2RefIdeal.main_arg0)
          ∧ r.2.mem ((c.tc : Thread Cert.MlpDw2RefIdeal.nD Cert.MlpDw2RefIdeal.τ).loc Cert.MlpDw2RefIdeal.main_arg1) = m' ((c.tc : Thread Cert.MlpDw2RefIdeal.nD Cert.MlpDw2RefIdeal.τ).loc Cert.MlpDw2RefIdeal.main_arg1))

def preserves_MlpDu_MlpDuIdeal : Prop :=
  True

def algebraic_MlpDuIdeal_MlpDuRefIdeal [hMlpDuIdeal : Cert.MlpDuIdeal.Facts] [hMlpDuRefIdeal : Cert.MlpDuRefIdeal.Facts] : Prop :=
  ∀ (m : (ℓ : Loc Cert.MlpDuIdeal.nD Cert.MlpDuIdeal.τ Cert.MlpDuIdeal.sig) → Buf (Elt Ideal) ℓ) (g : Dev Cert.MlpDuIdeal.nD → PrngReg)
    (m' : (ℓ : Loc Cert.MlpDuRefIdeal.nD Cert.MlpDuRefIdeal.τ Cert.MlpDuRefIdeal.sig) → Buf (Elt Ideal) ℓ) (g' : Dev Cert.MlpDuRefIdeal.nD → PrngReg), Pre_MlpDuIdeal m →
    (∀ c : Dev Cert.MlpDuIdeal.nD,
      m' ((c.tc : Thread Cert.MlpDuRefIdeal.nD Cert.MlpDuRefIdeal.τ).loc Cert.MlpDuRefIdeal.main_arg0) = m ((c.tc : Thread Cert.MlpDuIdeal.nD Cert.MlpDuIdeal.τ).loc Cert.MlpDuIdeal.main_arg0)
      ∧ m' ((c.tc : Thread Cert.MlpDuRefIdeal.nD Cert.MlpDuRefIdeal.τ).loc Cert.MlpDuRefIdeal.main_arg1) = m ((c.tc : Thread Cert.MlpDuIdeal.nD Cert.MlpDuIdeal.τ).loc Cert.MlpDuIdeal.main_arg1)) →
    ∃ (v0 : (c : Dev Cert.MlpDuIdeal.nD) → Buf (Elt Ideal) ((c.tc : Thread Cert.MlpDuIdeal.nD Cert.MlpDuIdeal.τ).loc Cert.MlpDuIdeal.main_v2)),
      θ_run (Cert.MlpDuIdeal.defs (F := Ideal)) (onTc (τ := Cert.MlpDuIdeal.τ) (Cert.MlpDuIdeal.main (F := Ideal))) ⟨m, fun _ => 0, g⟩ (fun r => ∀ c : Dev Cert.MlpDuIdeal.nD,
          r.2.mem ((c.tc : Thread Cert.MlpDuIdeal.nD Cert.MlpDuIdeal.τ).loc Cert.MlpDuIdeal.main_v2) = v0 c
          ∧ r.2.mem ((c.tc : Thread Cert.MlpDuIdeal.nD Cert.MlpDuIdeal.τ).loc Cert.MlpDuIdeal.main_arg0) = m ((c.tc : Thread Cert.MlpDuIdeal.nD Cert.MlpDuIdeal.τ).loc Cert.MlpDuIdeal.main_arg0)
          ∧ r.2.mem ((c.tc : Thread Cert.MlpDuIdeal.nD Cert.MlpDuIdeal.τ).loc Cert.MlpDuIdeal.main_arg1) = m ((c.tc : Thread Cert.MlpDuIdeal.nD Cert.MlpDuIdeal.τ).loc Cert.MlpDuIdeal.main_arg1))
      ∧ θ_run (Cert.MlpDuRefIdeal.defs (F := Ideal)) (onTc (τ := Cert.MlpDuRefIdeal.τ) (Cert.MlpDuRefIdeal.main (F := Ideal))) ⟨m', fun _ => 0, g'⟩ (fun r => ∀ c : Dev Cert.MlpDuRefIdeal.nD,
          r.2.mem ((c.tc : Thread Cert.MlpDuRefIdeal.nD Cert.MlpDuRefIdeal.τ).loc Cert.MlpDuRefIdeal.main_v2) = v0 c
          ∧ r.2.mem ((c.tc : Thread Cert.MlpDuRefIdeal.nD Cert.MlpDuRefIdeal.τ).loc Cert.MlpDuRefIdeal.main_arg0) = m' ((c.tc : Thread Cert.MlpDuRefIdeal.nD Cert.MlpDuRefIdeal.τ).loc Cert.MlpDuRefIdeal.main_arg0)
          ∧ r.2.mem ((c.tc : Thread Cert.MlpDuRefIdeal.nD Cert.MlpDuRefIdeal.τ).loc Cert.MlpDuRefIdeal.main_arg1) = m' ((c.tc : Thread Cert.MlpDuRefIdeal.nD Cert.MlpDuRefIdeal.τ).loc Cert.MlpDuRefIdeal.main_arg1))

def preserves_MlpDw1_MlpDw1Ideal : Prop :=
  True

def algebraic_MlpDw1Ideal_MlpDw1RefIdeal [hMlpDw1Ideal : Cert.MlpDw1Ideal.Facts] [hMlpDw1RefIdeal : Cert.MlpDw1RefIdeal.Facts] : Prop :=
  ∀ (m : (ℓ : Loc Cert.MlpDw1Ideal.nD Cert.MlpDw1Ideal.τ Cert.MlpDw1Ideal.sig) → Buf (Elt Ideal) ℓ) (g : Dev Cert.MlpDw1Ideal.nD → PrngReg)
    (m' : (ℓ : Loc Cert.MlpDw1RefIdeal.nD Cert.MlpDw1RefIdeal.τ Cert.MlpDw1RefIdeal.sig) → Buf (Elt Ideal) ℓ) (g' : Dev Cert.MlpDw1RefIdeal.nD → PrngReg), Pre_MlpDw1Ideal m →
    (∀ c : Dev Cert.MlpDw1Ideal.nD,
      m' ((c.tc : Thread Cert.MlpDw1RefIdeal.nD Cert.MlpDw1RefIdeal.τ).loc Cert.MlpDw1RefIdeal.main_arg0) = m ((c.tc : Thread Cert.MlpDw1Ideal.nD Cert.MlpDw1Ideal.τ).loc Cert.MlpDw1Ideal.main_arg0)
      ∧ m' ((c.tc : Thread Cert.MlpDw1RefIdeal.nD Cert.MlpDw1RefIdeal.τ).loc Cert.MlpDw1RefIdeal.main_arg1) = m ((c.tc : Thread Cert.MlpDw1Ideal.nD Cert.MlpDw1Ideal.τ).loc Cert.MlpDw1Ideal.main_arg1)) →
    ∃ (v0 : (c : Dev Cert.MlpDw1Ideal.nD) → Buf (Elt Ideal) ((c.tc : Thread Cert.MlpDw1Ideal.nD Cert.MlpDw1Ideal.τ).loc Cert.MlpDw1Ideal.main_v3)),
      θ_run (Cert.MlpDw1Ideal.defs (F := Ideal)) (onTc (τ := Cert.MlpDw1Ideal.τ) (Cert.MlpDw1Ideal.main (F := Ideal))) ⟨m, fun _ => 0, g⟩ (fun r => ∀ c : Dev Cert.MlpDw1Ideal.nD,
          r.2.mem ((c.tc : Thread Cert.MlpDw1Ideal.nD Cert.MlpDw1Ideal.τ).loc Cert.MlpDw1Ideal.main_v3) = v0 c
          ∧ r.2.mem ((c.tc : Thread Cert.MlpDw1Ideal.nD Cert.MlpDw1Ideal.τ).loc Cert.MlpDw1Ideal.main_arg0) = m ((c.tc : Thread Cert.MlpDw1Ideal.nD Cert.MlpDw1Ideal.τ).loc Cert.MlpDw1Ideal.main_arg0)
          ∧ r.2.mem ((c.tc : Thread Cert.MlpDw1Ideal.nD Cert.MlpDw1Ideal.τ).loc Cert.MlpDw1Ideal.main_arg1) = m ((c.tc : Thread Cert.MlpDw1Ideal.nD Cert.MlpDw1Ideal.τ).loc Cert.MlpDw1Ideal.main_arg1))
      ∧ θ_run (Cert.MlpDw1RefIdeal.defs (F := Ideal)) (onTc (τ := Cert.MlpDw1RefIdeal.τ) (Cert.MlpDw1RefIdeal.main (F := Ideal))) ⟨m', fun _ => 0, g'⟩ (fun r => ∀ c : Dev Cert.MlpDw1RefIdeal.nD,
          r.2.mem ((c.tc : Thread Cert.MlpDw1RefIdeal.nD Cert.MlpDw1RefIdeal.τ).loc Cert.MlpDw1RefIdeal.main_v3) = v0 c
          ∧ r.2.mem ((c.tc : Thread Cert.MlpDw1RefIdeal.nD Cert.MlpDw1RefIdeal.τ).loc Cert.MlpDw1RefIdeal.main_arg0) = m' ((c.tc : Thread Cert.MlpDw1RefIdeal.nD Cert.MlpDw1RefIdeal.τ).loc Cert.MlpDw1RefIdeal.main_arg0)
          ∧ r.2.mem ((c.tc : Thread Cert.MlpDw1RefIdeal.nD Cert.MlpDw1RefIdeal.τ).loc Cert.MlpDw1RefIdeal.main_arg1) = m' ((c.tc : Thread Cert.MlpDw1RefIdeal.nD Cert.MlpDw1RefIdeal.τ).loc Cert.MlpDw1RefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2_0)) (v1 : (c : Dev Cert.MlpUpIdeal.nD) → Buf (Elt Ideal) ((c.tc : Thread Cert.MlpUpIdeal.nD Cert.MlpUpIdeal.τ).loc Cert.MlpUpIdeal.main_v2_1)) (v2 : (c : Dev Cert.MlpUpIdeal.nD) → Buf (Elt Ideal) ((c.tc : Thread Cert.MlpUpIdeal.nD Cert.MlpUpIdeal.τ).loc Cert.MlpUpIdeal.main_v2_2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2_0) = v0 c
          ∧ r.2.mem ((c.tc : Thread Cert.MlpUpIdeal.nD Cert.MlpUpIdeal.τ).loc Cert.MlpUpIdeal.main_v2_1) = v1 c
          ∧ r.2.mem ((c.tc : Thread Cert.MlpUpIdeal.nD Cert.MlpUpIdeal.τ).loc Cert.MlpUpIdeal.main_v2_2) = v2 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v0) = v0 c
          ∧ r.2.mem ((c.tc : Thread Cert.MlpUpRefIdeal.nD Cert.MlpUpRefIdeal.τ).loc Cert.MlpUpRefIdeal.main_v3) = v1 c
          ∧ r.2.mem ((c.tc : Thread Cert.MlpUpRefIdeal.nD Cert.MlpUpRefIdeal.τ).loc Cert.MlpUpRefIdeal.main_v4) = v2 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)) →
    ∃ (v0 : (c : Dev Cert.MlpDownIdeal.nD) → Buf (Elt Ideal) ((c.tc : Thread Cert.MlpDownIdeal.nD Cert.MlpDownIdeal.τ).loc Cert.MlpDownIdeal.main_v5)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v5) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v2)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v2) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v0) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_AbInDw_AbInDwIdeal : Prop :=
  True

def algebraic_AbInDwIdeal_AbInDwRefIdeal [hAbInDwIdeal : Cert.AbInDwIdeal.Facts] [hAbInDwRefIdeal : Cert.AbInDwRefIdeal.Facts] : Prop :=
  ∀ (m : (ℓ : Loc Cert.AbInDwIdeal.nD Cert.AbInDwIdeal.τ Cert.AbInDwIdeal.sig) → Buf (Elt Ideal) ℓ) (g : Dev Cert.AbInDwIdeal.nD → PrngReg)
    (m' : (ℓ : Loc Cert.AbInDwRefIdeal.nD Cert.AbInDwRefIdeal.τ Cert.AbInDwRefIdeal.sig) → Buf (Elt Ideal) ℓ) (g' : Dev Cert.AbInDwRefIdeal.nD → PrngReg), Pre_AbInDwIdeal m →
    (∀ c : Dev Cert.AbInDwIdeal.nD,
      m' ((c.tc : Thread Cert.AbInDwRefIdeal.nD Cert.AbInDwRefIdeal.τ).loc Cert.AbInDwRefIdeal.main_arg0) = m ((c.tc : Thread Cert.AbInDwIdeal.nD Cert.AbInDwIdeal.τ).loc Cert.AbInDwIdeal.main_arg0)
      ∧ m' ((c.tc : Thread Cert.AbInDwRefIdeal.nD Cert.AbInDwRefIdeal.τ).loc Cert.AbInDwRefIdeal.main_arg1) = m ((c.tc : Thread Cert.AbInDwIdeal.nD Cert.AbInDwIdeal.τ).loc Cert.AbInDwIdeal.main_arg1)) →
    ∃ (v0 : (c : Dev Cert.AbInDwIdeal.nD) → Buf (Elt Ideal) ((c.tc : Thread Cert.AbInDwIdeal.nD Cert.AbInDwIdeal.τ).loc Cert.AbInDwIdeal.main_v3)),
      θ_run (Cert.AbInDwIdeal.defs (F := Ideal)) (onTc (τ := Cert.AbInDwIdeal.τ) (Cert.AbInDwIdeal.main (F := Ideal))) ⟨m, fun _ => 0, g⟩ (fun r => ∀ c : Dev Cert.AbInDwIdeal.nD,
          r.2.mem ((c.tc : Thread Cert.AbInDwIdeal.nD Cert.AbInDwIdeal.τ).loc Cert.AbInDwIdeal.main_v3) = v0 c
          ∧ r.2.mem ((c.tc : Thread Cert.AbInDwIdeal.nD Cert.AbInDwIdeal.τ).loc Cert.AbInDwIdeal.main_arg0) = m ((c.tc : Thread Cert.AbInDwIdeal.nD Cert.AbInDwIdeal.τ).loc Cert.AbInDwIdeal.main_arg0)
          ∧ r.2.mem ((c.tc : Thread Cert.AbInDwIdeal.nD Cert.AbInDwIdeal.τ).loc Cert.AbInDwIdeal.main_arg1) = m ((c.tc : Thread Cert.AbInDwIdeal.nD Cert.AbInDwIdeal.τ).loc Cert.AbInDwIdeal.main_arg1))
      ∧ θ_run (Cert.AbInDwRefIdeal.defs (F := Ideal)) (onTc (τ := Cert.AbInDwRefIdeal.τ) (Cert.AbInDwRefIdeal.main (F := Ideal))) ⟨m', fun _ => 0, g'⟩ (fun r => ∀ c : Dev Cert.AbInDwRefIdeal.nD,
          r.2.mem ((c.tc : Thread Cert.AbInDwRefIdeal.nD Cert.AbInDwRefIdeal.τ).loc Cert.AbInDwRefIdeal.main_v3) = v0 c
          ∧ r.2.mem ((c.tc : Thread Cert.AbInDwRefIdeal.nD Cert.AbInDwRefIdeal.τ).loc Cert.AbInDwRefIdeal.main_arg0) = m' ((c.tc : Thread Cert.AbInDwRefIdeal.nD Cert.AbInDwRefIdeal.τ).loc Cert.AbInDwRefIdeal.main_arg0)
          ∧ r.2.mem ((c.tc : Thread Cert.AbInDwRefIdeal.nD Cert.AbInDwRefIdeal.τ).loc Cert.AbInDwRefIdeal.main_arg1) = m' ((c.tc : Thread Cert.AbInDwRefIdeal.nD Cert.AbInDwRefIdeal.τ).loc Cert.AbInDwRefIdeal.main_arg1))

def preserves_AbInDx_AbInDxIdeal : Prop :=
  True

def algebraic_AbInDxIdeal_AbInDxRefIdeal [hAbInDxIdeal : Cert.AbInDxIdeal.Facts] [hAbInDxRefIdeal : Cert.AbInDxRefIdeal.Facts] : Prop :=
  ∀ (m : (ℓ : Loc Cert.AbInDxIdeal.nD Cert.AbInDxIdeal.τ Cert.AbInDxIdeal.sig) → Buf (Elt Ideal) ℓ) (g : Dev Cert.AbInDxIdeal.nD → PrngReg)
    (m' : (ℓ : Loc Cert.AbInDxRefIdeal.nD Cert.AbInDxRefIdeal.τ Cert.AbInDxRefIdeal.sig) → Buf (Elt Ideal) ℓ) (g' : Dev Cert.AbInDxRefIdeal.nD → PrngReg), Pre_AbInDxIdeal m →
    (∀ c : Dev Cert.AbInDxIdeal.nD,
      m' ((c.tc : Thread Cert.AbInDxRefIdeal.nD Cert.AbInDxRefIdeal.τ).loc Cert.AbInDxRefIdeal.main_arg0) = m ((c.tc : Thread Cert.AbInDxIdeal.nD Cert.AbInDxIdeal.τ).loc Cert.AbInDxIdeal.main_arg0)
      ∧ m' ((c.tc : Thread Cert.AbInDxRefIdeal.nD Cert.AbInDxRefIdeal.τ).loc Cert.AbInDxRefIdeal.main_arg1) = m ((c.tc : Thread Cert.AbInDxIdeal.nD Cert.AbInDxIdeal.τ).loc Cert.AbInDxIdeal.main_arg1)) →
    ∃ (v0 : (c : Dev Cert.AbInDxIdeal.nD) → Buf (Elt Ideal) ((c.tc : Thread Cert.AbInDxIdeal.nD Cert.AbInDxIdeal.τ).loc Cert.AbInDxIdeal.main_v2)),
      θ_run (Cert.AbInDxIdeal.defs (F := Ideal)) (onTc (τ := Cert.AbInDxIdeal.τ) (Cert.AbInDxIdeal.main (F := Ideal))) ⟨m, fun _ => 0, g⟩ (fun r => ∀ c : Dev Cert.AbInDxIdeal.nD,
          r.2.mem ((c.tc : Thread Cert.AbInDxIdeal.nD Cert.AbInDxIdeal.τ).loc Cert.AbInDxIdeal.main_v2) = v0 c
          ∧ r.2.mem ((c.tc : Thread Cert.AbInDxIdeal.nD Cert.AbInDxIdeal.τ).loc Cert.AbInDxIdeal.main_arg0) = m ((c.tc : Thread Cert.AbInDxIdeal.nD Cert.AbInDxIdeal.τ).loc Cert.AbInDxIdeal.main_arg0)
          ∧ r.2.mem ((c.tc : Thread Cert.AbInDxIdeal.nD Cert.AbInDxIdeal.τ).loc Cert.AbInDxIdeal.main_arg1) = m ((c.tc : Thread Cert.AbInDxIdeal.nD Cert.AbInDxIdeal.τ).loc Cert.AbInDxIdeal.main_arg1))
      ∧ θ_run (Cert.AbInDxRefIdeal.defs (F := Ideal)) (onTc (τ := Cert.AbInDxRefIdeal.τ) (Cert.AbInDxRefIdeal.main (F := Ideal))) ⟨m', fun _ => 0, g'⟩ (fun r => ∀ c : Dev Cert.AbInDxRefIdeal.nD,
          r.2.mem ((c.tc : Thread Cert.AbInDxRefIdeal.nD Cert.AbInDxRefIdeal.τ).loc Cert.AbInDxRefIdeal.main_v2) = v0 c
          ∧ r.2.mem ((c.tc : Thread Cert.AbInDxRefIdeal.nD Cert.AbInDxRefIdeal.τ).loc Cert.AbInDxRefIdeal.main_arg0) = m' ((c.tc : Thread Cert.AbInDxRefIdeal.nD Cert.AbInDxRefIdeal.τ).loc Cert.AbInDxRefIdeal.main_arg0)
          ∧ r.2.mem ((c.tc : Thread Cert.AbInDxRefIdeal.nD Cert.AbInDxRefIdeal.τ).loc Cert.AbInDxRefIdeal.main_arg1) = m' ((c.tc : Thread Cert.AbInDxRefIdeal.nD Cert.AbInDxRefIdeal.τ).loc Cert.AbInDxRefIdeal.main_arg1))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)) →
    ∃ (v0 : (c : Dev Cert.AbOutIdeal.nD) → Buf (Elt Ideal) ((c.tc : Thread Cert.AbOutIdeal.nD Cert.AbOutIdeal.τ).loc Cert.AbOutIdeal.main_v2)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v2) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v0) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1))

def preserves_AbOutDw_AbOutDwIdeal : Prop :=
  True

def algebraic_AbOutDwIdeal_AbOutDwRefIdeal [hAbOutDwIdeal : Cert.AbOutDwIdeal.Facts] [hAbOutDwRefIdeal : Cert.AbOutDwRefIdeal.Facts] : Prop :=
  ∀ (m : (ℓ : Loc Cert.AbOutDwIdeal.nD Cert.AbOutDwIdeal.τ Cert.AbOutDwIdeal.sig) → Buf (Elt Ideal) ℓ) (g : Dev Cert.AbOutDwIdeal.nD → PrngReg)
    (m' : (ℓ : Loc Cert.AbOutDwRefIdeal.nD Cert.AbOutDwRefIdeal.τ Cert.AbOutDwRefIdeal.sig) → Buf (Elt Ideal) ℓ) (g' : Dev Cert.AbOutDwRefIdeal.nD → PrngReg), Pre_AbOutDwIdeal m →
    (∀ c : Dev Cert.AbOutDwIdeal.nD,
      m' ((c.tc : Thread Cert.AbOutDwRefIdeal.nD Cert.AbOutDwRefIdeal.τ).loc Cert.AbOutDwRefIdeal.main_arg0) = m ((c.tc : Thread Cert.AbOutDwIdeal.nD Cert.AbOutDwIdeal.τ).loc Cert.AbOutDwIdeal.main_arg0)
      ∧ m' ((c.tc : Thread Cert.AbOutDwRefIdeal.nD Cert.AbOutDwRefIdeal.τ).loc Cert.AbOutDwRefIdeal.main_arg1) = m ((c.tc : Thread Cert.AbOutDwIdeal.nD Cert.AbOutDwIdeal.τ).loc Cert.AbOutDwIdeal.main_arg1)) →
    ∃ (v0 : (c : Dev Cert.AbOutDwIdeal.nD) → Buf (Elt Ideal) ((c.tc : Thread Cert.AbOutDwIdeal.nD Cert.AbOutDwIdeal.τ).loc Cert.AbOutDwIdeal.main_v3)),
      θ_run (Cert.AbOutDwIdeal.defs (F := Ideal)) (onTc (τ := Cert.AbOutDwIdeal.τ) (Cert.AbOutDwIdeal.main (F := Ideal))) ⟨m, fun _ => 0, g⟩ (fun r => ∀ c : Dev Cert.AbOutDwIdeal.nD,
          r.2.mem ((c.tc : Thread Cert.AbOutDwIdeal.nD Cert.AbOutDwIdeal.τ).loc Cert.AbOutDwIdeal.main_v3) = v0 c
          ∧ r.2.mem ((c.tc : Thread Cert.AbOutDwIdeal.nD Cert.AbOutDwIdeal.τ).loc Cert.AbOutDwIdeal.main_arg0) = m ((c.tc : Thread Cert.AbOutDwIdeal.nD Cert.AbOutDwIdeal.τ).loc Cert.AbOutDwIdeal.main_arg0)
          ∧ r.2.mem ((c.tc : Thread Cert.AbOutDwIdeal.nD Cert.AbOutDwIdeal.τ).loc Cert.AbOutDwIdeal.main_arg1) = m ((c.tc : Thread Cert.AbOutDwIdeal.nD Cert.AbOutDwIdeal.τ).loc Cert.AbOutDwIdeal.main_arg1))
      ∧ θ_run (Cert.AbOutDwRefIdeal.defs (F := Ideal)) (onTc (τ := Cert.AbOutDwRefIdeal.τ) (Cert.AbOutDwRefIdeal.main (F := Ideal))) ⟨m', fun _ => 0, g'⟩ (fun r => ∀ c : Dev Cert.AbOutDwRefIdeal.nD,
          r.2.mem ((c.tc : Thread Cert.AbOutDwRefIdeal.nD Cert.AbOutDwRefIdeal.τ).loc Cert.AbOutDwRefIdeal.main_v3) = v0 c
          ∧ r.2.mem ((c.tc : Thread Cert.AbOutDwRefIdeal.nD Cert.AbOutDwRefIdeal.τ).loc Cert.AbOutDwRefIdeal.main_arg0) = m' ((c.tc : Thread Cert.AbOutDwRefIdeal.nD Cert.AbOutDwRefIdeal.τ).loc Cert.AbOutDwRefIdeal.main_arg0)
          ∧ r.2.mem ((c.tc : Thread Cert.AbOutDwRefIdeal.nD Cert.AbOutDwRefIdeal.τ).loc Cert.AbOutDwRefIdeal.main_arg1) = m' ((c.tc : Thread Cert.AbOutDwRefIdeal.nD Cert.AbOutDwRefIdeal.τ).loc Cert.AbOutDwRefIdeal.main_arg1))

def preserves_AbOutDx_AbOutDxIdeal : Prop :=
  True

def algebraic_AbOutDxIdeal_AbOutDxRefIdeal [hAbOutDxIdeal : Cert.AbOutDxIdeal.Facts] [hAbOutDxRefIdeal : Cert.AbOutDxRefIdeal.Facts] : Prop :=
  ∀ (m : (ℓ : Loc Cert.AbOutDxIdeal.nD Cert.AbOutDxIdeal.τ Cert.AbOutDxIdeal.sig) → Buf (Elt Ideal) ℓ) (g : Dev Cert.AbOutDxIdeal.nD → PrngReg)
    (m' : (ℓ : Loc Cert.AbOutDxRefIdeal.nD Cert.AbOutDxRefIdeal.τ Cert.AbOutDxRefIdeal.sig) → Buf (Elt Ideal) ℓ) (g' : Dev Cert.AbOutDxRefIdeal.nD → PrngReg), Pre_AbOutDxIdeal m →
    (∀ c : Dev Cert.AbOutDxIdeal.nD,
      m' ((c.tc : Thread Cert.AbOutDxRefIdeal.nD Cert.AbOutDxRefIdeal.τ).loc Cert.AbOutDxRefIdeal.main_arg0) = m ((c.tc : Thread Cert.AbOutDxIdeal.nD Cert.AbOutDxIdeal.τ).loc Cert.AbOutDxIdeal.main_arg0)
      ∧ m' ((c.tc : Thread Cert.AbOutDxRefIdeal.nD Cert.AbOutDxRefIdeal.τ).loc Cert.AbOutDxRefIdeal.main_arg1) = m ((c.tc : Thread Cert.AbOutDxIdeal.nD Cert.AbOutDxIdeal.τ).loc Cert.AbOutDxIdeal.main_arg1)) →
    ∃ (v0 : (c : Dev Cert.AbOutDxIdeal.nD) → Buf (Elt Ideal) ((c.tc : Thread Cert.AbOutDxIdeal.nD Cert.AbOutDxIdeal.τ).loc Cert.AbOutDxIdeal.main_v2)),
      θ_run (Cert.AbOutDxIdeal.defs (F := Ideal)) (onTc (τ := Cert.AbOutDxIdeal.τ) (Cert.AbOutDxIdeal.main (F := Ideal))) ⟨m, fun _ => 0, g⟩ (fun r => ∀ c : Dev Cert.AbOutDxIdeal.nD,
          r.2.mem ((c.tc : Thread Cert.AbOutDxIdeal.nD Cert.AbOutDxIdeal.τ).loc Cert.AbOutDxIdeal.main_v2) = v0 c
          ∧ r.2.mem ((c.tc : Thread Cert.AbOutDxIdeal.nD Cert.AbOutDxIdeal.τ).loc Cert.AbOutDxIdeal.main_arg0) = m ((c.tc : Thread Cert.AbOutDxIdeal.nD Cert.AbOutDxIdeal.τ).loc Cert.AbOutDxIdeal.main_arg0)
          ∧ r.2.mem ((c.tc : Thread Cert.AbOutDxIdeal.nD Cert.AbOutDxIdeal.τ).loc Cert.AbOutDxIdeal.main_arg1) = m ((c.tc : Thread Cert.AbOutDxIdeal.nD Cert.AbOutDxIdeal.τ).loc Cert.AbOutDxIdeal.main_arg1))
      ∧ θ_run (Cert.AbOutDxRefIdeal.defs (F := Ideal)) (onTc (τ := Cert.AbOutDxRefIdeal.τ) (Cert.AbOutDxRefIdeal.main (F := Ideal))) ⟨m', fun _ => 0, g'⟩ (fun r => ∀ c : Dev Cert.AbOutDxRefIdeal.nD,
          r.2.mem ((c.tc : Thread Cert.AbOutDxRefIdeal.nD Cert.AbOutDxRefIdeal.τ).loc Cert.AbOutDxRefIdeal.main_v2) = v0 c
          ∧ r.2.mem ((c.tc : Thread Cert.AbOutDxRefIdeal.nD Cert.AbOutDxRefIdeal.τ).loc Cert.AbOutDxRefIdeal.main_arg0) = m' ((c.tc : Thread Cert.AbOutDxRefIdeal.nD Cert.AbOutDxRefIdeal.τ).loc Cert.AbOutDxRefIdeal.main_arg0)
          ∧ r.2.mem ((c.tc : Thread Cert.AbOutDxRefIdeal.nD Cert.AbOutDxRefIdeal.τ).loc Cert.AbOutDxRefIdeal.main_arg1) = m' ((c.tc : Thread Cert.AbOutDxRefIdeal.nD Cert.AbOutDxRefIdeal.τ).loc Cert.AbOutDxRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v3)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v3) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v3) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v2)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v2) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v2) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1))

def preserves_DilOut_DilOutIdeal : Prop :=
  True

def algebraic_DilOutIdeal_DilOutRefIdeal [hDilOutIdeal : Cert.DilOutIdeal.Facts] [hDilOutRefIdeal : Cert.DilOutRefIdeal.Facts] : Prop :=
  ∀ (m : (ℓ : Loc Cert.DilOutIdeal.nD Cert.DilOutIdeal.τ Cert.DilOutIdeal.sig) → Buf (Elt Ideal) ℓ) (g : Dev Cert.DilOutIdeal.nD → PrngReg)
    (m' : (ℓ : Loc Cert.DilOutRefIdeal.nD Cert.DilOutRefIdeal.τ Cert.DilOutRefIdeal.sig) → Buf (Elt Ideal) ℓ) (g' : Dev Cert.DilOutRefIdeal.nD → PrngReg), Pre_DilOutIdeal m →
    (∀ c : Dev Cert.DilOutIdeal.nD,
      m' ((c.tc : Thread Cert.DilOutRefIdeal.nD Cert.DilOutRefIdeal.τ).loc Cert.DilOutRefIdeal.main_arg0) = m ((c.tc : Thread Cert.DilOutIdeal.nD Cert.DilOutIdeal.τ).loc Cert.DilOutIdeal.main_arg0)
      ∧ m' ((c.tc : Thread Cert.DilOutRefIdeal.nD Cert.DilOutRefIdeal.τ).loc Cert.DilOutRefIdeal.main_arg1) = m ((c.tc : Thread Cert.DilOutIdeal.nD Cert.DilOutIdeal.τ).loc Cert.DilOutIdeal.main_arg1)) →
    ∃ (v0 : (c : Dev Cert.DilOutIdeal.nD) → Buf (Elt Ideal) ((c.tc : Thread Cert.DilOutIdeal.nD Cert.DilOutIdeal.τ).loc Cert.DilOutIdeal.main_v2)),
      θ_run (Cert.DilOutIdeal.defs (F := Ideal)) (onTc (τ := Cert.DilOutIdeal.τ) (Cert.DilOutIdeal.main (F := Ideal))) ⟨m, fun _ => 0, g⟩ (fun r => ∀ c : Dev Cert.DilOutIdeal.nD,
          r.2.mem ((c.tc : Thread Cert.DilOutIdeal.nD Cert.DilOutIdeal.τ).loc Cert.DilOutIdeal.main_v2) = v0 c
          ∧ r.2.mem ((c.tc : Thread Cert.DilOutIdeal.nD Cert.DilOutIdeal.τ).loc Cert.DilOutIdeal.main_arg0) = m ((c.tc : Thread Cert.DilOutIdeal.nD Cert.DilOutIdeal.τ).loc Cert.DilOutIdeal.main_arg0)
          ∧ r.2.mem ((c.tc : Thread Cert.DilOutIdeal.nD Cert.DilOutIdeal.τ).loc Cert.DilOutIdeal.main_arg1) = m ((c.tc : Thread Cert.DilOutIdeal.nD Cert.DilOutIdeal.τ).loc Cert.DilOutIdeal.main_arg1))
      ∧ θ_run (Cert.DilOutRefIdeal.defs (F := Ideal)) (onTc (τ := Cert.DilOutRefIdeal.τ) (Cert.DilOutRefIdeal.main (F := Ideal))) ⟨m', fun _ => 0, g'⟩ (fun r => ∀ c : Dev Cert.DilOutRefIdeal.nD,
          r.2.mem ((c.tc : Thread Cert.DilOutRefIdeal.nD Cert.DilOutRefIdeal.τ).loc Cert.DilOutRefIdeal.main_v0) = v0 c
          ∧ r.2.mem ((c.tc : Thread Cert.DilOutRefIdeal.nD Cert.DilOutRefIdeal.τ).loc Cert.DilOutRefIdeal.main_arg0) = m' ((c.tc : Thread Cert.DilOutRefIdeal.nD Cert.DilOutRefIdeal.τ).loc Cert.DilOutRefIdeal.main_arg0)
          ∧ r.2.mem ((c.tc : Thread Cert.DilOutRefIdeal.nD Cert.DilOutRefIdeal.τ).loc Cert.DilOutRefIdeal.main_arg1) = m' ((c.tc : Thread Cert.DilOutRefIdeal.nD Cert.DilOutRefIdeal.τ).loc Cert.DilOutRefIdeal.main_arg1))

def preserves_DilOutDw_DilOutDwIdeal : Prop :=
  True

def algebraic_DilOutDwIdeal_DilOutDwRefIdeal [hDilOutDwIdeal : Cert.DilOutDwIdeal.Facts] [hDilOutDwRefIdeal : Cert.DilOutDwRefIdeal.Facts] : Prop :=
  ∀ (m : (ℓ : Loc Cert.DilOutDwIdeal.nD Cert.DilOutDwIdeal.τ Cert.DilOutDwIdeal.sig) → Buf (Elt Ideal) ℓ) (g : Dev Cert.DilOutDwIdeal.nD → PrngReg)
    (m' : (ℓ : Loc Cert.DilOutDwRefIdeal.nD Cert.DilOutDwRefIdeal.τ Cert.DilOutDwRefIdeal.sig) → Buf (Elt Ideal) ℓ) (g' : Dev Cert.DilOutDwRefIdeal.nD → PrngReg), Pre_DilOutDwIdeal m →
    (∀ c : Dev Cert.DilOutDwIdeal.nD,
      m' ((c.tc : Thread Cert.DilOutDwRefIdeal.nD Cert.DilOutDwRefIdeal.τ).loc Cert.DilOutDwRefIdeal.main_arg0) = m ((c.tc : Thread Cert.DilOutDwIdeal.nD Cert.DilOutDwIdeal.τ).loc Cert.DilOutDwIdeal.main_arg0)
      ∧ m' ((c.tc : Thread Cert.DilOutDwRefIdeal.nD Cert.DilOutDwRefIdeal.τ).loc Cert.DilOutDwRefIdeal.main_arg1) = m ((c.tc : Thread Cert.DilOutDwIdeal.nD Cert.DilOutDwIdeal.τ).loc Cert.DilOutDwIdeal.main_arg1)) →
    ∃ (v0 : (c : Dev Cert.DilOutDwIdeal.nD) → Buf (Elt Ideal) ((c.tc : Thread Cert.DilOutDwIdeal.nD Cert.DilOutDwIdeal.τ).loc Cert.DilOutDwIdeal.main_v3)),
      θ_run (Cert.DilOutDwIdeal.defs (F := Ideal)) (onTc (τ := Cert.DilOutDwIdeal.τ) (Cert.DilOutDwIdeal.main (F := Ideal))) ⟨m, fun _ => 0, g⟩ (fun r => ∀ c : Dev Cert.DilOutDwIdeal.nD,
          r.2.mem ((c.tc : Thread Cert.DilOutDwIdeal.nD Cert.DilOutDwIdeal.τ).loc Cert.DilOutDwIdeal.main_v3) = v0 c
          ∧ r.2.mem ((c.tc : Thread Cert.DilOutDwIdeal.nD Cert.DilOutDwIdeal.τ).loc Cert.DilOutDwIdeal.main_arg0) = m ((c.tc : Thread Cert.DilOutDwIdeal.nD Cert.DilOutDwIdeal.τ).loc Cert.DilOutDwIdeal.main_arg0)
          ∧ r.2.mem ((c.tc : Thread Cert.DilOutDwIdeal.nD Cert.DilOutDwIdeal.τ).loc Cert.DilOutDwIdeal.main_arg1) = m ((c.tc : Thread Cert.DilOutDwIdeal.nD Cert.DilOutDwIdeal.τ).loc Cert.DilOutDwIdeal.main_arg1))
      ∧ θ_run (Cert.DilOutDwRefIdeal.defs (F := Ideal)) (onTc (τ := Cert.DilOutDwRefIdeal.τ) (Cert.DilOutDwRefIdeal.main (F := Ideal))) ⟨m', fun _ => 0, g'⟩ (fun r => ∀ c : Dev Cert.DilOutDwRefIdeal.nD,
          r.2.mem ((c.tc : Thread Cert.DilOutDwRefIdeal.nD Cert.DilOutDwRefIdeal.τ).loc Cert.DilOutDwRefIdeal.main_v3) = v0 c
          ∧ r.2.mem ((c.tc : Thread Cert.DilOutDwRefIdeal.nD Cert.DilOutDwRefIdeal.τ).loc Cert.DilOutDwRefIdeal.main_arg0) = m' ((c.tc : Thread Cert.DilOutDwRefIdeal.nD Cert.DilOutDwRefIdeal.τ).loc Cert.DilOutDwRefIdeal.main_arg0)
          ∧ r.2.mem ((c.tc : Thread Cert.DilOutDwRefIdeal.nD Cert.DilOutDwRefIdeal.τ).loc Cert.DilOutDwRefIdeal.main_arg1) = m' ((c.tc : Thread Cert.DilOutDwRefIdeal.nD Cert.DilOutDwRefIdeal.τ).loc Cert.DilOutDwRefIdeal.main_arg1))

def preserves_DilOutDx_DilOutDxIdeal : Prop :=
  True

def algebraic_DilOutDxIdeal_DilOutDxRefIdeal [hDilOutDxIdeal : Cert.DilOutDxIdeal.Facts] [hDilOutDxRefIdeal : Cert.DilOutDxRefIdeal.Facts] : Prop :=
  ∀ (m : (ℓ : Loc Cert.DilOutDxIdeal.nD Cert.DilOutDxIdeal.τ Cert.DilOutDxIdeal.sig) → Buf (Elt Ideal) ℓ) (g : Dev Cert.DilOutDxIdeal.nD → PrngReg)
    (m' : (ℓ : Loc Cert.DilOutDxRefIdeal.nD Cert.DilOutDxRefIdeal.τ Cert.DilOutDxRefIdeal.sig) → Buf (Elt Ideal) ℓ) (g' : Dev Cert.DilOutDxRefIdeal.nD → PrngReg), Pre_DilOutDxIdeal m →
    (∀ c : Dev Cert.DilOutDxIdeal.nD,
      m' ((c.tc : Thread Cert.DilOutDxRefIdeal.nD Cert.DilOutDxRefIdeal.τ).loc Cert.DilOutDxRefIdeal.main_arg0) = m ((c.tc : Thread Cert.DilOutDxIdeal.nD Cert.DilOutDxIdeal.τ).loc Cert.DilOutDxIdeal.main_arg0)
      ∧ m' ((c.tc : Thread Cert.DilOutDxRefIdeal.nD Cert.DilOutDxRefIdeal.τ).loc Cert.DilOutDxRefIdeal.main_arg1) = m ((c.tc : Thread Cert.DilOutDxIdeal.nD Cert.DilOutDxIdeal.τ).loc Cert.DilOutDxIdeal.main_arg1)) →
    ∃ (v0 : (c : Dev Cert.DilOutDxIdeal.nD) → Buf (Elt Ideal) ((c.tc : Thread Cert.DilOutDxIdeal.nD Cert.DilOutDxIdeal.τ).loc Cert.DilOutDxIdeal.main_v2)),
      θ_run (Cert.DilOutDxIdeal.defs (F := Ideal)) (onTc (τ := Cert.DilOutDxIdeal.τ) (Cert.DilOutDxIdeal.main (F := Ideal))) ⟨m, fun _ => 0, g⟩ (fun r => ∀ c : Dev Cert.DilOutDxIdeal.nD,
          r.2.mem ((c.tc : Thread Cert.DilOutDxIdeal.nD Cert.DilOutDxIdeal.τ).loc Cert.DilOutDxIdeal.main_v2) = v0 c
          ∧ r.2.mem ((c.tc : Thread Cert.DilOutDxIdeal.nD Cert.DilOutDxIdeal.τ).loc Cert.DilOutDxIdeal.main_arg0) = m ((c.tc : Thread Cert.DilOutDxIdeal.nD Cert.DilOutDxIdeal.τ).loc Cert.DilOutDxIdeal.main_arg0)
          ∧ r.2.mem ((c.tc : Thread Cert.DilOutDxIdeal.nD Cert.DilOutDxIdeal.τ).loc Cert.DilOutDxIdeal.main_arg1) = m ((c.tc : Thread Cert.DilOutDxIdeal.nD Cert.DilOutDxIdeal.τ).loc Cert.DilOutDxIdeal.main_arg1))
      ∧ θ_run (Cert.DilOutDxRefIdeal.defs (F := Ideal)) (onTc (τ := Cert.DilOutDxRefIdeal.τ) (Cert.DilOutDxRefIdeal.main (F := Ideal))) ⟨m', fun _ => 0, g'⟩ (fun r => ∀ c : Dev Cert.DilOutDxRefIdeal.nD,
          r.2.mem ((c.tc : Thread Cert.DilOutDxRefIdeal.nD Cert.DilOutDxRefIdeal.τ).loc Cert.DilOutDxRefIdeal.main_v2) = v0 c
          ∧ r.2.mem ((c.tc : Thread Cert.DilOutDxRefIdeal.nD Cert.DilOutDxRefIdeal.τ).loc Cert.DilOutDxRefIdeal.main_arg0) = m' ((c.tc : Thread Cert.DilOutDxRefIdeal.nD Cert.DilOutDxRefIdeal.τ).loc Cert.DilOutDxRefIdeal.main_arg0)
          ∧ r.2.mem ((c.tc : Thread Cert.DilOutDxRefIdeal.nD Cert.DilOutDxRefIdeal.τ).loc Cert.DilOutDxRefIdeal.main_arg1) = m' ((c.tc : Thread Cert.DilOutDxRefIdeal.nD Cert.DilOutDxRefIdeal.τ).loc Cert.DilOutDxRefIdeal.main_arg1))

def Claim : Prop :=
  ∃ (hKernel : Cert.Kernel.Facts) (hKernelIdeal : Cert.KernelIdeal.Facts) (hReferenceIdeal : Cert.ReferenceIdeal.Facts) (hMlpDh : Cert.MlpDh.Facts) (hMlpDhIdeal : Cert.MlpDhIdeal.Facts) (hMlpDhRefIdeal : Cert.MlpDhRefIdeal.Facts) (hMlpDw2 : Cert.MlpDw2.Facts) (hMlpDw2Ideal : Cert.MlpDw2Ideal.Facts) (hMlpDw2RefIdeal : Cert.MlpDw2RefIdeal.Facts) (hMlpDu : Cert.MlpDu.Facts) (hMlpDuIdeal : Cert.MlpDuIdeal.Facts) (hMlpDuRefIdeal : Cert.MlpDuRefIdeal.Facts) (hMlpDw1 : Cert.MlpDw1.Facts) (hMlpDw1Ideal : Cert.MlpDw1Ideal.Facts) (hMlpDw1RefIdeal : Cert.MlpDw1RefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hAbIn : Cert.AbIn.Facts) (hAbInIdeal : Cert.AbInIdeal.Facts) (hAbInRefIdeal : Cert.AbInRefIdeal.Facts) (hAbInDw : Cert.AbInDw.Facts) (hAbInDwIdeal : Cert.AbInDwIdeal.Facts) (hAbInDwRefIdeal : Cert.AbInDwRefIdeal.Facts) (hAbInDx : Cert.AbInDx.Facts) (hAbInDxIdeal : Cert.AbInDxIdeal.Facts) (hAbInDxRefIdeal : Cert.AbInDxRefIdeal.Facts) (hAbOut : Cert.AbOut.Facts) (hAbOutIdeal : Cert.AbOutIdeal.Facts) (hAbOutRefIdeal : Cert.AbOutRefIdeal.Facts) (hAbOutDw : Cert.AbOutDw.Facts) (hAbOutDwIdeal : Cert.AbOutDwIdeal.Facts) (hAbOutDwRefIdeal : Cert.AbOutDwRefIdeal.Facts) (hAbOutDx : Cert.AbOutDx.Facts) (hAbOutDxIdeal : Cert.AbOutDxIdeal.Facts) (hAbOutDxRefIdeal : Cert.AbOutDxRefIdeal.Facts) (hQkv : Cert.Qkv.Facts) (hQkvIdeal : Cert.QkvIdeal.Facts) (hQkvRefIdeal : Cert.QkvRefIdeal.Facts) (hQkvDw : Cert.QkvDw.Facts) (hQkvDwIdeal : Cert.QkvDwIdeal.Facts) (hQkvDwRefIdeal : Cert.QkvDwRefIdeal.Facts) (hQkvDx : Cert.QkvDx.Facts) (hQkvDxIdeal : Cert.QkvDxIdeal.Facts) (hQkvDxRefIdeal : Cert.QkvDxRefIdeal.Facts) (hDilOut : Cert.DilOut.Facts) (hDilOutIdeal : Cert.DilOutIdeal.Facts) (hDilOutRefIdeal : Cert.DilOutRefIdeal.Facts) (hDilOutDw : Cert.DilOutDw.Facts) (hDilOutDwIdeal : Cert.DilOutDwIdeal.Facts) (hDilOutDwRefIdeal : Cert.DilOutDwRefIdeal.Facts) (hDilOutDx : Cert.DilOutDx.Facts) (hDilOutDxIdeal : Cert.DilOutDxIdeal.Facts) (hDilOutDxRefIdeal : Cert.DilOutDxRefIdeal.Facts),
    quiescent_Kernel (hKernel := hKernel)
    ∧ quiescent_KernelIdeal (hKernelIdeal := hKernelIdeal)
    ∧ quiescent_ReferenceIdeal (hReferenceIdeal := hReferenceIdeal)
    ∧ quiescent_MlpDh (hMlpDh := hMlpDh)
    ∧ quiescent_MlpDhIdeal (hMlpDhIdeal := hMlpDhIdeal)
    ∧ quiescent_MlpDhRefIdeal (hMlpDhRefIdeal := hMlpDhRefIdeal)
    ∧ quiescent_MlpDw2 (hMlpDw2 := hMlpDw2)
    ∧ quiescent_MlpDw2Ideal (hMlpDw2Ideal := hMlpDw2Ideal)
    ∧ quiescent_MlpDw2RefIdeal (hMlpDw2RefIdeal := hMlpDw2RefIdeal)
    ∧ quiescent_MlpDu (hMlpDu := hMlpDu)
    ∧ quiescent_MlpDuIdeal (hMlpDuIdeal := hMlpDuIdeal)
    ∧ quiescent_MlpDuRefIdeal (hMlpDuRefIdeal := hMlpDuRefIdeal)
    ∧ quiescent_MlpDw1 (hMlpDw1 := hMlpDw1)
    ∧ quiescent_MlpDw1Ideal (hMlpDw1Ideal := hMlpDw1Ideal)
    ∧ quiescent_MlpDw1RefIdeal (hMlpDw1RefIdeal := hMlpDw1RefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_AbInDw (hAbInDw := hAbInDw)
    ∧ quiescent_AbInDwIdeal (hAbInDwIdeal := hAbInDwIdeal)
    ∧ quiescent_AbInDwRefIdeal (hAbInDwRefIdeal := hAbInDwRefIdeal)
    ∧ quiescent_AbInDx (hAbInDx := hAbInDx)
    ∧ quiescent_AbInDxIdeal (hAbInDxIdeal := hAbInDxIdeal)
    ∧ quiescent_AbInDxRefIdeal (hAbInDxRefIdeal := hAbInDxRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_AbOutDw (hAbOutDw := hAbOutDw)
    ∧ quiescent_AbOutDwIdeal (hAbOutDwIdeal := hAbOutDwIdeal)
    ∧ quiescent_AbOutDwRefIdeal (hAbOutDwRefIdeal := hAbOutDwRefIdeal)
    ∧ quiescent_AbOutDx (hAbOutDx := hAbOutDx)
    ∧ quiescent_AbOutDxIdeal (hAbOutDxIdeal := hAbOutDxIdeal)
    ∧ quiescent_AbOutDxRefIdeal (hAbOutDxRefIdeal := hAbOutDxRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_DilOut (hDilOut := hDilOut)
    ∧ quiescent_DilOutIdeal (hDilOutIdeal := hDilOutIdeal)
    ∧ quiescent_DilOutRefIdeal (hDilOutRefIdeal := hDilOutRefIdeal)
    ∧ quiescent_DilOutDw (hDilOutDw := hDilOutDw)
    ∧ quiescent_DilOutDwIdeal (hDilOutDwIdeal := hDilOutDwIdeal)
    ∧ quiescent_DilOutDwRefIdeal (hDilOutDwRefIdeal := hDilOutDwRefIdeal)
    ∧ quiescent_DilOutDx (hDilOutDx := hDilOutDx)
    ∧ quiescent_DilOutDxIdeal (hDilOutDxIdeal := hDilOutDxIdeal)
    ∧ quiescent_DilOutDxRefIdeal (hDilOutDxRefIdeal := hDilOutDxRefIdeal)
    ∧ preserves_Kernel_KernelIdeal
    ∧ preserves_MlpDh_MlpDhIdeal
    ∧ algebraic_MlpDhIdeal_MlpDhRefIdeal (hMlpDhIdeal := hMlpDhIdeal) (hMlpDhRefIdeal := hMlpDhRefIdeal)
    ∧ preserves_MlpDw2_MlpDw2Ideal
    ∧ algebraic_MlpDw2Ideal_MlpDw2RefIdeal (hMlpDw2Ideal := hMlpDw2Ideal) (hMlpDw2RefIdeal := hMlpDw2RefIdeal)
    ∧ preserves_MlpDu_MlpDuIdeal
    ∧ algebraic_MlpDuIdeal_MlpDuRefIdeal (hMlpDuIdeal := hMlpDuIdeal) (hMlpDuRefIdeal := hMlpDuRefIdeal)
    ∧ preserves_MlpDw1_MlpDw1Ideal
    ∧ algebraic_MlpDw1Ideal_MlpDw1RefIdeal (hMlpDw1Ideal := hMlpDw1Ideal) (hMlpDw1RefIdeal := hMlpDw1RefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_AbIn_AbInIdeal
    ∧ algebraic_AbInIdeal_AbInRefIdeal (hAbInIdeal := hAbInIdeal) (hAbInRefIdeal := hAbInRefIdeal)
    ∧ preserves_AbInDw_AbInDwIdeal
    ∧ algebraic_AbInDwIdeal_AbInDwRefIdeal (hAbInDwIdeal := hAbInDwIdeal) (hAbInDwRefIdeal := hAbInDwRefIdeal)
    ∧ preserves_AbInDx_AbInDxIdeal
    ∧ algebraic_AbInDxIdeal_AbInDxRefIdeal (hAbInDxIdeal := hAbInDxIdeal) (hAbInDxRefIdeal := hAbInDxRefIdeal)
    ∧ preserves_AbOut_AbOutIdeal
    ∧ algebraic_AbOutIdeal_AbOutRefIdeal (hAbOutIdeal := hAbOutIdeal) (hAbOutRefIdeal := hAbOutRefIdeal)
    ∧ preserves_AbOutDw_AbOutDwIdeal
    ∧ algebraic_AbOutDwIdeal_AbOutDwRefIdeal (hAbOutDwIdeal := hAbOutDwIdeal) (hAbOutDwRefIdeal := hAbOutDwRefIdeal)
    ∧ preserves_AbOutDx_AbOutDxIdeal
    ∧ algebraic_AbOutDxIdeal_AbOutDxRefIdeal (hAbOutDxIdeal := hAbOutDxIdeal) (hAbOutDxRefIdeal := hAbOutDxRefIdeal)
    ∧ preserves_Qkv_QkvIdeal
    ∧ algebraic_QkvIdeal_QkvRefIdeal (hQkvIdeal := hQkvIdeal) (hQkvRefIdeal := hQkvRefIdeal)
    ∧ preserves_QkvDw_QkvDwIdeal
    ∧ algebraic_QkvDwIdeal_QkvDwRefIdeal (hQkvDwIdeal := hQkvDwIdeal) (hQkvDwRefIdeal := hQkvDwRefIdeal)
    ∧ preserves_QkvDx_QkvDxIdeal
    ∧ algebraic_QkvDxIdeal_QkvDxRefIdeal (hQkvDxIdeal := hQkvDxIdeal) (hQkvDxRefIdeal := hQkvDxRefIdeal)
    ∧ preserves_DilOut_DilOutIdeal
    ∧ algebraic_DilOutIdeal_DilOutRefIdeal (hDilOutIdeal := hDilOutIdeal) (hDilOutRefIdeal := hDilOutRefIdeal)
    ∧ preserves_DilOutDw_DilOutDwIdeal
    ∧ algebraic_DilOutDwIdeal_DilOutDwRefIdeal (hDilOutDwIdeal := hDilOutDwIdeal) (hDilOutDwRefIdeal := hDilOutDwRefIdeal)
    ∧ preserves_DilOutDx_DilOutDxIdeal
    ∧ algebraic_DilOutDxIdeal_DilOutDxRefIdeal (hDilOutDxIdeal := hDilOutDxIdeal) (hDilOutDxRefIdeal := hDilOutDxRefIdeal)
-- ==== Kernel.lean ====
abbrev S2048x512 : Shape := ⟨2, ![2048, 512]⟩
abbrev S_ : Shape := ⟨0, ![]⟩
abbrev S8x64x64 : Shape := ⟨3, ![8, 64, 64]⟩
abbrev S2048x8x64 : Shape := ⟨3, ![2048, 8, 64]⟩
abbrev S2048x8x64x64 : Shape := ⟨4, ![2048, 8, 64, 64]⟩
abbrev S1x8x64 : Shape := ⟨3, ![1, 8, 64]⟩
abbrev S8x64 : Shape := ⟨2, ![8, 64]⟩
abbrev S8x1x64 : Shape := ⟨3, ![8, 1, 64]⟩
abbrev S8x64x1 : Shape := ⟨3, ![8, 64, 1]⟩
abbrev S1x8x64x64 : Shape := ⟨4, ![1, 8, 64, 64]⟩
abbrev S32x64x4x2x64x64 : Shape := ⟨6, ![32, 64, 4, 2, 64, 64]⟩
abbrev S32x64x4x64x2x64 : Shape := ⟨6, ![32, 64, 4, 64, 2, 64]⟩
abbrev S32x64x4x64x128 : Shape := ⟨5, ![32, 64, 4, 64, 128]⟩
abbrev S2048x8x64x1 : Shape := ⟨4, ![2048, 8, 64, 1]⟩
abbrev S1x4x64x128 : Shape := ⟨4, ![1, 4, 64, 128]⟩
abbrev S31x1x4x64x128 : Shape := ⟨5, ![31, 1, 4, 64, 128]⟩
abbrev S31x4x64x128 : Shape := ⟨4, ![31, 4, 64, 128]⟩
abbrev S32x4x64x128 : Shape := ⟨4, ![32, 4, 64, 128]⟩
abbrev S16x2x64x4x2x64 : Shape := ⟨6, ![16, 2, 64, 4, 2, 64]⟩
abbrev S4x64x16x2x2x64 : Shape := ⟨6, ![4, 64, 16, 2, 2, 64]⟩
abbrev S4x64x16x2x128 : Shape := ⟨5, ![4, 64, 16, 2, 128]⟩
abbrev S4x64x16x2x1x128 : Shape := ⟨6, ![4, 64, 16, 2, 1, 128]⟩
abbrev S4x64x16x2x3x128 : Shape := ⟨6, ![4, 64, 16, 2, 3, 128]⟩
abbrev S4x64x12288 : Shape := ⟨3, ![4, 64, 12288]⟩
abbrev S128x512 : Shape := ⟨2, ![128, 512]⟩
abbrev S4x64x768 : Shape := ⟨3, ![4, 64, 768]⟩
abbrev S2x4x64x128 : Shape := ⟨4, ![2, 4, 64, 128]⟩
abbrev S4x64x128 : Shape := ⟨3, ![4, 64, 128]⟩
abbrev S2x65x4x64x128 : Shape := ⟨5, ![2, 65, 4, 64, 128]⟩
abbrev S2x64x4x64x128 : Shape := ⟨5, ![2, 64, 4, 64, 128]⟩
abbrev S512x128 : Shape := ⟨2, ![512, 128]⟩
abbrev S8x64x128 : Shape := ⟨3, ![8, 64, 128]⟩
abbrev S2x2 : Shape := ⟨2, ![2, 2]⟩
abbrev S64x128 : Shape := ⟨2, ![64, 128]⟩
abbrev S1x128 : Shape := ⟨2, ![1, 128]⟩
abbrev S384x128 : Shape := ⟨2, ![384, 128]⟩
abbrev S1x1 : Shape := ⟨2, ![1, 1]⟩
abbrev S1x64x4x64x128 : Shape := ⟨5, ![1, 64, 4, 64, 128]⟩
abbrev S64x4x64x128 : Shape := ⟨4, ![64, 4, 64, 128]⟩
abbrev S1x1x4x64x128 : Shape := ⟨5, ![1, 1, 4, 64, 128]⟩
abbrev S4x64x384 : Shape := ⟨3, ![4, 64, 384]⟩
abbrev S256x384 : Shape := ⟨2, ![256, 384]⟩
abbrev S256x128 : Shape := ⟨2, ![256, 128]⟩
abbrev S1x512 : Shape := ⟨2, ![1, 512]⟩
abbrev S1x1x1x64x128 : Shape := ⟨5, ![1, 1, 1, 64, 128]⟩
abbrev S1x64x128 : Shape := ⟨3, ![1, 64, 128]⟩
abbrev S128 : Shape := ⟨1, ![128]⟩
abbrev S64 : Shape := ⟨1, ![64]⟩
abbrev S64x1 : Shape := ⟨2, ![64, 1]⟩
abbrev S1x64x1 : Shape := ⟨3, ![1, 64, 1]⟩
abbrev S2x64x128 : Shape := ⟨3, ![2, 64, 128]⟩
abbrev S128x128 : Shape := ⟨2, ![128, 128]⟩

abbrev nBuf : Space → Nat
  | .hbm => 126
  | .vmem => 33
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S8x64x64, .f32⟩
  | .hbm, ⟨9, _⟩ => ⟨S2048x8x64, .f32⟩
  | .hbm, ⟨10, _⟩ => ⟨S2048x8x64, .f32⟩
  | .hbm, ⟨11, _⟩ => ⟨S2048x8x64, .f32⟩
  | .hbm, ⟨12, _⟩ => ⟨S2048x8x64, .f32⟩
  | .hbm, ⟨13, _⟩ => ⟨S2048x8x64, .f32⟩
  | .hbm, ⟨14, _⟩ => ⟨S_, .f32⟩
  | .hbm, ⟨15, _⟩ => ⟨S2048x8x64x64, .f32⟩
  | .hbm, ⟨16, _⟩ => ⟨S_, .f32⟩
  | .hbm, ⟨17, _⟩ => ⟨S2048x8x64, .f32⟩
  | .hbm, ⟨18, _⟩ => ⟨S_, .i32⟩
  | .hbm, ⟨19, _⟩ => ⟨S2048x8x64, .f32⟩
  | .hbm, ⟨20, _⟩ => ⟨S2048x8x64, .f32⟩
  | .hbm, ⟨21, _⟩ => ⟨S2048x8x64, .f32⟩
  | .hbm, ⟨22, _⟩ => ⟨S2048x8x64, .f32⟩
  | .hbm, ⟨23, _⟩ => ⟨S2048x8x64, .f32⟩
  | .hbm, ⟨24, _⟩ => ⟨S_, .i32⟩
  | .hbm, ⟨25, _⟩ => ⟨S8x64x64, .f32⟩
  | .hbm, ⟨26, _⟩ => ⟨S2048x8x64x64, .f32⟩
  | .hbm, ⟨27, _⟩ => ⟨S2048x8x64, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1x8x64, .f32⟩
  | .hbm, ⟨33, _⟩ => ⟨S8x64, .f32⟩
  | .hbm, ⟨34, _⟩ => ⟨S_, .i32⟩
  | .hbm, ⟨35, _⟩ => ⟨S_, .i32⟩
  | .hbm, ⟨36, _⟩ => ⟨S1x8x64, .f32⟩
  | .hbm, ⟨37, _⟩ => ⟨S8x64, .f32⟩
  | .hbm, ⟨38, _⟩ => ⟨S_, .i32⟩
  | .hbm, ⟨39, _⟩ => ⟨S_, .i32⟩
  | .hbm, ⟨40, _⟩ => ⟨S1x8x64, .f32⟩
  | .hbm, ⟨41, _⟩ => ⟨S8x64, .f32⟩
  | .hbm, ⟨42, _⟩ => ⟨S_, .i32⟩
  | .hbm, ⟨43, _⟩ => ⟨S_, .i32⟩
  | .hbm, ⟨44, _⟩ => ⟨S1x8x64, .f32⟩
  | .hbm, ⟨45, _⟩ => ⟨S8x64, .f32⟩
  | .hbm, ⟨46, _⟩ => ⟨S_, .i32⟩
  | .hbm, ⟨47, _⟩ => ⟨S_, .i32⟩
  | .hbm, ⟨48, _⟩ => ⟨S1x8x64, .f32⟩
  | .hbm, ⟨49, _⟩ => ⟨S8x64, .f32⟩
  | .hbm, ⟨50, _⟩ => ⟨S8x64, .f32⟩
  | .hbm, ⟨51, _⟩ => ⟨S8x1x64, .f32⟩
  | .hbm, ⟨52, _⟩ => ⟨S8x64x64, .f32⟩
  | .hbm, ⟨53, _⟩ => ⟨S8x64x64, .f32⟩
  | .hbm, ⟨54, _⟩ => ⟨S8x64x1, .f32⟩
  | .hbm, ⟨55, _⟩ => ⟨S8x1x64, .f32⟩
  | .hbm, ⟨56, _⟩ => ⟨S8x64x64, .f32⟩
  | .hbm, ⟨57, _⟩ => ⟨S8x64x64, .f32⟩
  | .hbm, ⟨58, _⟩ => ⟨S8x64x64, .f32⟩
  | .hbm, ⟨59, _⟩ => ⟨S8x64x64, .f32⟩
  | .hbm, ⟨60, _⟩ => ⟨S8x64x1, .f32⟩
  | .hbm, ⟨61, _⟩ => ⟨S8x1x64, .f32⟩
  | .hbm, ⟨62, _⟩ => ⟨S8x64x64, .f32⟩
  | .hbm, ⟨63, _⟩ => ⟨S8x64x64, .f32⟩
  | .hbm, ⟨64, _⟩ => ⟨S8x64x64, .f32⟩
  | .hbm, ⟨65, _⟩ => ⟨S8x64x64, .f32⟩
  | .hbm, ⟨66, _⟩ => ⟨S1x8x64x64, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S2048x8x64x64, .f32⟩
  | .hbm, ⟨71, _⟩ => ⟨S1x8x64, .f32⟩
  | .hbm, ⟨72, _⟩ => ⟨S_, .i32⟩
  | .hbm, ⟨73, _⟩ => ⟨S_, .i32⟩
  | .hbm, ⟨74, _⟩ => ⟨S2048x8x64, .f32⟩
  | .hbm, ⟨75, _⟩ => ⟨S_, .i32⟩
  | .hbm, ⟨76, _⟩ => ⟨S_, .i32⟩
  | .hbm, ⟨77, _⟩ => ⟨S32x64x4x2x64x64, .f32⟩
  | .hbm, ⟨78, _⟩ => ⟨S32x64x4x64x2x64, .f32⟩
  | .hbm, ⟨79, _⟩ => ⟨S32x64x4x64x128, .f32⟩
  | .hbm, ⟨80, _⟩ => ⟨S2048x8x64x1, .f32⟩
  | .hbm, ⟨81, _⟩ => ⟨S2048x8x64x64, .f32⟩
  | .hbm, ⟨82, _⟩ => ⟨S32x64x4x2x64x64, .f32⟩
  | .hbm, ⟨83, _⟩ => ⟨S32x64x4x64x2x64, .f32⟩
  | .hbm, ⟨84, _⟩ => ⟨S32x64x4x64x128, .f32⟩
  | .hbm, ⟨85, _⟩ => ⟨S_, .f32⟩
  | .hbm, ⟨86, _⟩ => ⟨S1x4x64x128, .f32⟩
  | .hbm, ⟨87, _⟩ => ⟨S31x1x4x64x128, .f32⟩
  | .hbm, ⟨88, _⟩ => ⟨S31x4x64x128, .f32⟩
  | .hbm, ⟨89, _⟩ => ⟨S32x4x64x128, .f32⟩
  | .hbm, ⟨90, _⟩ => ⟨S16x2x64x4x2x64, .f32⟩
  | .hbm, ⟨91, _⟩ => ⟨S4x64x16x2x2x64, .f32⟩
  | .hbm, ⟨92, _⟩ => ⟨S4x64x16x2x128, .f32⟩
  | .hbm, ⟨93, _⟩ => ⟨S4x64x16x2x128, .bf16⟩
  | .hbm, ⟨94, _⟩ => ⟨S4x64x16x2x128, .f32⟩
  | .hbm, ⟨95, _⟩ => ⟨S4x64x16x2x128, .f32⟩
  | .hbm, ⟨96, _⟩ => ⟨S4x64x16x2x128, .bf16⟩
  | .hbm, ⟨97, _⟩ => ⟨S4x64x16x2x128, .f32⟩
  | .hbm, ⟨98, _⟩ => ⟨S4x64x16x2x128, .f32⟩
  | .hbm, ⟨99, _⟩ => ⟨S4x64x16x2x128, .bf16⟩
  | .hbm, ⟨100, _⟩ => ⟨S4x64x16x2x1x128, .bf16⟩
  | .hbm, ⟨101, _⟩ => ⟨S4x64x16x2x1x128, .bf16⟩
  | .hbm, ⟨102, _⟩ => ⟨S4x64x16x2x1x128, .bf16⟩
  | .hbm, ⟨103, _⟩ => ⟨S4x64x16x2x3x128, .bf16⟩
  | .hbm, ⟨104, _⟩ => ⟨S4x64x12288, .bf16⟩
  | .hbm, ⟨105, _⟩ => ⟨S16x2x64x4x2x64, .f32⟩
  | .hbm, ⟨106, _⟩ => ⟨S4x64x16x2x2x64, .f32⟩
  | .hbm, ⟨107, _⟩ => ⟨S4x64x16x2x128, .f32⟩
  | .hbm, ⟨108, _⟩ => ⟨S4x64x16x2x128, .bf16⟩
  | .hbm, ⟨109, _⟩ => ⟨S4x64x16x2x128, .f32⟩
  | .hbm, ⟨110, _⟩ => ⟨S4x64x16x2x128, .f32⟩
  | .hbm, ⟨111, _⟩ => ⟨S4x64x16x2x128, .bf16⟩
  | .hbm, ⟨112, _⟩ => ⟨S4x64x16x2x128, .f32⟩
  | .hbm, ⟨113, _⟩ => ⟨S4x64x16x2x128, .f32⟩
  | .hbm, ⟨114, _⟩ => ⟨S4x64x16x2x128, .bf16⟩
  | .hbm, ⟨115, _⟩ => ⟨S4x64x16x2x1x128, .bf16⟩
  | .hbm, ⟨116, _⟩ => ⟨S4x64x16x2x1x128, .bf16⟩
  | .hbm, ⟨117, _⟩ => ⟨S4x64x16x2x1x128, .bf16⟩
  | .hbm, ⟨118, _⟩ => ⟨S4x64x16x2x3x128, .bf16⟩
  | .hbm, ⟨119, _⟩ => ⟨S4x64x12288, .bf16⟩
  | .hbm, ⟨120, _⟩ => ⟨S2048x512, .f32⟩
  | .hbm, ⟨121, _⟩ => ⟨S2048x512, .f32⟩
  | .hbm, ⟨122, _⟩ => ⟨S2048x512, .f32⟩
  | .hbm, ⟨123, _⟩ => ⟨S2048x512, .f32⟩
  | .hbm, ⟨124, _⟩ => ⟨S2048x512, .f32⟩
  | .hbm, ⟨125, _⟩ => ⟨S2048x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S4x64x768, .bf16⟩
  | .local _ .vmem, ⟨11, _⟩ => ⟨S4x64x768, .bf16⟩
  | .local _ .vmem, ⟨12, _⟩ => ⟨S4x64x768, .bf16⟩
  | .local _ .vmem, ⟨13, _⟩ => ⟨S4x64x768, .bf16⟩
  | .local _ .vmem, ⟨14, _⟩ => ⟨S2x4x64x128, .f32⟩
  | .local _ .vmem, ⟨15, _⟩ => ⟨S2x4x64x128, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | .local _ .vmem, ⟨26, _⟩ => ⟨S128x512, .f32⟩
  | .local _ .vmem, ⟨27, _⟩ => ⟨S128x512, .f32⟩
  | .local _ .vmem, ⟨28, _⟩ => ⟨S4x64x128, .f32⟩
  | .local _ .vmem, ⟨29, _⟩ => ⟨S2x65x4x64x128, .f32⟩
  | .local _ .vmem, ⟨30, _⟩ => ⟨S2x64x4x64x128, .f32⟩
  | .local _ .vmem, ⟨31, _⟩ => ⟨S512x128, .f32⟩
  | .local _ .vmem, ⟨32, _⟩ => ⟨S8x64x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_c : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev main_v8_7 : Ref sig .tc := ⟨.hbm, 26, rfl⟩
abbrev main_v8_8 : Ref sig .tc := ⟨.hbm, 27, rfl⟩
abbrev main_while0c_c_11 : Ref sig .tc := ⟨.hbm, 28, rfl⟩
abbrev main_while0c_v52 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v52 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v53 : Ref sig .tc := ⟨.hbm, 37, rfl⟩
abbrev main_while0b_call2_c : Ref sig .tc := ⟨.hbm, 38, rfl⟩
abbrev main_while0b_call2_c_0 : Ref sig .tc := ⟨.hbm, 39, rfl⟩
abbrev main_while0b_call2_v0 : Ref sig .tc := ⟨.hbm, 40, rfl⟩
abbrev main_while0b_v54 : Ref sig .tc := ⟨.hbm, 41, rfl⟩
abbrev main_while0b_call3_c : Ref sig .tc := ⟨.hbm, 42, rfl⟩
abbrev main_while0b_call3_c_0 : Ref sig .tc := ⟨.hbm, 43, rfl⟩
abbrev main_while0b_call3_v0 : Ref sig .tc := ⟨.hbm, 44, rfl⟩
abbrev main_while0b_v55 : Ref sig .tc := ⟨.hbm, 45, rfl⟩
abbrev main_while0b_call4_c : Ref sig .tc := ⟨.hbm, 46, rfl⟩
abbrev main_while0b_call4_c_0 : Ref sig .tc := ⟨.hbm, 47, rfl⟩
abbrev main_while0b_call4_v0 : Ref sig .tc := ⟨.hbm, 48, rfl⟩
abbrev main_while0b_v56 : Ref sig .tc := ⟨.hbm, 49, rfl⟩
abbrev main_while0b_v57 : Ref sig .tc := ⟨.hbm, 50, rfl⟩
abbrev main_while0b_v58 : Ref sig .tc := ⟨.hbm, 51, rfl⟩
abbrev main_while0b_v59 : Ref sig .tc := ⟨.hbm, 52, rfl⟩
abbrev main_while0b_v60 : Ref sig .tc := ⟨.hbm, 53, rfl⟩
abbrev main_while0b_v61 : Ref sig .tc := ⟨.hbm, 54, rfl⟩
abbrev main_while0b_v62 : Ref sig .tc := ⟨.hbm, 55, rfl⟩
abbrev main_while0b_v63 : Ref sig .tc := ⟨.hbm, 56, rfl⟩
abbrev main_while0b_v64 : Ref sig .tc := ⟨.hbm, 57, rfl⟩
abbrev main_while0b_v65 : Ref sig .tc := ⟨.hbm, 58, rfl⟩
abbrev main_while0b_v66 : Ref sig .tc := ⟨.hbm, 59, rfl⟩
abbrev main_while0b_v67 : Ref sig .tc := ⟨.hbm, 60, rfl⟩
abbrev main_while0b_v68 : Ref sig .tc := ⟨.hbm, 61, rfl⟩
abbrev main_while0b_v69 : Ref sig .tc := ⟨.hbm, 62, rfl⟩
abbrev main_while0b_v70 : Ref sig .tc := ⟨.hbm, 63, rfl⟩
abbrev main_while0b_v71 : Ref sig .tc := ⟨.hbm, 64, rfl⟩
abbrev main_while0b_v72 : Ref sig .tc := ⟨.hbm, 65, rfl⟩
abbrev main_while0b_call5_v0 : Ref sig .tc := ⟨.hbm, 66, rfl⟩
abbrev main_while0b_call5_c : Ref sig .tc := ⟨.hbm, 67, rfl⟩
abbrev main_while0b_call5_c_0 : Ref sig .tc := ⟨.hbm, 68, rfl⟩
abbrev main_while0b_call5_c_1 : Ref sig .tc := ⟨.hbm, 69, rfl⟩
abbrev main_while0b_v73 : Ref sig .tc := ⟨.hbm, 70, rfl⟩
abbrev main_while0b_call6_v0 : Ref sig .tc := ⟨.hbm, 71, rfl⟩
abbrev main_while0b_call6_c : Ref sig .tc := ⟨.hbm, 72, rfl⟩
abbrev main_while0b_call6_c_0 : Ref sig .tc := ⟨.hbm, 73, rfl⟩
abbrev main_while0b_v74 : Ref sig .tc := ⟨.hbm, 74, rfl⟩
abbrev main_while0b_c_11 : Ref sig .tc := ⟨.hbm, 75, rfl⟩
abbrev main_while0b_v75 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_cst_2 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51_0 : Ref sig .tc := ⟨.hbm, 120, rfl⟩
abbrev main_v51_1 : Ref sig .tc := ⟨.hbm, 121, rfl⟩
abbrev main_v51_2 : Ref sig .tc := ⟨.hbm, 122, rfl⟩
abbrev main_v51_3 : Ref sig .tc := ⟨.hbm, 123, rfl⟩
abbrev main_v51_4 : Ref sig .tc := ⟨.hbm, 124, rfl⟩
abbrev main_v51_5 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev main_while0_count : Scf.Loop 32 := ⟨0#32, 2048#32, 1#32⟩

abbrev grid0 : Pipeline.Grid := ⟨1, ![16], ![false]⟩

def k0_cond2 (i : grid0.Coords) : BitVec 1 :=
  let arg0 : BitVec 32 := BitVec.ofNat 32 (i 0).val
  let c0_i32_4 : BitVec 32 := 0#32
  let v25 : BitVec 1 := Scalar.cmpi .eq arg0 c0_i32_4
  let v26 : BitVec 32 := Scalar.extui v25
  let c0_i32_5 : BitVec 32 := 0#32
  let v27 : BitVec 1 := Scalar.cmpi .ne v26 c0_i32_5
  v27

def k0_off1 (i : grid0.Coords) : Fin 5 → Nat :=
  let c15_i32 : BitVec 32 := 15#32
  let arg0 : BitVec 32 := BitVec.ofNat 32 (i 0).val
  let v0 : BitVec 32 := Scalar.subi c15_i32 arg0
  let c2_i32_153 : BitVec 32 := 2#32
  let v150 : BitVec 32 := Scalar.muli v0 c2_i32_153
  let c2_i32_154 : BitVec 32 := 2#32
  let v151 : BitVec 32 := Scalar.addi v150 c2_i32_154
  let c1_i32_155 : BitVec 32 := 1#32
  let v152 : BitVec 32 := Scalar.subi v151 c1_i32_155
  let c0_i32_163 : BitVec 32 := 0#32
  let c0_i32_164 : BitVec 32 := 0#32
  let c0_i32_165 : BitVec 32 := 0#32
  let c0_i32_166 : BitVec 32 := 0#32
  ![v152.toNat, 0, 0, 0, 0]
def k0_off2 (i : grid0.Coords) (c1_i32 : BitVec 32) : Fin 5 → Nat :=
  let c15_i32 : BitVec 32 := 15#32
  let arg0 : BitVec 32 := BitVec.ofNat 32 (i 0).val
  let v0 : BitVec 32 := Scalar.subi c15_i32 arg0
  let c2_i32 : BitVec 32 := 2#32
  let v28 : BitVec 32 := Scalar.muli v0 c2_i32
  let v29 : BitVec 32 := Scalar.addi v28 c1_i32
  let c0_i32_13 : BitVec 32 := 0#32
  let c0_i32_14 : BitVec 32 := 0#32
  let c0_i32_15 : BitVec 32 := 0#32
  let c0_i32_16 : BitVec 32 := 0#32
  ![v29.toNat, 0, 0, 0, 0]
def k0_off3 (i : grid0.Coords) : Fin 5 → Nat :=
  let c15_i32 : BitVec 32 := 15#32
  let arg0 : BitVec 32 := BitVec.ofNat 32 (i 0).val
  let v0 : BitVec 32 := Scalar.subi c15_i32 arg0
  let c2_i32_28 : BitVec 32 := 2#32
  let v42 : BitVec 32 := Scalar.muli v0 c2_i32_28
  let c1_i32_29 : BitVec 32 := 1#32
  let v43 : BitVec 32 := Scalar.addi v42 c1_i32_29
  let c1_i32_30 : BitVec 32 := 1#32
  let v44 : BitVec 32 := Scalar.subi v43 c1_i32_30
  let c0_i32_38 : BitVec 32 := 0#32
  let c0_i32_39 : BitVec 32 := 0#32
  let c0_i32_40 : BitVec 32 := 0#32
  let c0_i32_41 : BitVec 32 := 0#32
  ![v44.toNat, 0, 0, 0, 0]
@[reducible] def k0_t1_loop : Scf.Loop 32 :=
  let c0_i32_76 : BitVec 32 := 0#32
  let c64_i32_77 : BitVec 32 := 64#32
  let v86 : BitVec 32 := Scalar.addi c0_i32_76 c64_i32_77
  let c1_i32_78 : BitVec 32 := 1#32
  ⟨c0_i32_76, v86, c1_i32_78⟩
def k0_off4 (k0_t1 : Fin k0_t1_loop.trips) : Fin 2 → Nat :=
  let c64_i32_154 : BitVec 32 := 64#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let v151 : BitVec 32 := Scalar.addi c64_i32_154 v150
  let v152 : Index := Scalar.indexCast v151
  let c0_155 : Index := 0#32
  ![v152.toNat, 0]
def k0_off5 (k0_t1 : Fin k0_t1_loop.trips) : Fin 5 → Nat :=
  let c1_190 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let v218 : Index := Scalar.indexCast v150
  let c0_191 : Index := 0#32
  let c0_192 : Index := 0#32
  let c0_193 : Index := 0#32
  ![1, v218.toNat, 0, 0, 0]
def k0_off6 (k0_t1 : Fin k0_t1_loop.trips) : Fin 5 → Nat :=
  let c1_198 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let c1_i32_197 : BitVec 32 := 1#32
  let v226 : BitVec 32 := Scalar.addi v150 c1_i32_197
  let v227 : Index := Scalar.indexCast v226
  let c0_199 : Index := 0#32
  let c0_200 : Index := 0#32
  let c0_201 : Index := 0#32
  ![1, v227.toNat, 0, 0, 0]
def k0_off7 (k0_t1 : Fin k0_t1_loop.trips) : Fin 5 → Nat :=
  let c1_204 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let v236 : Index := Scalar.indexCast v150
  let c0_205 : Index := 0#32
  let c0_206 : Index := 0#32
  let c0_207 : Index := 0#32
  ![1, v236.toNat, 0, 0, 0]
def k0_off8 (k0_t1 : Fin k0_t1_loop.trips) : Fin 5 → Nat :=
  let c1_226 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let v301 : Index := Scalar.indexCast v150
  let c1_227 : Index := 1#32
  let c0_228 : Index := 0#32
  let c0_229 : Index := 0#32
  ![1, v301.toNat, 1, 0, 0]
def k0_off9 (k0_t1 : Fin k0_t1_loop.trips) : Fin 5 → Nat :=
  let c1_234 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let c1_i32_233 : BitVec 32 := 1#32
  let v309 : BitVec 32 := Scalar.addi v150 c1_i32_233
  let v310 : Index := Scalar.indexCast v309
  let c1_235 : Index := 1#32
  let c0_236 : Index := 0#32
  let c0_237 : Index := 0#32
  ![1, v310.toNat, 1, 0, 0]
def k0_off10 (k0_t1 : Fin k0_t1_loop.trips) : Fin 5 → Nat :=
  let c1_240 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let v319 : Index := Scalar.indexCast v150
  let c1_241 : Index := 1#32
  let c0_242 : Index := 0#32
  let c0_243 : Index := 0#32
  ![1, v319.toNat, 1, 0, 0]
def k0_off11 (k0_t1 : Fin k0_t1_loop.trips) : Fin 5 → Nat :=
  let c1_261 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let v384 : Index := Scalar.indexCast v150
  let c2_262 : Index := 2#32
  let c0_263 : Index := 0#32
  let c0_264 : Index := 0#32
  ![1, v384.toNat, 2, 0, 0]
def k0_off12 (k0_t1 : Fin k0_t1_loop.trips) : Fin 5 → Nat :=
  let c1_269 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let c1_i32_268 : BitVec 32 := 1#32
  let v392 : BitVec 32 := Scalar.addi v150 c1_i32_268
  let v393 : Index := Scalar.indexCast v392
  let c2_270 : Index := 2#32
  let c0_271 : Index := 0#32
  let c0_272 : Index := 0#32
  ![1, v393.toNat, 2, 0, 0]
def k0_off13 (k0_t1 : Fin k0_t1_loop.trips) : Fin 5 → Nat :=
  let c1_275 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let v402 : Index := Scalar.indexCast v150
  let c2_276 : Index := 2#32
  let c0_277 : Index := 0#32
  let c0_278 : Index := 0#32
  ![1, v402.toNat, 2, 0, 0]
def k0_off14 (k0_t1 : Fin k0_t1_loop.trips) : Fin 5 → Nat :=
  let c1_296 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let v467 : Index := Scalar.indexCast v150
  let c3_297 : Index := 3#32
  let c0_298 : Index := 0#32
  let c0_299 : Index := 0#32
  ![1, v467.toNat, 3, 0, 0]
def k0_off15 (k0_t1 : Fin k0_t1_loop.trips) : Fin 5 → Nat :=
  let c1_304 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let c1_i32_303 : BitVec 32 := 1#32
  let v475 : BitVec 32 := Scalar.addi v150 c1_i32_303
  let v476 : Index := Scalar.indexCast v475
  let c3_305 : Index := 3#32
  let c0_306 : Index := 0#32
  let c0_307 : Index := 0#32
  ![1, v476.toNat, 3, 0, 0]
def k0_off16 (k0_t1 : Fin k0_t1_loop.trips) : Fin 5 → Nat :=
  let c1_310 : Index := 1#32
  let c63_i32_153 : BitVec 32 := 63#32
  let c0_i32_76 : BitVec 32 := 0#32
  let c1_i32_78 : BitVec 32 := 1#32
  let arg23 : BitVec 32 := Scf.iv c0_i32_76 c1_i32_78 k0_t1
  let v150 : BitVec 32 := Scalar.subi c63_i32_153 arg23
  let v485 : Index := Scalar.indexCast v150
  let c3_311 : Index := 3#32
  let c0_312 : Index := 0#32
  let c0_313 : Index := 0#32
  ![1, v485.toNat, 3, 0, 0]
def k0_cond3 (i : grid0.Coords) : BitVec 1 :=
  let c15_i32 : BitVec 32 := 15#32
  let arg0 : BitVec 32 := BitVec.ofNat 32 (i 0).val
  let v0 : BitVec 32 := Scalar.subi c15_i32 arg0
  let c0_i32_104 : BitVec 32 := 0#32
  let v101 : BitVec 1 := Scalar.cmpi .sgt v0 c0_i32_104
  let v102 : BitVec 32 := Scalar.extui v101
  let c0_i32_105 : BitVec 32 := 0#32
  let v103 : BitVec 1 := Scalar.cmpi .ne v102 c0_i32_105
  v103

def k0_off17 (i : grid0.Coords) : Fin 5 → Nat :=
  let c15_i32 : BitVec 32 := 15#32
  let arg0 : BitVec 32 := BitVec.ofNat 32 (i 0).val
  let v0 : BitVec 32 := Scalar.subi c15_i32 arg0
  let c2_i32_153 : BitVec 32 := 2#32
  let v150 : BitVec 32 := Scalar.muli v0 c2_i32_153
  let c1_i32_154 : BitVec 32 := 1#32
  let v151 : BitVec 32 := Scalar.subi v150 c1_i32_154
  let c0_i32_162 : BitVec 32 := 0#32
  let c0_i32_163 : BitVec 32 := 0#32
  let c0_i32_164 : BitVec 32 := 0#32
  let c0_i32_165 : BitVec 32 := 0#32
  ![v151.toNat, 0, 0, 0, 0]
@[reducible] def k0_t2_loop : Scf.Loop 32 :=
  let c0_i32_133 : BitVec 32 := 0#32
  let c64_i32_134 : BitVec 32 := 64#32
  let v133 : BitVec 32 := Scalar.addi c0_i32_133 c64_i32_134
  let c1_i32_135 : BitVec 32 := 1#32
  ⟨c0_i32_133, v133, c1_i32_135⟩
def k0_off18 (k0_t2 : Fin k0_t2_loop.trips) : Fin 2 → Nat :=
  let c0_i32_154 : BitVec 32 := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let v151 : BitVec 32 := Scalar.addi c0_i32_154 v150
  let v152 : Index := Scalar.indexCast v151
  let c0_155 : Index := 0#32
  ![v152.toNat, 0]
def k0_off19 (k0_t2 : Fin k0_t2_loop.trips) : Fin 5 → Nat :=
  let c0_190 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let v218 : Index := Scalar.indexCast v150
  let c0_191 : Index := 0#32
  let c0_192 : Index := 0#32
  let c0_193 : Index := 0#32
  ![0, v218.toNat, 0, 0, 0]
def k0_off20 (k0_t2 : Fin k0_t2_loop.trips) : Fin 5 → Nat :=
  let c0_198 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let c1_i32_197 : BitVec 32 := 1#32
  let v226 : BitVec 32 := Scalar.addi v150 c1_i32_197
  let v227 : Index := Scalar.indexCast v226
  let c0_199 : Index := 0#32
  let c0_200 : Index := 0#32
  let c0_201 : Index := 0#32
  ![0, v227.toNat, 0, 0, 0]
def k0_off21 (k0_t2 : Fin k0_t2_loop.trips) : Fin 5 → Nat :=
  let c0_204 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let v236 : Index := Scalar.indexCast v150
  let c0_205 : Index := 0#32
  let c0_206 : Index := 0#32
  let c0_207 : Index := 0#32
  ![0, v236.toNat, 0, 0, 0]
def k0_off22 (k0_t2 : Fin k0_t2_loop.trips) : Fin 5 → Nat :=
  let c0_226 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let v301 : Index := Scalar.indexCast v150
  let c1_227 : Index := 1#32
  let c0_228 : Index := 0#32
  let c0_229 : Index := 0#32
  ![0, v301.toNat, 1, 0, 0]
def k0_off23 (k0_t2 : Fin k0_t2_loop.trips) : Fin 5 → Nat :=
  let c0_234 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let c1_i32_233 : BitVec 32 := 1#32
  let v309 : BitVec 32 := Scalar.addi v150 c1_i32_233
  let v310 : Index := Scalar.indexCast v309
  let c1_235 : Index := 1#32
  let c0_236 : Index := 0#32
  let c0_237 : Index := 0#32
  ![0, v310.toNat, 1, 0, 0]
def k0_off24 (k0_t2 : Fin k0_t2_loop.trips) : Fin 5 → Nat :=
  let c0_240 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let v319 : Index := Scalar.indexCast v150
  let c1_241 : Index := 1#32
  let c0_242 : Index := 0#32
  let c0_243 : Index := 0#32
  ![0, v319.toNat, 1, 0, 0]
def k0_off25 (k0_t2 : Fin k0_t2_loop.trips) : Fin 5 → Nat :=
  let c0_261 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let v384 : Index := Scalar.indexCast v150
  let c2_262 : Index := 2#32
  let c0_263 : Index := 0#32
  let c0_264 : Index := 0#32
  ![0, v384.toNat, 2, 0, 0]
def k0_off26 (k0_t2 : Fin k0_t2_loop.trips) : Fin 5 → Nat :=
  let c0_269 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let c1_i32_268 : BitVec 32 := 1#32
  let v392 : BitVec 32 := Scalar.addi v150 c1_i32_268
  let v393 : Index := Scalar.indexCast v392
  let c2_270 : Index := 2#32
  let c0_271 : Index := 0#32
  let c0_272 : Index := 0#32
  ![0, v393.toNat, 2, 0, 0]
def k0_off27 (k0_t2 : Fin k0_t2_loop.trips) : Fin 5 → Nat :=
  let c0_275 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let v402 : Index := Scalar.indexCast v150
  let c2_276 : Index := 2#32
  let c0_277 : Index := 0#32
  let c0_278 : Index := 0#32
  ![0, v402.toNat, 2, 0, 0]
def k0_off28 (k0_t2 : Fin k0_t2_loop.trips) : Fin 5 → Nat :=
  let c0_296 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let v467 : Index := Scalar.indexCast v150
  let c3_297 : Index := 3#32
  let c0_298 : Index := 0#32
  let c0_299 : Index := 0#32
  ![0, v467.toNat, 3, 0, 0]
def k0_off29 (k0_t2 : Fin k0_t2_loop.trips) : Fin 5 → Nat :=
  let c0_304 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let c1_i32_303 : BitVec 32 := 1#32
  let v475 : BitVec 32 := Scalar.addi v150 c1_i32_303
  let v476 : Index := Scalar.indexCast v475
  let c3_305 : Index := 3#32
  let c0_306 : Index := 0#32
  let c0_307 : Index := 0#32
  ![0, v476.toNat, 3, 0, 0]
def k0_off30 (k0_t2 : Fin k0_t2_loop.trips) : Fin 5 → Nat :=
  let c0_310 : Index := 0#32
  let c63_i32_153 : BitVec 32 := 63#32
  let c0_i32_133 : BitVec 32 := 0#32
  let c1_i32_135 : BitVec 32 := 1#32
  let arg23 : BitVec 32 := Scf.iv c0_i32_133 c1_i32_135 k0_t2
  let v150 : BitVec 32 := Scalar.subi c63_i32_153 arg23
  let v485 : Index := Scalar.indexCast v150
  let c3_311 : Index := 3#32
  let c0_312 : Index := 0#32
  let c0_313 : Index := 0#32
  ![0, v485.toNat, 3, 0, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x64x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2048x512 : Shape := ⟨2, ![2048, 512]⟩
abbrev S2048x8x64 : Shape := ⟨3, ![2048, 8, 64]⟩
abbrev S_ : Shape := ⟨0, ![]⟩
abbrev S8x64x64 : Shape := ⟨3, ![8, 64, 64]⟩
abbrev S2048x8x1x64 : Shape := ⟨4, ![2048, 8, 1, 64]⟩
abbrev S2048x8x64x64 : Shape := ⟨4, ![2048, 8, 64, 64]⟩
abbrev S2048x8x64x1 : Shape := ⟨4, ![2048, 8, 64, 1]⟩
abbrev S1x8x64 : Shape := ⟨3, ![1, 8, 64]⟩
abbrev S8x64 : Shape := ⟨2, ![8, 64]⟩
abbrev S8x1x64 : Shape := ⟨3, ![8, 1, 64]⟩
abbrev S8x64x1 : Shape := ⟨3, ![8, 64, 1]⟩
abbrev S1x8x1x64 : Shape := ⟨4, ![1, 8, 1, 64]⟩
abbrev S1x8x64x64 : Shape := ⟨4, ![1, 8, 64, 64]⟩
abbrev S1x8x64x1 : Shape := ⟨4, ![1, 8, 64, 1]⟩

abbrev nBuf : Space → Nat
  | .hbm => 336
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x512, .f32⟩
  | 5 => ⟨S2048x512, .f32⟩
  | 6 => ⟨S2048x512, .f32⟩
  | 7 => ⟨S2048x8x64, .f32⟩
  | 8 => ⟨S2048x8x64, .f32⟩
  | 9 => ⟨S2048x8x64, .f32⟩
  | 10 => ⟨S2048x8x64, .f32⟩
  | 11 => ⟨S2048x8x64, .f32⟩
  | 12 => ⟨S2048x8x64, .f32⟩
  | 13 => ⟨S_, .f32⟩
  | 14 => ⟨S8x64x64, .f32⟩
  | 15 => ⟨S_, .f32⟩
  | 16 => ⟨S2048x8x64, .f32⟩
  | 17 => ⟨S_, .f32⟩
  | 18 => ⟨S2048x8x1x64, .f32⟩
  | 19 => ⟨S_, .f32⟩
  | 20 => ⟨S2048x8x64x64, .f32⟩
  | 21 => ⟨S_, .f32⟩
  | 22 => ⟨S2048x8x1x64, .f32⟩
  | 23 => ⟨S_, .f32⟩
  | 24 => ⟨S2048x8x1x64, .f32⟩
  | 25 => ⟨S_, .f32⟩
  | 26 => ⟨S2048x8x64x1, .f32⟩
  | 27 => ⟨S_, .f32⟩
  | 28 => ⟨S2048x8x1x64, .f32⟩
  | 29 => ⟨S_, .f32⟩
  | 30 => ⟨S2048x8x64x1, .f32⟩
  | 31 => ⟨S_, .f32⟩
  | 32 => ⟨S2048x8x1x64, .f32⟩
  | 33 => ⟨S_, .f32⟩
  | 34 => ⟨S2048x8x64x64, .f32⟩
  | 35 => ⟨S_, .i32⟩
  | 36 => ⟨S2048x8x64, .f32⟩
  | 37 => ⟨S2048x8x64, .f32⟩
  | 38 => ⟨S2048x8x64, .f32⟩
  | 39 => ⟨S2048x8x64, .f32⟩
  | 40 => ⟨S2048x8x64, .f32⟩
  | 41 => ⟨S2048x8x64, .f32⟩
  | 42 => ⟨S_, .i32⟩
  | 43 => ⟨S8x64x64, .f32⟩
  | 44 => ⟨S2048x8x64, .f32⟩
  | 45 => ⟨S2048x8x1x64, .f32⟩
  | 46 => ⟨S2048x8x64x64, .f32⟩
  | 47 => ⟨S2048x8x1x64, .f32⟩
  | 48 => ⟨S2048x8x1x64, .f32⟩
  | 49 => ⟨S2048x8x64x1, .f32⟩
  | 50 => ⟨S2048x8x1x64, .f32⟩
  | 51 => ⟨S2048x8x64x1, .f32⟩
  | 52 => ⟨S2048x8x1x64, .f32⟩
  | 53 => ⟨S2048x8x64x64, .f32⟩
  | 54 => ⟨S_, .i32⟩
  | 55 => ⟨S_, .i1⟩
  | 56 => ⟨S_, .i32⟩
  | 57 => ⟨S_, .i32⟩
  | 58 => ⟨S1x8x64, .f32⟩
  | 59 => ⟨S8x64, .f32⟩
  | 60 => ⟨S_, .i32⟩
  | 61 => ⟨S_, .i32⟩
  | 62 => ⟨S1x8x64, .f32⟩
  | 63 => ⟨S8x64, .f32⟩
  | 64 => ⟨S_, .i32⟩
  | 65 => ⟨S_, .i32⟩
  | 66 => ⟨S1x8x64, .f32⟩
  | 67 => ⟨S8x64, .f32⟩
  | 68 => ⟨S_, .i32⟩
  | 69 => ⟨S_, .i32⟩
  | 70 => ⟨S1x8x64, .f32⟩
  | 71 => ⟨S8x64, .f32⟩
  | 72 => ⟨S_, .i32⟩
  | 73 => ⟨S_, .i32⟩
  | 74 => ⟨S1x8x64, .f32⟩
  | 75 => ⟨S8x64, .f32⟩
  | 76 => ⟨S_, .i32⟩
  | 77 => ⟨S_, .i32⟩
  | 78 => ⟨S1x8x64, .f32⟩
  | 79 => ⟨S8x64, .f32⟩
  | 80 => ⟨S8x1x64, .f32⟩
  | 81 => ⟨S8x64x64, .f32⟩
  | 82 => ⟨S8x64x64, .f32⟩
  | 83 => ⟨S_, .f32⟩
  | 84 => ⟨S8x64, .f32⟩
  | 85 => ⟨S8x1x64, .f32⟩
  | 86 => ⟨S8x64x64, .f32⟩
  | 87 => ⟨S8x64x64, .f32⟩
  | 88 => ⟨S8x64x1, .f32⟩
  | 89 => ⟨S8x1x64, .f32⟩
  | 90 => ⟨S8x64x64, .f32⟩
  | 91 => ⟨S8x64x64, .f32⟩
  | 92 => ⟨S8x64x64, .f32⟩
  | 93 => ⟨S8x64x64, .f32⟩
  | 94 => ⟨S8x64x1, .f32⟩
  | 95 => ⟨S8x1x64, .f32⟩
  | 96 => ⟨S8x64x64, .f32⟩
  | 97 => ⟨S8x64x64, .f32⟩
  | 98 => ⟨S8x64x64, .f32⟩
  | 99 => ⟨S8x64x64, .f32⟩
  | 100 => ⟨S8x1x64, .f32⟩
  | 101 => ⟨S8x64x64, .f32⟩
  | 102 => ⟨S8x64x64, .f32⟩
  | 103 => ⟨S_, .f32⟩
  | 104 => ⟨S8x64, .f32⟩
  | 105 => ⟨S1x8x64, .f32⟩
  | 106 => ⟨S_, .i32⟩
  | 107 => ⟨S_, .i32⟩
  | 108 => ⟨S2048x8x64, .f32⟩
  | 109 => ⟨S1x8x1x64, .f32⟩
  | 110 => ⟨S_, .i32⟩
  | 111 => ⟨S_, .i32⟩
  | 112 => ⟨S_, .i32⟩
  | 113 => ⟨S2048x8x1x64, .f32⟩
  | 114 => ⟨S1x8x64x64, .f32⟩
  | 115 => ⟨S_, .i32⟩
  | 116 => ⟨S_, .i32⟩
  | 117 => ⟨S_, .i32⟩
  | 118 => ⟨S2048x8x64x64, .f32⟩
  | 119 => ⟨S1x8x1x64, .f32⟩
  | 120 => ⟨S_, .i32⟩
  | 121 => ⟨S_, .i32⟩
  | 122 => ⟨S_, .i32⟩
  | 123 => ⟨S2048x8x1x64, .f32⟩
  | 124 => ⟨S1x8x1x64, .f32⟩
  | 125 => ⟨S_, .i32⟩
  | 126 => ⟨S_, .i32⟩
  | 127 => ⟨S_, .i32⟩
  | _ => ⟨S2048x512, .f32⟩

abbrev hbmTy0_1 (i : Nat) : BufTy := match i % 128 with
  | 0 => ⟨S2048x8x1x64, .f32⟩
  | 1 => ⟨S1x8x64x1, .f32⟩
  | 2 => ⟨S_, .i32⟩
  | 3 => ⟨S_, .i32⟩
  | 4 => ⟨S_, .i32⟩
  | 5 => ⟨S2048x8x64x1, .f32⟩
  | 6 => ⟨S1x8x1x64, .f32⟩
  | 7 => ⟨S_, .i32⟩
  | 8 => ⟨S_, .i32⟩
  | 9 => ⟨S_, .i32⟩
  | 10 => ⟨S2048x8x1x64, .f32⟩
  | 11 => ⟨S1x8x64x1, .f32⟩
  | 12 => ⟨S_, .i32⟩
  | 13 => ⟨S_, .i32⟩
  | 14 => ⟨S_, .i32⟩
  | 15 => ⟨S2048x8x64x1, .f32⟩
  | 16 => ⟨S1x8x1x64, .f32⟩
  | 17 => ⟨S_, .i32⟩
  | 18 => ⟨S_, .i32⟩
  | 19 => ⟨S_, .i32⟩
  | 20 => ⟨S2048x8x1x64, .f32⟩
  | 21 => ⟨S1x8x64x64, .f32⟩
  | 22 => ⟨S_, .i32⟩
  | 23 => ⟨S_, .i32⟩
  | 24 => ⟨S_, .i32⟩
  | 25 => ⟨S2048x8x64x64, .f32⟩
  | 26 => ⟨S_, .i32⟩
  | 27 => ⟨S_, .i32⟩
  | 28 => ⟨S2048x512, .f32⟩
  | 29 => ⟨S_, .f32⟩
  | 30 => ⟨S8x64x64, .f32⟩
  | 31 => ⟨S2048x8x64, .f32⟩
  | 32 => ⟨S_, .f32⟩
  | 33 => ⟨S8x64x64, .f32⟩
  | 34 => ⟨S_, .f32⟩
  | 35 => ⟨S2048x8x64, .f32⟩
  | 36 => ⟨S_, .f32⟩
  | 37 => ⟨S2048x8x64, .f32⟩
  | 38 => ⟨S_, .f32⟩
  | 39 => ⟨S2048x8x64, .f32⟩
  | 40 => ⟨S_, .f32⟩
  | 41 => ⟨S2048x8x64, .f32⟩
  | 42 => ⟨S_, .f32⟩
  | 43 => ⟨S2048x8x64, .f32⟩
  | 44 => ⟨S_, .f32⟩
  | 45 => ⟨S2048x8x64, .f32⟩
  | 46 => ⟨S_, .i32⟩
  | 47 => ⟨S2048x8x64, .f32⟩
  | 48 => ⟨S2048x8x1x64, .f32⟩
  | 49 => ⟨S2048x8x64x64, .f32⟩
  | 50 => ⟨S2048x8x1x64, .f32⟩
  | 51 => ⟨S2048x8x1x64, .f32⟩
  | 52 => ⟨S2048x8x64x1, .f32⟩
  | 53 => ⟨S2048x8x1x64, .f32⟩
  | 54 => ⟨S2048x8x64x1, .f32⟩
  | 55 => ⟨S2048x8x1x64, .f32⟩
  | 56 => ⟨S2048x8x64x64, .f32⟩
  | 57 => ⟨S_, .i32⟩
  | 58 => ⟨S8x64x64, .f32⟩
  | 59 => ⟨S2048x8x64, .f32⟩
  | 60 => ⟨S2048x8x64, .f32⟩
  | 61 => ⟨S2048x8x64, .f32⟩
  | 62 => ⟨S2048x8x64, .f32⟩
  | 63 => ⟨S2048x8x64, .f32⟩
  | 64 => ⟨S2048x8x64, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S1x8x64, .f32⟩
  | 74 => ⟨S8x64, .f32⟩
  | 75 => ⟨S_, .i32⟩
  | 76 => ⟨S_, .i32⟩
  | 77 => ⟨S_, .i32⟩
  | 78 => ⟨S1x8x1x64, .f32⟩
  | 79 => ⟨S8x1x64, .f32⟩
  | 80 => ⟨S_, .i32⟩
  | 81 => ⟨S_, .i32⟩
  | 82 => ⟨S_, .i32⟩
  | 83 => ⟨S1x8x64x64, .f32⟩
  | 84 => ⟨S8x64x64, .f32⟩
  | 85 => ⟨S_, .i32⟩
  | 86 => ⟨S_, .i32⟩
  | 87 => ⟨S_, .i32⟩
  | 88 => ⟨S1x8x1x64, .f32⟩
  | 89 => ⟨S8x1x64, .f32⟩
  | 90 => ⟨S_, .i32⟩
  | 91 => ⟨S_, .i32⟩
  | 92 => ⟨S_, .i32⟩
  | 93 => ⟨S1x8x1x64, .f32⟩
  | 94 => ⟨S8x1x64, .f32⟩
  | 95 => ⟨S_, .i32⟩
  | 96 => ⟨S_, .i32⟩
  | 97 => ⟨S_, .i32⟩
  | 98 => ⟨S1x8x64x1, .f32⟩
  | 99 => ⟨S8x64x1, .f32⟩
  | 100 => ⟨S_, .i32⟩
  | 101 => ⟨S_, .i32⟩
  | 102 => ⟨S_, .i32⟩
  | 103 => ⟨S1x8x1x64, .f32⟩
  | 104 => ⟨S8x1x64, .f32⟩
  | 105 => ⟨S_, .i32⟩
  | 106 => ⟨S_, .i32⟩
  | 107 => ⟨S_, .i32⟩
  | 108 => ⟨S1x8x64x1, .f32⟩
  | 109 => ⟨S8x64x1, .f32⟩
  | 110 => ⟨S_, .i32⟩
  | 111 => ⟨S_, .i32⟩
  | 112 => ⟨S_, .i32⟩
  | 113 => ⟨S1x8x1x64, .f32⟩
  | 114 => ⟨S8x1x64, .f32⟩
  | 115 => ⟨S_, .i32⟩
  | 116 => ⟨S_, .i32⟩
  | 117 => ⟨S_, .i32⟩
  | 118 => ⟨S1x8x64x64, .f32⟩
  | 119 => ⟨S8x64x64, .f32⟩
  | 120 => ⟨S8x64x64, .f32⟩
  | 121 => ⟨S8x64x64, .f32⟩
  | 122 => ⟨S_, .f32⟩
  | 123 => ⟨S8x64, .f32⟩
  | 124 => ⟨S8x1x64, .f32⟩
  | 125 => ⟨S8x64x64, .f32⟩
  | 126 => ⟨S8x64x64, .f32⟩
  | 127 => ⟨S8x64x64, .f32⟩
  | _ => ⟨S2048x512, .f32⟩

abbrev hbmTy0_2 (i : Nat) : BufTy := match i % 128 with
  | 0 => ⟨S_, .f32⟩
  | 1 => ⟨S8x64, .f32⟩
  | 2 => ⟨S8x64x64, .f32⟩
  | 3 => ⟨S8x64x64, .f32⟩
  | 4 => ⟨S_, .f32⟩
  | 5 => ⟨S8x64, .f32⟩
  | 6 => ⟨S8x1x64, .f32⟩
  | 7 => ⟨S8x64x64, .f32⟩
  | 8 => ⟨S8x64x64, .f32⟩
  | 9 => ⟨S_, .f32⟩
  | 10 => ⟨S8x64, .f32⟩
  | 11 => ⟨S8x64x1, .f32⟩
  | 12 => ⟨S_, .f32⟩
  | 13 => ⟨S8x64, .f32⟩
  | 14 => ⟨S_, .f32⟩
  | 15 => ⟨S8x64, .f32⟩
  | 16 => ⟨S8x64x64, .f32⟩
  | 17 => ⟨S8x64x64, .f32⟩
  | 18 => ⟨S_, .f32⟩
  | 19 => ⟨S8x64, .f32⟩
  | 20 => ⟨S8x1x64, .f32⟩
  | 21 => ⟨S8x64x64, .f32⟩
  | 22 => ⟨S8x64x64, .f32⟩
  | 23 => ⟨S_, .f32⟩
  | 24 => ⟨S8x64, .f32⟩
  | 25 => ⟨S8x64x1, .f32⟩
  | 26 => ⟨S_, .f32⟩
  | 27 => ⟨S8x64, .f32⟩
  | 28 => ⟨S_, .f32⟩
  | 29 => ⟨S8x64, .f32⟩
  | 30 => ⟨S8x64x64, .f32⟩
  | 31 => ⟨S_, .f32⟩
  | 32 => ⟨S8x64, .f32⟩
  | 33 => ⟨S8x1x64, .f32⟩
  | 34 => ⟨S8x64x64, .f32⟩
  | 35 => ⟨S8x64x64, .f32⟩
  | 36 => ⟨S_, .f32⟩
  | 37 => ⟨S8x64, .f32⟩
  | 38 => ⟨S8x64x64, .f32⟩
  | 39 => ⟨S8x64x64, .f32⟩
  | 40 => ⟨S_, .f32⟩
  | 41 => ⟨S8x64, .f32⟩
  | 42 => ⟨S8x1x64, .f32⟩
  | 43 => ⟨S8x64x64, .f32⟩
  | 44 => ⟨S8x64x64, .f32⟩
  | 45 => ⟨S8x64x64, .f32⟩
  | 46 => ⟨S_, .f32⟩
  | 47 => ⟨S8x64, .f32⟩
  | 48 => ⟨S1x8x64, .f32⟩
  | 49 => ⟨S_, .i32⟩
  | 50 => ⟨S_, .i32⟩
  | 51 => ⟨S2048x8x64, .f32⟩
  | 52 => ⟨S1x8x64, .f32⟩
  | 53 => ⟨S_, .i32⟩
  | 54 => ⟨S_, .i32⟩
  | 55 => ⟨S2048x8x64, .f32⟩
  | 56 => ⟨S1x8x64, .f32⟩
  | 57 => ⟨S_, .i32⟩
  | 58 => ⟨S_, .i32⟩
  | 59 => ⟨S2048x8x64, .f32⟩
  | 60 => ⟨S1x8x64, .f32⟩
  | 61 => ⟨S_, .i32⟩
  | 62 => ⟨S_, .i32⟩
  | 63 => ⟨S2048x8x64, .f32⟩
  | 64 => ⟨S1x8x64, .f32⟩
  | 65 => ⟨S_, .i32⟩
  | 66 => ⟨S_, .i32⟩
  | 67 => ⟨S2048x8x64, .f32⟩
  | 68 => ⟨S1x8x64, .f32⟩
  | 69 => ⟨S_, .i32⟩
  | 70 => ⟨S_, .i32⟩
  | 71 => ⟨S2048x8x64, .f32⟩
  | 72 => ⟨S_, .i32⟩
  | 73 => ⟨S_, .i32⟩
  | 74 => ⟨S2048x512, .f32⟩
  | 75 => ⟨S2048x512, .f32⟩
  | 76 => ⟨S2048x512, .f32⟩
  | 77 => ⟨S2048x512, .f32⟩
  | 78 => ⟨S2048x512, .f32⟩
  | 79 => ⟨S2048x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_cst_7 : Ref sig .tc := ⟨.hbm, 29, rfl⟩
abbrev main_v14 : Ref sig .tc := ⟨.hbm, 30, rfl⟩
abbrev main_cst_8 : Ref sig .tc := ⟨.hbm, 31, rfl⟩
abbrev main_v15 : Ref sig .tc := ⟨.hbm, 32, rfl⟩
abbrev main_cst_9 : Ref sig .tc := ⟨.hbm, 33, rfl⟩
abbrev main_v16 : Ref sig .tc := ⟨.hbm, 34, rfl⟩
abbrev main_c : Ref sig .tc := ⟨.hbm, 35, rfl⟩
abbrev main_v17_0 : Ref sig .tc := ⟨.hbm, 36, rfl⟩
abbrev main_v17_1 : Ref sig .tc := ⟨.hbm, 37, rfl⟩
abbrev main_v17_2 : Ref sig .tc := ⟨.hbm, 38, rfl⟩
abbrev main_v17_3 : Ref sig .tc := ⟨.hbm, 39, rfl⟩
abbrev main_v17_4 : Ref sig .tc := ⟨.hbm, 40, rfl⟩
abbrev main_v17_5 : Ref sig .tc := ⟨.hbm, 41, rfl⟩
abbrev main_v17_6 : Ref sig .tc := ⟨.hbm, 42, rfl⟩
abbrev main_v17_7 : Ref sig .tc := ⟨.hbm, 43, rfl⟩
abbrev main_v17_8 : Ref sig .tc := ⟨.hbm, 44, rfl⟩
abbrev main_v17_9 : Ref sig .tc := ⟨.hbm, 45, rfl⟩
abbrev main_v17_10 : Ref sig .tc := ⟨.hbm, 46, rfl⟩
abbrev main_v17_11 : Ref sig .tc := ⟨.hbm, 47, rfl⟩
abbrev main_v17_12 : Ref sig .tc := ⟨.hbm, 48, rfl⟩
abbrev main_v17_13 : Ref sig .tc := ⟨.hbm, 49, rfl⟩
abbrev main_v17_14 : Ref sig .tc := ⟨.hbm, 50, rfl⟩
abbrev main_v17_15 : Ref sig .tc := ⟨.hbm, 51, rfl⟩
abbrev main_v17_16 : Ref sig .tc := ⟨.hbm, 52, rfl⟩
abbrev main_v17_17 : Ref sig .tc := ⟨.hbm, 53, rfl⟩
abbrev main_while0c_c_36 : Ref sig .tc := ⟨.hbm, 54, rfl⟩
abbrev main_while0c_v35 : Ref sig .tc := ⟨.hbm, 55, rfl⟩
abbrev main_while0b_call0_c : Ref sig .tc := ⟨.hbm, 56, rfl⟩
abbrev main_while0b_call0_c_0 : Ref sig .tc := ⟨.hbm, 57, rfl⟩
abbrev main_while0b_call0_v0 : Ref sig .tc := ⟨.hbm, 58, rfl⟩
abbrev main_while0b_v35 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_v0 : Ref sig .tc := ⟨.hbm, 62, rfl⟩
abbrev main_while0b_v36 : Ref sig .tc := ⟨.hbm, 63, rfl⟩
abbrev main_while0b_call2_c : Ref sig .tc := ⟨.hbm, 64, rfl⟩
abbrev main_while0b_call2_c_0 : Ref sig .tc := ⟨.hbm, 65, rfl⟩
abbrev main_while0b_call2_v0 : Ref sig .tc := ⟨.hbm, 66, rfl⟩
abbrev main_while0b_v37 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_call3_v0 : Ref sig .tc := ⟨.hbm, 70, rfl⟩
abbrev main_while0b_v38 : Ref sig .tc := ⟨.hbm, 71, rfl⟩
abbrev main_while0b_call4_c : Ref sig .tc := ⟨.hbm, 72, rfl⟩
abbrev main_while0b_call4_c_0 : Ref sig .tc := ⟨.hbm, 73, rfl⟩
abbrev main_while0b_call4_v0 : Ref sig .tc := ⟨.hbm, 74, rfl⟩
abbrev main_while0b_v39 : Ref sig .tc := ⟨.hbm, 75, rfl⟩
abbrev main_while0b_call5_c : Ref sig .tc := ⟨.hbm, 76, rfl⟩
abbrev main_while0b_call5_c_0 : Ref sig .tc := ⟨.hbm, 77, rfl⟩
abbrev main_while0b_call5_v0 : Ref sig .tc := ⟨.hbm, 78, rfl⟩
abbrev main_while0b_v40 : Ref sig .tc := ⟨.hbm, 79, rfl⟩
abbrev main_while0b_v41 : Ref sig .tc := ⟨.hbm, 80, rfl⟩
abbrev main_while0b_v42 : Ref sig .tc := ⟨.hbm, 81, rfl⟩
abbrev main_while0b_v43 : Ref sig .tc := ⟨.hbm, 82, rfl⟩
abbrev main_while0b_cst_36 : Ref sig .tc := ⟨.hbm, 83, rfl⟩
abbrev main_while0b_v44 : Ref sig .tc := ⟨.hbm, 84, rfl⟩
abbrev main_while0b_v45 : Ref sig .tc := ⟨.hbm, 85, rfl⟩
abbrev main_while0b_v46 : Ref sig .tc := ⟨.hbm, 86, rfl⟩
abbrev main_while0b_v47 : Ref sig .tc := ⟨.hbm, 87, rfl⟩
abbrev main_while0b_v48 : Ref sig .tc := ⟨.hbm, 88, rfl⟩
abbrev main_while0b_v49 : Ref sig .tc := ⟨.hbm, 89, rfl⟩
abbrev main_while0b_v50 : Ref sig .tc := ⟨.hbm, 90, rfl⟩
abbrev main_while0b_v51 : Ref sig .tc := ⟨.hbm, 91, rfl⟩
abbrev main_while0b_v52 : Ref sig .tc := ⟨.hbm, 92, rfl⟩
abbrev main_while0b_v53 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_cst_37 : Ref sig .tc := ⟨.hbm, 103, rfl⟩
abbrev main_while0b_v63 : Ref sig .tc := ⟨.hbm, 104, rfl⟩
abbrev main_while0b_call6_v0 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_v64 : Ref sig .tc := ⟨.hbm, 108, rfl⟩
abbrev main_while0b_call7_v0 : Ref sig .tc := ⟨.hbm, 109, rfl⟩
abbrev main_while0b_call7_c : Ref sig .tc := ⟨.hbm, 110, rfl⟩
abbrev main_while0b_call7_c_0 : Ref sig .tc := ⟨.hbm, 111, rfl⟩
abbrev main_while0b_call7_c_1 : Ref sig .tc := ⟨.hbm, 112, rfl⟩
abbrev main_while0b_v65 : Ref sig .tc := ⟨.hbm, 113, rfl⟩
abbrev main_while0b_call8_v0 : Ref sig .tc := ⟨.hbm, 114, rfl⟩
abbrev main_while0b_call8_c : Ref sig .tc := ⟨.hbm, 115, rfl⟩
abbrev main_while0b_call8_c_0 : Ref sig .tc := ⟨.hbm, 116, rfl⟩
abbrev main_while0b_call8_c_1 : Ref sig .tc := ⟨.hbm, 117, rfl⟩
abbrev main_while0b_v66 : Ref sig .tc := ⟨.hbm, 118, rfl⟩
abbrev main_while0b_call9_v0 : Ref sig .tc := ⟨.hbm, 119, rfl⟩
abbrev main_while0b_call9_c : Ref sig .tc := ⟨.hbm, 120, rfl⟩
abbrev main_while0b_call9_c_0 : Ref sig .tc := ⟨.hbm, 121, rfl⟩
abbrev main_while0b_call9_c_1 : Ref sig .tc := ⟨.hbm, 122, rfl⟩
abbrev main_while0b_v67 : Ref sig .tc := ⟨.hbm, 123, rfl⟩
abbrev main_while0b_call10_v0 : Ref sig .tc := ⟨.hbm, 124, rfl⟩
abbrev main_while0b_call10_c : Ref sig .tc := ⟨.hbm, 125, rfl⟩
abbrev main_while0b_call10_c_0 : Ref sig .tc := ⟨.hbm, 126, rfl⟩
abbrev main_while0b_call10_c_1 : Ref sig .tc := ⟨.hbm, 127, rfl⟩
abbrev main_while0b_v68 : Ref sig .tc := ⟨.hbm, 128, rfl⟩
abbrev main_while0b_call11_v0 : Ref sig .tc := ⟨.hbm, 129, rfl⟩
abbrev main_while0b_call11_c : Ref sig .tc := ⟨.hbm, 130, rfl⟩
abbrev main_while0b_call11_c_0 : Ref sig .tc := ⟨.hbm, 131, rfl⟩
abbrev main_while0b_call11_c_1 : Ref sig .tc := ⟨.hbm, 132, rfl⟩
abbrev main_while0b_v69 : Ref sig .tc := ⟨.hbm, 133, rfl⟩
abbrev main_while0b_call12_v0 : Ref sig .tc := ⟨.hbm, 134, rfl⟩
abbrev main_while0b_call12_c : Ref sig .tc := ⟨.hbm, 135, rfl⟩
abbrev main_while0b_call12_c_0 : Ref sig .tc := ⟨.hbm, 136, rfl⟩
abbrev main_while0b_call12_c_1 : Ref sig .tc := ⟨.hbm, 137, rfl⟩
abbrev main_while0b_v70 : Ref sig .tc := ⟨.hbm, 138, rfl⟩
abbrev main_while0b_call13_v0 : Ref sig .tc := ⟨.hbm, 139, rfl⟩
abbrev main_while0b_call13_c : Ref sig .tc := ⟨.hbm, 140, rfl⟩
abbrev main_while0b_call13_c_0 : Ref sig .tc := ⟨.hbm, 141, rfl⟩
abbrev main_while0b_call13_c_1 : Ref sig .tc := ⟨.hbm, 142, rfl⟩
abbrev main_while0b_v71 : Ref sig .tc := ⟨.hbm, 143, rfl⟩
abbrev main_while0b_call14_v0 : Ref sig .tc := ⟨.hbm, 144, rfl⟩
abbrev main_while0b_call14_c : Ref sig .tc := ⟨.hbm, 145, rfl⟩
abbrev main_while0b_call14_c_0 : Ref sig .tc := ⟨.hbm, 146, rfl⟩
abbrev main_while0b_call14_c_1 : Ref sig .tc := ⟨.hbm, 147, rfl⟩
abbrev main_while0b_v72 : Ref sig .tc := ⟨.hbm, 148, rfl⟩
abbrev main_while0b_call15_v0 : Ref sig .tc := ⟨.hbm, 149, rfl⟩
abbrev main_while0b_call15_c : Ref sig .tc := ⟨.hbm, 150, rfl⟩
abbrev main_while0b_call15_c_0 : Ref sig .tc := ⟨.hbm, 151, rfl⟩
abbrev main_while0b_call15_c_1 : Ref sig .tc := ⟨.hbm, 152, rfl⟩
abbrev main_while0b_v73 : Ref sig .tc := ⟨.hbm, 153, rfl⟩
abbrev main_while0b_c_38 : Ref sig .tc := ⟨.hbm, 154, rfl⟩
abbrev main_while0b_v74 : Ref sig .tc := ⟨.hbm, 155, rfl⟩
abbrev main_v18 : Ref sig .tc := ⟨.hbm, 156, rfl⟩
abbrev main_cst_10 : Ref sig .tc := ⟨.hbm, 157, rfl⟩
abbrev main_v19 : Ref sig .tc := ⟨.hbm, 158, rfl⟩
abbrev main_v20 : Ref sig .tc := ⟨.hbm, 159, rfl⟩
abbrev main_cst_11 : Ref sig .tc := ⟨.hbm, 160, rfl⟩
abbrev main_v21 : Ref sig .tc := ⟨.hbm, 161, rfl⟩
abbrev main_cst_12 : Ref sig .tc := ⟨.hbm, 162, rfl⟩
abbrev main_v22 : Ref sig .tc := ⟨.hbm, 163, rfl⟩
abbrev main_cst_13 : Ref sig .tc := ⟨.hbm, 164, rfl⟩
abbrev main_v23 : Ref sig .tc := ⟨.hbm, 165, rfl⟩
abbrev main_cst_14 : Ref sig .tc := ⟨.hbm, 166, rfl⟩
abbrev main_v24 : Ref sig .tc := ⟨.hbm, 167, rfl⟩
abbrev main_cst_15 : Ref sig .tc := ⟨.hbm, 168, rfl⟩
abbrev main_v25 : Ref sig .tc := ⟨.hbm, 169, rfl⟩
abbrev main_cst_16 : Ref sig .tc := ⟨.hbm, 170, rfl⟩
abbrev main_v26 : Ref sig .tc := ⟨.hbm, 171, rfl⟩
abbrev main_cst_17 : Ref sig .tc := ⟨.hbm, 172, rfl⟩
abbrev main_v27 : Ref sig .tc := ⟨.hbm, 173, rfl⟩
abbrev main_c_18 : Ref sig .tc := ⟨.hbm, 174, rfl⟩
abbrev main_v28_0 : Ref sig .tc := ⟨.hbm, 175, rfl⟩
abbrev main_v28_1 : Ref sig .tc := ⟨.hbm, 176, rfl⟩
abbrev main_v28_2 : Ref sig .tc := ⟨.hbm, 177, rfl⟩
abbrev main_v28_3 : Ref sig .tc := ⟨.hbm, 178, rfl⟩
abbrev main_v28_4 : Ref sig .tc := ⟨.hbm, 179, rfl⟩
abbrev main_v28_5 : Ref sig .tc := ⟨.hbm, 180, rfl⟩
abbrev main_v28_6 : Ref sig .tc := ⟨.hbm, 181, rfl⟩
abbrev main_v28_7 : Ref sig .tc := ⟨.hbm, 182, rfl⟩
abbrev main_v28_8 : Ref sig .tc := ⟨.hbm, 183, rfl⟩
abbrev main_v28_9 : Ref sig .tc := ⟨.hbm, 184, rfl⟩
abbrev main_v28_10 : Ref sig .tc := ⟨.hbm, 185, rfl⟩
abbrev main_v28_11 : Ref sig .tc := ⟨.hbm, 186, rfl⟩
abbrev main_v28_12 : Ref sig .tc := ⟨.hbm, 187, rfl⟩
abbrev main_v28_13 : Ref sig .tc := ⟨.hbm, 188, rfl⟩
abbrev main_v28_14 : Ref sig .tc := ⟨.hbm, 189, rfl⟩
abbrev main_v28_15 : Ref sig .tc := ⟨.hbm, 190, rfl⟩
abbrev main_v28_16 : Ref sig .tc := ⟨.hbm, 191, rfl⟩
abbrev main_v28_17 : Ref sig .tc := ⟨.hbm, 192, rfl⟩
abbrev main_while1c_c_36 : Ref sig .tc := ⟨.hbm, 193, rfl⟩
abbrev main_while1c_v35 : Ref sig .tc := ⟨.hbm, 194, rfl⟩
abbrev main_while1b_c_36 : Ref sig .tc := ⟨.hbm, 195, rfl⟩
abbrev main_while1b_v35 : Ref sig .tc := ⟨.hbm, 196, rfl⟩
abbrev main_while1b_c_37 : Ref sig .tc := ⟨.hbm, 197, rfl⟩
abbrev main_while1b_v36 : Ref sig .tc := ⟨.hbm, 198, rfl⟩
abbrev main_while1b_call16_c : Ref sig .tc := ⟨.hbm, 199, rfl⟩
abbrev main_while1b_call16_c_0 : Ref sig .tc := ⟨.hbm, 200, rfl⟩
abbrev main_while1b_call16_v0 : Ref sig .tc := ⟨.hbm, 201, rfl⟩
abbrev main_while1b_v37 : Ref sig .tc := ⟨.hbm, 202, rfl⟩
abbrev main_while1b_call17_c : Ref sig .tc := ⟨.hbm, 203, rfl⟩
abbrev main_while1b_call17_c_0 : Ref sig .tc := ⟨.hbm, 204, rfl⟩
abbrev main_while1b_call17_c_1 : Ref sig .tc := ⟨.hbm, 205, rfl⟩
abbrev main_while1b_call17_v0 : Ref sig .tc := ⟨.hbm, 206, rfl⟩
abbrev main_while1b_v38 : Ref sig .tc := ⟨.hbm, 207, rfl⟩
abbrev main_while1b_call18_c : Ref sig .tc := ⟨.hbm, 208, rfl⟩
abbrev main_while1b_call18_c_0 : Ref sig .tc := ⟨.hbm, 209, rfl⟩
abbrev main_while1b_call18_c_1 : Ref sig .tc := ⟨.hbm, 210, rfl⟩
abbrev main_while1b_call18_v0 : Ref sig .tc := ⟨.hbm, 211, rfl⟩
abbrev main_while1b_v39 : Ref sig .tc := ⟨.hbm, 212, rfl⟩
abbrev main_while1b_call19_c : Ref sig .tc := ⟨.hbm, 213, rfl⟩
abbrev main_while1b_call19_c_0 : Ref sig .tc := ⟨.hbm, 214, rfl⟩
abbrev main_while1b_call19_c_1 : Ref sig .tc := ⟨.hbm, 215, rfl⟩
abbrev main_while1b_call19_v0 : Ref sig .tc := ⟨.hbm, 216, rfl⟩
abbrev main_while1b_v40 : Ref sig .tc := ⟨.hbm, 217, rfl⟩
abbrev main_while1b_call20_c : Ref sig .tc := ⟨.hbm, 218, rfl⟩
abbrev main_while1b_call20_c_0 : Ref sig .tc := ⟨.hbm, 219, rfl⟩
abbrev main_while1b_call20_c_1 : Ref sig .tc := ⟨.hbm, 220, rfl⟩
abbrev main_while1b_call20_v0 : Ref sig .tc := ⟨.hbm, 221, rfl⟩
abbrev main_while1b_v41 : Ref sig .tc := ⟨.hbm, 222, rfl⟩
abbrev main_while1b_call21_c : Ref sig .tc := ⟨.hbm, 223, rfl⟩
abbrev main_while1b_call21_c_0 : Ref sig .tc := ⟨.hbm, 224, rfl⟩
abbrev main_while1b_call21_c_1 : Ref sig .tc := ⟨.hbm, 225, rfl⟩
abbrev main_while1b_call21_v0 : Ref sig .tc := ⟨.hbm, 226, rfl⟩
abbrev main_while1b_v42 : Ref sig .tc := ⟨.hbm, 227, rfl⟩
abbrev main_while1b_call22_c : Ref sig .tc := ⟨.hbm, 228, rfl⟩
abbrev main_while1b_call22_c_0 : Ref sig .tc := ⟨.hbm, 229, rfl⟩
abbrev main_while1b_call22_c_1 : Ref sig .tc := ⟨.hbm, 230, rfl⟩
abbrev main_while1b_call22_v0 : Ref sig .tc := ⟨.hbm, 231, rfl⟩
abbrev main_while1b_v43 : Ref sig .tc := ⟨.hbm, 232, rfl⟩
abbrev main_while1b_call23_c : Ref sig .tc := ⟨.hbm, 233, rfl⟩
abbrev main_while1b_call23_c_0 : Ref sig .tc := ⟨.hbm, 234, rfl⟩
abbrev main_while1b_call23_c_1 : Ref sig .tc := ⟨.hbm, 235, rfl⟩
abbrev main_while1b_call23_v0 : Ref sig .tc := ⟨.hbm, 236, rfl⟩
abbrev main_while1b_v44 : Ref sig .tc := ⟨.hbm, 237, rfl⟩
abbrev main_while1b_call24_c : Ref sig .tc := ⟨.hbm, 238, rfl⟩
abbrev main_while1b_call24_c_0 : Ref sig .tc := ⟨.hbm, 239, rfl⟩
abbrev main_while1b_call24_c_1 : Ref sig .tc := ⟨.hbm, 240, rfl⟩
abbrev main_while1b_call24_v0 : Ref sig .tc := ⟨.hbm, 241, rfl⟩
abbrev main_while1b_v45 : Ref sig .tc := ⟨.hbm, 242, rfl⟩
abbrev main_while1b_call25_c : Ref sig .tc := ⟨.hbm, 243, rfl⟩
abbrev main_while1b_call25_c_0 : Ref sig .tc := ⟨.hbm, 244, rfl⟩
abbrev main_while1b_call25_c_1 : Ref sig .tc := ⟨.hbm, 245, rfl⟩
abbrev main_while1b_call25_v0 : Ref sig .tc := ⟨.hbm, 246, rfl⟩
abbrev main_while1b_v46 : Ref sig .tc := ⟨.hbm, 247, rfl⟩
abbrev main_while1b_v47 : Ref sig .tc := ⟨.hbm, 248, rfl⟩
abbrev main_while1b_v48 : Ref sig .tc := ⟨.hbm, 249, rfl⟩
abbrev main_while1b_cst_38 : Ref sig .tc := ⟨.hbm, 250, rfl⟩
abbrev main_while1b_v49 : Ref sig .tc := ⟨.hbm, 251, rfl⟩
abbrev main_while1b_v50 : Ref sig .tc := ⟨.hbm, 252, rfl⟩
abbrev main_while1b_v51 : Ref sig .tc := ⟨.hbm, 253, rfl⟩
abbrev main_while1b_v52 : Ref sig .tc := ⟨.hbm, 254, rfl⟩
abbrev main_while1b_v53 : Ref sig .tc := ⟨.hbm, 255, rfl⟩
abbrev main_while1b_cst_39 : Ref sig .tc := ⟨.hbm, 256, rfl⟩
abbrev main_while1b_v54 : Ref sig .tc := ⟨.hbm, 257, rfl⟩
abbrev main_while1b_v55 : Ref sig .tc := ⟨.hbm, 258, rfl⟩
abbrev main_while1b_v56 : Ref sig .tc := ⟨.hbm, 259, rfl⟩
abbrev main_while1b_cst_40 : Ref sig .tc := ⟨.hbm, 260, rfl⟩
abbrev main_while1b_v57 : Ref sig .tc := ⟨.hbm, 261, rfl⟩
abbrev main_while1b_v58 : Ref sig .tc := ⟨.hbm, 262, rfl⟩
abbrev main_while1b_v59 : Ref sig .tc := ⟨.hbm, 263, rfl⟩
abbrev main_while1b_v60 : Ref sig .tc := ⟨.hbm, 264, rfl⟩
abbrev main_while1b_cst_41 : Ref sig .tc := ⟨.hbm, 265, rfl⟩
abbrev main_while1b_v61 : Ref sig .tc := ⟨.hbm, 266, rfl⟩
abbrev main_while1b_v62 : Ref sig .tc := ⟨.hbm, 267, rfl⟩
abbrev main_while1b_cst_42 : Ref sig .tc := ⟨.hbm, 268, rfl⟩
abbrev main_while1b_v63 : Ref sig .tc := ⟨.hbm, 269, rfl⟩
abbrev main_while1b_cst_43 : Ref sig .tc := ⟨.hbm, 270, rfl⟩
abbrev main_while1b_v64 : Ref sig .tc := ⟨.hbm, 271, rfl⟩
abbrev main_while1b_v65 : Ref sig .tc := ⟨.hbm, 272, rfl⟩
abbrev main_while1b_v66 : Ref sig .tc := ⟨.hbm, 273, rfl⟩
abbrev main_while1b_cst_44 : Ref sig .tc := ⟨.hbm, 274, rfl⟩
abbrev main_while1b_v67 : Ref sig .tc := ⟨.hbm, 275, rfl⟩
abbrev main_while1b_v68 : Ref sig .tc := ⟨.hbm, 276, rfl⟩
abbrev main_while1b_v69 : Ref sig .tc := ⟨.hbm, 277, rfl⟩
abbrev main_while1b_v70 : Ref sig .tc := ⟨.hbm, 278, rfl⟩
abbrev main_while1b_cst_45 : Ref sig .tc := ⟨.hbm, 279, rfl⟩
abbrev main_while1b_v71 : Ref sig .tc := ⟨.hbm, 280, rfl⟩
abbrev main_while1b_v72 : Ref sig .tc := ⟨.hbm, 281, rfl⟩
abbrev main_while1b_cst_46 : Ref sig .tc := ⟨.hbm, 282, rfl⟩
abbrev main_while1b_v73 : Ref sig .tc := ⟨.hbm, 283, rfl⟩
abbrev main_while1b_cst_47 : Ref sig .tc := ⟨.hbm, 284, rfl⟩
abbrev main_while1b_v74 : Ref sig .tc := ⟨.hbm, 285, rfl⟩
abbrev main_while1b_v75 : Ref sig .tc := ⟨.hbm, 286, rfl⟩
abbrev main_while1b_cst_48 : Ref sig .tc := ⟨.hbm, 287, rfl⟩
abbrev main_while1b_v76 : Ref sig .tc := ⟨.hbm, 288, rfl⟩
abbrev main_while1b_v77 : Ref sig .tc := ⟨.hbm, 289, rfl⟩
abbrev main_while1b_v78 : Ref sig .tc := ⟨.hbm, 290, rfl⟩
abbrev main_while1b_v79 : Ref sig .tc := ⟨.hbm, 291, rfl⟩
abbrev main_while1b_cst_49 : Ref sig .tc := ⟨.hbm, 292, rfl⟩
abbrev main_while1b_v80 : Ref sig .tc := ⟨.hbm, 293, rfl⟩
abbrev main_while1b_v81 : Ref sig .tc := ⟨.hbm, 294, rfl⟩
abbrev main_while1b_v82 : Ref sig .tc := ⟨.hbm, 295, rfl⟩
abbrev main_while1b_cst_50 : Ref sig .tc := ⟨.hbm, 296, rfl⟩
abbrev main_while1b_v83 : Ref sig .tc := ⟨.hbm, 297, rfl⟩
abbrev main_while1b_v84 : Ref sig .tc := ⟨.hbm, 298, rfl⟩
abbrev main_while1b_v85 : Ref sig .tc := ⟨.hbm, 299, rfl⟩
abbrev main_while1b_v86 : Ref sig .tc := ⟨.hbm, 300, rfl⟩
abbrev main_while1b_v87 : Ref sig .tc := ⟨.hbm, 301, rfl⟩
abbrev main_while1b_cst_51 : Ref sig .tc := ⟨.hbm, 302, rfl⟩
abbrev main_while1b_v88 : Ref sig .tc := ⟨.hbm, 303, rfl⟩
abbrev main_while1b_call26_v0 : Ref sig .tc := ⟨.hbm, 304, rfl⟩
abbrev main_while1b_call26_c : Ref sig .tc := ⟨.hbm, 305, rfl⟩
abbrev main_while1b_call26_c_0 : Ref sig .tc := ⟨.hbm, 306, rfl⟩
abbrev main_while1b_v89 : Ref sig .tc := ⟨.hbm, 307, rfl⟩
abbrev main_while1b_call27_v0 : Ref sig .tc := ⟨.hbm, 308, rfl⟩
abbrev main_while1b_call27_c : Ref sig .tc := ⟨.hbm, 309, rfl⟩
abbrev main_while1b_call27_c_0 : Ref sig .tc := ⟨.hbm, 310, rfl⟩
abbrev main_while1b_v90 : Ref sig .tc := ⟨.hbm, 311, rfl⟩
abbrev main_while1b_call28_v0 : Ref sig .tc := ⟨.hbm, 312, rfl⟩
abbrev main_while1b_call28_c : Ref sig .tc := ⟨.hbm, 313, rfl⟩
abbrev main_while1b_call28_c_0 : Ref sig .tc := ⟨.hbm, 314, rfl⟩
abbrev main_while1b_v91 : Ref sig .tc := ⟨.hbm, 315, rfl⟩
abbrev main_while1b_call29_v0 : Ref sig .tc := ⟨.hbm, 316, rfl⟩
abbrev main_while1b_call29_c : Ref sig .tc := ⟨.hbm, 317, rfl⟩
abbrev main_while1b_call29_c_0 : Ref sig .tc := ⟨.hbm, 318, rfl⟩
abbrev main_while1b_v92 : Ref sig .tc := ⟨.hbm, 319, rfl⟩
abbrev main_while1b_call30_v0 : Ref sig .tc := ⟨.hbm, 320, rfl⟩
abbrev main_while1b_call30_c : Ref sig .tc := ⟨.hbm, 321, rfl⟩
abbrev main_while1b_call30_c_0 : Ref sig .tc := ⟨.hbm, 322, rfl⟩
abbrev main_while1b_v93 : Ref sig .tc := ⟨.hbm, 323, rfl⟩
abbrev main_while1b_call31_v0 : Ref sig .tc := ⟨.hbm, 324, rfl⟩
abbrev main_while1b_call31_c : Ref sig .tc := ⟨.hbm, 325, rfl⟩
abbrev main_while1b_call31_c_0 : Ref sig .tc := ⟨.hbm, 326, rfl⟩
abbrev main_while1b_v94 : Ref sig .tc := ⟨.hbm, 327, rfl⟩
abbrev main_while1b_c_52 : Ref sig .tc := ⟨.hbm, 328, rfl⟩
abbrev main_while1b_v95 : Ref sig .tc := ⟨.hbm, 329, rfl⟩
abbrev main_v29 : Ref sig .tc := ⟨.hbm, 330, rfl⟩
abbrev main_v30 : Ref sig .tc := ⟨.hbm, 331, rfl⟩
abbrev main_v31 : Ref sig .tc := ⟨.hbm, 332, rfl⟩
abbrev main_v32 : Ref sig .tc := ⟨.hbm, 333, rfl⟩
abbrev main_v33 : Ref sig .tc := ⟨.hbm, 334, rfl⟩
abbrev main_v34 : Ref sig .tc := ⟨.hbm, 335, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== MlpDh.lean ====
abbrev S2048x4096 : Shape := ⟨2, ![2048, 4096]⟩
abbrev S4096x1024 : Shape := ⟨2, ![4096, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x1024, .bf16⟩
  | .hbm, ⟨4, _⟩ => ⟨S4096x1024, .bf16⟩
  | .hbm, ⟨5, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDhRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== MlpDw2.lean ====
abbrev S2048x4096 : Shape := ⟨2, ![2048, 4096]⟩
abbrev S2048x1024 : Shape := ⟨2, ![2048, 1024]⟩
abbrev S_ : Shape := ⟨0, ![]⟩
abbrev S4096x2048 : Shape := ⟨2, ![4096, 2048]⟩
abbrev S4096x1024 : Shape := ⟨2, ![4096, 1024]⟩
abbrev S2048x2048 : Shape := ⟨2, ![2048, 2048]⟩
abbrev S2048x512 : Shape := ⟨2, ![2048, 512]⟩

abbrev nBuf : Space → Nat
  | .hbm => 10
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S4096x2048, .f32⟩
  | .hbm, ⟨7, _⟩ => ⟨S4096x2048, .bf16⟩
  | .hbm, ⟨8, _⟩ => ⟨S2048x1024, .bf16⟩
  | .hbm, ⟨9, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDw2RefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S1024x4096, .f32⟩
  | .hbm, ⟨10, _⟩ => ⟨S4096x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== MlpDu.lean ====
abbrev S1024x4096 : Shape := ⟨2, ![1024, 4096]⟩
abbrev S2048x4096 : Shape := ⟨2, ![2048, 4096]⟩
abbrev S2048x1024 : Shape := ⟨2, ![2048, 1024]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S2048x4096, .bf16⟩
  | .hbm, ⟨3, _⟩ => ⟨S1024x4096, .bf16⟩
  | .hbm, ⟨4, _⟩ => ⟨S2048x1024, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDuRefIdeal.lean ====
abbrev S1024x4096 : Shape := ⟨2, ![1024, 4096]⟩
abbrev S2048x4096 : Shape := ⟨2, ![2048, 4096]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S_, .f32⟩
  | .hbm, ⟨3, _⟩ => ⟨S2048x1024, .f32⟩
  | .hbm, ⟨4, _⟩ => ⟨S2048x4096, .f32⟩
  | .hbm, ⟨5, _⟩ => ⟨S2048x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlpDw1.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S1024x2048, .bf16⟩
  | .hbm, ⟨4, _⟩ => ⟨S2048x4096, .bf16⟩
  | .hbm, ⟨5, _⟩ => ⟨S1024x4096, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDw1RefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlpUp.lean ====
abbrev S2048x1024 : Shape := ⟨2, ![2048, 1024]⟩
abbrev S1024x4096 : Shape := ⟨2, ![1024, 4096]⟩
abbrev S2048x4096 : Shape := ⟨2, ![2048, 4096]⟩
abbrev S4096x2048 : Shape := ⟨2, ![4096, 2048]⟩
abbrev S1024x512 : Shape := ⟨2, ![1024, 512]⟩
abbrev S2048x512 : Shape := ⟨2, ![2048, 512]⟩
abbrev S512x2048 : Shape := ⟨2, ![512, 2048]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4096, .bf16⟩
  | .hbm, ⟨4, _⟩ => ⟨S2048x4096, .f32⟩
  | .hbm, ⟨5, _⟩ => ⟨S2048x4096, .bf16⟩
  | .hbm, ⟨6, _⟩ => ⟨S4096x2048, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MlpUpRefIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S4096x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlpDown.lean ====
abbrev S2048x4096 : Shape := ⟨2, ![2048, 4096]⟩
abbrev S4096x1024 : Shape := ⟨2, ![4096, 1024]⟩
abbrev S_ : Shape := ⟨0, ![]⟩
abbrev S2048x1024 : Shape := ⟨2, ![2048, 1024]⟩
abbrev S2048x2048 : Shape := ⟨2, ![2048, 2048]⟩
abbrev S2048x512 : Shape := ⟨2, ![2048, 512]⟩

abbrev nBuf : Space → Nat
  | .hbm => 9
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S4096x1024, .bf16⟩
  | .hbm, ⟨8, _⟩ => ⟨S2048x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownRefIdeal.lean ====
abbrev S2048x4096 : Shape := ⟨2, ![2048, 4096]⟩
abbrev S4096x1024 : Shape := ⟨2, ![4096, 1024]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== AbIn.lean ====
abbrev S2048x1024 : Shape := ⟨2, ![2048, 1024]⟩
abbrev S1024x3584 : Shape := ⟨2, ![1024, 3584]⟩
abbrev S2048x3584 : Shape := ⟨2, ![2048, 3584]⟩
abbrev S1024x512 : Shape := ⟨2, ![1024, 512]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x1024, .bf16⟩
  | .hbm, ⟨3, _⟩ => ⟨S1024x3584, .bf16⟩
  | .hbm, ⟨4, _⟩ => ⟨S2048x3584, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInRefIdeal.lean ====
abbrev S2048x1024 : Shape := ⟨2, ![2048, 1024]⟩
abbrev S1024x3584 : Shape := ⟨2, ![1024, 3584]⟩
abbrev S2048x3584 : Shape := ⟨2, ![2048, 3584]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AbInDw.lean ====
abbrev S2048x1024 : Shape := ⟨2, ![2048, 1024]⟩
abbrev S2048x3584 : Shape := ⟨2, ![2048, 3584]⟩
abbrev S1024x2048 : Shape := ⟨2, ![1024, 2048]⟩
abbrev S1024x3584 : Shape := ⟨2, ![1024, 3584]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x3584, .f32⟩
  | .hbm, ⟨2, _⟩ => ⟨S2048x1024, .bf16⟩
  | .hbm, ⟨3, _⟩ => ⟨S1024x2048, .bf16⟩
  | .hbm, ⟨4, _⟩ => ⟨S2048x3584, .bf16⟩
  | .hbm, ⟨5, _⟩ => ⟨S1024x3584, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInDwRefIdeal.lean ====
abbrev S2048x1024 : Shape := ⟨2, ![2048, 1024]⟩
abbrev S2048x3584 : Shape := ⟨2, ![2048, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3584, .f32⟩
  | .hbm, ⟨2, _⟩ => ⟨S_, .f32⟩
  | .hbm, ⟨3, _⟩ => ⟨S1024x3584, .f32⟩
  | .hbm, ⟨4, _⟩ => ⟨S2048x3584, .f32⟩
  | .hbm, ⟨5, _⟩ => ⟨S3584x1024, .f32⟩
  | .hbm, ⟨6, _⟩ => ⟨S1024x3584, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AbInDx.lean ====
abbrev S1024x3584 : Shape := ⟨2, ![1024, 3584]⟩
abbrev S2048x3584 : Shape := ⟨2, ![2048, 3584]⟩
abbrev S2048x1024 : Shape := ⟨2, ![2048, 1024]⟩
abbrev S2048x1792 : Shape := ⟨2, ![2048, 1792]⟩
abbrev S512x1792 : Shape := ⟨2, ![512, 1792]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x3584, .f32⟩
  | .hbm, ⟨1, _⟩ => ⟨S2048x3584, .f32⟩
  | .hbm, ⟨2, _⟩ => ⟨S2048x3584, .bf16⟩
  | .hbm, ⟨3, _⟩ => ⟨S1024x3584, .bf16⟩
  | .hbm, ⟨4, _⟩ => ⟨S2048x1024, .f32⟩
  | .local _ .vmem, ⟨0, _⟩ => ⟨S2048x1792, .bf16⟩
  | .local _ .vmem, ⟨1, _⟩ => ⟨S2048x1792, .bf16⟩
  | .local _ .vmem, ⟨2, _⟩ => ⟨S512x1792, .bf16⟩
  | .local _ .vmem, ⟨3, _⟩ => ⟨S512x1792, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S1024x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInDxRefIdeal.lean ====
abbrev S1024x3584 : Shape := ⟨2, ![1024, 3584]⟩
abbrev S2048x3584 : Shape := ⟨2, ![2048, 3584]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x3584, .f32⟩
  | .hbm, ⟨1, _⟩ => ⟨S2048x3584, .f32⟩
  | .hbm, ⟨2, _⟩ => ⟨S_, .f32⟩
  | .hbm, ⟨3, _⟩ => ⟨S2048x1024, .f32⟩
  | .hbm, ⟨4, _⟩ => ⟨S2048x3584, .f32⟩
  | .hbm, ⟨5, _⟩ => ⟨S2048x1024, .f32⟩
  | _, _ => ⟨S1024x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AbOut.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutRefIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AbOutDw.lean ====
abbrev S2048x1024 : Shape := ⟨2, ![2048, 1024]⟩
abbrev S1024x2048 : Shape := ⟨2, ![1024, 2048]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x2048, .bf16⟩
  | .hbm, ⟨4, _⟩ => ⟨S2048x1024, .bf16⟩
  | .hbm, ⟨5, _⟩ => ⟨S1024x1024, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AbOutDx.lean ====
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutDxRefIdeal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Qkv.lean ====
abbrev S2048x1024 : Shape := ⟨2, ![2048, 1024]⟩
abbrev S1024x4608 : Shape := ⟨2, ![1024, 4608]⟩
abbrev S2048x4608 : Shape := ⟨2, ![2048, 4608]⟩
abbrev S1024x512 : Shape := ⟨2, ![1024, 512]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4608, .f32⟩
  | .hbm, ⟨2, _⟩ => ⟨S2048x1024, .bf16⟩
  | .hbm, ⟨3, _⟩ => ⟨S1024x4608, .bf16⟩
  | .hbm, ⟨4, _⟩ => ⟨S2048x4608, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S2048x1024 : Shape := ⟨2, ![2048, 1024]⟩
abbrev S1024x4608 : Shape := ⟨2, ![1024, 4608]⟩
abbrev S2048x4608 : Shape := ⟨2, ![2048, 4608]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4608, .f32⟩
  | .hbm, ⟨2, _⟩ => ⟨S2048x4608, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QkvDw.lean ====
abbrev S2048x1024 : Shape := ⟨2, ![2048, 1024]⟩
abbrev S2048x4608 : Shape := ⟨2, ![2048, 4608]⟩
abbrev S1024x2048 : Shape := ⟨2, ![1024, 2048]⟩
abbrev S1024x4608 : Shape := ⟨2, ![1024, 4608]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4608, .f32⟩
  | .hbm, ⟨2, _⟩ => ⟨S2048x1024, .bf16⟩
  | .hbm, ⟨3, _⟩ => ⟨S1024x2048, .bf16⟩
  | .hbm, ⟨4, _⟩ => ⟨S2048x4608, .bf16⟩
  | .hbm, ⟨5, _⟩ => ⟨S1024x4608, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S2048x1024 : Shape := ⟨2, ![2048, 1024]⟩
abbrev S2048x4608 : Shape := ⟨2, ![2048, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4608, .f32⟩
  | .hbm, ⟨2, _⟩ => ⟨S_, .f32⟩
  | .hbm, ⟨3, _⟩ => ⟨S1024x4608, .f32⟩
  | .hbm, ⟨4, _⟩ => ⟨S2048x4608, .f32⟩
  | .hbm, ⟨5, _⟩ => ⟨S4608x1024, .f32⟩
  | .hbm, ⟨6, _⟩ => ⟨S1024x4608, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QkvDx.lean ====
abbrev S1024x4608 : Shape := ⟨2, ![1024, 4608]⟩
abbrev S2048x4608 : Shape := ⟨2, ![2048, 4608]⟩
abbrev S2048x1024 : Shape := ⟨2, ![2048, 1024]⟩
abbrev S2048x1536 : Shape := ⟨2, ![2048, 1536]⟩
abbrev S512x1536 : Shape := ⟨2, ![512, 1536]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x4608, .f32⟩
  | .hbm, ⟨1, _⟩ => ⟨S2048x4608, .f32⟩
  | .hbm, ⟨2, _⟩ => ⟨S2048x4608, .bf16⟩
  | .hbm, ⟨3, _⟩ => ⟨S1024x4608, .bf16⟩
  | .hbm, ⟨4, _⟩ => ⟨S2048x1024, .f32⟩
  | .local _ .vmem, ⟨0, _⟩ => ⟨S2048x1536, .bf16⟩
  | .local _ .vmem, ⟨1, _⟩ => ⟨S2048x1536, .bf16⟩
  | .local _ .vmem, ⟨2, _⟩ => ⟨S512x1536, .bf16⟩
  | .local _ .vmem, ⟨3, _⟩ => ⟨S512x1536, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S1024x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxRefIdeal.lean ====
abbrev S1024x4608 : Shape := ⟨2, ![1024, 4608]⟩
abbrev S2048x4608 : Shape := ⟨2, ![2048, 4608]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4608, .f32⟩
  | .hbm, ⟨1, _⟩ => ⟨S2048x4608, .f32⟩
  | .hbm, ⟨2, _⟩ => ⟨S_, .f32⟩
  | .hbm, ⟨3, _⟩ => ⟨S2048x1024, .f32⟩
  | .hbm, ⟨4, _⟩ => ⟨S2048x4608, .f32⟩
  | .hbm, ⟨5, _⟩ => ⟨S2048x1024, .f32⟩
  | _, _ => ⟨S1024x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DilOut.lean ====
abbrev S2048x512 : Shape := ⟨2, ![2048, 512]⟩
abbrev S512x1024 : Shape := ⟨2, ![512, 1024]⟩
abbrev S2048x1024 : Shape := ⟨2, ![2048, 1024]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x512, .bf16⟩
  | .hbm, ⟨3, _⟩ => ⟨S512x1024, .bf16⟩
  | .hbm, ⟨4, _⟩ => ⟨S2048x1024, .f32⟩
  | .local _ .vmem, ⟨0, _⟩ => ⟨S2048x512, .bf16⟩
  | .local _ .vmem, ⟨1, _⟩ => ⟨S512x512, .bf16⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilOutRefIdeal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DilOutDw.lean ====
abbrev S2048x512 : Shape := ⟨2, ![2048, 512]⟩
abbrev S2048x1024 : Shape := ⟨2, ![2048, 1024]⟩
abbrev S512x2048 : Shape := ⟨2, ![512, 2048]⟩
abbrev S512x1024 : Shape := ⟨2, ![512, 1024]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .bf16⟩
  | .hbm, ⟨3, _⟩ => ⟨S512x2048, .bf16⟩
  | .hbm, ⟨4, _⟩ => ⟨S2048x1024, .bf16⟩
  | .hbm, ⟨5, _⟩ => ⟨S512x1024, .f32⟩
  | .local _ .vmem, ⟨0, _⟩ => ⟨S512x2048, .bf16⟩
  | .local _ .vmem, ⟨1, _⟩ => ⟨S2048x512, .bf16⟩
  | .local _ .vmem, ⟨2, _⟩ => ⟨S2048x512, .bf16⟩
  | .local _ .vmem, ⟨3, _⟩ => ⟨S512x512, .f32⟩
  | .local _ .vmem, ⟨4, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilOutDwRefIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S_, .f32⟩
  | .hbm, ⟨3, _⟩ => ⟨S512x1024, .f32⟩
  | .hbm, ⟨4, _⟩ => ⟨S2048x1024, .f32⟩
  | .hbm, ⟨5, _⟩ => ⟨S1024x512, .f32⟩
  | .hbm, ⟨6, _⟩ => ⟨S512x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DilOutDx.lean ====
abbrev S512x1024 : Shape := ⟨2, ![512, 1024]⟩
abbrev S2048x1024 : Shape := ⟨2, ![2048, 1024]⟩
abbrev S2048x512 : Shape := ⟨2, ![2048, 512]⟩

abbrev nBuf : Space → Nat
  | .hbm => 5
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S2048x1024, .f32⟩
  | .hbm, ⟨2, _⟩ => ⟨S2048x1024, .bf16⟩
  | .hbm, ⟨3, _⟩ => ⟨S512x1024, .bf16⟩
  | .hbm, ⟨4, _⟩ => ⟨S2048x512, .f32⟩
  | .local _ .vmem, ⟨0, _⟩ => ⟨S2048x1024, .bf16⟩
  | .local _ .vmem, ⟨1, _⟩ => ⟨S512x1024, .bf16⟩
  | .local _ .vmem, ⟨2, _⟩ => ⟨S2048x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DilOutDxRefIdeal.lean ====
abbrev S512x1024 : Shape := ⟨2, ![512, 1024]⟩
abbrev S2048x1024 : Shape := ⟨2, ![2048, 1024]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S2048x1024, .f32⟩
  | .hbm, ⟨2, _⟩ => ⟨S_, .f32⟩
  | .hbm, ⟨3, _⟩ => ⟨S2048x512, .f32⟩
  | .hbm, ⟨4, _⟩ => ⟨S2048x1024, .f32⟩
  | .hbm, ⟨5, _⟩ => ⟨S2048x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Scan.Mem.lean ====
/- The kernel's memory in words: its scratch, the two arrays it fetches from itself, the windows the transfers write, and the buffers one trip of a loop touches. -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI Idealize.ShloMosaic.Rounds
open scoped Idealize.SL.BI
open Idealize.SL.BI.BIBase Idealize.SL.BI.Laws Idealize.SL.ProofMode Idealize.SL.Sem

variable {F : FTy → Type} [FloatOps F]
/-- The algebra of the run: the pipeline library's component for the one launch, and the counters of the kernel's own transfers. -/
abbrev UU : Type := IProdConst (Fin 1) (Idealize.ShloMosaic.Rounds.URounds (GSem nD τ sig) Unit) × Counters

local notation "𝕄" => MT nD τ sig Unit (Elt F) ℕ UU ℕ

abbrev 𝒱₀ : Variants := Variants.none

/-- The kernel's scratch: the running gradient of the state; the two slots of states; the two slots of `state · a`; the picked columns; the columns of `dv`. -/
abbrev dsM : Memref sig .tc .vmem S4x64x128 .f32 := Memref.whole cc0_scratch0
abbrev sbM : Memref sig .tc .vmem S2x65x4x64x128 .f32 := Memref.whole cc0_scratch1
abbrev saM : Memref sig .tc .vmem S2x64x4x64x128 .f32 := Memref.whole cc0_scratch2
abbrev pkM : Memref sig .tc .vmem S512x128 .f32 := Memref.whole cc0_scratch3
abbrev dvM : Memref sig .tc .vmem S8x64x128 .f32 := Memref.whole cc0_scratch4
/-- The two arrays the kernel fetches from itself. -/
abbrev stA : Memref sig .tc .hbm S32x64x4x64x128 .f32 := Memref.whole main_v11
abbrev saA : Memref sig .tc .hbm S32x64x4x64x128 .f32 := Memref.whole main_v16

/-- The windows the transfers write: rows 1 to 64 of a slot of states, a slot of `state · a`. -/
abbrev sbW0 : Memref sig .tc .vmem S64x4x64x128 .f32 :=
  (sbM.slice (Rect.unit (s := S2x65x4x64x128) ![0, 1, 0, 0, 0] S1x64x4x64x128.size inb_S2x65x4x64x128_S1x64x4x64x128_0_1_0_0_0) (fun _ => rfl)).squeeze S64x4x64x128 squeezes_S1x64x4x64x128_S64x4x64x128
abbrev sbW1 : Memref sig .tc .vmem S64x4x64x128 .f32 :=
  (sbM.slice (Rect.unit (s := S2x65x4x64x128) ![1, 1, 0, 0, 0] S1x64x4x64x128.size inb_S2x65x4x64x128_S1x64x4x64x128_1_1_0_0_0) (fun _ => rfl)).squeeze S64x4x64x128 squeezes_S1x64x4x64x128_S64x4x64x128
abbrev saW0 : Memref sig .tc .vmem S64x4x64x128 .f32 :=
  (saM.slice (Rect.unit (s := S2x64x4x64x128) ![0, 0, 0, 0, 0] S1x64x4x64x128.size inb_S2x64x4x64x128_S1x64x4x64x128_0_0_0_0_0) (fun _ => rfl)).squeeze S64x4x64x128 squeezes_S1x64x4x64x128_S64x4x64x128
abbrev saW1 : Memref sig .tc .vmem S64x4x64x128 .f32 :=
  (saM.slice (Rect.unit (s := S2x64x4x64x128) ![1, 0, 0, 0, 0] S1x64x4x64x128.size inb_S2x64x4x64x128_S1x64x4x64x128_1_0_0_0_0) (fun _ => rfl)).squeeze S64x4x64x128 squeezes_S1x64x4x64x128_S64x4x64x128

section
variable (c : Dev nD)
variable (arg1 : Memref sig .tc .vmem S128x512 .f32) (harg1 : arg1.IsWhole) (arg2 : Memref sig .tc .vmem S128x512 .f32) (harg2 : arg2.IsWhole)
  (arg3 : Memref sig .tc .vmem S128x512 .f32) (harg3 : arg3.IsWhole) (arg4 : Memref sig .tc .vmem S128x512 .f32) (harg4 : arg4.IsWhole)
  (arg5 : Memref sig .tc .vmem S128x512 .f32) (harg5 : arg5.IsWhole) (arg6 : Memref sig .tc .vmem S4x64x768 .bf16) (harg6 : arg6.IsWhole)
  (arg7 : Memref sig .tc .vmem S4x64x768 .bf16) (harg7 : arg7.IsWhole) (arg8 : Memref sig .tc .vmem S2x4x64x128 .f32) (harg8 : arg8.IsWhole)
  (arg11 : Memref sig .tc .vmem S128x512 .f32) (harg11 : arg11.IsWhole) (arg12 : Memref sig .tc .vmem S128x512 .f32) (harg12 : arg12.IsWhole)
  (arg13 : Memref sig .tc .vmem S128x512 .f32) (harg13 : arg13.IsWhole) (arg14 : Memref sig .tc .vmem S128x512 .f32) (harg14 : arg14.IsWhole)
  (arg15 : Memref sig .tc .vmem S128x512 .f32) (harg15 : arg15.IsWhole) (arg16 : Memref sig .tc .vmem S128x512 .f32) (harg16 : arg16.IsWhole)

/-- What a trip only reads: the five row blocks, the two column blocks, the fetched states and `state · a`. -/
structure Ins where
  r : Buf (Elt F) (arg1.view.loc (c : Thread nD τ))
  w : Buf (Elt F) (arg2.view.loc (c : Thread nD τ))
  k : Buf (Elt F) (arg3.view.loc (c : Thread nD τ))
  a : Buf (Elt F) (arg4.view.loc (c : Thread nD τ))
  b : Buf (Elt F) (arg5.view.loc (c : Thread nD τ))
  v : Buf (Elt F) (arg6.view.loc (c : Thread nD τ))
  dy : Buf (Elt F) (arg7.view.loc (c : Thread nD τ))
  sb : Buf (Elt F) (sbM.view.loc (c : Thread nD τ))
  sa : Buf (Elt F) (saM.view.loc (c : Thread nD τ))

/-- What a trip writes: the running gradient, the picked columns, the columns of `dv`, the rows of `dr`, `dw`, `dk`, `da`, `db`. -/
structure Outs where
  ds : Buf (Elt F) (dsM.view.loc (c : Thread nD τ))
  pk : Buf (Elt F) (pkM.view.loc (c : Thread nD τ))
  dv : Buf (Elt F) (dvM.view.loc (c : Thread nD τ))
  dr : Buf (Elt F) (arg11.view.loc (c : Thread nD τ))
  dw : Buf (Elt F) (arg12.view.loc (c : Thread nD τ))
  dk : Buf (Elt F) (arg13.view.loc (c : Thread nD τ))
  da : Buf (Elt F) (arg14.view.loc (c : Thread nD τ))
  db : Buf (Elt F) (arg15.view.loc (c : Thread nD τ))

/-- The buffers of a trip, the fetched ones held on `Sb` and `Sa`. -/
def held (Sb : Finset (sbM.view.loc (c : Thread nD τ)).ty.shape.Idx) (Sa : Finset (saM.view.loc (c : Thread nD τ)).ty.shape.Idx)
    (I : Ins (F := F) c arg1 arg2 arg3 arg4 arg5 arg6 arg7) (O : Outs (F := F) c arg11 arg12 arg13 arg14 arg15) : sProp 𝕄 :=
  iprop((arg1.view.loc (c : Thread nD τ) ↦[arg1.view.set]{fullShare} I.r)
    ∗ (arg2.view.loc (c : Thread nD τ) ↦[arg2.view.set]{fullShare} I.w)
    ∗ (arg3.view.loc (c : Thread nD τ) ↦[arg3.view.set]{fullShare} I.k)
    ∗ (arg4.view.loc (c : Thread nD τ) ↦[arg4.view.set]{fullShare} I.a)
    ∗ (arg5.view.loc (c : Thread nD τ) ↦[arg5.view.set]{fullShare} I.b)
    ∗ (arg6.view.loc (c : Thread nD τ) ↦[arg6.view.set]{fullShare} I.v)
    ∗ (arg7.view.loc (c : Thread nD τ) ↦[arg7.view.set]{fullShare} I.dy)
    ∗ (sbM.view.loc (c : Thread nD τ) ↦[Sb]{fullShare} I.sb)
    ∗ (saM.view.loc (c : Thread nD τ) ↦[Sa]{fullShare} I.sa)
    ∗ (dsM.view.loc (c : Thread nD τ) ↦[dsM.view.set]{fullShare} O.ds)
    ∗ (pkM.view.loc (c : Thread nD τ) ↦[pkM.view.set]{fullShare} O.pk)
    ∗ (dvM.view.loc (c : Thread nD τ) ↦[dvM.view.set]{fullShare} O.dv)
    ∗ (arg11.view.loc (c : Thread nD τ) ↦[arg11.view.set]{fullShare} O.dr)
    ∗ (arg12.view.loc (c : Thread nD τ) ↦[arg12.view.set]{fullShare} O.dw)
    ∗ (arg13.view.loc (c : Thread nD τ) ↦[arg13.view.set]{fullShare} O.dk)
    ∗ (arg14.view.loc (c : Thread nD τ) ↦[arg14.view.set]{fullShare} O.da)
    ∗ (arg15.view.loc (c : Thread nD τ) ↦[arg15.view.set]{fullShare} O.db))

end

end Cert.KernelIdeal.Scan

end
-- ==== Proof.Scan.Loop1.lean ====
/- ONE TRIP of the loop over the later half of a chunk, and the loop's invariant: the buffers the trip writes at a tuple of contents which the trip maps to the next tuple. -/
module

public import proofs.«01_k».proof.Proof.Scan.Mem

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section
variable (c : Dev nD)
variable (arg1 : Memref sig .tc .vmem S128x512 .f32) (harg1 : arg1.IsWhole) (arg2 : Memref sig .tc .vmem S128x512 .f32) (harg2 : arg2.IsWhole)
  (arg3 : Memref sig .tc .vmem S128x512 .f32) (harg3 : arg3.IsWhole) (arg4 : Memref sig .tc .vmem S128x512 .f32) (harg4 : arg4.IsWhole)
  (arg5 : Memref sig .tc .vmem S128x512 .f32) (harg5 : arg5.IsWhole) (arg6 : Memref sig .tc .vmem S4x64x768 .bf16) (harg6 : arg6.IsWhole)
  (arg7 : Memref sig .tc .vmem S4x64x768 .bf16) (harg7 : arg7.IsWhole) (arg8 : Memref sig .tc .vmem S2x4x64x128 .f32) (harg8 : arg8.IsWhole)
  (arg11 : Memref sig .tc .vmem S128x512 .f32) (harg11 : arg11.IsWhole) (arg12 : Memref sig .tc .vmem S128x512 .f32) (harg12 : arg12.IsWhole)
  (arg13 : Memref sig .tc .vmem S128x512 .f32) (harg13 : arg13.IsWhole) (arg14 : Memref sig .tc .vmem S128x512 .f32) (harg14 : arg14.IsWhole)
  (arg15 : Memref sig .tc .vmem S128x512 .f32) (harg15 : arg15.IsWhole) (arg16 : Memref sig .tc .vmem S128x512 .f32) (harg16 : arg16.IsWhole)

/-- The fetched buffers while a transfer writes slot 0: all but its window. -/
abbrev sbS1 : Finset (sbM.view.loc (c : Thread nD τ)).ty.shape.Idx := Finset.univ \ sbW0.view.set
abbrev saS1 : Finset (saM.view.loc (c : Thread nD τ)).ty.shape.Idx := Finset.univ \ saW0.view.set

/-- The later half's trip. -/
abbrev body1 (i : grid0.Coords) (v0 : BitVec 32) (v4 : IVec S64x128 32) (v6 : IVec S64x128 1) (v9 : IVec S1x128 1) (v24 : FVec F S384x128 .bf16) (v82 : FVec F S256x128 .f32) :=
  k0_t1_body (F := F) i arg1 harg1 arg2 harg2 arg3 harg3 arg4 harg4 arg5 harg5 arg6 harg6 arg7 harg7 arg8 harg8 stA (Memref.isWhole_whole _) saA (Memref.isWhole_whole _)
    arg11 harg11 arg12 harg12 arg13 harg13 arg14 harg14 arg15 harg15 arg16 harg16 dsM (Memref.isWhole_whole _) sbM (Memref.isWhole_whole _) saM (Memref.isWhole_whole _)
    pkM (Memref.isWhole_whole _) dvM (Memref.isWhole_whole _) cc0_scratch5 v0 v4 v6 v9 v24 v82

set_option maxHeartbeats 4000000 in
set_option backward.proofsInPublic true in
/-- ONE TRIP of the later half at a symbolic trip: what the written buffers hold after it is found by the run. -/
def trip1 (i : grid0.Coords) (v0 : BitVec 32) (v4 : IVec S64x128 32) (v6 : IVec S64x128 1) (v9 : IVec S1x128 1) (v24 : FVec F S384x128 .bf16) (v82 : FVec F S256x128 .f32)
    (I : Ins (F := F) c arg1 arg2 arg3 arg4 arg5 arg6 arg7) (n : Fin k0_t1_loop.trips) (O : Outs (F := F) c arg11 arg12 arg13 arg14 arg15) :
    { O' : Outs (F := F) c arg11 arg12 arg13 arg14 arg15 //
      (held c arg1 arg2 arg3 arg4 arg5 arg6 arg7 arg11 arg12 arg13 arg14 arg15 (sbS1 c) (saS1 c) I O : sProp 𝕄) ⊢
        wp frame (wpE (defs₀ (F := F)) 𝒱₀ (c : Thread nD τ) none) Set.univ
          (body1 (F := F) arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 n ())
          (fun _ => held c arg1 arg2 arg3 arg4 arg5 arg6 arg7 arg11 arg12 arg13 arg14 arg15 (sbS1 c) (saS1 c) I O') } := by
  refine ⟨⟨?ds, ?pk, ?dv, ?dr, ?dw, ?dk, ?da, ?db⟩, ?run⟩
  case run =>
    unfold held
    delta sbS1 saS1
    iintro ⟨H1, H2, H3, H4, H5, H6, H7, H18, H19, H17, H20, H21, H11, H12, H13, H14, H15⟩
    delta body1
    sl_unfold [k0_t1_body]
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H18]; · iexact H18
    isplitl [H19]; · iexact H19
    isplitl [H17]; · iexact H17
    isplitl [H20]; · iexact H20
    isplitl [H21]; · iexact H21
    isplitl [H11]; · iexact H11
    isplitl [H12]; · iexact H12
    isplitl [H13]; · iexact H13
    isplitl [H14]; · iexact H14
    iexact H15

/-- What the written buffers hold before trip `n`, from what they hold at the loop's entry. -/
def iter1 (i : grid0.Coords) (v0 : BitVec 32) (v4 : IVec S64x128 32) (v6 : IVec S64x128 1) (v9 : IVec S1x128 1) (v24 : FVec F S384x128 .bf16) (v82 : FVec F S256x128 .f32)
    (I : Ins (F := F) c arg1 arg2 arg3 arg4 arg5 arg6 arg7) (O : Outs (F := F) c arg11 arg12 arg13 arg14 arg15) : ℕ → Outs (F := F) c arg11 arg12 arg13 arg14 arg15
  | 0 => O
  | n + 1 =>
    if h : n < k0_t1_loop.trips then
      (trip1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 I ⟨n, h⟩ (iter1 i v0 v4 v6 v9 v24 v82 I O n)).1
    else iter1 i v0 v4 v6 v9 v24 v82 I O n

/-- What they hold after the loop. -/
def out1 (i : grid0.Coords) (v0 : BitVec 32) (v4 : IVec S64x128 32) (v6 : IVec S64x128 1) (v9 : IVec S1x128 1) (v24 : FVec F S384x128 .bf16) (v82 : FVec F S256x128 .f32)
    (I : Ins (F := F) c arg1 arg2 arg3 arg4 arg5 arg6 arg7) (O : Outs (F := F) c arg11 arg12 arg13 arg14 arg15) : Outs (F := F) c arg11 arg12 arg13 arg14 arg15 :=
  iter1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 I O k0_t1_loop.trips

/-- THE LOOP: from the buffers at `I` and `O`, what follows it runs from them at `I` and the loop's outcome. The invariant: the buffers read at their contents, the buffers written at the iterate. -/
theorem loop1 (i : grid0.Coords) (v0 : BitVec 32) (v4 : IVec S64x128 32) (v6 : IVec S64x128 1) (v9 : IVec S1x128 1) (v24 : FVec F S384x128 .bf16) (v82 : FVec F S256x128 .f32)
    (I : Ins (F := F) c arg1 arg2 arg3 arg4 arg5 arg6 arg7) (O : Outs (F := F) c arg11 arg12 arg13 arg14 arg15)
    {β : Type} (kk : Unit → Prog (TpuEff nD τ sig (Elt F) Λ₀ .tc) β) (Q : β → sProp 𝕄) :
    (held c arg1 arg2 arg3 arg4 arg5 arg6 arg7 arg11 arg12 arg13 arg14 arg15 (sbS1 c) (saS1 c) I O : sProp 𝕄) ⊢
      iprop((held c arg1 arg2 arg3 arg4 arg5 arg6 arg7 arg11 arg12 arg13 arg14 arg15 (sbS1 c) (saS1 c) I (out1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 I O)
          -∗ wp frame (wpE (defs₀ (F := F)) 𝒱₀ (c : Thread nD τ) none) Set.univ (kk ()) Q)
        -∗ wp frame (wpE (defs₀ (F := F)) 𝒱₀ (c : Thread nD τ) none) Set.univ
          (k0_t1_loop.for k0_t1_ok () (body1 (F := F) arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82) >>= kk) Q) := by
  iintro HI HK
  iapply (Scf.wp_for_bind frame (wpE (defs₀ (F := F)) 𝒱₀ (c : Thread nD τ) none) Set.univ k0_t1_loop.lb k0_t1_loop.ub k0_t1_loop.st k0_t1_ok ()
    (body1 (F := F) arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82)
    (fun n _ => held c arg1 arg2 arg3 arg4 arg5 arg6 arg7 arg11 arg12 arg13 arg14 arg15 (sbS1 c) (saS1 c) I (iter1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 I O n)) ?step) $$ [HI]
  case step =>
    intro n u
    have e : iter1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 I O (n.val + 1) = (trip1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 I n (iter1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 I O n.val)).1 := by
      rw [iter1, dif_pos n.isLt]
    rw [e]
    exact (trip1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 I n _).2
  · iexact HI
  iintro %_ H
  iapply HK
  iexact H
end

attribute [irreducible] out1

end Cert.KernelIdeal.Scan

end
-- ==== Proof.Scan.Loop2.lean ====
/- ONE TRIP of the loop over the earlier half of a chunk, and the loop's invariant. -/
module

public import proofs.«01_k».proof.Proof.Scan.Mem

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section
variable (c : Dev nD)
variable (arg1 : Memref sig .tc .vmem S128x512 .f32) (harg1 : arg1.IsWhole) (arg2 : Memref sig .tc .vmem S128x512 .f32) (harg2 : arg2.IsWhole)
  (arg3 : Memref sig .tc .vmem S128x512 .f32) (harg3 : arg3.IsWhole) (arg4 : Memref sig .tc .vmem S128x512 .f32) (harg4 : arg4.IsWhole)
  (arg5 : Memref sig .tc .vmem S128x512 .f32) (harg5 : arg5.IsWhole) (arg6 : Memref sig .tc .vmem S4x64x768 .bf16) (harg6 : arg6.IsWhole)
  (arg7 : Memref sig .tc .vmem S4x64x768 .bf16) (harg7 : arg7.IsWhole) (arg8 : Memref sig .tc .vmem S2x4x64x128 .f32) (harg8 : arg8.IsWhole)
  (arg11 : Memref sig .tc .vmem S128x512 .f32) (harg11 : arg11.IsWhole) (arg12 : Memref sig .tc .vmem S128x512 .f32) (harg12 : arg12.IsWhole)
  (arg13 : Memref sig .tc .vmem S128x512 .f32) (harg13 : arg13.IsWhole) (arg14 : Memref sig .tc .vmem S128x512 .f32) (harg14 : arg14.IsWhole)
  (arg15 : Memref sig .tc .vmem S128x512 .f32) (harg15 : arg15.IsWhole) (arg16 : Memref sig .tc .vmem S128x512 .f32) (harg16 : arg16.IsWhole)

/-- The fetched buffers while a transfer writes slot 1: all but its window. -/
abbrev sbS2 : Finset (sbM.view.loc (c : Thread nD τ)).ty.shape.Idx := Finset.univ \ sbW1.view.set
abbrev saS2 : Finset (saM.view.loc (c : Thread nD τ)).ty.shape.Idx := Finset.univ \ saW1.view.set

/-- The earlier half's trip. -/
abbrev body2 (i : grid0.Coords) (v4 : IVec S64x128 32) (v6 : IVec S64x128 1) (v9 : IVec S1x128 1) (v24 : FVec F S384x128 .bf16) (x0 x1 : BitVec 32) :=
  k0_t2_body (F := F) i arg1 harg1 arg2 harg2 arg3 harg3 arg4 harg4 arg5 harg5 arg6 harg6 arg7 harg7 arg8 harg8 stA (Memref.isWhole_whole _) saA (Memref.isWhole_whole _)
    arg11 harg11 arg12 harg12 arg13 harg13 arg14 harg14 arg15 harg15 arg16 harg16 dsM (Memref.isWhole_whole _) sbM (Memref.isWhole_whole _) saM (Memref.isWhole_whole _)
    pkM (Memref.isWhole_whole _) dvM (Memref.isWhole_whole _) cc0_scratch5 v4 v6 v9 v24 x0 x1

set_option maxHeartbeats 4000000 in
set_option backward.proofsInPublic true in
/-- ONE TRIP of the earlier half at a symbolic trip: what the written buffers hold after it is found by the run. -/
def trip2 (i : grid0.Coords) (v4 : IVec S64x128 32) (v6 : IVec S64x128 1) (v9 : IVec S1x128 1) (v24 : FVec F S384x128 .bf16) (x0 x1 : BitVec 32)
    (I : Ins (F := F) c arg1 arg2 arg3 arg4 arg5 arg6 arg7) (n : Fin k0_t2_loop.trips) (O : Outs (F := F) c arg11 arg12 arg13 arg14 arg15) :
    { O' : Outs (F := F) c arg11 arg12 arg13 arg14 arg15 //
      (held c arg1 arg2 arg3 arg4 arg5 arg6 arg7 arg11 arg12 arg13 arg14 arg15 (sbS2 c) (saS2 c) I O : sProp 𝕄) ⊢
        wp frame (wpE (defs₀ (F := F)) 𝒱₀ (c : Thread nD τ) none) Set.univ
          (body2 (F := F) arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 n ())
          (fun _ => held c arg1 arg2 arg3 arg4 arg5 arg6 arg7 arg11 arg12 arg13 arg14 arg15 (sbS2 c) (saS2 c) I O') } := by
  refine ⟨⟨?ds, ?pk, ?dv, ?dr, ?dw, ?dk, ?da, ?db⟩, ?run⟩
  case run =>
    unfold held
    delta sbS2 saS2
    iintro ⟨H1, H2, H3, H4, H5, H6, H7, H18, H19, H17, H20, H21, H11, H12, H13, H14, H15⟩
    delta body2
    sl_unfold [k0_t2_body]
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H18]; · iexact H18
    isplitl [H19]; · iexact H19
    isplitl [H17]; · iexact H17
    isplitl [H20]; · iexact H20
    isplitl [H21]; · iexact H21
    isplitl [H11]; · iexact H11
    isplitl [H12]; · iexact H12
    isplitl [H13]; · iexact H13
    isplitl [H14]; · iexact H14
    iexact H15

/-- What the written buffers hold before trip `n`, from what they hold at the loop's entry. -/
def iter2 (i : grid0.Coords) (v4 : IVec S64x128 32) (v6 : IVec S64x128 1) (v9 : IVec S1x128 1) (v24 : FVec F S384x128 .bf16) (x0 x1 : BitVec 32)
    (I : Ins (F := F) c arg1 arg2 arg3 arg4 arg5 arg6 arg7) (O : Outs (F := F) c arg11 arg12 arg13 arg14 arg15) : ℕ → Outs (F := F) c arg11 arg12 arg13 arg14 arg15
  | 0 => O
  | n + 1 =>
    if h : n < k0_t2_loop.trips then
      (trip2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 I ⟨n, h⟩ (iter2 i v4 v6 v9 v24 x0 x1 I O n)).1
    else iter2 i v4 v6 v9 v24 x0 x1 I O n

/-- What they hold after the loop. -/
def out2 (i : grid0.Coords) (v4 : IVec S64x128 32) (v6 : IVec S64x128 1) (v9 : IVec S1x128 1) (v24 : FVec F S384x128 .bf16) (x0 x1 : BitVec 32)
    (I : Ins (F := F) c arg1 arg2 arg3 arg4 arg5 arg6 arg7) (O : Outs (F := F) c arg11 arg12 arg13 arg14 arg15) : Outs (F := F) c arg11 arg12 arg13 arg14 arg15 :=
  iter2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 I O k0_t2_loop.trips

/-- THE LOOP: from the buffers at `I` and `O`, what follows it runs from them at `I` and the loop's outcome. The invariant: the buffers read at their contents, the buffers written at the iterate. -/
theorem loop2 (i : grid0.Coords) (v4 : IVec S64x128 32) (v6 : IVec S64x128 1) (v9 : IVec S1x128 1) (v24 : FVec F S384x128 .bf16) (x0 x1 : BitVec 32)
    (I : Ins (F := F) c arg1 arg2 arg3 arg4 arg5 arg6 arg7) (O : Outs (F := F) c arg11 arg12 arg13 arg14 arg15)
    {β : Type} (kk : Unit → Prog (TpuEff nD τ sig (Elt F) Λ₀ .tc) β) (Q : β → sProp 𝕄) :
    (held c arg1 arg2 arg3 arg4 arg5 arg6 arg7 arg11 arg12 arg13 arg14 arg15 (sbS2 c) (saS2 c) I O : sProp 𝕄) ⊢
      iprop((held c arg1 arg2 arg3 arg4 arg5 arg6 arg7 arg11 arg12 arg13 arg14 arg15 (sbS2 c) (saS2 c) I (out2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 I O)
          -∗ wp frame (wpE (defs₀ (F := F)) 𝒱₀ (c : Thread nD τ) none) Set.univ (kk ()) Q)
        -∗ wp frame (wpE (defs₀ (F := F)) 𝒱₀ (c : Thread nD τ) none) Set.univ
          (k0_t2_loop.for k0_t2_ok () (body2 (F := F) arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1) >>= kk) Q) := by
  iintro HI HK
  iapply (Scf.wp_for_bind frame (wpE (defs₀ (F := F)) 𝒱₀ (c : Thread nD τ) none) Set.univ k0_t2_loop.lb k0_t2_loop.ub k0_t2_loop.st k0_t2_ok ()
    (body2 (F := F) arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1)
    (fun n _ => held c arg1 arg2 arg3 arg4 arg5 arg6 arg7 arg11 arg12 arg13 arg14 arg15 (sbS2 c) (saS2 c) I (iter2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 I O n)) ?step) $$ [HI]
  case step =>
    intro n u
    have e : iter2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 I O (n.val + 1) = (trip2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 I n (iter2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 I O n.val)).1 := by
      rw [iter2, dif_pos n.isLt]
    rw [e]
    exact (trip2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 I n _).2
  · iexact HI
  iintro %_ H
  iapply HK
  iexact H
end

attribute [irreducible] out2

end Cert.KernelIdeal.Scan

end
-- ==== Proof.Scan.Flat.lean ====
/- The two loops of the kernel, their buffers' contents given one by one. -/
module

public import proofs.«01_k».proof.Proof.Scan.Loop1
public import proofs.«01_k».proof.Proof.Scan.Loop2

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section
variable (c : Dev nD)
variable (arg1 : Memref sig .tc .vmem S128x512 .f32) (harg1 : arg1.IsWhole) (arg2 : Memref sig .tc .vmem S128x512 .f32) (harg2 : arg2.IsWhole)
  (arg3 : Memref sig .tc .vmem S128x512 .f32) (harg3 : arg3.IsWhole) (arg4 : Memref sig .tc .vmem S128x512 .f32) (harg4 : arg4.IsWhole)
  (arg5 : Memref sig .tc .vmem S128x512 .f32) (harg5 : arg5.IsWhole) (arg6 : Memref sig .tc .vmem S4x64x768 .bf16) (harg6 : arg6.IsWhole)
  (arg7 : Memref sig .tc .vmem S4x64x768 .bf16) (harg7 : arg7.IsWhole) (arg8 : Memref sig .tc .vmem S2x4x64x128 .f32) (harg8 : arg8.IsWhole)
  (arg11 : Memref sig .tc .vmem S128x512 .f32) (harg11 : arg11.IsWhole) (arg12 : Memref sig .tc .vmem S128x512 .f32) (harg12 : arg12.IsWhole)
  (arg13 : Memref sig .tc .vmem S128x512 .f32) (harg13 : arg13.IsWhole) (arg14 : Memref sig .tc .vmem S128x512 .f32) (harg14 : arg14.IsWhole)
  (arg15 : Memref sig .tc .vmem S128x512 .f32) (harg15 : arg15.IsWhole) (arg16 : Memref sig .tc .vmem S128x512 .f32) (harg16 : arg16.IsWhole)

/-- The buffers of a trip, the contents one by one. -/
def heldF (Sb : Finset (sbM.view.loc (c : Thread nD τ)).ty.shape.Idx) (Sa : Finset (saM.view.loc (c : Thread nD τ)).ty.shape.Idx)
    (r : Buf (Elt F) (arg1.view.loc (c : Thread nD τ))) (w : Buf (Elt F) (arg2.view.loc (c : Thread nD τ))) (k : Buf (Elt F) (arg3.view.loc (c : Thread nD τ))) (a : Buf (Elt F) (arg4.view.loc (c : Thread nD τ))) (b : Buf (Elt F) (arg5.view.loc (c : Thread nD τ))) (v : Buf (Elt F) (arg6.view.loc (c : Thread nD τ))) (dy : Buf (Elt F) (arg7.view.loc (c : Thread nD τ))) (sb : Buf (Elt F) (sbM.view.loc (c : Thread nD τ))) (sa : Buf (Elt F) (saM.view.loc (c : Thread nD τ))) (ds : Buf (Elt F) (dsM.view.loc (c : Thread nD τ))) (pk : Buf (Elt F) (pkM.view.loc (c : Thread nD τ))) (dv : Buf (Elt F) (dvM.view.loc (c : Thread nD τ))) (dr : Buf (Elt F) (arg11.view.loc (c : Thread nD τ))) (dw : Buf (Elt F) (arg12.view.loc (c : Thread nD τ))) (dk : Buf (Elt F) (arg13.view.loc (c : Thread nD τ))) (da : Buf (Elt F) (arg14.view.loc (c : Thread nD τ))) (db : Buf (Elt F) (arg15.view.loc (c : Thread nD τ))) : sProp 𝕄 :=
  iprop((arg1.view.loc (c : Thread nD τ) ↦[arg1.view.set]{fullShare} r) ∗ (arg2.view.loc (c : Thread nD τ) ↦[arg2.view.set]{fullShare} w) ∗ (arg3.view.loc (c : Thread nD τ) ↦[arg3.view.set]{fullShare} k) ∗ (arg4.view.loc (c : Thread nD τ) ↦[arg4.view.set]{fullShare} a) ∗ (arg5.view.loc (c : Thread nD τ) ↦[arg5.view.set]{fullShare} b) ∗ (arg6.view.loc (c : Thread nD τ) ↦[arg6.view.set]{fullShare} v) ∗ (arg7.view.loc (c : Thread nD τ) ↦[arg7.view.set]{fullShare} dy) ∗ (sbM.view.loc (c : Thread nD τ) ↦[Sb]{fullShare} sb) ∗ (saM.view.loc (c : Thread nD τ) ↦[Sa]{fullShare} sa) ∗ (dsM.view.loc (c : Thread nD τ) ↦[dsM.view.set]{fullShare} ds) ∗ (pkM.view.loc (c : Thread nD τ) ↦[pkM.view.set]{fullShare} pk) ∗ (dvM.view.loc (c : Thread nD τ) ↦[dvM.view.set]{fullShare} dv) ∗ (arg11.view.loc (c : Thread nD τ) ↦[arg11.view.set]{fullShare} dr) ∗ (arg12.view.loc (c : Thread nD τ) ↦[arg12.view.set]{fullShare} dw) ∗ (arg13.view.loc (c : Thread nD τ) ↦[arg13.view.set]{fullShare} dk) ∗ (arg14.view.loc (c : Thread nD τ) ↦[arg14.view.set]{fullShare} da) ∗ (arg15.view.loc (c : Thread nD τ) ↦[arg15.view.set]{fullShare} db))

theorem held_flat (Sb : Finset (sbM.view.loc (c : Thread nD τ)).ty.shape.Idx) (Sa : Finset (saM.view.loc (c : Thread nD τ)).ty.shape.Idx)
    (I : Ins (F := F) c arg1 arg2 arg3 arg4 arg5 arg6 arg7) (O : Outs (F := F) c arg11 arg12 arg13 arg14 arg15) :
    held c arg1 arg2 arg3 arg4 arg5 arg6 arg7 arg11 arg12 arg13 arg14 arg15 Sb Sa I O = heldF c arg1 arg2 arg3 arg4 arg5 arg6 arg7 arg11 arg12 arg13 arg14 arg15 Sb Sa I.r I.w I.k I.a I.b I.v I.dy I.sb I.sa O.ds O.pk O.dv O.dr O.dw O.dk O.da O.db := rfl

/-- Loop 1, from the contents one by one to the outcome's one by one. -/
theorem loop1F (i : grid0.Coords) (v0 : BitVec 32) (v4 : IVec S64x128 32) (v6 : IVec S64x128 1) (v9 : IVec S1x128 1) (v24 : FVec F S384x128 .bf16) (v82 : FVec F S256x128 .f32) (r : Buf (Elt F) (arg1.view.loc (c : Thread nD τ))) (w : Buf (Elt F) (arg2.view.loc (c : Thread nD τ))) (k : Buf (Elt F) (arg3.view.loc (c : Thread nD τ))) (a : Buf (Elt F) (arg4.view.loc (c : Thread nD τ))) (b : Buf (Elt F) (arg5.view.loc (c : Thread nD τ))) (v : Buf (Elt F) (arg6.view.loc (c : Thread nD τ))) (dy : Buf (Elt F) (arg7.view.loc (c : Thread nD τ))) (sb : Buf (Elt F) (sbM.view.loc (c : Thread nD τ))) (sa : Buf (Elt F) (saM.view.loc (c : Thread nD τ))) (ds : Buf (Elt F) (dsM.view.loc (c : Thread nD τ))) (pk : Buf (Elt F) (pkM.view.loc (c : Thread nD τ))) (dv : Buf (Elt F) (dvM.view.loc (c : Thread nD τ))) (dr : Buf (Elt F) (arg11.view.loc (c : Thread nD τ))) (dw : Buf (Elt F) (arg12.view.loc (c : Thread nD τ))) (dk : Buf (Elt F) (arg13.view.loc (c : Thread nD τ))) (da : Buf (Elt F) (arg14.view.loc (c : Thread nD τ))) (db : Buf (Elt F) (arg15.view.loc (c : Thread nD τ)))
    {β : Type} (kk : Unit → Prog (TpuEff nD τ sig (Elt F) Λ₀ .tc) β) (Q : β → sProp 𝕄) :
    (heldF c arg1 arg2 arg3 arg4 arg5 arg6 arg7 arg11 arg12 arg13 arg14 arg15 (sbS1 c) (saS1 c) r w k a b v dy sb sa ds pk dv dr dw dk da db : sProp 𝕄) ⊢
      iprop((∀ ds' pk' dv' dr' dw' dk' da' db', ⌜ds' = (out1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 ⟨r, w, k, a, b, v, dy, sb, sa⟩ ⟨ds, pk, dv, dr, dw, dk, da, db⟩).ds⌝ -∗ ⌜pk' = (out1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 ⟨r, w, k, a, b, v, dy, sb, sa⟩ ⟨ds, pk, dv, dr, dw, dk, da, db⟩).pk⌝ -∗ ⌜dv' = (out1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 ⟨r, w, k, a, b, v, dy, sb, sa⟩ ⟨ds, pk, dv, dr, dw, dk, da, db⟩).dv⌝ -∗ ⌜dr' = (out1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 ⟨r, w, k, a, b, v, dy, sb, sa⟩ ⟨ds, pk, dv, dr, dw, dk, da, db⟩).dr⌝ -∗ ⌜dw' = (out1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 ⟨r, w, k, a, b, v, dy, sb, sa⟩ ⟨ds, pk, dv, dr, dw, dk, da, db⟩).dw⌝ -∗ ⌜dk' = (out1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 ⟨r, w, k, a, b, v, dy, sb, sa⟩ ⟨ds, pk, dv, dr, dw, dk, da, db⟩).dk⌝ -∗ ⌜da' = (out1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 ⟨r, w, k, a, b, v, dy, sb, sa⟩ ⟨ds, pk, dv, dr, dw, dk, da, db⟩).da⌝ -∗ ⌜db' = (out1 c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 ⟨r, w, k, a, b, v, dy, sb, sa⟩ ⟨ds, pk, dv, dr, dw, dk, da, db⟩).db⌝ -∗ heldF c arg1 arg2 arg3 arg4 arg5 arg6 arg7 arg11 arg12 arg13 arg14 arg15 (sbS1 c) (saS1 c) r w k a b v dy sb sa ds' pk' dv' dr' dw' dk' da' db'
          -∗ wp frame (wpE (defs₀ (F := F)) 𝒱₀ (c : Thread nD τ) none) Set.univ (kk ()) Q)
        -∗ wp frame (wpE (defs₀ (F := F)) 𝒱₀ (c : Thread nD τ) none) Set.univ
          (k0_t1_loop.for k0_t1_ok () (body1 (F := F) arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82) >>= kk) Q) := by
  have h := loop1 (F := F) c arg1 harg1 arg2 harg2 arg3 harg3 arg4 harg4 arg5 harg5 arg6 harg6 arg7 harg7 arg8 harg8 arg11 harg11 arg12 harg12 arg13 harg13 arg14 harg14 arg15 harg15 arg16 harg16 i v0 v4 v6 v9 v24 v82 ⟨r, w, k, a, b, v, dy, sb, sa⟩ ⟨ds, pk, dv, dr, dw, dk, da, db⟩ kk Q
  rw [held_flat, held_flat] at h
  refine h.trans ?_
  iintro HW HK
  iapply HW
  iintro H
  iapply HK $$ %_ %_ %_ %_ %_ %_ %_ %_ %rfl %rfl %rfl %rfl %rfl %rfl %rfl %rfl
  iexact H

/-- Loop 2, from the contents one by one to the outcome's one by one. -/
theorem loop2F (i : grid0.Coords) (v4 : IVec S64x128 32) (v6 : IVec S64x128 1) (v9 : IVec S1x128 1) (v24 : FVec F S384x128 .bf16) (x0 x1 : BitVec 32) (r : Buf (Elt F) (arg1.view.loc (c : Thread nD τ))) (w : Buf (Elt F) (arg2.view.loc (c : Thread nD τ))) (k : Buf (Elt F) (arg3.view.loc (c : Thread nD τ))) (a : Buf (Elt F) (arg4.view.loc (c : Thread nD τ))) (b : Buf (Elt F) (arg5.view.loc (c : Thread nD τ))) (v : Buf (Elt F) (arg6.view.loc (c : Thread nD τ))) (dy : Buf (Elt F) (arg7.view.loc (c : Thread nD τ))) (sb : Buf (Elt F) (sbM.view.loc (c : Thread nD τ))) (sa : Buf (Elt F) (saM.view.loc (c : Thread nD τ))) (ds : Buf (Elt F) (dsM.view.loc (c : Thread nD τ))) (pk : Buf (Elt F) (pkM.view.loc (c : Thread nD τ))) (dv : Buf (Elt F) (dvM.view.loc (c : Thread nD τ))) (dr : Buf (Elt F) (arg11.view.loc (c : Thread nD τ))) (dw : Buf (Elt F) (arg12.view.loc (c : Thread nD τ))) (dk : Buf (Elt F) (arg13.view.loc (c : Thread nD τ))) (da : Buf (Elt F) (arg14.view.loc (c : Thread nD τ))) (db : Buf (Elt F) (arg15.view.loc (c : Thread nD τ)))
    {β : Type} (kk : Unit → Prog (TpuEff nD τ sig (Elt F) Λ₀ .tc) β) (Q : β → sProp 𝕄) :
    (heldF c arg1 arg2 arg3 arg4 arg5 arg6 arg7 arg11 arg12 arg13 arg14 arg15 (sbS2 c) (saS2 c) r w k a b v dy sb sa ds pk dv dr dw dk da db : sProp 𝕄) ⊢
      iprop((∀ ds' pk' dv' dr' dw' dk' da' db', ⌜ds' = (out2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 ⟨r, w, k, a, b, v, dy, sb, sa⟩ ⟨ds, pk, dv, dr, dw, dk, da, db⟩).ds⌝ -∗ ⌜pk' = (out2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 ⟨r, w, k, a, b, v, dy, sb, sa⟩ ⟨ds, pk, dv, dr, dw, dk, da, db⟩).pk⌝ -∗ ⌜dv' = (out2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 ⟨r, w, k, a, b, v, dy, sb, sa⟩ ⟨ds, pk, dv, dr, dw, dk, da, db⟩).dv⌝ -∗ ⌜dr' = (out2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 ⟨r, w, k, a, b, v, dy, sb, sa⟩ ⟨ds, pk, dv, dr, dw, dk, da, db⟩).dr⌝ -∗ ⌜dw' = (out2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 ⟨r, w, k, a, b, v, dy, sb, sa⟩ ⟨ds, pk, dv, dr, dw, dk, da, db⟩).dw⌝ -∗ ⌜dk' = (out2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 ⟨r, w, k, a, b, v, dy, sb, sa⟩ ⟨ds, pk, dv, dr, dw, dk, da, db⟩).dk⌝ -∗ ⌜da' = (out2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 ⟨r, w, k, a, b, v, dy, sb, sa⟩ ⟨ds, pk, dv, dr, dw, dk, da, db⟩).da⌝ -∗ ⌜db' = (out2 c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 ⟨r, w, k, a, b, v, dy, sb, sa⟩ ⟨ds, pk, dv, dr, dw, dk, da, db⟩).db⌝ -∗ heldF c arg1 arg2 arg3 arg4 arg5 arg6 arg7 arg11 arg12 arg13 arg14 arg15 (sbS2 c) (saS2 c) r w k a b v dy sb sa ds' pk' dv' dr' dw' dk' da' db'
          -∗ wp frame (wpE (defs₀ (F := F)) 𝒱₀ (c : Thread nD τ) none) Set.univ (kk ()) Q)
        -∗ wp frame (wpE (defs₀ (F := F)) 𝒱₀ (c : Thread nD τ) none) Set.univ
          (k0_t2_loop.for k0_t2_ok () (body2 (F := F) arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1) >>= kk) Q) := by
  have h := loop2 (F := F) c arg1 harg1 arg2 harg2 arg3 harg3 arg4 harg4 arg5 harg5 arg6 harg6 arg7 harg7 arg8 harg8 arg11 harg11 arg12 harg12 arg13 harg13 arg14 harg14 arg15 harg15 arg16 harg16 i v4 v6 v9 v24 x0 x1 ⟨r, w, k, a, b, v, dy, sb, sa⟩ ⟨ds, pk, dv, dr, dw, dk, da, db⟩ kk Q
  rw [held_flat, held_flat] at h
  refine h.trans ?_
  iintro HW HK
  iapply HW
  iintro H
  iapply HK $$ %_ %_ %_ %_ %_ %_ %_ %_ %rfl %rfl %rfl %rfl %rfl %rfl %rfl %rfl
  iexact H

end

end Cert.KernelIdeal.Scan

end
-- ==== Proof.Scan.Offs.lean ====
/- The half blocks the kernel fetches, under one name each: the sources its transfers and waits compute are the half blocks numbered down from 31, two to a grid point. -/
module

public import proofs.«01_k».proof.Proof.Scan.Mem

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic

/-- Half block `n` of an array of states. -/
def halfOff (n : Fin 32) : Fin 5 → Nat := ![n.val, 0, 0, 0, 0]

theorem halfOff_inb (n : Fin 32) : ∀ a, halfOff n a + S1x64x4x64x128.size a ≤ S32x64x4x64x128.size a := by
  revert n; decide

/-- Half block `n` of the states, of `state · a`. -/
abbrev stH (n : Fin 32) : Memref sig .tc .hbm S64x4x64x128 .f32 :=
  (stA.slice (Rect.unit (s := S32x64x4x64x128) (halfOff n) S1x64x4x64x128.size (halfOff_inb n)) (fun _ => rfl)).squeeze S64x4x64x128 squeezes_S1x64x4x64x128_S64x4x64x128
abbrev saH (n : Fin 32) : Memref sig .tc .hbm S64x4x64x128 .f32 :=
  (saA.slice (Rect.unit (s := S32x64x4x64x128) (halfOff n) S1x64x4x64x128.size (halfOff_inb n)) (fun _ => rfl)).squeeze S64x4x64x128 squeezes_S1x64x4x64x128_S64x4x64x128

/-- The later and the earlier half block of a grid point, and the later one of the next point. -/
def hi (i : grid0.Coords) : Fin 32 := ⟨31 - 2 * (i 0).val, by omega⟩
def lo (i : grid0.Coords) : Fin 32 := ⟨30 - 2 * (i 0).val, by omega⟩
def nx (i : grid0.Coords) : Fin 32 := ⟨29 - 2 * (i 0).val, by omega⟩

theorem off1_eq (i : grid0.Coords) : k0_off1 i = halfOff (hi i) := by
  have h : ∀ n : Fin 16, (Scalar.subi (Scalar.addi (Scalar.muli (Scalar.subi 15#32 (BitVec.ofNat 32 n.val)) 2#32) 2#32) 1#32).toNat = 31 - 2 * n.val := by decide
  exact congrArg (fun m : ℕ => (![m, 0, 0, 0, 0] : Fin 5 → ℕ)) (h (i 0))
theorem off2_one (i : grid0.Coords) : k0_off2 i 1#32 = halfOff (hi i) := by
  have h : ∀ n : Fin 16, (Scalar.addi (Scalar.muli (Scalar.subi 15#32 (BitVec.ofNat 32 n.val)) 2#32) 1#32).toNat = 31 - 2 * n.val := by decide
  exact congrArg (fun m : ℕ => (![m, 0, 0, 0, 0] : Fin 5 → ℕ)) (h (i 0))
theorem off2_zero (i : grid0.Coords) : k0_off2 i 0#32 = halfOff (lo i) := by
  have h : ∀ n : Fin 16, (Scalar.addi (Scalar.muli (Scalar.subi 15#32 (BitVec.ofNat 32 n.val)) 2#32) 0#32).toNat = 30 - 2 * n.val := by decide
  exact congrArg (fun m : ℕ => (![m, 0, 0, 0, 0] : Fin 5 → ℕ)) (h (i 0))
theorem off3_eq (i : grid0.Coords) : k0_off3 i = halfOff (lo i) := by
  have h : ∀ n : Fin 16, (Scalar.subi (Scalar.addi (Scalar.muli (Scalar.subi 15#32 (BitVec.ofNat 32 n.val)) 2#32) 1#32) 1#32).toNat = 30 - 2 * n.val := by decide
  exact congrArg (fun m : ℕ => (![m, 0, 0, 0, 0] : Fin 5 → ℕ)) (h (i 0))
theorem cond3_iff (i : grid0.Coords) : k0_cond3 i = 1#1 ↔ (i 0).val < 15 := by
  have h : ∀ n : Fin 16, Scalar.cmpi .ne (Scalar.extui (Scalar.cmpi .sgt (Scalar.subi 15#32 (BitVec.ofNat 32 n.val)) 0#32) : BitVec 32) 0#32 = 1#1 ↔ n.val < 15 := by decide
  exact h (i 0)
theorem cond2_iff (i : grid0.Coords) : k0_cond2 i = 1#1 ↔ (i 0).val = 0 := by
  have h : ∀ n : Fin 16, Scalar.cmpi .ne (Scalar.extui (Scalar.cmpi .eq (BitVec.ofNat 32 n.val) 0#32) : BitVec 32) 0#32 = 1#1 ↔ n.val = 0 := by decide
  exact h (i 0)
theorem off17_eq (i : grid0.Coords) (h3 : k0_cond3 i = 1#1) : k0_off17 i = halfOff (nx i) := by
  have h : ∀ n : Fin 16, n.val < 15 → (Scalar.subi (Scalar.muli (Scalar.subi 15#32 (BitVec.ofNat 32 n.val)) 2#32) 1#32).toNat = 29 - 2 * n.val := by decide
  exact congrArg (fun m : ℕ => (![m, 0, 0, 0, 0] : Fin 5 → ℕ)) (h (i 0) ((cond3_iff i).mp h3))

private theorem st_congr {off : Fin 5 → Nat} {n : Fin 32} (e : off = halfOff n) (hh hs) :
    (stA.slice (Rect.unit (s := S32x64x4x64x128) off S1x64x4x64x128.size hh) hs).squeeze S64x4x64x128 squeezes_S1x64x4x64x128_S64x4x64x128 = stH n :=
  congrArg (fun M : Memref sig .tc .hbm S1x64x4x64x128 .f32 => M.squeeze S64x4x64x128 squeezes_S1x64x4x64x128_S64x4x64x128) (Memref.slice_unit_congr _ e _ _ _ _)
private theorem sa_congr {off : Fin 5 → Nat} {n : Fin 32} (e : off = halfOff n) (hh hs) :
    (saA.slice (Rect.unit (s := S32x64x4x64x128) off S1x64x4x64x128.size hh) hs).squeeze S64x4x64x128 squeezes_S1x64x4x64x128_S64x4x64x128 = saH n :=
  congrArg (fun M : Memref sig .tc .hbm S1x64x4x64x128 .f32 => M.squeeze S64x4x64x128 squeezes_S1x64x4x64x128_S64x4x64x128) (Memref.slice_unit_congr _ e _ _ _ _)

section
variable (i : grid0.Coords)
@[sl_canon] theorem stC1 (hh hs) : (stA.slice (Rect.unit (s := S32x64x4x64x128) (k0_off1 i) S1x64x4x64x128.size hh) hs).squeeze S64x4x64x128 squeezes_S1x64x4x64x128_S64x4x64x128 = stH (hi i) := st_congr (off1_eq i) _ _
@[sl_canon] theorem stC2 (hh hs) : (stA.slice (Rect.unit (s := S32x64x4x64x128) (k0_off2 i 1#32) S1x64x4x64x128.size hh) hs).squeeze S64x4x64x128 squeezes_S1x64x4x64x128_S64x4x64x128 = stH (hi i) := st_congr (off2_one i) _ _
@[sl_canon] theorem stC3 (hh hs) : (stA.slice (Rect.unit (s := S32x64x4x64x128) (k0_off2 i 0#32) S1x64x4x64x128.size hh) hs).squeeze S64x4x64x128 squeezes_S1x64x4x64x128_S64x4x64x128 = stH (lo i) := st_congr (off2_zero i) _ _
@[sl_canon] theorem stC4 (hh hs) : (stA.slice (Rect.unit (s := S32x64x4x64x128) (k0_off3 i) S1x64x4x64x128.size hh) hs).squeeze S64x4x64x128 squeezes_S1x64x4x64x128_S64x4x64x128 = stH (lo i) := st_congr (off3_eq i) _ _
@[sl_canon] theorem stC5 (h3 : k0_cond3 i = 1#1) (hh hs) : (stA.slice (Rect.unit (s := S32x64x4x64x128) (k0_off17 i) S1x64x4x64x128.size hh) hs).squeeze S64x4x64x128 squeezes_S1x64x4x64x128_S64x4x64x128 = stH (nx i) := st_congr (off17_eq i h3) _ _
@[sl_canon] theorem saC1 (hh hs) : (saA.slice (Rect.unit (s := S32x64x4x64x128) (k0_off1 i) S1x64x4x64x128.size hh) hs).squeeze S64x4x64x128 squeezes_S1x64x4x64x128_S64x4x64x128 = saH (hi i) := sa_congr (off1_eq i) _ _
@[sl_canon] theorem saC2 (hh hs) : (saA.slice (Rect.unit (s := S32x64x4x64x128) (k0_off2 i 1#32) S1x64x4x64x128.size hh) hs).squeeze S64x4x64x128 squeezes_S1x64x4x64x128_S64x4x64x128 = saH (hi i) := sa_congr (off2_one i) _ _
@[sl_canon] theorem saC3 (hh hs) : (saA.slice (Rect.unit (s := S32x64x4x64x128) (k0_off2 i 0#32) S1x64x4x64x128.size hh) hs).squeeze S64x4x64x128 squeezes_S1x64x4x64x128_S64x4x64x128 = saH (lo i) := sa_congr (off2_zero i) _ _
@[sl_canon] theorem saC4 (hh hs) : (saA.slice (Rect.unit (s := S32x64x4x64x128) (k0_off3 i) S1x64x4x64x128.size hh) hs).squeeze S64x4x64x128 squeezes_S1x64x4x64x128_S64x4x64x128 = saH (lo i) := sa_congr (off3_eq i) _ _
@[sl_canon] theorem saC5 (h3 : k0_cond3 i = 1#1) (hh hs) : (saA.slice (Rect.unit (s := S32x64x4x64x128) (k0_off17 i) S1x64x4x64x128.size hh) hs).squeeze S64x4x64x128 squeezes_S1x64x4x64x128_S64x4x64x128 = saH (nx i) := sa_congr (off17_eq i h3) _ _
end

end Cert.KernelIdeal.Scan

end
-- ==== Proof.Scan.Fetch.lean ====
/- The kernel's own fetches between grid points: what is in flight when a grid point begins, and how the windows go back to their buffers. -/
module

public import proofs.«01_k».proof.Proof.Scan.Mem
public import proofs.«01_k».proof.Proof.Scan.Offs
public import Idealize.ShloMosaic.Lib.Transfers
public import Idealize.ShloMosaic.Lib.Writes

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI Idealize.ShloMosaic.Rounds
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

section
variable {sp : Space} {s : Shape} {e : EltTy}

/-- Off a view's elements a write through it is not seen. -/
theorem write_off {κ : Kind} (v : View sig κ sp s e) (f : v.ty.Contents (Elt F)) (w : s.Idx → Elt F e) {i : v.ty.Idx} (h : i ∉ v.set) :
    v.write (Elt F) f w Finset.univ i = f i :=
  View.write_of_not_mem _ _ _ (by rwa [View.setOn_univ])

/-- On a view's elements a write through it hides what was there. -/
theorem write_on {κ : Kind} (v : View sig κ sp s e) (f g : v.ty.Contents (Elt F)) (w : s.Idx → Elt F e) {i : v.ty.Idx} (h : i ∈ v.set) :
    v.write (Elt F) f w Finset.univ i = v.write (Elt F) g w Finset.univ i := by
  obtain ⟨x, -, rfl⟩ := Finset.mem_map.mp h
  rw [View.write_emb_of_mem _ _ (Finset.mem_univ _), View.write_emb_of_mem _ _ (Finset.mem_univ _)]
end

section
variable (c : Dev nD)

section
variable (R : Buf (Elt F) (sbM.view.loc (c : Thread nD τ)))

/-- The buffer of states in two parts. -/
theorem sb_parts : (sbM.view.loc (c : Thread nD τ) ↦{fullShare} R : sProp 𝕄)
    ⊢ (iprop((sbM.view.loc (c : Thread nD τ) ↦[sbW1.view.set]{fullShare} R)
      ∗ (sbM.view.loc (c : Thread nD τ) ↦[Finset.univ \ sbW1.view.set]{fullShare} R)) : sProp 𝕄) :=
  (pointsTo_split_subset (Finset.subset_univ _)).1

/-- Both parts of the buffer of states together. -/
theorem sb_whole : (iprop((sbM.view.loc (c : Thread nD τ) ↦[sbW1.view.set]{fullShare} R)
      ∗ (sbM.view.loc (c : Thread nD τ) ↦[Finset.univ \ sbW1.view.set]{fullShare} R)) : sProp 𝕄)
    ⊢ (sbM.view.loc (c : Thread nD τ) ↦{fullShare} R : sProp 𝕄) :=
  (pointsTo_split_subset (Finset.subset_univ _)).2
end

section
variable (R : Buf (Elt F) (saM.view.loc (c : Thread nD τ)))

/-- The buffer of `state · a` in two parts. -/
theorem sa_parts : (saM.view.loc (c : Thread nD τ) ↦{fullShare} R : sProp 𝕄)
    ⊢ (iprop((saM.view.loc (c : Thread nD τ) ↦[saW1.view.set]{fullShare} R)
      ∗ (saM.view.loc (c : Thread nD τ) ↦[Finset.univ \ saW1.view.set]{fullShare} R)) : sProp 𝕄) :=
  (pointsTo_split_subset (Finset.subset_univ _)).1

/-- Both parts of the buffer of `state · a` together. -/
theorem sa_whole : (iprop((saM.view.loc (c : Thread nD τ) ↦[saW1.view.set]{fullShare} R)
      ∗ (saM.view.loc (c : Thread nD τ) ↦[Finset.univ \ saW1.view.set]{fullShare} R)) : sProp 𝕄)
    ⊢ (saM.view.loc (c : Thread nD τ) ↦{fullShare} R : sProp 𝕄) :=
  (pointsTo_split_subset (Finset.subset_univ _)).2
end

section
variable (n : Fin 32) (f9 : Buf (Elt F) (stA.view.loc (c : Thread nD τ))) (f10 : Buf (Elt F) (saA.view.loc (c : Thread nD τ)))
  (g : Buf (Elt F) (sbM.view.loc (c : Thread nD τ))) (gs : Buf (Elt F) (saM.view.loc (c : Thread nD τ)))

/-- Slot 1 of the states being fetched: what the wait gives. -/
def sbDue : sProp 𝕄 :=
  iprop((sbM.view.loc (c : Thread nD τ) ↦[sbW1.view.set]{fullShare} sbW1.view.write (Elt F) g (ReadAs.same.apply ((stH n).view.read (Elt F) f9)) Finset.univ)
    ∗ (stA.view.loc (c : Thread nD τ) ↦[(stH n).view.set]{fullShare} f9))
/-- Slot 1 of `state · a` being fetched: what the wait gives. -/
def saDue : sProp 𝕄 :=
  iprop((saM.view.loc (c : Thread nD τ) ↦[saW1.view.set]{fullShare} saW1.view.write (Elt F) gs (ReadAs.same.apply ((saH n).view.read (Elt F) f10)) Finset.univ)
    ∗ (saA.view.loc (c : Thread nD τ) ↦[(saH n).view.set]{fullShare} f10))

theorem sbDue_any (g' : Buf (Elt F) (sbM.view.loc (c : Thread nD τ))) : sbDue c n f9 g = sbDue (F := F) c n f9 g' := by
  unfold sbDue
  rw [show (sbM.view.loc (c : Thread nD τ) ↦[sbW1.view.set]{fullShare} sbW1.view.write (Elt F) g (ReadAs.same.apply ((stH n).view.read (Elt F) f9)) Finset.univ : sProp 𝕄)
    = (sbM.view.loc (c : Thread nD τ) ↦[sbW1.view.set]{fullShare} sbW1.view.write (Elt F) g' (ReadAs.same.apply ((stH n).view.read (Elt F) f9)) Finset.univ) from
    pointsTo_congr fun i hi => write_on sbW1.view g g' _ hi]
theorem saDue_any (g' : Buf (Elt F) (saM.view.loc (c : Thread nD τ))) : saDue c n f10 gs = saDue (F := F) c n f10 g' := by
  unfold saDue
  rw [show (saM.view.loc (c : Thread nD τ) ↦[saW1.view.set]{fullShare} saW1.view.write (Elt F) gs (ReadAs.same.apply ((saH n).view.read (Elt F) f10)) Finset.univ : sProp 𝕄)
    = (saM.view.loc (c : Thread nD τ) ↦[saW1.view.set]{fullShare} saW1.view.write (Elt F) g' (ReadAs.same.apply ((saH n).view.read (Elt F) f10)) Finset.univ) from
    pointsTo_congr fun i hi => write_on saW1.view gs g' _ hi]

/-- Off the lent slot the buffer of states may be taken as written already. -/
theorem sb_rest_any (p : S64x4x64x128.Idx → Elt F .f32) : (sbM.view.loc (c : Thread nD τ) ↦[Finset.univ \ sbW1.view.set]{fullShare} g : sProp 𝕄)
    = (sbM.view.loc (c : Thread nD τ) ↦[Finset.univ \ sbW1.view.set]{fullShare} sbW1.view.write (Elt F) g p Finset.univ) :=
  pointsTo_congr fun i hi => (write_off sbW1.view g p (Finset.mem_sdiff.mp hi).2).symm
theorem sa_rest_any (p : S64x4x64x128.Idx → Elt F .f32) : (saM.view.loc (c : Thread nD τ) ↦[Finset.univ \ saW1.view.set]{fullShare} gs : sProp 𝕄)
    = (saM.view.loc (c : Thread nD τ) ↦[Finset.univ \ saW1.view.set]{fullShare} saW1.view.write (Elt F) gs p Finset.univ) :=
  pointsTo_congr fun i hi => (write_off saW1.view gs p (Finset.mem_sdiff.mp hi).2).symm

/-- Chunk `n` on its way to slot 1: the two idle cells, the rest of the buffers the transfers take from and to, and the two transfers. -/
def fetching : sProp 𝕄 :=
  iprop(semVal ((c : Thread nD τ), SemLoc.dma ⟨28, by decide⟩) 0
    ∗ semVal ((c : Thread nD τ), SemLoc.dma ⟨30, by decide⟩) 0
    ∗ (sbM.view.loc (c : Thread nD τ) ↦[Finset.univ \ sbW1.view.set]{fullShare} sbW1.view.write (Elt F) g (ReadAs.same.apply ((stH n).view.read (Elt F) f9)) Finset.univ)
    ∗ (saM.view.loc (c : Thread nD τ) ↦[Finset.univ \ saW1.view.set]{fullShare} saW1.view.write (Elt F) gs (ReadAs.same.apply ((saH n).view.read (Elt F) f10)) Finset.univ)
    ∗ (stA.view.loc (c : Thread nD τ) ↦[Finset.univ \ (stH n).view.set]{fullShare} f9)
    ∗ (saA.view.loc (c : Thread nD τ) ↦[Finset.univ \ (saH n).view.set]{fullShare} f10)
    ∗ Transfers.Flight countersEmb (c : Thread nD τ) (SemLoc.dma ⟨29, by decide⟩) () 262144 (sbDue c n f9 g)
    ∗ Transfers.Flight countersEmb (c : Thread nD τ) (SemLoc.dma ⟨31, by decide⟩) () 262144 (saDue c n f10 gs))

/-- The same, what the waits give spelled out: chunk `n` on its way to slot 1: the two idle cells, the rest of the buffers the transfers take from and to, and the two transfers. -/
def arriving : sProp 𝕄 :=
  iprop(semVal ((c : Thread nD τ), SemLoc.dma ⟨28, by decide⟩) 0
    ∗ semVal ((c : Thread nD τ), SemLoc.dma ⟨30, by decide⟩) 0
    ∗ (sbM.view.loc (c : Thread nD τ) ↦[Finset.univ \ sbW1.view.set]{fullShare} sbW1.view.write (Elt F) g (ReadAs.same.apply ((stH n).view.read (Elt F) f9)) Finset.univ)
    ∗ (saM.view.loc (c : Thread nD τ) ↦[Finset.univ \ saW1.view.set]{fullShare} saW1.view.write (Elt F) gs (ReadAs.same.apply ((saH n).view.read (Elt F) f10)) Finset.univ)
    ∗ (stA.view.loc (c : Thread nD τ) ↦[Finset.univ \ (stH n).view.set]{fullShare} f9)
    ∗ (saA.view.loc (c : Thread nD τ) ↦[Finset.univ \ (saH n).view.set]{fullShare} f10)
    ∗ Transfers.Flight countersEmb (c : Thread nD τ) (SemLoc.dma ⟨29, by decide⟩) () 262144 iprop((sbM.view.loc (c : Thread nD τ) ↦[sbW1.view.set]{fullShare} sbW1.view.write (Elt F) g (ReadAs.same.apply ((stH n).view.read (Elt F) f9)) Finset.univ)
    ∗ (stA.view.loc (c : Thread nD τ) ↦[(stH n).view.set]{fullShare} f9))
    ∗ Transfers.Flight countersEmb (c : Thread nD τ) (SemLoc.dma ⟨31, by decide⟩) () 262144 iprop((saM.view.loc (c : Thread nD τ) ↦[saW1.view.set]{fullShare} saW1.view.write (Elt F) gs (ReadAs.same.apply ((saH n).view.read (Elt F) f10)) Finset.univ)
    ∗ (saA.view.loc (c : Thread nD τ) ↦[(saH n).view.set]{fullShare} f10)))

theorem fetching_eq : fetching (F := F) c n f9 f10 g gs = arriving c n f9 f10 g gs := rfl

/-- Nothing on its way: the four cells at zero and the four buffers whole. -/
def still : sProp 𝕄 :=
  iprop(semVal ((c : Thread nD τ), SemLoc.dma ⟨28, by decide⟩) 0
    ∗ semVal ((c : Thread nD τ), SemLoc.dma ⟨29, by decide⟩) 0
    ∗ semVal ((c : Thread nD τ), SemLoc.dma ⟨30, by decide⟩) 0
    ∗ semVal ((c : Thread nD τ), SemLoc.dma ⟨31, by decide⟩) 0
    ∗ (sbM.view.loc (c : Thread nD τ) ↦{fullShare} g)
    ∗ (saM.view.loc (c : Thread nD τ) ↦{fullShare} gs)
    ∗ (stA.view.loc (c : Thread nD τ) ↦{fullShare} f9)
    ∗ (saA.view.loc (c : Thread nD τ) ↦{fullShare} f10))
end

end

end Cert.KernelIdeal.Scan

end
-- ==== Proof.Scan.Res.lean ====
/- What the body of the kernel leaves behind at a grid point. -/
module

public import proofs.«01_k».proof.Proof.Scan.Mem

@[expose] public section

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI Idealize.ShloMosaic.Rounds
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- What the body of the kernel leaves: what the trips write, the rows of `dv`, and what the two fetched buffers hold. -/
structure Res (c : Dev nD) (arg11 arg12 arg13 arg14 arg15 arg16 : Memref sig .tc .vmem S128x512 .f32) where
  out : Outs (F := F) c arg11 arg12 arg13 arg14 arg15
  o16 : Buf (Elt F) (arg16.view.loc (c : Thread nD τ))
  g : Buf (Elt F) (sbM.view.loc (c : Thread nD τ))
  gs : Buf (Elt F) (saM.view.loc (c : Thread nD τ))

/-- A program reaches its postcondition if it reaches whatever follows from it. -/
theorem of_cps {α : Type} {P : sProp 𝕄} {W : (α → sProp 𝕄) → sProp 𝕄} {post : α → sProp 𝕄}
    (h : ∀ Q : α → sProp 𝕄, P ⊢ iprop((∀ u, post u -∗ Q u) -∗ W Q)) : P ⊢ W post := by
  iintro H
  iapply (h post) $$ H
  iintro %u H
  iexact H

end Cert.KernelIdeal.Scan

end
-- ==== Proof.Scan.RunFirst.lean ====
/- The body of the kernel run once at the first grid point: it starts the fetch of slot 1 itself. -/
module

public import proofs.«01_k».proof.Proof.Scan.Flat
public import proofs.«01_k».proof.Proof.Scan.Offs
public import proofs.«01_k».proof.Proof.Scan.Fetch
public import proofs.«01_k».proof.Proof.Scan.Res

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section
variable (c : Dev nD)
variable (arg1 : Memref sig .tc .vmem S128x512 .f32) (harg1 : arg1.IsWhole) (arg2 : Memref sig .tc .vmem S128x512 .f32) (harg2 : arg2.IsWhole)
  (arg3 : Memref sig .tc .vmem S128x512 .f32) (harg3 : arg3.IsWhole) (arg4 : Memref sig .tc .vmem S128x512 .f32) (harg4 : arg4.IsWhole)
  (arg5 : Memref sig .tc .vmem S128x512 .f32) (harg5 : arg5.IsWhole) (arg6 : Memref sig .tc .vmem S4x64x768 .bf16) (harg6 : arg6.IsWhole)
  (arg7 : Memref sig .tc .vmem S4x64x768 .bf16) (harg7 : arg7.IsWhole) (arg8 : Memref sig .tc .vmem S2x4x64x128 .f32) (harg8 : arg8.IsWhole)
  (arg11 : Memref sig .tc .vmem S128x512 .f32) (harg11 : arg11.IsWhole) (arg12 : Memref sig .tc .vmem S128x512 .f32) (harg12 : arg12.IsWhole)
  (arg13 : Memref sig .tc .vmem S128x512 .f32) (harg13 : arg13.IsWhole) (arg14 : Memref sig .tc .vmem S128x512 .f32) (harg14 : arg14.IsWhole)
  (arg15 : Memref sig .tc .vmem S128x512 .f32) (harg15 : arg15.IsWhole) (arg16 : Memref sig .tc .vmem S128x512 .f32) (harg16 : arg16.IsWhole)

set_option maxHeartbeats 8000000 in
/-- The body at the first grid point: it starts the fetch of slot 1 itself. What the buffers hold in the end is found by the run. -/
def runFirst (i : grid0.Coords) (h2 : k0_cond2 i = 1#1) (h3 : k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (dsM.view.loc (c : Thread nD τ))) (f20 : Buf (Elt F) (pkM.view.loc (c : Thread nD τ))) (f21 : Buf (Elt F) (dvM.view.loc (c : Thread nD τ))) (f18 : Buf (Elt F) (sbM.view.loc (c : Thread nD τ))) (f19 : Buf (Elt F) (saM.view.loc (c : Thread nD τ))) (f9 : Buf (Elt F) (stA.view.loc (c : Thread nD τ))) (f10 : Buf (Elt F) (saA.view.loc (c : Thread nD τ))) (Wt : Waits sig Unit) :
    { R : Res (F := F) c arg11 arg12 arg13 arg14 arg15 arg16 //
      (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (dsM.view.loc (c : Thread nD τ) ↦[dsM.view.set]{fullShare} f17) ∗ (pkM.view.loc (c : Thread nD τ) ↦[pkM.view.set]{fullShare} f20) ∗ (dvM.view.loc (c : Thread nD τ) ↦[dvM.view.set]{fullShare} f21) ∗ still c f9 f10 f18 f19 ∗ owes (c : Thread nD τ) 0 Wt) : sProp 𝕄) ⊢ wp frame (wpE (defs₀ (F := F)) 𝒱₀ (c : Thread nD τ) none) Set.univ
        (cc0_rwkv_scan_bwd (F := F) i arg1 harg1 arg2 harg2 arg3 harg3 arg4 harg4 arg5 harg5 arg6 harg6 arg7 harg7 arg8 harg8 stA (Memref.isWhole_whole _) saA (Memref.isWhole_whole _)
      arg11 harg11 arg12 harg12 arg13 harg13 arg14 harg14 arg15 harg15 arg16 harg16 dsM (Memref.isWhole_whole _) sbM (Memref.isWhole_whole _) saM (Memref.isWhole_whole _)
      pkM (Memref.isWhole_whole _) dvM (Memref.isWhole_whole _) cc0_scratch5)
        (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg11.view.loc (c : Thread nD τ) ↦[arg11.view.set]{fullShare} R.out.dr) ∗ (arg12.view.loc (c : Thread nD τ) ↦[arg12.view.set]{fullShare} R.out.dw) ∗ (arg13.view.loc (c : Thread nD τ) ↦[arg13.view.set]{fullShare} R.out.dk) ∗ (arg14.view.loc (c : Thread nD τ) ↦[arg14.view.set]{fullShare} R.out.da) ∗ (arg15.view.loc (c : Thread nD τ) ↦[arg15.view.set]{fullShare} R.out.db) ∗ (arg16.view.loc (c : Thread nD τ) ↦[arg16.view.set]{fullShare} R.o16) ∗ (dsM.view.loc (c : Thread nD τ) ↦[dsM.view.set]{fullShare} R.out.ds) ∗ (pkM.view.loc (c : Thread nD τ) ↦[pkM.view.set]{fullShare} R.out.pk) ∗ (dvM.view.loc (c : Thread nD τ) ↦[dvM.view.set]{fullShare} R.out.dv) ∗ fetching c (nx i) f9 f10 R.g R.gs ∗ ∃ W', owes (c : Thread nD τ) 0 W')) } := by
  refine ⟨⟨⟨?ds, ?pk, ?dv, ?dr, ?dw, ?dk, ?da, ?db⟩, ?o16, ?g, ?gs⟩, ?run⟩
  case run =>
    refine of_cps (F := F) (W := fun Q => wp frame (wpE (defs₀ (F := F)) 𝒱₀ (c : Thread nD τ) none) Set.univ _ Q) ?_
    intro Q
    beta_reduce
    unfold still
    iintro ⟨H1, H2, H3, H4, H5, H6, H7, H8, H11, H12, H13, H14, H15, H16, H17, H20, H21, ⟨S28, S29, S30, S31, H18, H19, H9, H10⟩, HO⟩ HK
    sl_unfold [cc0_rwkv_scan_bwd]
    set_option sl_exec.dmaWindow true in
    set_option sl_exec.dmaWindowSet true in
    sl_exec
    iapply (loop1F (F := F) c arg1 harg1 arg2 harg2 arg3 harg3 arg4 harg4 arg5 harg5 arg6 harg6 arg7 harg7 arg8 harg8 arg11 harg11 arg12 harg12 arg13 harg13 arg14 harg14 arg15 harg15 arg16 harg16 i _ _ _ _ _ _ _ _ _ _ _ _ _ _ _ _ _ _ _ _ _ _ _ _ _) $$ [H1 H2 H3 H4 H5 H6 H7 H18 H19 H17 H20 H21 H11 H12 H13 H14 H15]
    · unfold heldF
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H18]; · iexact H18
      isplitl [H19]; · iexact H19
      isplitl [H17]; · iexact H17
      isplitl [H20]; · iexact H20
      isplitl [H21]; · iexact H21
      isplitl [H11]; · iexact H11
      isplitl [H12]; · iexact H12
      isplitl [H13]; · iexact H13
      isplitl [H14]; · iexact H14
      iexact H15
    unfold heldF
    delta sbS1 saS1
    iintro %ds1 %pk1 %dv1 %dr1 %dw1 %dk1 %da1 %db1 %eds1 %epk1 %edv1 %edr1 %edw1 %edk1 %eda1 %edb1 ⟨H1, H2, H3, H4, H5, H6, H7, H18, H19, H17, H20, H21, H11, H12, H13, H14, H15⟩
    set_option sl_exec.dmaWindow true in
    set_option sl_exec.dmaWindowSet true in
    sl_exec
    iapply (loop2F (F := F) c arg1 harg1 arg2 harg2 arg3 harg3 arg4 harg4 arg5 harg5 arg6 harg6 arg7 harg7 arg8 harg8 arg11 harg11 arg12 harg12 arg13 harg13 arg14 harg14 arg15 harg15 arg16 harg16 i _ _ _ _ _ _ _ _ _ _ _ _ _ _ _ _ _ _ _ _ _ _ _ _ _) $$ [H1 H2 H3 H4 H5 H6 H7 H18 H19 H17 H20 H21 H11 H12 H13 H14 H15]
    · unfold heldF
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H18]; · iexact H18
      isplitl [H19]; · iexact H19
      isplitl [H17]; · iexact H17
      isplitl [H20]; · iexact H20
      isplitl [H21]; · iexact H21
      isplitl [H11]; · iexact H11
      isplitl [H12]; · iexact H12
      isplitl [H13]; · iexact H13
      isplitl [H14]; · iexact H14
      iexact H15
    unfold heldF
    delta sbS2 saS2
    iintro %ds2 %pk2 %dv2 %dr2 %dw2 %dk2 %da2 %db2 %eds2 %epk2 %edv2 %edr2 %edw2 %edk2 %eda2 %edb2 ⟨H1, H2, H3, H4, H5, H6, H7, H18, H19, H17, H20, H21, H11, H12, H13, H14, H15⟩
    sl_exec
    ihave H18 := (Entails.of_eq (sb_rest_any (F := F) c _ (ReadAs.same.apply ((stH (nx i)).view.read (Elt F) f9)))) $$ H18
    ihave S29 := (Transfers.Flight_mono countersEmb (c : Thread nD τ) (Entails.of_eq (sbDue_any (F := F) c (nx i) f9 _ _))) $$ [S29]
    · unfold sbDue; iexact S29
    ihave H19 := (Entails.of_eq (sa_rest_any (F := F) c _ (ReadAs.same.apply ((saH (nx i)).view.read (Elt F) f10)))) $$ H19
    ihave S31 := (Transfers.Flight_mono countersEmb (c : Thread nD τ) (Entails.of_eq (saDue_any (F := F) c (nx i) f10 _ _))) $$ [S31]
    · unfold saDue; iexact S31
    subst eds2 epk2 edv2 edr2 edw2 edk2 eda2 edb2 eds1 epk1 edv1 edr1 edw1 edk1 eda1 edb1
    rw [wp_ret]; imodintro
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H20]; · iexact H20
    isplitl [H21]; · iexact H21
    isplitr [HO]
    · unfold fetching
      isplitl [S28]; · iexact S28
      isplitl [S30]; · iexact S30
      isplitl [H18]; · iexact H18
      isplitl [H19]; · iexact H19
      isplitl [H9]; · iexact H9
      isplitl [H10]; · iexact H10
      isplitl [S29]; · iexact S29
      iexact S31
    iexists _
    iexact HO

end

end Cert.KernelIdeal.Scan

end
-- ==== Proof.Scan.RunMiddle.lean ====
/- The body of the kernel run once at a grid point between the first and the last. -/
module

public import proofs.«01_k».proof.Proof.Scan.Flat
public import proofs.«01_k».proof.Proof.Scan.Offs
public import proofs.«01_k».proof.Proof.Scan.Fetch
public import proofs.«01_k».proof.Proof.Scan.Res

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section
variable (c : Dev nD)
variable (arg1 : Memref sig .tc .vmem S128x512 .f32) (harg1 : arg1.IsWhole) (arg2 : Memref sig .tc .vmem S128x512 .f32) (harg2 : arg2.IsWhole)
  (arg3 : Memref sig .tc .vmem S128x512 .f32) (harg3 : arg3.IsWhole) (arg4 : Memref sig .tc .vmem S128x512 .f32) (harg4 : arg4.IsWhole)
  (arg5 : Memref sig .tc .vmem S128x512 .f32) (harg5 : arg5.IsWhole) (arg6 : Memref sig .tc .vmem S4x64x768 .bf16) (harg6 : arg6.IsWhole)
  (arg7 : Memref sig .tc .vmem S4x64x768 .bf16) (harg7 : arg7.IsWhole) (arg8 : Memref sig .tc .vmem S2x4x64x128 .f32) (harg8 : arg8.IsWhole)
  (arg11 : Memref sig .tc .vmem S128x512 .f32) (harg11 : arg11.IsWhole) (arg12 : Memref sig .tc .vmem S128x512 .f32) (harg12 : arg12.IsWhole)
  (arg13 : Memref sig .tc .vmem S128x512 .f32) (harg13 : arg13.IsWhole) (arg14 : Memref sig .tc .vmem S128x512 .f32) (harg14 : arg14.IsWhole)
  (arg15 : Memref sig .tc .vmem S128x512 .f32) (harg15 : arg15.IsWhole) (arg16 : Memref sig .tc .vmem S128x512 .f32) (harg16 : arg16.IsWhole)

set_option maxHeartbeats 8000000 in
/-- The body at a grid point between the first and the last. What the buffers hold in the end is found by the run. -/
def runMiddle (i : grid0.Coords) (h2 : ¬ k0_cond2 i = 1#1) (h3 : k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (dsM.view.loc (c : Thread nD τ))) (f20 : Buf (Elt F) (pkM.view.loc (c : Thread nD τ))) (f21 : Buf (Elt F) (dvM.view.loc (c : Thread nD τ))) (f18 : Buf (Elt F) (sbM.view.loc (c : Thread nD τ))) (f19 : Buf (Elt F) (saM.view.loc (c : Thread nD τ))) (f9 : Buf (Elt F) (stA.view.loc (c : Thread nD τ))) (f10 : Buf (Elt F) (saA.view.loc (c : Thread nD τ))) (Wt : Waits sig Unit) :
    { R : Res (F := F) c arg11 arg12 arg13 arg14 arg15 arg16 //
      (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (dsM.view.loc (c : Thread nD τ) ↦[dsM.view.set]{fullShare} f17) ∗ (pkM.view.loc (c : Thread nD τ) ↦[pkM.view.set]{fullShare} f20) ∗ (dvM.view.loc (c : Thread nD τ) ↦[dvM.view.set]{fullShare} f21) ∗ arriving c (hi i) f9 f10 f18 f19 ∗ owes (c : Thread nD τ) 0 Wt) : sProp 𝕄) ⊢ wp frame (wpE (defs₀ (F := F)) 𝒱₀ (c : Thread nD τ) none) Set.univ
        (cc0_rwkv_scan_bwd (F := F) i arg1 harg1 arg2 harg2 arg3 harg3 arg4 harg4 arg5 harg5 arg6 harg6 arg7 harg7 arg8 harg8 stA (Memref.isWhole_whole _) saA (Memref.isWhole_whole _)
      arg11 harg11 arg12 harg12 arg13 harg13 arg14 harg14 arg15 harg15 arg16 harg16 dsM (Memref.isWhole_whole _) sbM (Memref.isWhole_whole _) saM (Memref.isWhole_whole _)
      pkM (Memref.isWhole_whole _) dvM (Memref.isWhole_whole _) cc0_scratch5)
        (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg11.view.loc (c : Thread nD τ) ↦[arg11.view.set]{fullShare} R.out.dr) ∗ (arg12.view.loc (c : Thread nD τ) ↦[arg12.view.set]{fullShare} R.out.dw) ∗ (arg13.view.loc (c : Thread nD τ) ↦[arg13.view.set]{fullShare} R.out.dk) ∗ (arg14.view.loc (c : Thread nD τ) ↦[arg14.view.set]{fullShare} R.out.da) ∗ (arg15.view.loc (c : Thread nD τ) ↦[arg15.view.set]{fullShare} R.out.db) ∗ (arg16.view.loc (c : Thread nD τ) ↦[arg16.view.set]{fullShare} R.o16) ∗ (dsM.view.loc (c : Thread nD τ) ↦[dsM.view.set]{fullShare} R.out.ds) ∗ (pkM.view.loc (c : Thread nD τ) ↦[pkM.view.set]{fullShare} R.out.pk) ∗ (dvM.view.loc (c : Thread nD τ) ↦[dvM.view.set]{fullShare} R.out.dv) ∗ fetching c (nx i) f9 f10 R.g R.gs ∗ ∃ W', owes (c : Thread nD τ) 0 W')) } := by
  refine ⟨⟨⟨?ds, ?pk, ?dv, ?dr, ?dw, ?dk, ?da, ?db⟩, ?o16, ?g, ?gs⟩, ?run⟩
  case run =>
    refine of_cps (F := F) (W := fun Q => wp frame (wpE (defs₀ (F := F)) 𝒱₀ (c : Thread nD τ) none) Set.univ _ Q) ?_
    intro Q
    beta_reduce
    unfold arriving
    iintro ⟨H1, H2, H3, H4, H5, H6, H7, H8, H11, H12, H13, H14, H15, H16, H17, H20, H21, ⟨S28, S30, H18, H19, H9, H10, S29, S31⟩, HO⟩ HK
    sl_unfold [cc0_rwkv_scan_bwd]
    set_option sl_exec.dmaWindow true in
    set_option sl_exec.dmaWindowSet true in
    set_option sl_exec.rejoinStated true in
    sl_exec
    iapply (loop1F (F := F) c arg1 harg1 arg2 harg2 arg3 harg3 arg4 harg4 arg5 harg5 arg6 harg6 arg7 harg7 arg8 harg8 arg11 harg11 arg12 harg12 arg13 harg13 arg14 harg14 arg15 harg15 arg16 harg16 i _ _ _ _ _ _ _ _ _ _ _ _ _ _ _ _ _ _ _ _ _ _ _ _ _) $$ [H1 H2 H3 H4 H5 H6 H7 H18 H19 H17 H20 H21 H11 H12 H13 H14 H15]
    · unfold heldF
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H18]; · iexact H18
      isplitl [H19]; · iexact H19
      isplitl [H17]; · iexact H17
      isplitl [H20]; · iexact H20
      isplitl [H21]; · iexact H21
      isplitl [H11]; · iexact H11
      isplitl [H12]; · iexact H12
      isplitl [H13]; · iexact H13
      isplitl [H14]; · iexact H14
      iexact H15
    unfold heldF
    delta sbS1 saS1
    iintro %ds1 %pk1 %dv1 %dr1 %dw1 %dk1 %da1 %db1 %eds1 %epk1 %edv1 %edr1 %edw1 %edk1 %eda1 %edb1 ⟨H1, H2, H3, H4, H5, H6, H7, H18, H19, H17, H20, H21, H11, H12, H13, H14, H15⟩
    set_option sl_exec.dmaWindow true in
    set_option sl_exec.dmaWindowSet true in
    sl_exec
    iapply (loop2F (F := F) c arg1 harg1 arg2 harg2 arg3 harg3 arg4 harg4 arg5 harg5 arg6 harg6 arg7 harg7 arg8 harg8 arg11 harg11 arg12 harg12 arg13 harg13 arg14 harg14 arg15 harg15 arg16 harg16 i _ _ _ _ _ _ _ _ _ _ _ _ _ _ _ _ _ _ _ _ _ _ _ _ _) $$ [H1 H2 H3 H4 H5 H6 H7 H18 H19 H17 H20 H21 H11 H12 H13 H14 H15]
    · unfold heldF
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H18]; · iexact H18
      isplitl [H19]; · iexact H19
      isplitl [H17]; · iexact H17
      isplitl [H20]; · iexact H20
      isplitl [H21]; · iexact H21
      isplitl [H11]; · iexact H11
      isplitl [H12]; · iexact H12
      isplitl [H13]; · iexact H13
      isplitl [H14]; · iexact H14
      iexact H15
    unfold heldF
    delta sbS2 saS2
    iintro %ds2 %pk2 %dv2 %dr2 %dw2 %dk2 %da2 %db2 %eds2 %epk2 %edv2 %edr2 %edw2 %edk2 %eda2 %edb2 ⟨H1, H2, H3, H4, H5, H6, H7, H18, H19, H17, H20, H21, H11, H12, H13, H14, H15⟩
    sl_exec
    ihave H18 := (Entails.of_eq (sb_rest_any (F := F) c _ (ReadAs.same.apply ((stH (nx i)).view.read (Elt F) f9)))) $$ H18
    ihave S29 := (Transfers.Flight_mono countersEmb (c : Thread nD τ) (Entails.of_eq (sbDue_any (F := F) c (nx i) f9 _ _))) $$ [S29]
    · unfold sbDue; iexact S29
    ihave H19 := (Entails.of_eq (sa_rest_any (F := F) c _ (ReadAs.same.apply ((saH (nx i)).view.read (Elt F) f10)))) $$ H19
    ihave S31 := (Transfers.Flight_mono countersEmb (c : Thread nD τ) (Entails.of_eq (saDue_any (F := F) c (nx i) f10 _ _))) $$ [S31]
    · unfold saDue; iexact S31
    subst eds2 epk2 edv2 edr2 edw2 edk2 eda2 edb2 eds1 epk1 edv1 edr1 edw1 edk1 eda1 edb1
    rw [wp_ret]; imodintro
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H20]; · iexact H20
    isplitl [H21]; · iexact H21
    isplitr [HO]
    · unfold fetching
      isplitl [S28]; · iexact S28
      isplitl [S30]; · iexact S30
      isplitl [H18]; · iexact H18
      isplitl [H19]; · iexact H19
      isplitl [H9]; · iexact H9
      isplitl [H10]; · iexact H10
      isplitl [S29]; · iexact S29
      iexact S31
    iexists _
    iexact HO

end

end Cert.KernelIdeal.Scan

end
-- ==== Proof.Scan.RunLast.lean ====
/- The body of the kernel run once at the last grid point: nothing more is fetched. -/
module

public import proofs.«01_k».proof.Proof.Scan.Flat
public import proofs.«01_k».proof.Proof.Scan.Offs
public import proofs.«01_k».proof.Proof.Scan.Fetch
public import proofs.«01_k».proof.Proof.Scan.Res

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section
variable (c : Dev nD)
variable (arg1 : Memref sig .tc .vmem S128x512 .f32) (harg1 : arg1.IsWhole) (arg2 : Memref sig .tc .vmem S128x512 .f32) (harg2 : arg2.IsWhole)
  (arg3 : Memref sig .tc .vmem S128x512 .f32) (harg3 : arg3.IsWhole) (arg4 : Memref sig .tc .vmem S128x512 .f32) (harg4 : arg4.IsWhole)
  (arg5 : Memref sig .tc .vmem S128x512 .f32) (harg5 : arg5.IsWhole) (arg6 : Memref sig .tc .vmem S4x64x768 .bf16) (harg6 : arg6.IsWhole)
  (arg7 : Memref sig .tc .vmem S4x64x768 .bf16) (harg7 : arg7.IsWhole) (arg8 : Memref sig .tc .vmem S2x4x64x128 .f32) (harg8 : arg8.IsWhole)
  (arg11 : Memref sig .tc .vmem S128x512 .f32) (harg11 : arg11.IsWhole) (arg12 : Memref sig .tc .vmem S128x512 .f32) (harg12 : arg12.IsWhole)
  (arg13 : Memref sig .tc .vmem S128x512 .f32) (harg13 : arg13.IsWhole) (arg14 : Memref sig .tc .vmem S128x512 .f32) (harg14 : arg14.IsWhole)
  (arg15 : Memref sig .tc .vmem S128x512 .f32) (harg15 : arg15.IsWhole) (arg16 : Memref sig .tc .vmem S128x512 .f32) (harg16 : arg16.IsWhole)

set_option maxHeartbeats 8000000 in
/-- The body at the last grid point: nothing more is fetched. What the buffers hold in the end is found by the run. -/
def runLast (i : grid0.Coords) (h2 : ¬ k0_cond2 i = 1#1) (h3 : ¬ k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (dsM.view.loc (c : Thread nD τ))) (f20 : Buf (Elt F) (pkM.view.loc (c : Thread nD τ))) (f21 : Buf (Elt F) (dvM.view.loc (c : Thread nD τ))) (f18 : Buf (Elt F) (sbM.view.loc (c : Thread nD τ))) (f19 : Buf (Elt F) (saM.view.loc (c : Thread nD τ))) (f9 : Buf (Elt F) (stA.view.loc (c : Thread nD τ))) (f10 : Buf (Elt F) (saA.view.loc (c : Thread nD τ))) (Wt : Waits sig Unit) :
    { R : Res (F := F) c arg11 arg12 arg13 arg14 arg15 arg16 //
      (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (dsM.view.loc (c : Thread nD τ) ↦[dsM.view.set]{fullShare} f17) ∗ (pkM.view.loc (c : Thread nD τ) ↦[pkM.view.set]{fullShare} f20) ∗ (dvM.view.loc (c : Thread nD τ) ↦[dvM.view.set]{fullShare} f21) ∗ arriving c (hi i) f9 f10 f18 f19 ∗ owes (c : Thread nD τ) 0 Wt) : sProp 𝕄) ⊢ wp frame (wpE (defs₀ (F := F)) 𝒱₀ (c : Thread nD τ) none) Set.univ
        (cc0_rwkv_scan_bwd (F := F) i arg1 harg1 arg2 harg2 arg3 harg3 arg4 harg4 arg5 harg5 arg6 harg6 arg7 harg7 arg8 harg8 stA (Memref.isWhole_whole _) saA (Memref.isWhole_whole _)
      arg11 harg11 arg12 harg12 arg13 harg13 arg14 harg14 arg15 harg15 arg16 harg16 dsM (Memref.isWhole_whole _) sbM (Memref.isWhole_whole _) saM (Memref.isWhole_whole _)
      pkM (Memref.isWhole_whole _) dvM (Memref.isWhole_whole _) cc0_scratch5)
        (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg11.view.loc (c : Thread nD τ) ↦[arg11.view.set]{fullShare} R.out.dr) ∗ (arg12.view.loc (c : Thread nD τ) ↦[arg12.view.set]{fullShare} R.out.dw) ∗ (arg13.view.loc (c : Thread nD τ) ↦[arg13.view.set]{fullShare} R.out.dk) ∗ (arg14.view.loc (c : Thread nD τ) ↦[arg14.view.set]{fullShare} R.out.da) ∗ (arg15.view.loc (c : Thread nD τ) ↦[arg15.view.set]{fullShare} R.out.db) ∗ (arg16.view.loc (c : Thread nD τ) ↦[arg16.view.set]{fullShare} R.o16) ∗ (dsM.view.loc (c : Thread nD τ) ↦[dsM.view.set]{fullShare} R.out.ds) ∗ (pkM.view.loc (c : Thread nD τ) ↦[pkM.view.set]{fullShare} R.out.pk) ∗ (dvM.view.loc (c : Thread nD τ) ↦[dvM.view.set]{fullShare} R.out.dv) ∗ still c f9 f10 R.g R.gs ∗ ∃ W', owes (c : Thread nD τ) 0 W')) } := by
  refine ⟨⟨⟨?ds, ?pk, ?dv, ?dr, ?dw, ?dk, ?da, ?db⟩, ?o16, ?g, ?gs⟩, ?run⟩
  case run =>
    refine of_cps (F := F) (W := fun Q => wp frame (wpE (defs₀ (F := F)) 𝒱₀ (c : Thread nD τ) none) Set.univ _ Q) ?_
    intro Q
    beta_reduce
    unfold arriving still
    iintro ⟨H1, H2, H3, H4, H5, H6, H7, H8, H11, H12, H13, H14, H15, H16, H17, H20, H21, ⟨S28, S30, H18, H19, H9, H10, S29, S31⟩, HO⟩ HK
    sl_unfold [cc0_rwkv_scan_bwd]
    set_option sl_exec.dmaWindow true in
    set_option sl_exec.dmaWindowSet true in
    set_option sl_exec.rejoinStated true in
    sl_exec
    iapply (loop1F (F := F) c arg1 harg1 arg2 harg2 arg3 harg3 arg4 harg4 arg5 harg5 arg6 harg6 arg7 harg7 arg8 harg8 arg11 harg11 arg12 harg12 arg13 harg13 arg14 harg14 arg15 harg15 arg16 harg16 i _ _ _ _ _ _ _ _ _ _ _ _ _ _ _ _ _ _ _ _ _ _ _ _ _) $$ [H1 H2 H3 H4 H5 H6 H7 H18 H19 H17 H20 H21 H11 H12 H13 H14 H15]
    · unfold heldF
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H18]; · iexact H18
      isplitl [H19]; · iexact H19
      isplitl [H17]; · iexact H17
      isplitl [H20]; · iexact H20
      isplitl [H21]; · iexact H21
      isplitl [H11]; · iexact H11
      isplitl [H12]; · iexact H12
      isplitl [H13]; · iexact H13
      isplitl [H14]; · iexact H14
      iexact H15
    unfold heldF
    delta sbS1 saS1
    iintro %ds1 %pk1 %dv1 %dr1 %dw1 %dk1 %da1 %db1 %eds1 %epk1 %edv1 %edr1 %edw1 %edk1 %eda1 %edb1 ⟨H1, H2, H3, H4, H5, H6, H7, H18, H19, H17, H20, H21, H11, H12, H13, H14, H15⟩
    set_option sl_exec.dmaWindow true in
    set_option sl_exec.dmaWindowSet true in
    sl_exec
    ihave XH18 := (sb_parts (F := F) c _) $$ H18
    icases XH18 with ⟨H18_2, H18⟩
    ihave XH19 := (sa_parts (F := F) c _) $$ H19
    icases XH19 with ⟨H19_2, H19⟩
    iapply (loop2F (F := F) c arg1 harg1 arg2 harg2 arg3 harg3 arg4 harg4 arg5 harg5 arg6 harg6 arg7 harg7 arg8 harg8 arg11 harg11 arg12 harg12 arg13 harg13 arg14 harg14 arg15 harg15 arg16 harg16 i _ _ _ _ _ _ _ _ _ _ _ _ _ _ _ _ _ _ _ _ _ _ _ _ _) $$ [H1 H2 H3 H4 H5 H6 H7 H18 H19 H17 H20 H21 H11 H12 H13 H14 H15]
    · unfold heldF
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H18]; · iexact H18
      isplitl [H19]; · iexact H19
      isplitl [H17]; · iexact H17
      isplitl [H20]; · iexact H20
      isplitl [H21]; · iexact H21
      isplitl [H11]; · iexact H11
      isplitl [H12]; · iexact H12
      isplitl [H13]; · iexact H13
      isplitl [H14]; · iexact H14
      iexact H15
    unfold heldF
    delta sbS2 saS2
    iintro %ds2 %pk2 %dv2 %dr2 %dw2 %dk2 %da2 %db2 %eds2 %epk2 %edv2 %edr2 %edw2 %edk2 %eda2 %edb2 ⟨H1, H2, H3, H4, H5, H6, H7, H18, H19, H17, H20, H21, H11, H12, H13, H14, H15⟩
    sl_exec
    ihave H18 := (sb_whole (F := F) c _) $$ [H18_2 H18]
    · isplitl [H18_2]; · iexact H18_2
      iexact H18
    ihave H19 := (sa_whole (F := F) c _) $$ [H19_2 H19]
    · isplitl [H19_2]; · iexact H19_2
      iexact H19
    subst eds2 epk2 edv2 edr2 edw2 edk2 eda2 edb2 eds1 epk1 edv1 edr1 edw1 edk1 eda1 edb1
    rw [wp_ret]; imodintro
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H20]; · iexact H20
    isplitl [H21]; · iexact H21
    isplitr [HO]
    · isplitl [S28]; · iexact S28
      isplitl [S29]; · iexact S29
      isplitl [S30]; · iexact S30
      isplitl [S31]; · iexact S31
      isplitl [H18]; · iexact H18
      isplitl [H19]; · iexact H19
      isplitl [H9]; · iexact H9
      iexact H10
    iexists _
    iexact HO

end

end Cert.KernelIdeal.Scan

end
-- ==== Proof.Scan.Step.lean ====
/- The body of the kernel at any grid point, what it leaves forgotten but that it gives back what it was lent. -/
module

public import proofs.«01_k».proof.Proof.Scan.RunFirst
public import proofs.«01_k».proof.Proof.Scan.RunMiddle
public import proofs.«01_k».proof.Proof.Scan.RunLast
public import proofs.«01_k».proof.Proof.Gen.KernelIdeal.Launch
public import proofs.«01_k».proof.Proof.Gen.KernelIdeal.Points

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section
variable (c : Dev nD)

/-- The three scratch buffers the fetches do not touch, at any contents. -/
def spare : sProp 𝕄 :=
  iprop((∃ f, dsM.view.loc (c : Thread nD τ) ↦[dsM.view.set]{fullShare} f) ∗ (∃ f, pkM.view.loc (c : Thread nD τ) ↦[pkM.view.set]{fullShare} f)
    ∗ (∃ f, dvM.view.loc (c : Thread nD τ) ↦[dvM.view.set]{fullShare} f))
section
variable (f9 : Buf (Elt F) (stA.view.loc (c : Thread nD τ))) (f10 : Buf (Elt F) (saA.view.loc (c : Thread nD τ)))
/-- No fetch under way. -/
def stillAny : sProp 𝕄 := iprop(∃ g gs, still c f9 f10 g gs)
/-- Half-chunk `n` being fetched. -/
def fetchAny (n : Fin 32) : sProp 𝕄 := iprop(∃ g gs, fetching c n f9 f10 g gs)
end
/-- Anything waited for, nothing owed. -/
def free : sProp 𝕄 := iprop(∃ W : Waits sig Unit, owes (c : Thread nD τ) 0 W)

variable (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S4x64x768 .bf16) (harg6 : arg6.IsWhole) (arg7 : Memref sig .tc .vmem S4x64x768 .bf16) (harg7 : arg7.IsWhole) (arg8 : Memref sig .tc .vmem S2x4x64x128 .f32) (harg8 : arg8.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole)

/-- The outputs' buffers at any contents. -/
def outB : sProp 𝕄 :=
  iprop((∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))

variable (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ)))
/-- The inputs' buffers. -/
def inB : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

variable (f9 : Buf (Elt F) (stA.view.loc (c : Thread nD τ))) (f10 : Buf (Elt F) (saA.view.loc (c : Thread nD τ)))

/-- The body at the first grid point. -/
theorem stepFirst (i : grid0.Coords) (h2 : k0_cond2 i = 1#1) (h3 : k0_cond3 i = 1#1) :
    (iprop(inB c arg1 arg2 arg3 arg4 arg5 arg6 arg7 arg8 f1 f2 f3 f4 f5 f6 f7 f8 ∗ outB (F := F) c arg11 arg12 arg13 arg14 arg15 arg16 ∗ spare c ∗ stillAny c f9 f10 ∗ free c) : sProp 𝕄) ⊢ wp frame (wpE (defs₀ (F := F)) 𝒱₀ (c : Thread nD τ) none) Set.univ
      (cc0_rwkv_scan_bwd (F := F) i arg1 harg1 arg2 harg2 arg3 harg3 arg4 harg4 arg5 harg5 arg6 harg6 arg7 harg7 arg8 harg8 stA (Memref.isWhole_whole _) saA (Memref.isWhole_whole _)
      arg11 harg11 arg12 harg12 arg13 harg13 arg14 harg14 arg15 harg15 arg16 harg16 dsM (Memref.isWhole_whole _) sbM (Memref.isWhole_whole _) saM (Memref.isWhole_whole _)
      pkM (Memref.isWhole_whole _) dvM (Memref.isWhole_whole _) cc0_scratch5)
      (fun _ => iprop(inB c arg1 arg2 arg3 arg4 arg5 arg6 arg7 arg8 f1 f2 f3 f4 f5 f6 f7 f8 ∗ outB (F := F) c arg11 arg12 arg13 arg14 arg15 arg16 ∗ spare c ∗ fetchAny c f9 f10 (nx i) ∗ free c)) := by
  unfold inB outB spare stillAny fetchAny free
  iintro ⟨⟨H1, H2, H3, H4, H5, H6, H7, H8⟩, ⟨⟨%f11, H11⟩, ⟨%f12, H12⟩, ⟨%f13, H13⟩, ⟨%f14, H14⟩, ⟨%f15, H15⟩, ⟨%f16, H16⟩⟩, ⟨⟨%f17, H17⟩, ⟨%f20, H20⟩, ⟨%f21, H21⟩⟩, ⟨%g, %gs, HF⟩, ⟨%Wt, HO⟩⟩
  iapply (wp_wand_r frame (wpE (defs₀ (F := F)) 𝒱₀ (c : Thread nD τ) none) Set.univ (Q := _))
  isplitl [H1 H2 H3 H4 H5 H6 H7 H8 H11 H12 H13 H14 H15 H16 H17 H20 H21 HF HO]
  · iapply (runFirst (F := F) c arg1 harg1 arg2 harg2 arg3 harg3 arg4 harg4 arg5 harg5 arg6 harg6 arg7 harg7 arg8 harg8 arg11 harg11 arg12 harg12 arg13 harg13 arg14 harg14 arg15 harg15 arg16 harg16 i h2 h3 f1 f2 f3 f4 f5 f6 f7 f8 f11 f12 f13 f14 f15 f16 f17 f20 f21 g gs f9 f10 Wt).2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H20]; · iexact H20
    isplitl [H21]; · iexact H21
    isplitl [HF]; · iexact HF
    iexact HO
  iintro %u ⟨H1, H2, H3, H4, H5, H6, H7, H8, H11, H12, H13, H14, H15, H16, H17, H20, H21, HF, HO⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H11 H12 H13 H14 H15 H16]
  · isplitl [H11]; · iexists _; iexact H11
    isplitl [H12]; · iexists _; iexact H12
    isplitl [H13]; · iexists _; iexact H13
    isplitl [H14]; · iexists _; iexact H14
    isplitl [H15]; · iexists _; iexact H15
    iexists _; iexact H16
  isplitl [H17 H20 H21]
  · isplitl [H17]; · iexists _; iexact H17
    isplitl [H20]; · iexists _; iexact H20
    iexists _; iexact H21
  isplitl [HF]; · iexists _, _; iexact HF
  iexact HO

/-- The body at a grid point between the first and the last. -/
theorem stepMiddle (i : grid0.Coords) (h2 : ¬ k0_cond2 i = 1#1) (h3 : k0_cond3 i = 1#1) :
    (iprop(inB c arg1 arg2 arg3 arg4 arg5 arg6 arg7 arg8 f1 f2 f3 f4 f5 f6 f7 f8 ∗ outB (F := F) c arg11 arg12 arg13 arg14 arg15 arg16 ∗ spare c ∗ fetchAny c f9 f10 (hi i) ∗ free c) : sProp 𝕄) ⊢ wp frame (wpE (defs₀ (F := F)) 𝒱₀ (c : Thread nD τ) none) Set.univ
      (cc0_rwkv_scan_bwd (F := F) i arg1 harg1 arg2 harg2 arg3 harg3 arg4 harg4 arg5 harg5 arg6 harg6 arg7 harg7 arg8 harg8 stA (Memref.isWhole_whole _) saA (Memref.isWhole_whole _)
      arg11 harg11 arg12 harg12 arg13 harg13 arg14 harg14 arg15 harg15 arg16 harg16 dsM (Memref.isWhole_whole _) sbM (Memref.isWhole_whole _) saM (Memref.isWhole_whole _)
      pkM (Memref.isWhole_whole _) dvM (Memref.isWhole_whole _) cc0_scratch5)
      (fun _ => iprop(inB c arg1 arg2 arg3 arg4 arg5 arg6 arg7 arg8 f1 f2 f3 f4 f5 f6 f7 f8 ∗ outB (F := F) c arg11 arg12 arg13 arg14 arg15 arg16 ∗ spare c ∗ fetchAny c f9 f10 (nx i) ∗ free c)) := by
  unfold inB outB spare fetchAny free
  iintro ⟨⟨H1, H2, H3, H4, H5, H6, H7, H8⟩, ⟨⟨%f11, H11⟩, ⟨%f12, H12⟩, ⟨%f13, H13⟩, ⟨%f14, H14⟩, ⟨%f15, H15⟩, ⟨%f16, H16⟩⟩, ⟨⟨%f17, H17⟩, ⟨%f20, H20⟩, ⟨%f21, H21⟩⟩, ⟨%g, %gs, HF⟩, ⟨%Wt, HO⟩⟩
  ihave HF := (Entails.of_eq (fetching_eq (F := F) c (hi i) f9 f10 g gs)) $$ HF
  iapply (wp_wand_r frame (wpE (defs₀ (F := F)) 𝒱₀ (c : Thread nD τ) none) Set.univ (Q := _))
  isplitl [H1 H2 H3 H4 H5 H6 H7 H8 H11 H12 H13 H14 H15 H16 H17 H20 H21 HF HO]
  · iapply (runMiddle (F := F) c arg1 harg1 arg2 harg2 arg3 harg3 arg4 harg4 arg5 harg5 arg6 harg6 arg7 harg7 arg8 harg8 arg11 harg11 arg12 harg12 arg13 harg13 arg14 harg14 arg15 harg15 arg16 harg16 i h2 h3 f1 f2 f3 f4 f5 f6 f7 f8 f11 f12 f13 f14 f15 f16 f17 f20 f21 g gs f9 f10 Wt).2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H20]; · iexact H20
    isplitl [H21]; · iexact H21
    isplitl [HF]; · iexact HF
    iexact HO
  iintro %u ⟨H1, H2, H3, H4, H5, H6, H7, H8, H11, H12, H13, H14, H15, H16, H17, H20, H21, HF, HO⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H11 H12 H13 H14 H15 H16]
  · isplitl [H11]; · iexists _; iexact H11
    isplitl [H12]; · iexists _; iexact H12
    isplitl [H13]; · iexists _; iexact H13
    isplitl [H14]; · iexists _; iexact H14
    isplitl [H15]; · iexists _; iexact H15
    iexists _; iexact H16
  isplitl [H17 H20 H21]
  · isplitl [H17]; · iexists _; iexact H17
    isplitl [H20]; · iexists _; iexact H20
    iexists _; iexact H21
  isplitl [HF]; · iexists _, _; iexact HF
  iexact HO

/-- The body at the last grid point. -/
theorem stepLast (i : grid0.Coords) (h2 : ¬ k0_cond2 i = 1#1) (h3 : ¬ k0_cond3 i = 1#1) :
    (iprop(inB c arg1 arg2 arg3 arg4 arg5 arg6 arg7 arg8 f1 f2 f3 f4 f5 f6 f7 f8 ∗ outB (F := F) c arg11 arg12 arg13 arg14 arg15 arg16 ∗ spare c ∗ fetchAny c f9 f10 (hi i) ∗ free c) : sProp 𝕄) ⊢ wp frame (wpE (defs₀ (F := F)) 𝒱₀ (c : Thread nD τ) none) Set.univ
      (cc0_rwkv_scan_bwd (F := F) i arg1 harg1 arg2 harg2 arg3 harg3 arg4 harg4 arg5 harg5 arg6 harg6 arg7 harg7 arg8 harg8 stA (Memref.isWhole_whole _) saA (Memref.isWhole_whole _)
      arg11 harg11 arg12 harg12 arg13 harg13 arg14 harg14 arg15 harg15 arg16 harg16 dsM (Memref.isWhole_whole _) sbM (Memref.isWhole_whole _) saM (Memref.isWhole_whole _)
      pkM (Memref.isWhole_whole _) dvM (Memref.isWhole_whole _) cc0_scratch5)
      (fun _ => iprop(inB c arg1 arg2 arg3 arg4 arg5 arg6 arg7 arg8 f1 f2 f3 f4 f5 f6 f7 f8 ∗ outB (F := F) c arg11 arg12 arg13 arg14 arg15 arg16 ∗ spare c ∗ stillAny c f9 f10 ∗ free c)) := by
  unfold inB outB spare stillAny fetchAny free
  iintro ⟨⟨H1, H2, H3, H4, H5, H6, H7, H8⟩, ⟨⟨%f11, H11⟩, ⟨%f12, H12⟩, ⟨%f13, H13⟩, ⟨%f14, H14⟩, ⟨%f15, H15⟩, ⟨%f16, H16⟩⟩, ⟨⟨%f17, H17⟩, ⟨%f20, H20⟩, ⟨%f21, H21⟩⟩, ⟨%g, %gs, HF⟩, ⟨%Wt, HO⟩⟩
  ihave HF := (Entails.of_eq (fetching_eq (F := F) c (hi i) f9 f10 g gs)) $$ HF
  iapply (wp_wand_r frame (wpE (defs₀ (F := F)) 𝒱₀ (c : Thread nD τ) none) Set.univ (Q := _))
  isplitl [H1 H2 H3 H4 H5 H6 H7 H8 H11 H12 H13 H14 H15 H16 H17 H20 H21 HF HO]
  · iapply (runLast (F := F) c arg1 harg1 arg2 harg2 arg3 harg3 arg4 harg4 arg5 harg5 arg6 harg6 arg7 harg7 arg8 harg8 arg11 harg11 arg12 harg12 arg13 harg13 arg14 harg14 arg15 harg15 arg16 harg16 i h2 h3 f1 f2 f3 f4 f5 f6 f7 f8 f11 f12 f13 f14 f15 f16 f17 f20 f21 g gs f9 f10 Wt).2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H20]; · iexact H20
    isplitl [H21]; · iexact H21
    isplitl [HF]; · iexact HF
    iexact HO
  iintro %u ⟨H1, H2, H3, H4, H5, H6, H7, H8, H11, H12, H13, H14, H15, H16, H17, H20, H21, HF, HO⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H11 H12 H13 H14 H15 H16]
  · isplitl [H11]; · iexists _; iexact H11
    isplitl [H12]; · iexists _; iexact H12
    isplitl [H13]; · iexists _; iexact H13
    isplitl [H14]; · iexists _; iexact H14
    isplitl [H15]; · iexists _; iexact H15
    iexists _; iexact H16
  isplitl [H17 H20 H21]
  · isplitl [H17]; · iexists _; iexact H17
    isplitl [H20]; · iexists _; iexact H20
    iexists _; iexact H21
  isplitl [HF]; · iexists _, _; iexact HF
  iexact HO

end

end Cert.KernelIdeal.Scan

end
-- ==== Proof.Scan.Host.lean ====
/- The host part of the kernel's program before the call: the loop that recomputes the states, and the layout changes. -/
module

public import proofs.«01_k».proof.Proof.Scan.Mem
public import proofs.«01_k».proof.Proof.Gen.KernelIdeal.Launch
public import Idealize.ShloMosaic.Lib.Pipeline.RegionsLoop
public import Idealize.ShloMosaic.Lib.Pipeline.RegionsOwned
public import Idealize.ShloMosaic.Lib.StableHlo.RunLoop
public import Idealize.ShloMosaic.Lib.Scf.ExitTest
public import Idealize.ShloMosaic.Lib.Scf.Counter

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- The arguments. -/
abbrev argRefs : List (Ref sig .tc) := [main_arg0, main_arg1, main_arg2, main_arg3, main_arg4, main_arg5, main_arg6]

theorem hostOps0_fresh : (hostOps0 : List (HloOp τ sig (Elt F))).Forall fun op => op.fresh = ∅ := by
  simp only [List.Forall]; repeat' constructor
/-- What `hostOps0` writes, in order. -/
abbrev hostOps0_W : List (Ref sig .tc) := [main_cst, main_v0, main_v1, main_v2, main_v3, main_v4, main_v5, main_cst_0, main_v6, main_cst_1, main_v7, main_c, main_v8_0, main_v8_1, main_v8_2, main_v8_3, main_v8_4, main_v8_5, main_v8_6, main_v8_7, main_v8_8]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := by decide

theorem hostOps0_1_fresh : (hostOps0_1 : List (HloOp τ sig (Elt F))).Forall fun op => op.fresh = ∅ := by
  simp only [List.Forall]; repeat' constructor
/-- What `hostOps0_1` writes, in order. -/
abbrev hostOps0_1_W : List (Ref sig .tc) := [main_v9, main_v10, main_v11, main_v12, main_v13, main_v14, main_v15, main_v16, main_cst_2, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := by decide

/-- What `while0Ops0` writes, in order. -/
abbrev while0Ops0_W : List (Ref sig .tc) := [main_while0b_call0_c, main_while0b_call0_c_0, main_while0b_call0_v0, main_while0b_v52]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_args : ∀ a ∈ argRefs, a ∉ while0Ops0_W := by decide

/-- What `while0Ops0_1` writes, in order. -/
abbrev while0Ops0_1_W : List (Ref sig .tc) := [main_while0b_call1_c, main_while0b_call1_c_0, main_while0b_call1_v0, main_while0b_v53]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_1_args : ∀ a ∈ argRefs, a ∉ while0Ops0_1_W := by decide

/-- What `while0Ops0_2` writes, in order. -/
abbrev while0Ops0_2_W : List (Ref sig .tc) := [main_while0b_call2_c, main_while0b_call2_c_0, main_while0b_call2_v0, main_while0b_v54]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_2_args : ∀ a ∈ argRefs, a ∉ while0Ops0_2_W := by decide

/-- What `while0Ops0_3` writes, in order. -/
abbrev while0Ops0_3_W : List (Ref sig .tc) := [main_while0b_call3_c, main_while0b_call3_c_0, main_while0b_call3_v0, main_while0b_v55]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_3_args : ∀ a ∈ argRefs, a ∉ while0Ops0_3_W := by decide

/-- What `while0Ops0_4` writes, in order. -/
abbrev while0Ops0_4_W : List (Ref sig .tc) := [main_while0b_call4_c, main_while0b_call4_c_0, main_while0b_call4_v0, main_while0b_v56]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_4_args : ∀ a ∈ argRefs, a ∉ while0Ops0_4_W := by decide

/-- What `while0Ops0_5` writes, in order. -/
abbrev while0Ops0_5_W : List (Ref sig .tc) := [main_while0b_v57, main_while0b_v58, main_while0b_v59, main_while0b_v60, main_while0b_v61, main_while0b_v62, main_while0b_v63, main_while0b_v64, main_while0b_v65, main_while0b_v66, main_while0b_v67, main_while0b_v68, main_while0b_v69, main_while0b_v70, main_while0b_v71, main_while0b_v72]
theorem while0Ops0_5_writes : (while0Ops0_5 : List (HloOp τ sig (Elt F))).Forall fun op => op.writes ⊆ (while0Ops0_5_W.map (Proc.devRef (τ := τ) .tc)).toFinset :=
  StableHlo.forall_writes_sub_of_map rfl
theorem while0Ops0_5_args : ∀ a ∈ argRefs, a ∉ while0Ops0_5_W := by decide

/-- What `while0Ops0_6` writes, in order. -/
abbrev while0Ops0_6_W : List (Ref sig .tc) := [main_while0b_call5_v0, main_while0b_call5_c, main_while0b_call5_c_0, main_while0b_call5_c_1, main_while0b_v73]
theorem while0Ops0_6_writes : (while0Ops0_6 : List (HloOp τ sig (Elt F))).Forall fun op => op.writes ⊆ (while0Ops0_6_W.map (Proc.devRef (τ := τ) .tc)).toFinset :=
  StableHlo.forall_writes_sub_of_map rfl
theorem while0Ops0_6_args : ∀ a ∈ argRefs, a ∉ while0Ops0_6_W := by decide

/-- What `while0Ops0_7` writes, in order. -/
abbrev while0Ops0_7_W : List (Ref sig .tc) := [main_while0b_call6_v0, main_while0b_call6_c, main_while0b_call6_c_0, main_while0b_v74]
theorem while0Ops0_7_writes : (while0Ops0_7 : List (HloOp τ sig (Elt F))).Forall fun op => op.writes ⊆ (while0Ops0_7_W.map (Proc.devRef (τ := τ) .tc)).toFinset :=
  StableHlo.forall_writes_sub_of_map rfl
theorem while0Ops0_7_args : ∀ a ∈ argRefs, a ∉ while0Ops0_7_W := by decide

/-- What `while0Ops0_8` writes, in order. -/
abbrev while0Ops0_8_W : List (Ref sig .tc) := [main_while0b_c_11, main_while0b_v75, main_v8_5, main_v8_6, main_v8_7, main_v8_8]
theorem while0Ops0_8_writes : (while0Ops0_8 : List (HloOp τ sig (Elt F))).Forall fun op => op.writes ⊆ (while0Ops0_8_W.map (Proc.devRef (τ := τ) .tc)).toFinset :=
  StableHlo.forall_writes_sub_of_map rfl
theorem while0Ops0_8_args : ∀ a ∈ argRefs, a ∉ while0Ops0_8_W := by decide

variable (m : (ℓ : Loc nD τ sig) → Buf (Elt F) ℓ)

/-- The buffers at launch; when the loop is entered. -/
abbrev W0 : Dev nD → Valuation τ sig (Elt F) := fun c b => m (c, b)
abbrev Went : Dev nD → Valuation τ sig (Elt F) := fun c => StableHlo.after hostOps0 (W0 m c)

theorem Went_args (c : Dev nD) (a : Ref sig .tc) (ha : a ∈ argRefs) : Went m c (Proc.devRef .tc a) = m ((c : Thread nD τ).loc a) :=
  StableHlo.after_of_writes_sub hostOps0 _ hostOps0_writes (hostOps0_args a ha)
theorem Went_ctr (c : Dev nD) : Went m c (Proc.devRef .tc main_v8_5) = fun _ => (0#32 : BitVec 32) := by
  simp only [Went]
  open StableHlo in after_results
  rfl

section
open Idealize.ShloMosaic.StableHlo
/-- The two operations of the condition of loop 0. -/
abbrev cond0 : List (HloOp τ sig (Elt F)) :=
  [ StableHlo.nullary main_while0c_c_11 (constantI S_ 32 2048#32),
    StableHlo.binary main_v8_5 main_while0c_c_11 main_while0c_v52 (cmpi .slt) ]
/-- The stretches of the body of loop 0. -/
abbrev body0 : List (List (HloOp τ sig (Elt F))) := [while0Ops0, while0Ops0_1, while0Ops0_2, while0Ops0_3, while0Ops0_4, while0Ops0_5, while0Ops0_6, while0Ops0_7, while0Ops0_8]
theorem body0_plain : Plain (body0 (F := F)) := .cons while0Ops0_sub <| .cons while0Ops0_1_sub <| .cons while0Ops0_2_sub <| .cons while0Ops0_3_sub <| .cons while0Ops0_4_sub <| .cons while0Ops0_5_sub <| .cons while0Ops0_6_sub <| .cons while0Ops0_7_sub <| .cons while0Ops0_8_sub <| .nil
end
/-- What `cond0` writes, in order. -/
abbrev cond0_W : List (Ref sig .tc) := [main_while0c_c_11, main_while0c_v52]
theorem cond0_writes : (cond0 : List (HloOp τ sig (Elt F))).Forall fun op => op.writes ⊆ (cond0_W.map (Proc.devRef (τ := τ) .tc)).toFinset :=
  StableHlo.forall_writes_sub_of_map rfl
theorem cond0_args : ∀ a ∈ argRefs, a ∉ cond0_W := by decide

/-- The buffers before the `k`-th condition of loop 0, and after the loop. -/
abbrev at0 (k : ℕ) (c : Dev nD) : Valuation τ sig (Elt F) := StableHlo.atTrip cond0 body0 (Went m) k c
abbrev exit0 : Dev nD → Valuation τ sig (Elt F) := fun c => StableHlo.after cond0 (StableHlo.atTrip cond0 body0 (Went m) 2048 c)

/-- A trip of loop 0 leaves the arguments. -/
theorem trip0_args (V : Valuation τ sig (Elt F)) (a : Ref sig .tc) (ha : a ∈ argRefs) :
    StableHlo.afterL body0 (StableHlo.after cond0 V) (Proc.devRef .tc a) = V (Proc.devRef .tc a) := by
  simp only [StableHlo.afterL_cons, StableHlo.afterL_nil]
  rw [StableHlo.after_of_writes_sub while0Ops0_8 _ while0Ops0_8_writes (while0Ops0_8_args a ha), StableHlo.after_of_writes_sub while0Ops0_7 _ while0Ops0_7_writes (while0Ops0_7_args a ha), StableHlo.after_of_writes_sub while0Ops0_6 _ while0Ops0_6_writes (while0Ops0_6_args a ha), StableHlo.after_of_writes_sub while0Ops0_5 _ while0Ops0_5_writes (while0Ops0_5_args a ha), StableHlo.after_of_writes_sub while0Ops0_4 _ while0Ops0_4_writes (while0Ops0_4_args a ha), StableHlo.after_of_writes_sub while0Ops0_3 _ while0Ops0_3_writes (while0Ops0_3_args a ha), StableHlo.after_of_writes_sub while0Ops0_2 _ while0Ops0_2_writes (while0Ops0_2_args a ha), StableHlo.after_of_writes_sub while0Ops0_1 _ while0Ops0_1_writes (while0Ops0_1_args a ha), StableHlo.after_of_writes_sub while0Ops0 _ while0Ops0_writes (while0Ops0_args a ha), StableHlo.after_of_writes_sub cond0 _ cond0_writes (cond0_args a ha)]
theorem at0_args (c : Dev nD) : ∀ k, ∀ a ∈ argRefs, at0 m k c (Proc.devRef .tc a) = Went m c (Proc.devRef .tc a)
  | 0 => fun _ _ => rfl
  | k + 1 => fun a ha => (trip0_args _ a ha).trans (at0_args c k a ha)
theorem exit0_args (c : Dev nD) (a : Ref sig .tc) (ha : a ∈ argRefs) : exit0 m c (Proc.devRef .tc a) = Went m c (Proc.devRef .tc a) :=
  (StableHlo.after_of_writes_sub cond0 _ cond0_writes (cond0_args a ha)).trans (at0_args m c 2048 a ha)

section
open Idealize.ShloMosaic.StableHlo
open Idealize.ShloMosaic.Pipeline (ucRefs sub_ucRefs)
/-- The stretch with the step of the counter of loop 0. -/
theorem step0 (X : Valuation τ sig (Elt F)) :
    after while0Ops0_8 X (Proc.devRef .tc main_v8_5) = addi (X (Proc.devRef .tc main_v8_5)) (constantI S_ 32 1#32) := by
  after_results
  rfl
/-- A trip of loop 0 takes its counter one step on. -/
theorem trip0_ctr (V : Valuation τ sig (Elt F)) :
    afterL body0 (after cond0 V) (Proc.devRef .tc main_v8_5) = addi (V (Proc.devRef .tc main_v8_5)) (constantI S_ 32 1#32) := by
  simp only [afterL_cons, afterL_nil]
  rw [step0, after_of_writes_sub while0Ops0_7 _ while0Ops0_7_writes (by decide), after_of_writes_sub while0Ops0_6 _ while0Ops0_6_writes (by decide), after_of_writes_sub while0Ops0_5 _ while0Ops0_5_writes (by decide), after_of_writes_sub while0Ops0_4 _ while0Ops0_4_writes (by decide), after_of_writes_sub while0Ops0_3 _ while0Ops0_3_writes (by decide), after_of_writes_sub while0Ops0_2 _ while0Ops0_2_writes (by decide), after_of_writes_sub while0Ops0_1 _ while0Ops0_1_writes (by decide), after_of_writes_sub while0Ops0 _ while0Ops0_writes (by decide), after_of_writes_sub cond0 _ cond0_writes (by decide)]
/-- Before the `k`-th condition of loop 0 its counter is `k`. -/
theorem at0_ctr (c : Dev nD) : ∀ k, at0 m k c (Proc.devRef .tc main_v8_5) = fun _ => Scf.iv 0#32 1#32 k
  | 0 => by rw [show at0 m 0 c = Went m c from rfl, Went_ctr, Scf.iv_zero]
  | k + 1 => by
    rw [show at0 m (k + 1) c = afterL body0 (after cond0 (at0 m k c)) from rfl, trip0_ctr, at0_ctr c k, Scf.iv_succ]
    rfl

set_option backward.isDefEq.respectTransparency.types false in
/-- The condition of loop 0 holds before trip `k` exactly when `k < 2048`. -/
theorem spec0 (R : Dev nD → sProp 𝕄) : LoopCond (pcfgs (F := F)) defs₀ 𝒱₀ loops R (main_while0_cond (F := F)) cond0 body0 (Went m) 2048 := by
  intro k hk c bd
  have hctr := at0_ctr m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v8_5 HostLoop.idx0)
        (HloOp.result _ (at0 m k c) main_while0c_c_11 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR
end

/-- The buffers when the call is entered. -/
abbrev Wcall : Dev nD → Valuation τ sig (Elt F) := fun c => StableHlo.after hostOps0_1 (exit0 m c)
theorem Wcall_args (c : Dev nD) (a : Ref sig .tc) (ha : a ∈ argRefs) : Wcall m c (Proc.devRef .tc a) = m ((c : Thread nD τ).loc a) :=
  (StableHlo.after_of_writes_sub hostOps0_1 _ hostOps0_1_writes (hostOps0_1_args a ha)).trans ((exit0_args m c a ha).trans (Went_args m c a ha))

end Cert.KernelIdeal.Scan

end
-- ==== Proof.Scan.Region.lean ====
/- The kernel call as one entry of its pipeline: what holds between grid points, the body at every point, what goes in and what comes out. -/
module

public import proofs.«01_k».proof.Proof.Scan.Step
public import proofs.«01_k».proof.Proof.Scan.Host
public import Idealize.ShloMosaic.Lib.Pipeline.RegionsForgetR

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section
variable (c : Dev nD)

/-- The half-chunk under way before grid point `n`. -/
def nOf (n : ℕ) : Fin 32 := ⟨31 - 2 * n, by omega⟩

section
variable (f9 : Buf (Elt F) (stA.view.loc (c : Thread nD τ))) (f10 : Buf (Elt F) (saA.view.loc (c : Thread nD τ)))
/-- The fetches before grid point `n`: none under way before the first and after the last, else one half-chunk. -/
def Inv (n : ℕ) : sProp 𝕄 := if n = 0 ∨ n = 16 then stillAny c f9 f10 else fetchAny c f9 f10 (nOf n)
end

section
variable {sp : Space} {sh : Shape} {e : EltTy} (a : Memref sig .tc sp sh e)
/-- A buffer read at `Y` is a buffer at some contents, -/
theorem take (Y : sh.Idx → Elt F e) : (owns c a fullShare Y : sProp 𝕄) ⊢ iprop(∃ f, a.view.loc (c : Thread nD τ) ↦[a.view.set]{fullShare} f) := by
  unfold owns
  iintro ⟨%f, -, H⟩
  iexists f; iexact H
/-- and one at some contents is read at some. -/
theorem give (f : Buf (Elt F) (a.view.loc (c : Thread nD τ))) : (a.view.loc (c : Thread nD τ) ↦[a.view.set]{fullShare} f : sProp 𝕄) ⊢ iprop(∃ X, ⌜True⌝ ∗ owns c a fullShare X) := by
  unfold owns
  iintro H
  iexists _
  isplitr; · ipureintro; trivial
  iexists f
  isplitr; · ipureintro; rfl
  iexact H
end

section
variable (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S4x64x768 .bf16) (harg6 : arg6.IsWhole) (arg7 : Memref sig .tc .vmem S4x64x768 .bf16) (harg7 : arg7.IsWhole) (arg8 : Memref sig .tc .vmem S2x4x64x128 .f32) (harg8 : arg8.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole)
variable (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ)))
variable (f9 : Buf (Elt F) (stA.view.loc (c : Thread nD τ))) (f10 : Buf (Elt F) (saA.view.loc (c : Thread nD τ)))

/-- The body at any grid point. -/
theorem stepAny (i : grid0.Coords) :
    (iprop(inB c arg1 arg2 arg3 arg4 arg5 arg6 arg7 arg8 f1 f2 f3 f4 f5 f6 f7 f8 ∗ outB (F := F) c arg11 arg12 arg13 arg14 arg15 arg16 ∗ spare c ∗ Inv c f9 f10 (i 0).val ∗ free c) : sProp 𝕄) ⊢ wp frame (wpE (defs₀ (F := F)) 𝒱₀ (c : Thread nD τ) none) Set.univ
      (cc0_rwkv_scan_bwd (F := F) i arg1 harg1 arg2 harg2 arg3 harg3 arg4 harg4 arg5 harg5 arg6 harg6 arg7 harg7 arg8 harg8 stA (Memref.isWhole_whole _) saA (Memref.isWhole_whole _)
      arg11 harg11 arg12 harg12 arg13 harg13 arg14 harg14 arg15 harg15 arg16 harg16 dsM (Memref.isWhole_whole _) sbM (Memref.isWhole_whole _) saM (Memref.isWhole_whole _)
      pkM (Memref.isWhole_whole _) dvM (Memref.isWhole_whole _) cc0_scratch5)
      (fun _ => iprop(inB c arg1 arg2 arg3 arg4 arg5 arg6 arg7 arg8 f1 f2 f3 f4 f5 f6 f7 f8 ∗ outB (F := F) c arg11 arg12 arg13 arg14 arg15 arg16 ∗ spare c ∗ Inv c f9 f10 ((i 0).val + 1) ∗ free c)) := by
  have hlt : (i 0).val < 16 := (i 0).isLt
  have ehi : nOf (i 0).val = hi i := rfl
  have enx : nOf ((i 0).val + 1) = nx i := Fin.ext (by simp only [nOf, nx]; omega)
  by_cases e0 : (i 0).val = 0
  · have h2 := (cond2_iff i).2 e0
    have h3 := (cond3_iff i).2 (by omega)
    rw [show Inv c f9 f10 (i 0).val = stillAny c f9 f10 from if_pos (Or.inl e0),
      show Inv c f9 f10 ((i 0).val + 1) = fetchAny c f9 f10 (nx i) from (if_neg (by omega)).trans (by rw [enx])]
    exact stepFirst c arg1 harg1 arg2 harg2 arg3 harg3 arg4 harg4 arg5 harg5 arg6 harg6 arg7 harg7 arg8 harg8 arg11 harg11 arg12 harg12 arg13 harg13 arg14 harg14 arg15 harg15 arg16 harg16 f1 f2 f3 f4 f5 f6 f7 f8 f9 f10 i h2 h3
  · have h2 : ¬ k0_cond2 i = 1#1 := fun h => e0 ((cond2_iff i).1 h)
    rw [show Inv c f9 f10 (i 0).val = fetchAny c f9 f10 (hi i) from (if_neg (by omega)).trans (by rw [ehi])]
    by_cases e15 : (i 0).val < 15
    · have h3 := (cond3_iff i).2 e15
      rw [show Inv c f9 f10 ((i 0).val + 1) = fetchAny c f9 f10 (nx i) from (if_neg (by omega)).trans (by rw [enx])]
      exact stepMiddle c arg1 harg1 arg2 harg2 arg3 harg3 arg4 harg4 arg5 harg5 arg6 harg6 arg7 harg7 arg8 harg8 arg11 harg11 arg12 harg12 arg13 harg13 arg14 harg14 arg15 harg15 arg16 harg16 f1 f2 f3 f4 f5 f6 f7 f8 f9 f10 i h2 h3
    · have h3 : ¬ k0_cond3 i = 1#1 := fun h => e15 ((cond3_iff i).1 h)
      rw [show Inv c f9 f10 ((i 0).val + 1) = stillAny c f9 f10 from if_pos (Or.inr (by omega))]
      exact stepLast c arg1 harg1 arg2 harg2 arg3 harg3 arg4 harg4 arg5 harg5 arg6 harg6 arg7 harg7 arg8 harg8 arg11 harg11 arg12 harg12 arg13 harg13 arg14 harg14 arg15 harg15 arg16 harg16 f1 f2 f3 f4 f5 f6 f7 f8 f9 f10 i h2 h3
end

section
variable (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S4x64x768 .bf16) (harg6 : arg6.IsWhole) (arg7 : Memref sig .tc .vmem S4x64x768 .bf16) (harg7 : arg7.IsWhole) (arg8 : Memref sig .tc .vmem S2x4x64x128 .f32) (harg8 : arg8.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S128x512 .f32) (harg16 : arg16.IsWhole)
variable (Y1 : S128x512.Idx → Elt F .f32) (Y2 : S128x512.Idx → Elt F .f32) (Y3 : S128x512.Idx → Elt F .f32) (Y4 : S128x512.Idx → Elt F .f32) (Y5 : S128x512.Idx → Elt F .f32) (Y6 : S4x64x768.Idx → Elt F .bf16) (Y7 : S4x64x768.Idx → Elt F .bf16) (Y8 : S2x4x64x128.Idx → Elt F .f32) (Y11 : S128x512.Idx → Elt F .f32) (Y12 : S128x512.Idx → Elt F .f32) (Y13 : S128x512.Idx → Elt F .f32) (Y14 : S128x512.Idx → Elt F .f32) (Y15 : S128x512.Idx → Elt F .f32) (Y16 : S128x512.Idx → Elt F .f32)
variable (f9 : Buf (Elt F) (stA.view.loc (c : Thread nD τ))) (f10 : Buf (Elt F) (saA.view.loc (c : Thread nD τ)))

/-- `stepAny` with each window's buffer at its contents as read. -/
theorem stepOwns (i : grid0.Coords) (S : Set (SemLoc sig × Unit)) :
    (iprop((spare c ∗ Inv c f9 f10 (i 0).val) ∗ Pipeline.owesWithin c (0 : CellTallies nD τ sig Unit) (Set.univ ∪ S)
        ∗ owns c arg1 fullShare Y1 ∗ owns c arg2 fullShare Y2 ∗ owns c arg3 fullShare Y3 ∗ owns c arg4 fullShare Y4 ∗ owns c arg5 fullShare Y5 ∗ owns c arg6 fullShare Y6 ∗ owns c arg7 fullShare Y7 ∗ owns c arg8 fullShare Y8 ∗ owns c arg11 fullShare Y11 ∗ owns c arg12 fullShare Y12 ∗ owns c arg13 fullShare Y13 ∗ owns c arg14 fullShare Y14 ∗ owns c arg15 fullShare Y15 ∗ owns c arg16 fullShare Y16) : sProp 𝕄) ⊢ wp frame (wpE (defs₀ (F := F)) 𝒱₀ (c : Thread nD τ) none) Set.univ
      (cc0_rwkv_scan_bwd (F := F) i arg1 harg1 arg2 harg2 arg3 harg3 arg4 harg4 arg5 harg5 arg6 harg6 arg7 harg7 arg8 harg8 stA (Memref.isWhole_whole _) saA (Memref.isWhole_whole _)
      arg11 harg11 arg12 harg12 arg13 harg13 arg14 harg14 arg15 harg15 arg16 harg16 dsM (Memref.isWhole_whole _) sbM (Memref.isWhole_whole _) saM (Memref.isWhole_whole _)
      pkM (Memref.isWhole_whole _) dvM (Memref.isWhole_whole _) cc0_scratch5)
      (fun _ => iprop((spare c ∗ Inv c f9 f10 ((i 0).val + 1)) ∗ Pipeline.owesWithin c (0 : CellTallies nD τ sig Unit) (Set.univ ∪ S)
        ∗ (∃ X, ⌜True⌝ ∗ owns c arg1 fullShare X) ∗ (∃ X, ⌜True⌝ ∗ owns c arg2 fullShare X) ∗ (∃ X, ⌜True⌝ ∗ owns c arg3 fullShare X) ∗ (∃ X, ⌜True⌝ ∗ owns c arg4 fullShare X) ∗ (∃ X, ⌜True⌝ ∗ owns c arg5 fullShare X) ∗ (∃ X, ⌜True⌝ ∗ owns c arg6 fullShare X) ∗ (∃ X, ⌜True⌝ ∗ owns c arg7 fullShare X) ∗ (∃ X, ⌜True⌝ ∗ owns c arg8 fullShare X) ∗ (∃ X, ⌜True⌝ ∗ owns c arg11 fullShare X) ∗ (∃ X, ⌜True⌝ ∗ owns c arg12 fullShare X) ∗ (∃ X, ⌜True⌝ ∗ owns c arg13 fullShare X) ∗ (∃ X, ⌜True⌝ ∗ owns c arg14 fullShare X) ∗ (∃ X, ⌜True⌝ ∗ owns c arg15 fullShare X) ∗ (∃ X, ⌜True⌝ ∗ owns c arg16 fullShare X))) := by
  unfold Pipeline.owesWithin
  iintro ⟨⟨HS, HI⟩, ⟨%W, -, HO⟩, H1, H2, H3, H4, H5, H6, H7, H8, H11, H12, H13, H14, H15, H16⟩
  ihave H := (take c arg1 Y1) $$ H1; icases H with ⟨%f1, H1⟩
  ihave H := (take c arg2 Y2) $$ H2; icases H with ⟨%f2, H2⟩
  ihave H := (take c arg3 Y3) $$ H3; icases H with ⟨%f3, H3⟩
  ihave H := (take c arg4 Y4) $$ H4; icases H with ⟨%f4, H4⟩
  ihave H := (take c arg5 Y5) $$ H5; icases H with ⟨%f5, H5⟩
  ihave H := (take c arg6 Y6) $$ H6; icases H with ⟨%f6, H6⟩
  ihave H := (take c arg7 Y7) $$ H7; icases H with ⟨%f7, H7⟩
  ihave H := (take c arg8 Y8) $$ H8; icases H with ⟨%f8, H8⟩
  ihave H := (take c arg11 Y11) $$ H11; icases H with ⟨%f11, H11⟩
  ihave H := (take c arg12 Y12) $$ H12; icases H with ⟨%f12, H12⟩
  ihave H := (take c arg13 Y13) $$ H13; icases H with ⟨%f13, H13⟩
  ihave H := (take c arg14 Y14) $$ H14; icases H with ⟨%f14, H14⟩
  ihave H := (take c arg15 Y15) $$ H15; icases H with ⟨%f15, H15⟩
  ihave H := (take c arg16 Y16) $$ H16; icases H with ⟨%f16, H16⟩
  iapply (wp_wand_r frame (wpE (defs₀ (F := F)) 𝒱₀ (c : Thread nD τ) none) Set.univ (Q := _))
  isplitl [H1 H2 H3 H4 H5 H6 H7 H8 H11 H12 H13 H14 H15 H16 HS HI HO]
  · iapply (stepAny (F := F) c arg1 harg1 arg2 harg2 arg3 harg3 arg4 harg4 arg5 harg5 arg6 harg6 arg7 harg7 arg8 harg8 arg11 harg11 arg12 harg12 arg13 harg13 arg14 harg14 arg15 harg15 arg16 harg16 f1 f2 f3 f4 f5 f6 f7 f8 f9 f10 i)
    isplitl [H1 H2 H3 H4 H5 H6 H7 H8]
    · unfold inB
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H11 H12 H13 H14 H15 H16]
    · unfold outB
      isplitl [H11]; · iexists _; iexact H11
      isplitl [H12]; · iexists _; iexact H12
      isplitl [H13]; · iexists _; iexact H13
      isplitl [H14]; · iexists _; iexact H14
      isplitl [H15]; · iexists _; iexact H15
      iexists _; iexact H16
    isplitl [HS]; · iexact HS
    isplitl [HI]; · iexact HI
    unfold free
    iexists W; iexact HO
  unfold inB outB free
  iintro %u ⟨⟨H1, H2, H3, H4, H5, H6, H7, H8⟩, ⟨⟨%g11, H11⟩, ⟨%g12, H12⟩, ⟨%g13, H13⟩, ⟨%g14, H14⟩, ⟨%g15, H15⟩, ⟨%g16, H16⟩⟩, HS, HI, ⟨%W', HO⟩⟩
  isplitl [HS HI]; · isplitl [HS] <;> iassumption
  isplitl [HO]
  · iexists W'
    isplitr; · ipureintro; exact fun _ _ => Or.inl trivial
    iexact HO
  isplitl [H1]; · iapply (give c arg1 _); iexact H1
  isplitl [H2]; · iapply (give c arg2 _); iexact H2
  isplitl [H3]; · iapply (give c arg3 _); iexact H3
  isplitl [H4]; · iapply (give c arg4 _); iexact H4
  isplitl [H5]; · iapply (give c arg5 _); iexact H5
  isplitl [H6]; · iapply (give c arg6 _); iexact H6
  isplitl [H7]; · iapply (give c arg7 _); iexact H7
  isplitl [H8]; · iapply (give c arg8 _); iexact H8
  isplitl [H11]; · iapply (give c arg11 _); iexact H11
  isplitl [H12]; · iapply (give c arg12 _); iexact H12
  isplitl [H13]; · iapply (give c arg13 _); iexact H13
  isplitl [H14]; · iapply (give c arg14 _); iexact H14
  isplitl [H15]; · iapply (give c arg15 _); iexact H15
  iapply (give c arg16 _); iexact H16
end
end

/-! ## The call's data -/

theorem defs₀_row (t : Fin cfg0.N) : defs₀ (F := F) .tc cfg0.body (cfg0.bodyArgs t (cfg0.slots t)) = bodyAt0 t := by
  unfold defs₀; rw [Defs.onTc_tc]

theorem coords_val : ∀ t : Fin grid0.N, (grid0.coords t 0).val = t.val := by decide

variable (m : (ℓ : Loc nD τ sig) → Buf (Elt F) ℓ)

/-- The call's data: arrays as the straight code left them, nothing said of what the body writes. -/
def rd0 (c : Dev nD) : Pipeline.RDat τ (Elt F) Unit ℕ UU ℕ cfg0 c where
  A w := Wcall m c (Proc.devRef .tc (Pipeline.arrRef Cert.KernelIdeal.spec0 w))
  after _ _ _ _ := True
  Φ t := iprop(spare c ∗ Inv c (Wcall m c (Proc.devRef .tc main_v11)) (Wcall m c (Proc.devRef .tc main_v16)) t.val)
  q _ := fullShare
  owed _ := 0

set_option backward.isDefEq.respectTransparency.types false in
theorem body_ob (c : Dev nD) : (rd0 m c).BodyObligation (defs₀ (F := F)) 𝒱₀ () Set.univ := fun t Y _ => by
  rw [bigSep_W0, bigSep_W0, defs₀_row]
  have h := stepOwns (F := F) c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    (Y 0) (Y 1) (Y 2) (Y 3) (Y 4) (Y 5) (Y 6) (Y 7) (Y 8) (Y 9) (Y 10) (Y 11) (Y 12) (Y 13)
    (Wcall m c (Proc.devRef .tc main_v11)) (Wcall m c (Proc.devRef .tc main_v16)) (grid0.coords t) (cfg0.waitPairs ())
  rw [coords_val] at h
  exact h

end Cert.KernelIdeal.Scan

end
-- ==== Proof.Scan.Run.lean ====
/- The kernel program as a whole: the straight code, its loop, and the call; its arguments end unchanged. -/
module

public import proofs.«01_k».proof.Proof.Scan.Region

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

abbrev adm : (p : Fin 1) → (pcfgs (F := F) p).Adm := fun p => (cfgs p).toPCfg_adm
abbrev rds (m : (ℓ : Loc nD τ sig) → Buf (Elt F) ℓ) : (p : Fin 1) → (c : Dev nD) → Pipeline.RDat τ (Elt F) Unit ℕ UU ℕ (Pipeline.pin (pcfgs (F := F)) adm p) c :=
  fun | 0 => rd0 m | ⟨_ + 1, h⟩ => absurd h (Nat.not_lt.2 (Nat.le_add_left _ _))
/-- Data for the ticket alone, which only names the call. -/
def blank : (p : Fin 1) → (c : Dev nD) → Pipeline.Dat τ (Elt F) Unit ℕ UU ℕ (Pipeline.pin (pcfgs (F := F)) adm p) c := fun p c =>
  { A := fun _ _ => Classical.arbitrary _
    after := fun _ _ _ => Classical.arbitrary _
    Φ := fun _ => BI.emp
    q := fun _ => fullShare
    owed := fun _ => 0 }
abbrev tk : Fin 1 → Pipeline.Ticket (Ix := Unit) (Name := ℕ) (U := UU) (Lvl := ℕ) (nD := nD) (τ := τ) (pcfgs (F := F)) adm :=
  fun j => { p := 0, pdats := blank, EP := embAt j }
abbrev L : GSem nD τ sig → Finset Unit := fun _ => ∅
abbrev lv : GSem nD τ sig → Unit → ℕ := fun _ _ => 0
abbrev KitSeg : Type 1 := Pipeline.CSeg (Ix := Unit) (Name := ℕ) (U := UU) (Lvl := ℕ) (nD := nD) (τ := τ) (pcfgs (F := F)) adm defs₀ 𝒱₀ L lv loops tk

/-- The device owes nothing. -/
abbrev Rc (c : Dev nD) : sProp 𝕄 := iprop(∃ W : Waits sig Unit, owes (c : Thread nD τ) (0 : CellTallies nD τ sig Unit) W)

variable (m : (ℓ : Loc nD τ sig) → Buf (Elt F) ℓ)

abbrev seg0 : KitSeg (F := F) := Pipeline.CSeg.ofOps _ _ _ _ _ _ _ _ (Pipeline.ucRefs τ sig) hostOps0
  (fun op h => Pipeline.sub_ucRefs op ((List.forall_iff_forall_mem.mp hostOps0_sub) op h)) (fun op h => (List.forall_iff_forall_mem.mp hostOps0_fresh) op h) (W0 m) Rc
abbrev seg1 : KitSeg (F := F) := StableHlo.loopSeg _ _ _ _ _ _ _ _ 0 (main_while0_cond (F := F)) (main_while0_body (F := F)) rfl cond0 body0 body0_plain
  (by rw [while0_body_chain]; rfl) 2048 (Went m) Rc (spec0 m Rc)
abbrev seg2 : KitSeg (F := F) := Pipeline.CSeg.ofOps _ _ _ _ _ _ _ _ (Pipeline.ucRefs τ sig) hostOps0_1
  (fun op h => Pipeline.sub_ucRefs op ((List.forall_iff_forall_mem.mp hostOps0_1_sub) op h)) (fun op h => (List.forall_iff_forall_mem.mp hostOps0_1_fresh) op h) (exit0 m) Rc

/-! ## The call -/

/-- The kernel's own four cells. -/
abbrev osem : Fin 4 → SemLoc sig := ![.dma ⟨28, by decide⟩, .dma ⟨29, by decide⟩, .dma ⟨30, by decide⟩, .dma ⟨31, by decide⟩]
/-- The two arrays the kernel fetches from by itself. -/
abbrev own2 : Finset (Ref sig .tc) := {main_v11, main_v16}
theorem own2_sub : own2 ⊆ Pipeline.restRefs sig Cert.KernelIdeal.spec0 := by
  intro b hb
  simp only [own2, Finset.mem_insert, Finset.mem_singleton] at hb
  rcases hb with rfl | rfl
  · exact Pipeline.mem_restRefs_of main_v11 (by decide) (by decide)
  · exact Pipeline.mem_restRefs_of main_v16 (by decide) (by decide)

/-- What the call leaves alone. -/
def Zc (c : Dev nD) : sProp 𝕄 := bigSep (Pipeline.restRefs sig Cert.KernelIdeal.spec0 \ own2) fun b => ((c : Thread nD τ).loc b) ↦{fullShare} (Wcall m c (Proc.devRef .tc b))
/-- What the kernel takes beside its windows: its cells at zero and the two arrays. -/
def Xc (c : Dev nD) : sProp 𝕄 := iprop(Pipeline.ownSems0 osem c ∗ (stA.view.loc (c : Thread nD τ) ↦{fullShare} (Wcall m c (Proc.devRef .tc main_v11)))
  ∗ (saA.view.loc (c : Thread nD τ) ↦{fullShare} (Wcall m c (Proc.devRef .tc main_v16))))

theorem arrays_in (c : Dev nD) : (StableHlo.held (c : Thread nD τ) (Pipeline.ucRefs τ sig) (Wcall m c) : sProp 𝕄) ⊢
    iprop((rds m 0 c).arrays (rds m 0 c).A ∗ Pipeline.unscopedRest Cert.KernelIdeal.spec0 c (fun b => Wcall m c (Proc.devRef .tc b))) := by
  rw [← Pipeline.unscopedBufs_held c (Wcall m c)]
  exact Pipeline.RDat.arrays_of_unscopedBufs (pcfgs (F := F)) adm (rds m) (p := 0) winFacts0 arr_whole0 c
    (fun w => by unfold Pipeline.RDat.share; split <;> rfl) _ fun _ => rfl

theorem rest_split (c : Dev nD) : (Pipeline.unscopedRest Cert.KernelIdeal.spec0 c (fun b => Wcall m c (Proc.devRef .tc b)) : sProp 𝕄)
    = iprop((bigSep own2 fun b => ((c : Thread nD τ).loc b) ↦{fullShare} (Wcall m c (Proc.devRef .tc b))) ∗ Zc m c) := by
  unfold Zc Pipeline.unscopedRest
  exact BI.bigSep_sdiff_split own2_sub

theorem call_in (c : Dev nD) : iprop(iprop(StableHlo.held (c : Thread nD τ) (Pipeline.ucRefs τ sig) (Wcall m c) ∗ Rc c) ∗ Pipeline.ownSems0 osem c ∗ levAts L lv)
    ⊢ (|={Set.univ}=> iprop((rds m 0 c).arrays (rds m 0 c).A ∗ Pipeline.prefHeld (pcfgs (F := F) 0).pre c (fun _ => fullShare) (adm (F := F) 0).1
        ∗ (rds m 0 c).owesAt () 0 ∗ Xc m c ∗ Zc m c) : sProp 𝕄) := by
  iintro ⟨⟨Hh, ⟨%W, HO⟩⟩, Hs, -⟩
  ihave H := (arrays_in m c) $$ Hh
  icases H with ⟨HA, HR⟩
  ihave H := (Entails.of_eq (rest_split m c)) $$ HR
  icases H with ⟨H2, HZ⟩
  ihave H2 := (Entails.of_eq (show (bigSep own2 fun b => ((c : Thread nD τ).loc b) ↦{fullShare} (Wcall m c (Proc.devRef .tc b)) : sProp 𝕄)
      = iprop(((c : Thread nD τ).loc main_v11 ↦{fullShare} (Wcall m c (Proc.devRef .tc main_v11))) ∗ ((c : Thread nD τ).loc main_v16 ↦{fullShare} (Wcall m c (Proc.devRef .tc main_v16))))
      from by rw [BI.bigSep_insert (by decide), BI.bigSep_singleton]; rfl)) $$ H2
  icases H2 with ⟨H11, H16⟩
  imodintro
  isplitl [HA]; · iexact HA
  isplitr
  · unfold Pipeline.prefHeld
    rw [show (Finset.univ : Finset (Fin 0)) = ∅ from rfl, BI.bigSep_empty]; iempintro
  isplitl [HO]
  · unfold Pipeline.RDat.owesAt Pipeline.owesWithin
    iexists W
    isplitr; · ipureintro; exact fun _ _ => Or.inl trivial
    iexact HO
  isplitr [HZ]; swap; · iexact HZ
  unfold Xc
  isplitl [Hs]; · iexact Hs
  isplitl [H11]; · iexact H11
  iexact H16

theorem sems_eq (c : Dev nD) : (Pipeline.ownSems0 osem c : sProp 𝕄) = iprop(semVal ((c : Thread nD τ), SemLoc.dma ⟨28, by decide⟩) 0 ∗ semVal ((c : Thread nD τ), SemLoc.dma ⟨29, by decide⟩) 0 ∗ semVal ((c : Thread nD τ), SemLoc.dma ⟨30, by decide⟩) 0 ∗ semVal ((c : Thread nD τ), SemLoc.dma ⟨31, by decide⟩) 0) :=
  Pipeline.ownSems0_eq_of_list c osem [0, 1, 2, 3] (by decide) (by decide)

theorem body_in (c : Dev nD) : iprop(Xc m c ∗ Pipeline.prefHeld (pcfgs (F := F) 0).pre c (fun _ => fullShare) (adm (F := F) 0).1
    ∗ Pipeline.scopedRest Cert.KernelIdeal.spec0 c) ⊢ ((rds m 0 c).Φ 0 : sProp 𝕄) := by
  show _ ⊢ iprop(spare c ∗ Inv c (Wcall m c (Proc.devRef .tc main_v11)) (Wcall m c (Proc.devRef .tc main_v16)) 0)
  unfold Xc
  rw [scopedRest0_eq, sems_eq]
  rw [show Inv c (Wcall m c (Proc.devRef .tc main_v11)) (Wcall m c (Proc.devRef .tc main_v16)) 0 = stillAny c _ _ from if_pos (Or.inl rfl)]
  iintro ⟨⟨⟨HS0, HS1, HS2, HS3⟩, H11, H16⟩, -, ⟨%f0, H0⟩, ⟨%f1, H1⟩, ⟨%f2, H2⟩, ⟨%f3, H3⟩, ⟨%f4, H4⟩⟩
  isplitl [H0 H3 H4]
  · unfold spare
    simp only [View.set_whole]
    isplitl [H0]; · iexists f0; iexact H0
    isplitl [H3]; · iexists f3; iexact H3
    iexists f4; iexact H4
  unfold stillAny still
  iexists f1, f2
  isplitl [HS0]; · iexact HS0
  isplitl [HS1]; · iexact HS1
  isplitl [HS2]; · iexact HS2
  isplitl [HS3]; · iexact HS3
  isplitl [H1]; · iexact H1
  isplitl [H2]; · iexact H2
  isplitl [H11]; · iexact H11
  iexact H16

theorem body_out (c : Dev nD) : ((rds m 0 c).Φ (Fin.last (Pipeline.pin (pcfgs (F := F)) adm 0).N) : sProp 𝕄)
    ⊢ iprop(BI.emp ∗ Pipeline.ownSems0 osem c ∗ Pipeline.scopedRest Cert.KernelIdeal.spec0 c) := by
  show iprop(spare c ∗ Inv c (Wcall m c (Proc.devRef .tc main_v11)) (Wcall m c (Proc.devRef .tc main_v16)) grid0.N) ⊢ _
  rw [scopedRest0_eq, sems_eq, N_0]
  rw [show Inv c (Wcall m c (Proc.devRef .tc main_v11)) (Wcall m c (Proc.devRef .tc main_v16)) 16 = stillAny c _ _ from if_pos (Or.inr rfl)]
  unfold spare stillAny still
  simp only [View.set_whole]
  iintro ⟨⟨⟨%f0, H0⟩, ⟨%f3, H3⟩, ⟨%f4, H4⟩⟩, ⟨%f1, %f2, HS0, HS1, HS2, HS3, H1, H2, -, -⟩⟩
  isplitr; · iempintro
  isplitl [HS0 HS1 HS2 HS3]
  · isplitl [HS0]; · iexact HS0
    isplitl [HS1]; · iexact HS1
    isplitl [HS2]; · iexact HS2
    iexact HS3
  isplitl [H0]; · iexists f0; iexact H0
  isplitl [H1]; · iexists f1; iexact H1
  isplitl [H2]; · iexists f2; iexact H2
  isplitl [H3]; · iexists f3; iexact H3
  iexists f4; iexact H4

abbrev Tₙ (c : Dev nD) : sProp 𝕄 := iprop((rds m 0 c).arraysAt (Pipeline.pin (pcfgs (F := F)) adm 0).N ∗ Zc m c)

theorem call_out (c : Dev nD) : iprop((rds m 0 c).arraysAt (Pipeline.pin (pcfgs (F := F)) adm 0).N ∗ (rds m 0 c).owesAt () (Fin.last (Pipeline.pin (pcfgs (F := F)) adm 0).N) ∗ BI.emp ∗ Zc m c)
    ⊢ (|={Set.univ}=> iprop(Tₙ m c ∗ Rc c) : sProp 𝕄) := by
  unfold Pipeline.RDat.owesAt Pipeline.owesWithin
  iintro ⟨HA, ⟨%W, -, HO⟩, -, HZ⟩
  imodintro
  isplitl [HA HZ]; · isplitl [HA] <;> iassumption
  iexists W; iexact HO

/-- The call as an entry of its pipeline. -/
def reg : Pipeline.RDat.RegionSeg (pcfgs (F := F)) adm (rds m) () defs₀ 𝒱₀ L lv 0 where
  win := (winFacts0).to₀
  block_pos := block_pos0
  stage_whole := stage_whole0
  K := Fin 4
  osem := osem
  ho := (by decide : Pipeline.OwnSemFacts Cert.KernelIdeal.spec0 osem)
  hbody := body_ob m
  hwaits := Pipeline.RDat.hwaits_of_owed_zero (pcfgs (F := F)) adm (rds m) () L lv 0 fun _ _ => rfl
  pre c := iprop(StableHlo.held (c : Thread nD τ) (Pipeline.ucRefs τ sig) (Wcall m c) ∗ Rc c)
  post c := iprop(Tₙ m c ∗ Rc c)
  X := Xc m
  Y _ := BI.emp
  Z := Zc m
  hentry := call_in m
  hin := body_in m
  hout := body_out m
  hexit := call_out m

abbrev seg3 : KitSeg (F := F) := Pipeline.CSeg.regionAtR (pcfgs (F := F)) adm () cellOf_inj defs₀ 𝒱₀ L lv loops tk 0 (rds m) (reg m)

/-! ## The run -/

abbrev segs : List (KitSeg (F := F)) := [seg0 m, seg1 m, seg2 m, seg3 m]
theorem main_run (c : Dev nD) : main (F := F) c = Pipeline.CSeg.runL (segs m) := (main_chain c).trans (by chain_rfl)
theorem four_disjoint (a b d e : KitSeg (F := F)) (ha : a.T = ∅) (hb : b.T = ∅) (hd : d.T = ∅) : [a, b, d, e].Pairwise fun s s' => Disjoint s.T s'.T := by
  simp only [List.pairwise_cons, List.mem_cons, List.not_mem_nil, or_false, ha, hb, hd, Finset.disjoint_empty_left, implies_true, and_true, List.Pairwise.nil, false_implies]
theorem segs_disjoint : (segs m).Pairwise fun s s' => Disjoint s.T s'.T := four_disjoint _ _ _ _ rfl (StableHlo.loopSeg_T ..) rfl

abbrev T₀ (c : Dev nD) : sProp 𝕄 := iprop(StableHlo.held (c : Thread nD τ) (Pipeline.ucRefs τ sig) (W0 m c) ∗ Rc c)

theorem hinit (g : Dev nD → PrngReg) :
    iprop((bigSep Finset.univ fun c : Dev nD => iprop(unscopedBufs c (fun b => m ((c.tc : Thread nD τ).loc b)) ∗ unscopedSems0 c ∗ owes (c.tc : Thread nD τ) (0 : CellTallies nD τ sig Unit) ∅
          ∗ Pipeline.launchCred (fun _ => (0 : CellTallies nD τ sig Unit)) c ∗ prngReg c (g c) ∗ BI.emp)) ∗ levAts L lv)
      ⊢ (|={Set.univ}=> bigSep Finset.univ (T₀ m) : sProp 𝕄) := by
  have h1 (c : Dev nD) : iprop(unscopedBufs c (fun b => m ((c.tc : Thread nD τ).loc b)) ∗ unscopedSems0 c ∗ owes (c.tc : Thread nD τ) (0 : CellTallies nD τ sig Unit) ∅
      ∗ Pipeline.launchCred (fun _ => (0 : CellTallies nD τ sig Unit)) c ∗ prngReg c (g c) ∗ BI.emp) ⊢ (T₀ m c : sProp 𝕄) := by
    rw [show unscopedBufs c (fun b => m ((c : Thread nD τ).loc b)) = StableHlo.held (c : Thread nD τ) (Pipeline.ucRefs τ sig) (W0 m c) from Pipeline.unscopedBufs_held c (W0 m c)]
    iintro ⟨Hh, -, HO, -, -, -⟩
    isplitl [Hh]; · iexact Hh
    iexists ∅; iexact HO
  iintro ⟨H, -⟩
  imodintro
  iapply (show (bigSep Finset.univ fun c : Dev nD => iprop(unscopedBufs c (fun b => m ((c.tc : Thread nD τ).loc b)) ∗ unscopedSems0 c ∗ owes (c.tc : Thread nD τ) (0 : CellTallies nD τ sig Unit) ∅
      ∗ Pipeline.launchCred (fun _ => (0 : CellTallies nD τ sig Unit)) c ∗ prngReg c (g c) ∗ BI.emp) : sProp 𝕄) ⊢ bigSep Finset.univ (T₀ m) from bigSep_mono fun c _ => h1 c)
  iexact H

/-- What a final state says: each window's array holds what the write-backs may leave, every other array but the two fetched is as the straight code left it. -/
abbrev After (c : Dev nD) (s : MemSt nD τ sig (Elt F)) : Prop :=
  (∀ w, (rds m 0 c).ArrAt w (Pipeline.pin (pcfgs (F := F)) adm 0).N (s.mem ((Cert.KernelIdeal.spec0 w).arr.view.loc (c.tc : Thread nD τ))))
    ∧ ∀ b ∈ Pipeline.restRefs sig Cert.KernelIdeal.spec0 \ own2, s.mem ((c.tc : Thread nD τ).loc b) = Wcall m c (Proc.devRef .tc b)

theorem hfin (c : Dev nD) (s' : Phys nD τ sig (Elt F)) : (iprop(Tₙ m c ∗ SI s') : sProp 𝕄) ⊢ |={Set.univ}=> iprop(⌜After m c s'.mem⌝ ∗ SI s') := by
  unfold Tₙ Zc
  iintro ⟨⟨HA, HZ⟩, HSI⟩
  ihave H := (Pipeline.RDat.arrays_read (pcfgs (F := F)) adm (rds m) (p := 0) arr_whole0 c _ s') $$ [HA HSI]
  · isplitl [HA] <;> iassumption
  icases H with ⟨%ha, HSI⟩
  ihave H := (pointsTo_read_all (Pipeline.restRefs sig Cert.KernelIdeal.spec0 \ own2) (fun b => (c.tc : Thread nD τ).loc b) (fun b => Wcall m c (Proc.devRef .tc b)) s') $$ [HZ HSI]
  · isplitl [HZ] <;> iassumption
  icases H with ⟨%hb, HSI⟩
  imodintro
  isplitr; · ipureintro; exact ⟨ha, hb⟩
  iexact HSI

set_option backward.isDefEq.respectTransparency.types false in
/-- Every run of the kernel program ends, with every semaphore at zero and the memory as `After` says. -/
theorem run_main (g : Dev nD → PrngReg) : θ_run defs (onTc (τ := τ) (main (F := F))) ⟨m, fun _ => 0, g⟩
    (fun r => (∀ (c : Dev nD), After m c r.2) ∧ r.2.sem = fun _ => 0) :=
  Pipeline.θ_run_regions_loop_kit_sems (pcfgs (F := F)) adm cellOf_inj defs₀ 𝒱₀ L lv loops tk m g main (segs m)
    (fun c Q => by rw [main_run m c]) (segs_disjoint m)
    (O₀ := fun _ => 0) (hL := fun _ _ => rfl) (G := fun _ => BI.emp)
    (u₀ := ((fun _ => Rounds.initOf (Pipeline.cells (Pipeline.pin (pcfgs (F := F)) adm) cellOf_inj) (Pipeline.launchToks (Pipeline.pin (pcfgs (F := F)) adm) cellOf_inj)), 1))
    (hu₀ := by
      iintro Hu
      ihave H := (ownU_pair _ _) $$ Hu
      icases H with ⟨HP, -⟩
      imodintro
      isplitl [HP]
      · iapply (own_iprod _); iexact HP
      iapply (Entails.of_eq (BI.bigSep_emp_const _).symm)
      iempintro)
    (T₀ := T₀ m) (Tₙ := Tₙ m)
    (hch := ⟨fun _ => .rfl, fun _ => .rfl, fun _ => .rfl, fun _ => .rfl, fun _ => .rfl⟩)
    (hinit := hinit m g)
    (QY := After m)
    (hfin := hfin m)
    (hQ := fun s h hs => ⟨fun c => h c, sem_eq_zero hs fun c sm hsm => absurd hsm (by revert sm; decide)⟩)

theorem in_loc (c : Dev nD) (s : MemSt nD τ sig (Elt F)) (h : After m c s) (w : Fin 14) (hin : (cfg0.win w).isOut = false) :
    s.mem ((c : Thread nD τ).loc (Pipeline.arrRef Cert.KernelIdeal.spec0 w)) = Wcall m c (Proc.devRef .tc (Pipeline.arrRef Cert.KernelIdeal.spec0 w)) :=
  (congrFun ((rd0 m c).ArrAt_in w hin grid0.N) (s.mem ((Cert.KernelIdeal.spec0 w).arr.view.loc (c.tc : Thread nD τ)))).mp (h.1 w)
theorem rest_loc (c : Dev nD) (s : MemSt nD τ sig (Elt F)) (h : After m c s) (b : Ref sig .tc) (hb : b.isScoped = false)
    (hw : ∀ w, (Cert.KernelIdeal.spec0 w).arr.view.ref ≠ b) (h2 : b ∉ own2) : s.mem ((c : Thread nD τ).loc b) = Wcall m c (Proc.devRef .tc b) :=
  h.2 b (Finset.mem_sdiff.2 ⟨Pipeline.mem_restRefs_of b hb hw, h2⟩)
theorem arg_loc (c : Dev nD) (s : MemSt nD τ sig (Elt F)) (h : After m c s) : ∀ a ∈ argRefs, s.mem ((c : Thread nD τ).loc a) = Wcall m c (Proc.devRef .tc a) :=
  List.forall_mem_cons.2 ⟨in_loc m c s h 0 rfl, List.forall_mem_cons.2 ⟨in_loc m c s h 1 rfl, List.forall_mem_cons.2 ⟨in_loc m c s h 2 rfl,
    List.forall_mem_cons.2 ⟨rest_loc m c s h main_arg3 (by decide) (by decide) (by decide), List.forall_mem_cons.2 ⟨in_loc m c s h 3 rfl,
    List.forall_mem_cons.2 ⟨in_loc m c s h 4 rfl, List.forall_mem_cons.2 ⟨rest_loc m c s h main_arg6 (by decide) (by decide) (by decide),
    fun _ h => absurd h List.not_mem_nil⟩⟩⟩⟩⟩⟩⟩

/-- The arguments end as they began. -/
theorem frame_any (g : Dev nD → PrngReg) : θ_run defs (onTc (τ := τ) (main (F := F))) ⟨m, fun _ => 0, g⟩
    (fun r => (∀ (c : Dev nD), ∀ a ∈ argRefs, r.2.mem ((c : Thread nD τ).loc a) = m ((c : Thread nD τ).loc a)) ∧ r.2.sem = fun _ => 0) :=
  (θ_run defs _ _).mono (fun _ h => ⟨fun c a ha => (arg_loc m c _ (h.1 c) a ha).trans (Wcall_args m c a ha), h.2⟩) (run_main m g)

end Cert.KernelIdeal.Scan

end
-- ==== Proof.Scan.RefChain.lean ====
/- The reference as stretches of host operations and two loops. -/
module

public import proofs.«01_k».proof.Proof.Gen.ReferenceIdeal
public import Idealize.ShloMosaic.Lib.Pipeline.Kit
public import Idealize.ShloMosaic.Lib.Pipeline.Regions
public import Idealize.ShloMosaic.Lib.Pipeline.RegionsLoop
public import Idealize.ShloMosaic.Lib.Pipeline.RegionsOwned
public import Idealize.ShloMosaic.Lib.StableHlo.RunLoop
public import Idealize.ShloMosaic.Lib.Scf.ExitTest
public import Idealize.ShloMosaic.Lib.Scf.Counter

@[expose] public section

set_option maxRecDepth 16384

noncomputable section

namespace Cert.ReferenceIdeal.Scan

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## @main as segments and as a chain of items (Lib/Pipeline/Regions.lean `θ_run_regions_kit`, `Pipeline.chain`) -/

/-- 47 host operations of @main, in order. -/
abbrev hostOps0 : List (HloOp τ sig (Elt F)) :=
  ( StableHlo.reshape main_arg0 main_v0 (rfl : (.f32 : EltTy) = .f32) shapeCasts_S2048x512_S2048x8x64
  :: StableHlo.reshape main_arg1 main_v1 (rfl : (.f32 : EltTy) = .f32) shapeCasts_S2048x512_S2048x8x64
  :: StableHlo.reshape main_arg2 main_v2 (rfl : (.f32 : EltTy) = .f32) shapeCasts_S2048x512_S2048x8x64
  :: StableHlo.reshape main_arg3 main_v3 (rfl : (.f32 : EltTy) = .f32) shapeCasts_S2048x512_S2048x8x64
  :: StableHlo.reshape main_arg4 main_v4 (rfl : (.f32 : EltTy) = .f32) shapeCasts_S2048x512_S2048x8x64
  :: StableHlo.reshape main_arg5 main_v5 (rfl : (.f32 : EltTy) = .f32) shapeCasts_S2048x512_S2048x8x64
  :: StableHlo.nullary main_cst (constant S_ .f32 0x00000000#32)
  :: StableHlo.unary main_cst main_v6 (broadcastInDim S8x64x64 ![] bcast_S_S8x64x64 : (⟨S_, .f32⟩ : BufTy).Contents (Elt F) → (⟨S8x64x64, .f32⟩ : BufTy).Contents (Elt F))
  :: StableHlo.nullary main_cst_0 (constant S_ .f32 0x00000000#32)
  :: StableHlo.unary main_cst_0 main_v7 (broadcastInDim S2048x8x64 ![] bcast_S_S2048x8x64 : (⟨S_, .f32⟩ : BufTy).Contents (Elt F) → (⟨S2048x8x64, .f32⟩ : BufTy).Contents (Elt F))
  :: StableHlo.nullary main_cst_1 (constant S_ .f32 0x00000000#32)
  :: StableHlo.unary main_cst_1 main_v8 (broadcastInDim S2048x8x1x64 ![] bcast_S_S2048x8x1x64 : (⟨S_, .f32⟩ : BufTy).Contents (Elt F) → (⟨S2048x8x1x64, .f32⟩ : BufTy).Contents (Elt F))
  :: StableHlo.nullary main_cst_2 (constant S_ .f32 0x00000000#32)
  :: StableHlo.unary main_cst_2 main_v9 (broadcastInDim S2048x8x64x64 ![] bcast_S_S2048x8x64x64 : (⟨S_, .f32⟩ : BufTy).Contents (Elt F) → (⟨S2048x8x64x64, .f32⟩ : BufTy).Contents (Elt F))
  :: StableHlo.nullary main_cst_3 (constant S_ .f32 0x00000000#32)
  :: StableHlo.unary main_cst_3 main_v10 (broadcastInDim S2048x8x1x64 ![] bcast_S_S2048x8x1x64 : (⟨S_, .f32⟩ : BufTy).Contents (Elt F) → (⟨S2048x8x1x64, .f32⟩ : BufTy).Contents (Elt F))
  :: StableHlo.nullary main_cst_4 (constant S_ .f32 0x00000000#32)
  :: StableHlo.unary main_cst_4 main_v11 (broadcastInDim S2048x8x1x64 ![] bcast_S_S2048x8x1x64 : (⟨S_, .f32⟩ : BufTy).Contents (Elt F) → (⟨S2048x8x1x64, .f32⟩ : BufTy).Contents (Elt F))
  :: StableHlo.nullary main_cst_5 (constant S_ .f32 0x00000000#32)
  :: StableHlo.unary main_cst_5 main_v12 (broadcastInDim S2048x8x64x1 ![] bcast_S_S2048x8x64x1 : (⟨S_, .f32⟩ : BufTy).Contents (Elt F) → (⟨S2048x8x64x1, .f32⟩ : BufTy).Contents (Elt F))
  :: StableHlo.nullary main_cst_6 (constant S_ .f32 0x00000000#32)
  :: StableHlo.unary main_cst_6 main_v13 (broadcastInDim S2048x8x1x64 ![] bcast_S_S2048x8x1x64 : (⟨S_, .f32⟩ : BufTy).Contents (Elt F) → (⟨S2048x8x1x64, .f32⟩ : BufTy).Contents (Elt F))
  :: StableHlo.nullary main_cst_7 (constant S_ .f32 0x00000000#32)
  :: StableHlo.unary main_cst_7 main_v14 (broadcastInDim S2048x8x64x1 ![] bcast_S_S2048x8x64x1 : (⟨S_, .f32⟩ : BufTy).Contents (Elt F) → (⟨S2048x8x64x1, .f32⟩ : BufTy).Contents (Elt F))
  :: StableHlo.nullary main_cst_8 (constant S_ .f32 0x00000000#32)
  :: StableHlo.unary main_cst_8 main_v15 (broadcastInDim S2048x8x1x64 ![] bcast_S_S2048x8x1x64 : (⟨S_, .f32⟩ : BufTy).Contents (Elt F) → (⟨S2048x8x1x64, .f32⟩ : BufTy).Contents (Elt F))
  :: StableHlo.nullary main_cst_9 (constant S_ .f32 0x00000000#32)
  :: StableHlo.unary main_cst_9 main_v16 (broadcastInDim S2048x8x64x64 ![] bcast_S_S2048x8x64x64 : (⟨S_, .f32⟩ : BufTy).Contents (Elt F) → (⟨S2048x8x64x64, .f32⟩ : BufTy).Contents (Elt F))
  :: StableHlo.nullary main_c (constantI S_ 32 0#32)
  :: StableHlo.unary main_v0 main_v17_0 id
  :: StableHlo.unary main_v1 main_v17_1 id
  :: StableHlo.unary main_v2 main_v17_2 id
  :: StableHlo.unary main_v3 main_v17_3 id
  :: StableHlo.unary main_v4 main_v17_4 id
  :: StableHlo.unary main_v5 main_v17_5 id
  :: StableHlo.unary main_c main_v17_6 id
  :: StableHlo.unary main_v6 main_v17_7 id
  :: StableHlo.unary main_v7 main_v17_8 id
  :: StableHlo.unary main_v8 main_v17_9 id
  :: StableHlo.unary main_v9 main_v17_10 id
  :: StableHlo.unary main_v10 main_v17_11 id
  :: StableHlo.unary main_v11 main_v17_12 id
  :: StableHlo.unary main_v12 main_v17_13 id
  :: StableHlo.unary main_v13 main_v17_14 id
  :: StableHlo.unary main_v14 main_v17_15 id
  :: StableHlo.unary main_v15 main_v17_16 id
  :: StableHlo.unary main_v16 main_v17_17 id
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 37 host operations of @main, in order. -/
abbrev hostOps0_1 : List (HloOp τ sig (Elt F)) :=
  ( StableHlo.reshape main_v17_8 main_v18 (rfl : (.f32 : EltTy) = .f32) shapeCasts_S2048x8x64_S2048x512
  :: StableHlo.nullary main_cst_10 (constant S_ .f32 0x00000000#32)
  :: StableHlo.unary main_cst_10 main_v19 (broadcastInDim S8x64x64 ![] bcast_S_S8x64x64 : (⟨S_, .f32⟩ : BufTy).Contents (Elt F) → (⟨S8x64x64, .f32⟩ : BufTy).Contents (Elt F))
  :: StableHlo.reshape main_arg6 main_v20 (rfl : (.f32 : EltTy) = .f32) shapeCasts_S2048x512_S2048x8x64
  :: StableHlo.nullary main_cst_11 (constant S_ .f32 0x00000000#32)
  :: StableHlo.unary main_cst_11 main_v21 (broadcastInDim S8x64x64 ![] bcast_S_S8x64x64 : (⟨S_, .f32⟩ : BufTy).Contents (Elt F) → (⟨S8x64x64, .f32⟩ : BufTy).Contents (Elt F))
  :: StableHlo.nullary main_cst_12 (constant S_ .f32 0x00000000#32)
  :: StableHlo.unary main_cst_12 main_v22 (broadcastInDim S2048x8x64 ![] bcast_S_S2048x8x64 : (⟨S_, .f32⟩ : BufTy).Contents (Elt F) → (⟨S2048x8x64, .f32⟩ : BufTy).Contents (Elt F))
  :: StableHlo.nullary main_cst_13 (constant S_ .f32 0x00000000#32)
  :: StableHlo.unary main_cst_13 main_v23 (broadcastInDim S2048x8x64 ![] bcast_S_S2048x8x64 : (⟨S_, .f32⟩ : BufTy).Contents (Elt F) → (⟨S2048x8x64, .f32⟩ : BufTy).Contents (Elt F))
  :: StableHlo.nullary main_cst_14 (constant S_ .f32 0x00000000#32)
  :: StableHlo.unary main_cst_14 main_v24 (broadcastInDim S2048x8x64 ![] bcast_S_S2048x8x64 : (⟨S_, .f32⟩ : BufTy).Contents (Elt F) → (⟨S2048x8x64, .f32⟩ : BufTy).Contents (Elt F))
  :: StableHlo.nullary main_cst_15 (constant S_ .f32 0x00000000#32)
  :: StableHlo.unary main_cst_15 main_v25 (broadcastInDim S2048x8x64 ![] bcast_S_S2048x8x64 : (⟨S_, .f32⟩ : BufTy).Contents (Elt F) → (⟨S2048x8x64, .f32⟩ : BufTy).Contents (Elt F))
  :: StableHlo.nullary main_cst_16 (constant S_ .f32 0x00000000#32)
  :: StableHlo.unary main_cst_16 main_v26 (broadcastInDim S2048x8x64 ![] bcast_S_S2048x8x64 : (⟨S_, .f32⟩ : BufTy).Contents (Elt F) → (⟨S2048x8x64, .f32⟩ : BufTy).Contents (Elt F))
  :: StableHlo.nullary main_cst_17 (constant S_ .f32 0x00000000#32)
  :: StableHlo.unary main_cst_17 main_v27 (broadcastInDim S2048x8x64 ![] bcast_S_S2048x8x64 : (⟨S_, .f32⟩ : BufTy).Contents (Elt F) → (⟨S2048x8x64, .f32⟩ : BufTy).Contents (Elt F))
  :: StableHlo.nullary main_c_18 (constantI S_ 32 0#32)
  :: StableHlo.unary main_v20 main_v28_0 id
  :: StableHlo.unary main_v17_9 main_v28_1 id
  :: StableHlo.unary main_v17_10 main_v28_2 id
  :: StableHlo.unary main_v17_11 main_v28_3 id
  :: StableHlo.unary main_v17_12 main_v28_4 id
  :: StableHlo.unary main_v17_13 main_v28_5 id
  :: StableHlo.unary main_v17_14 main_v28_6 id
  :: StableHlo.unary main_v17_15 main_v28_7 id
  :: StableHlo.unary main_v17_16 main_v28_8 id
  :: StableHlo.unary main_v17_17 main_v28_9 id
  :: StableHlo.unary main_c_18 main_v28_10 id
  :: StableHlo.unary main_v21 main_v28_11 id
  :: StableHlo.unary main_v22 main_v28_12 id
  :: StableHlo.unary main_v23 main_v28_13 id
  :: StableHlo.unary main_v24 main_v28_14 id
  :: StableHlo.unary main_v25 main_v28_15 id
  :: StableHlo.unary main_v26 main_v28_16 id
  :: StableHlo.unary main_v27 main_v28_17 id
  :: [] )
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.reshape_bufs_sub .., StableHlo.nullary_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 6 host operations of @main, in order. -/
abbrev hostOps0_2 : List (HloOp τ sig (Elt F)) :=
  [ StableHlo.reshape main_v28_17 main_v29 (rfl : (.f32 : EltTy) = .f32) shapeCasts_S2048x8x64_S2048x512,
    StableHlo.reshape main_v28_16 main_v30 (rfl : (.f32 : EltTy) = .f32) shapeCasts_S2048x8x64_S2048x512,
    StableHlo.reshape main_v28_15 main_v31 (rfl : (.f32 : EltTy) = .f32) shapeCasts_S2048x8x64_S2048x512,
    StableHlo.reshape main_v28_14 main_v32 (rfl : (.f32 : EltTy) = .f32) shapeCasts_S2048x8x64_S2048x512,
    StableHlo.reshape main_v28_13 main_v33 (rfl : (.f32 : EltTy) = .f32) shapeCasts_S2048x8x64_S2048x512,
    StableHlo.reshape main_v28_12 main_v34 (rfl : (.f32 : EltTy) = .f32) shapeCasts_S2048x8x64_S2048x512 ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub ..⟩
/-- 47 host operations of @main, window 0 (statements 1 … 60), in order. -/
abbrev main_part0_ops0 : List (HloOp τ sig (Elt F)) :=
  ( StableHlo.reshape main_arg0 main_v0 (rfl : (.f32 : EltTy) = .f32) shapeCasts_S2048x512_S2048x8x64
  :: StableHlo.reshape main_arg1 main_v1 (rfl : (.f32 : EltTy) = .f32) shapeCasts_S2048x512_S2048x8x64
  :: StableHlo.reshape main_arg2 main_v2 (rfl : (.f32 : EltTy) = .f32) shapeCasts_S2048x512_S2048x8x64
  :: StableHlo.reshape main_arg3 main_v3 (rfl : (.f32 : EltTy) = .f32) shapeCasts_S2048x512_S2048x8x64
  :: StableHlo.reshape main_arg4 main_v4 (rfl : (.f32 : EltTy) = .f32) shapeCasts_S2048x512_S2048x8x64
  :: StableHlo.reshape main_arg5 main_v5 (rfl : (.f32 : EltTy) = .f32) shapeCasts_S2048x512_S2048x8x64
  :: StableHlo.nullary main_cst (constant S_ .f32 0x00000000#32)
  :: StableHlo.unary main_cst main_v6 (broadcastInDim S8x64x64 ![] bcast_S_S8x64x64 : (⟨S_, .f32⟩ : BufTy).Contents (Elt F) → (⟨S8x64x64, .f32⟩ : BufTy).Contents (Elt F))
  :: StableHlo.nullary main_cst_0 (constant S_ .f32 0x00000000#32)
  :: StableHlo.unary main_cst_0 main_v7 (broadcastInDim S2048x8x64 ![] bcast_S_S2048x8x64 : (⟨S_, .f32⟩ : BufTy).Contents (Elt F) → (⟨S2048x8x64, .f32⟩ : BufTy).Contents (Elt F))
  :: StableHlo.nullary main_cst_1 (constant S_ .f32 0x00000000#32)
  :: StableHlo.unary main_cst_1 main_v8 (broadcastInDim S2048x8x1x64 ![] bcast_S_S2048x8x1x64 : (⟨S_, .f32⟩ : BufTy).Contents (Elt F) → (⟨S2048x8x1x64, .f32⟩ : BufTy).Contents (Elt F))
  :: StableHlo.nullary main_cst_2 (constant S_ .f32 0x00000000#32)
  :: StableHlo.unary main_cst_2 main_v9 (broadcastInDim S2048x8x64x64 ![] bcast_S_S2048x8x64x64 : (⟨S_, .f32⟩ : BufTy).Contents (Elt F) → (⟨S2048x8x64x64, .f32⟩ : BufTy).Contents (Elt F))
  :: StableHlo.nullary main_cst_3 (constant S_ .f32 0x00000000#32)
  :: StableHlo.unary main_cst_3 main_v10 (broadcastInDim S2048x8x1x64 ![] bcast_S_S2048x8x1x64 : (⟨S_, .f32⟩ : BufTy).Contents (Elt F) → (⟨S2048x8x1x64, .f32⟩ : BufTy).Contents (Elt F))
  :: StableHlo.nullary main_cst_4 (constant S_ .f32 0x00000000#32)
  :: StableHlo.unary main_cst_4 main_v11 (broadcastInDim S2048x8x1x64 ![] bcast_S_S2048x8x1x64 : (⟨S_, .f32⟩ : BufTy).Contents (Elt F) → (⟨S2048x8x1x64, .f32⟩ : BufTy).Contents (Elt F))
  :: StableHlo.nullary main_cst_5 (constant S_ .f32 0x00000000#32)
  :: StableHlo.unary main_cst_5 main_v12 (broadcastInDim S2048x8x64x1 ![] bcast_S_S2048x8x64x1 : (⟨S_, .f32⟩ : BufTy).Contents (Elt F) → (⟨S2048x8x64x1, .f32⟩ : BufTy).Contents (Elt F))
  :: StableHlo.nullary main_cst_6 (constant S_ .f32 0x00000000#32)
  :: StableHlo.unary main_cst_6 main_v13 (broadcastInDim S2048x8x1x64 ![] bcast_S_S2048x8x1x64 : (⟨S_, .f32⟩ : BufTy).Contents (Elt F) → (⟨S2048x8x1x64, .f32⟩ : BufTy).Contents (Elt F))
  :: StableHlo.nullary main_cst_7 (constant S_ .f32 0x00000000#32)
  :: StableHlo.unary main_cst_7 main_v14 (broadcastInDim S2048x8x64x1 ![] bcast_S_S2048x8x64x1 : (⟨S_, .f32⟩ : BufTy).Contents (Elt F) → (⟨S2048x8x64x1, .f32⟩ : BufTy).Contents (Elt F))
  :: StableHlo.nullary main_cst_8 (constant S_ .f32 0x00000000#32)
  :: StableHlo.unary main_cst_8 main_v15 (broadcastInDim S2048x8x1x64 ![] bcast_S_S2048x8x1x64 : (⟨S_, .f32⟩ : BufTy).Contents (Elt F) → (⟨S2048x8x1x64, .f32⟩ : BufTy).Contents (Elt F))
  :: StableHlo.nullary main_cst_9 (constant S_ .f32 0x00000000#32)
  :: StableHlo.unary main_cst_9 main_v16 (broadcastInDim S2048x8x64x64 ![] bcast_S_S2048x8x64x64 : (⟨S_, .f32⟩ : BufTy).Contents (Elt F) → (⟨S2048x8x64x64, .f32⟩ : BufTy).Contents (Elt F))
  :: StableHlo.nullary main_c (constantI S_ 32 0#32)
  :: StableHlo.unary main_v0 main_v17_0 id
  :: StableHlo.unary main_v1 main_v17_1 id
  :: StableHlo.unary main_v2 main_v17_2 id
  :: StableHlo.unary main_v3 main_v17_3 id
  :: StableHlo.unary main_v4 main_v17_4 id
  :: StableHlo.unary main_v5 main_v17_5 id
  :: StableHlo.unary main_c main_v17_6 id
  :: StableHlo.unary main_v6 main_v17_7 id
  :: StableHlo.unary main_v7 main_v17_8 id
  :: StableHlo.unary main_v8 main_v17_9 id
  :: StableHlo.unary main_v9 main_v17_10 id
  :: StableHlo.unary main_v10 main_v17_11 id
  :: StableHlo.unary main_v11 main_v17_12 id
  :: StableHlo.unary main_v12 main_v17_13 id
  :: StableHlo.unary main_v13 main_v17_14 id
  :: StableHlo.unary main_v14 main_v17_15 id
  :: StableHlo.unary main_v15 main_v17_16 id
  :: StableHlo.unary main_v16 main_v17_17 id
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 12 host operations of @main, window 0 (statements 1 … 60), in order. -/
abbrev main_part0_ops1 : List (HloOp τ sig (Elt F)) :=
  [ StableHlo.reshape main_v17_8 main_v18 (rfl : (.f32 : EltTy) = .f32) shapeCasts_S2048x8x64_S2048x512,
    StableHlo.nullary main_cst_10 (constant S_ .f32 0x00000000#32),
    StableHlo.unary main_cst_10 main_v19 (broadcastInDim S8x64x64 ![] bcast_S_S8x64x64 : (⟨S_, .f32⟩ : BufTy).Contents (Elt F) → (⟨S8x64x64, .f32⟩ : BufTy).Contents (Elt F)),
    StableHlo.reshape main_arg6 main_v20 (rfl : (.f32 : EltTy) = .f32) shapeCasts_S2048x512_S2048x8x64,
    StableHlo.nullary main_cst_11 (constant S_ .f32 0x00000000#32),
    StableHlo.unary main_cst_11 main_v21 (broadcastInDim S8x64x64 ![] bcast_S_S8x64x64 : (⟨S_, .f32⟩ : BufTy).Contents (Elt F) → (⟨S8x64x64, .f32⟩ : BufTy).Contents (Elt F)),
    StableHlo.nullary main_cst_12 (constant S_ .f32 0x00000000#32),
    StableHlo.unary main_cst_12 main_v22 (broadcastInDim S2048x8x64 ![] bcast_S_S2048x8x64 : (⟨S_, .f32⟩ : BufTy).Contents (Elt F) → (⟨S2048x8x64, .f32⟩ : BufTy).Contents (Elt F)),
    StableHlo.nullary main_cst_13 (constant S_ .f32 0x00000000#32),
    StableHlo.unary main_cst_13 main_v23 (broadcastInDim S2048x8x64 ![] bcast_S_S2048x8x64 : (⟨S_, .f32⟩ : BufTy).Contents (Elt F) → (⟨S2048x8x64, .f32⟩ : BufTy).Contents (Elt F)),
    StableHlo.nullary main_cst_14 (constant S_ .f32 0x00000000#32),
    StableHlo.unary main_cst_14 main_v24 (broadcastInDim S2048x8x64 ![] bcast_S_S2048x8x64 : (⟨S_, .f32⟩ : BufTy).Contents (Elt F) → (⟨S2048x8x64, .f32⟩ : BufTy).Contents (Elt F)) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.reshape_bufs_sub .., StableHlo.nullary_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 25 host operations of @main, window 1 (statements 61 … 93), in order. -/
abbrev main_part1_ops0 : List (HloOp τ sig (Elt F)) :=
  [ StableHlo.nullary main_cst_15 (constant S_ .f32 0x00000000#32),
    StableHlo.unary main_cst_15 main_v25 (broadcastInDim S2048x8x64 ![] bcast_S_S2048x8x64 : (⟨S_, .f32⟩ : BufTy).Contents (Elt F) → (⟨S2048x8x64, .f32⟩ : BufTy).Contents (Elt F)),
    StableHlo.nullary main_cst_16 (constant S_ .f32 0x00000000#32),
    StableHlo.unary main_cst_16 main_v26 (broadcastInDim S2048x8x64 ![] bcast_S_S2048x8x64 : (⟨S_, .f32⟩ : BufTy).Contents (Elt F) → (⟨S2048x8x64, .f32⟩ : BufTy).Contents (Elt F)),
    StableHlo.nullary main_cst_17 (constant S_ .f32 0x00000000#32),
    StableHlo.unary main_cst_17 main_v27 (broadcastInDim S2048x8x64 ![] bcast_S_S2048x8x64 : (⟨S_, .f32⟩ : BufTy).Contents (Elt F) → (⟨S2048x8x64, .f32⟩ : BufTy).Contents (Elt F)),
    StableHlo.nullary main_c_18 (constantI S_ 32 0#32),
    StableHlo.unary main_v20 main_v28_0 id,
    StableHlo.unary main_v17_9 main_v28_1 id,
    StableHlo.unary main_v17_10 main_v28_2 id,
    StableHlo.unary main_v17_11 main_v28_3 id,
    StableHlo.unary main_v17_12 main_v28_4 id,
    StableHlo.unary main_v17_13 main_v28_5 id,
    StableHlo.unary main_v17_14 main_v28_6 id,
    StableHlo.unary main_v17_15 main_v28_7 id,
    StableHlo.unary main_v17_16 main_v28_8 id,
    StableHlo.unary main_v17_17 main_v28_9 id,
    StableHlo.unary main_c_18 main_v28_10 id,
    StableHlo.unary main_v21 main_v28_11 id,
    StableHlo.unary main_v22 main_v28_12 id,
    StableHlo.unary main_v23 main_v28_13 id,
    StableHlo.unary main_v24 main_v28_14 id,
    StableHlo.unary main_v25 main_v28_15 id,
    StableHlo.unary main_v26 main_v28_16 id,
    StableHlo.unary main_v27 main_v28_17 id ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 6 host operations of @main, window 1 (statements 61 … 93), in order. -/
abbrev main_part1_ops1 : List (HloOp τ sig (Elt F)) :=
  [ StableHlo.reshape main_v28_17 main_v29 (rfl : (.f32 : EltTy) = .f32) shapeCasts_S2048x8x64_S2048x512,
    StableHlo.reshape main_v28_16 main_v30 (rfl : (.f32 : EltTy) = .f32) shapeCasts_S2048x8x64_S2048x512,
    StableHlo.reshape main_v28_15 main_v31 (rfl : (.f32 : EltTy) = .f32) shapeCasts_S2048x8x64_S2048x512,
    StableHlo.reshape main_v28_14 main_v32 (rfl : (.f32 : EltTy) = .f32) shapeCasts_S2048x8x64_S2048x512,
    StableHlo.reshape main_v28_13 main_v33 (rfl : (.f32 : EltTy) = .f32) shapeCasts_S2048x8x64_S2048x512,
    StableHlo.reshape main_v28_12 main_v34 (rfl : (.f32 : EltTy) = .f32) shapeCasts_S2048x8x64_S2048x512 ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub ..⟩
/-- The last window of `main` (`main_part1`, statements 61 … 93) is the chain of ITS items, each item aligned with the window's
    statements, then `chain_rfl`. -/
theorem main_part1_chain (c : Dev nD) : main_part1 (F := F) c = (Pipeline.chain
  [ StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .prog (HostLoop.enter 1),
    .ops [main_part1_ops1] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 4 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v17_0 : StableHlo.TRef sig ⟨S2048x8x64, .f32⟩) ![(.of main_v17_6 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x8x64, .f32⟩) (fun x i => Host.dynamicSlice S1x8x64 x (fun k => (i k (Shape.Idx.first h_S_)).toInt) sliceFits_S2048x8x64_S1x8x64),
    StableHlo.TRef.reshape (.of main_while0b_call0_v0 : StableHlo.TRef sig ⟨S1x8x64, .f32⟩) (.of main_while0b_v35 : StableHlo.TRef sig ⟨S8x64, .f32⟩) (rfl : (.f32 : EltTy) = .f32) shapeCasts_S1x8x64_S8x64 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while0b_call1), in order. -/
abbrev while0Ops0_1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v17_1 : StableHlo.TRef sig ⟨S2048x8x64, .f32⟩) ![(.of main_v17_6 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x8x64, .f32⟩) (fun x i => Host.dynamicSlice S1x8x64 x (fun k => (i k (Shape.Idx.first h_S_)).toInt) sliceFits_S2048x8x64_S1x8x64),
    StableHlo.TRef.reshape (.of main_while0b_call1_v0 : StableHlo.TRef sig ⟨S1x8x64, .f32⟩) (.of main_while0b_v36 : StableHlo.TRef sig ⟨S8x64, .f32⟩) (rfl : (.f32 : EltTy) = .f32) shapeCasts_S1x8x64_S8x64 ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while0b_call2), in order. -/
abbrev while0Ops0_2 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.unaryIndexed (.of main_v17_2 : StableHlo.TRef sig ⟨S2048x8x64, .f32⟩) ![(.of main_v17_6 : StableHlo.TRef sig ⟨S_, .i32⟩), (.of main_while0b_call2_c : StableHlo.TRef sig ⟨S_, .i32⟩), (.of main_while0b_call2_c_0 : StableHlo.TRef sig ⟨S_, .i32⟩)] (.of main_while0b_call2_v0 : StableHlo.TRef sig ⟨S1x8x64, .f32⟩) (fun x i => Host.dynamicSlice S1x8x64 x (fun k => (i k (Shape.Idx.first h_S_)).toInt) sliceFits_S2048x8x64_S1x8x64),
    StableHlo.TRef.reshape (.of main_while0b_call2_v0 : StableHlo.TRef sig ⟨S1x8x64, .f32⟩) (.of main_while0b_v37 : StableHlo.TRef sig ⟨S8x64, .f32⟩) (rfl : (.f32 : EltTy) = .f32) shapeCasts_S1x8x64_S8x64 ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while0b_call3), in order. -/
abbrev while0Ops0_3 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.unaryIndexed (.of main_v17_3 : StableHlo.TRef sig ⟨S2048x8x64, .f32⟩) ![(.of main_v17_6 : StableHlo.TRef sig ⟨S_, .i32⟩), (.of main_while0b_call3_c : StableHlo.TRef sig ⟨S_, .i32⟩), (.of main_while0b_call3_c_0 : StableHlo.TRef sig ⟨S_, .i32⟩)] (.of main_while0b_call3_v0 : StableHlo.TRef sig ⟨S1x8x64, .f32⟩) (fun x i => Host.dynamicSlice S1x8x64 x (fun k => (i k (Shape.Idx.first h_S_)).toInt) sliceFits_S2048x8x64_S1x8x64),
    StableHlo.TRef.reshape (.of main_while0b_call3_v0 : StableHlo.TRef sig ⟨S1x8x64, .f32⟩) (.of main_while0b_v38 : StableHlo.TRef sig ⟨S8x64, .f32⟩) (rfl : (.f32 : EltTy) = .f32) shapeCasts_S1x8x64_S8x64 ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while0b_call4), in order. -/
abbrev while0Ops0_4 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.unaryIndexed (.of main_v17_4 : StableHlo.TRef sig ⟨S2048x8x64, .f32⟩) ![(.of main_v17_6 : StableHlo.TRef sig ⟨S_, .i32⟩), (.of main_while0b_call4_c : StableHlo.TRef sig ⟨S_, .i32⟩), (.of main_while0b_call4_c_0 : StableHlo.TRef sig ⟨S_, .i32⟩)] (.of main_while0b_call4_v0 : StableHlo.TRef sig ⟨S1x8x64, .f32⟩) (fun x i => Host.dynamicSlice S1x8x64 x (fun k => (i k (Shape.Idx.first h_S_)).toInt) sliceFits_S2048x8x64_S1x8x64),
    StableHlo.TRef.reshape (.of main_while0b_call4_v0 : StableHlo.TRef sig ⟨S1x8x64, .f32⟩) (.of main_while0b_v39 : StableHlo.TRef sig ⟨S8x64, .f32⟩) (rfl : (.f32 : EltTy) = .f32) shapeCasts_S1x8x64_S8x64 ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 4 host operations of @dynamic_index_in_dim (main_while0b_call5), in order. -/
abbrev while0Ops0_5 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.unaryIndexed (.of main_v17_5 : StableHlo.TRef sig ⟨S2048x8x64, .f32⟩) ![(.of main_v17_6 : StableHlo.TRef sig ⟨S_, .i32⟩), (.of main_while0b_call5_c : StableHlo.TRef sig ⟨S_, .i32⟩), (.of main_while0b_call5_c_0 : StableHlo.TRef sig ⟨S_, .i32⟩)] (.of main_while0b_call5_v0 : StableHlo.TRef sig ⟨S1x8x64, .f32⟩) (fun x i => Host.dynamicSlice S1x8x64 x (fun k => (i k (Shape.Idx.first h_S_)).toInt) sliceFits_S2048x8x64_S1x8x64),
    StableHlo.TRef.reshape (.of main_while0b_call5_v0 : StableHlo.TRef sig ⟨S1x8x64, .f32⟩) (.of main_while0b_v40 : StableHlo.TRef sig ⟨S8x64, .f32⟩) (rfl : (.f32 : EltTy) = .f32) shapeCasts_S1x8x64_S8x64 ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 25 host operations of host loop 0's body region, in order. -/
abbrev while0Ops0_6 : List (HloOp τ sig (Elt F)) :=
  [ StableHlo.unary main_while0b_v39 main_while0b_v41 (broadcastInDim S8x1x64 ![0, 2] bcast_S8x64_S8x1x64_0_2 : (⟨S8x64, .f32⟩ : BufTy).Contents (Elt F) → (⟨S8x1x64, .f32⟩ : BufTy).Contents (Elt F)),
    StableHlo.unary main_while0b_v41 main_while0b_v42 (broadcastInDim S8x64x64 ![0, 1, 2] bcast_S8x1x64_S8x64x64_0_1_2 : (⟨S8x1x64, .f32⟩ : BufTy).Contents (Elt F) → (⟨S8x64x64, .f32⟩ : BufTy).Contents (Elt F)),
    StableHlo.binary main_v17_7 main_while0b_v42 main_while0b_v43 (mulf : (⟨S8x64x64, .f32⟩ : BufTy).Contents (Elt F) → (⟨S8x64x64, .f32⟩ : BufTy).Contents (Elt F) → (⟨S8x64x64, .f32⟩ : BufTy).Contents (Elt F)),
    StableHlo.nullary main_while0b_cst_36 (constant S_ .f32 0x00000000#32),
    StableHlo.binary main_while0b_v43 main_while0b_cst_36 main_while0b_v44 ((fun x v => Host.reduceAdd x v reducesTo_S8x64x64_S8x64_d2 h_S_) : (⟨S8x64x64, .f32⟩ : BufTy).Contents (Elt F) → (⟨S_, .f32⟩ : BufTy).Contents (Elt F) → (⟨S8x64, .f32⟩ : BufTy).Contents (Elt F)),
    StableHlo.unary main_while0b_v36 main_while0b_v45 (broadcastInDim S8x1x64 ![0, 2] bcast_S8x64_S8x1x64_0_2 : (⟨S8x64, .f32⟩ : BufTy).Contents (Elt F) → (⟨S8x1x64, .f32⟩ : BufTy).Contents (Elt F)),
    StableHlo.unary main_while0b_v45 main_while0b_v46 (broadcastInDim S8x64x64 ![0, 1, 2] bcast_S8x1x64_S8x64x64_0_1_2 : (⟨S8x1x64, .f32⟩ : BufTy).Contents (Elt F) → (⟨S8x64x64, .f32⟩ : BufTy).Contents (Elt F)),
    StableHlo.binary main_v17_7 main_while0b_v46 main_while0b_v47 (mulf : (⟨S8x64x64, .f32⟩ : BufTy).Contents (Elt F) → (⟨S8x64x64, .f32⟩ : BufTy).Contents (Elt F) → (⟨S8x64x64, .f32⟩ : BufTy).Contents (Elt F)),
    StableHlo.unary main_while0b_v44 main_while0b_v48 (broadcastInDim S8x64x1 ![0, 1] bcast_S8x64_S8x64x1_0_1 : (⟨S8x64, .f32⟩ : BufTy).Contents (Elt F) → (⟨S8x64x1, .f32⟩ : BufTy).Contents (Elt F)),
    StableHlo.unary main_while0b_v40 main_while0b_v49 (broadcastInDim S8x1x64 ![0, 2] bcast_S8x64_S8x1x64_0_2 : (⟨S8x64, .f32⟩ : BufTy).Contents (Elt F) → (⟨S8x1x64, .f32⟩ : BufTy).Contents (Elt F)),
    StableHlo.unary main_while0b_v48 main_while0b_v50 (broadcastInDim S8x64x64 ![0, 1, 2] bcast_S8x64x1_S8x64x64_0_1_2 : (⟨S8x64x1, .f32⟩ : BufTy).Contents (Elt F) → (⟨S8x64x64, .f32⟩ : BufTy).Contents (Elt F)),
    StableHlo.unary main_while0b_v49 main_while0b_v51 (broadcastInDim S8x64x64 ![0, 1, 2] bcast_S8x1x64_S8x64x64_0_1_2 : (⟨S8x1x64, .f32⟩ : BufTy).Contents (Elt F) → (⟨S8x64x64, .f32⟩ : BufTy).Contents (Elt F)),
    StableHlo.binary main_while0b_v50 main_while0b_v51 main_while0b_v52 (mulf : (⟨S8x64x64, .f32⟩ : BufTy).Contents (Elt F) → (⟨S8x64x64, .f32⟩ : BufTy).Contents (Elt F) → (⟨S8x64x64, .f32⟩ : BufTy).Contents (Elt F)),
    StableHlo.binary main_while0b_v47 main_while0b_v52 main_while0b_v53 (addf : (⟨S8x64x64, .f32⟩ : BufTy).Contents (Elt F) → (⟨S8x64x64, .f32⟩ : BufTy).Contents (Elt F) → (⟨S8x64x64, .f32⟩ : BufTy).Contents (Elt F)),
    StableHlo.unary main_while0b_v38 main_while0b_v54 (broadcastInDim S8x64x1 ![0, 1] bcast_S8x64_S8x64x1_0_1 : (⟨S8x64, .f32⟩ : BufTy).Contents (Elt F) → (⟨S8x64x1, .f32⟩ : BufTy).Contents (Elt F)),
    StableHlo.unary main_while0b_v37 main_while0b_v55 (broadcastInDim S8x1x64 ![0, 2] bcast_S8x64_S8x1x64_0_2 : (⟨S8x64, .f32⟩ : BufTy).Contents (Elt F) → (⟨S8x1x64, .f32⟩ : BufTy).Contents (Elt F)),
    StableHlo.unary main_while0b_v54 main_while0b_v56 (broadcastInDim S8x64x64 ![0, 1, 2] bcast_S8x64x1_S8x64x64_0_1_2 : (⟨S8x64x1, .f32⟩ : BufTy).Contents (Elt F) → (⟨S8x64x64, .f32⟩ : BufTy).Contents (Elt F)),
    StableHlo.unary main_while0b_v55 main_while0b_v57 (broadcastInDim S8x64x64 ![0, 1, 2] bcast_S8x1x64_S8x64x64_0_1_2 : (⟨S8x1x64, .f32⟩ : BufTy).Contents (Elt F) → (⟨S8x64x64, .f32⟩ : BufTy).Contents (Elt F)),
    StableHlo.binary main_while0b_v56 main_while0b_v57 main_while0b_v58 (mulf : (⟨S8x64x64, .f32⟩ : BufTy).Contents (Elt F) → (⟨S8x64x64, .f32⟩ : BufTy).Contents (Elt F) → (⟨S8x64x64, .f32⟩ : BufTy).Contents (Elt F)),
    StableHlo.binary main_while0b_v53 main_while0b_v58 main_while0b_v59 (addf : (⟨S8x64x64, .f32⟩ : BufTy).Contents (Elt F) → (⟨S8x64x64, .f32⟩ : BufTy).Contents (Elt F) → (⟨S8x64x64, .f32⟩ : BufTy).Contents (Elt F)),
    StableHlo.unary main_while0b_v35 main_while0b_v60 (broadcastInDim S8x1x64 ![0, 2] bcast_S8x64_S8x1x64_0_2 : (⟨S8x64, .f32⟩ : BufTy).Contents (Elt F) → (⟨S8x1x64, .f32⟩ : BufTy).Contents (Elt F)),
    StableHlo.unary main_while0b_v60 main_while0b_v61 (broadcastInDim S8x64x64 ![0, 1, 2] bcast_S8x1x64_S8x64x64_0_1_2 : (⟨S8x1x64, .f32⟩ : BufTy).Contents (Elt F) → (⟨S8x64x64, .f32⟩ : BufTy).Contents (Elt F)),
    StableHlo.binary main_while0b_v59 main_while0b_v61 main_while0b_v62 (mulf : (⟨S8x64x64, .f32⟩ : BufTy).Contents (Elt F) → (⟨S8x64x64, .f32⟩ : BufTy).Contents (Elt F) → (⟨S8x64x64, .f32⟩ : BufTy).Contents (Elt F)),
    StableHlo.nullary main_while0b_cst_37 (constant S_ .f32 0x00000000#32),
    StableHlo.binary main_while0b_v62 main_while0b_cst_37 main_while0b_v63 ((fun x v => Host.reduceAdd x v reducesTo_S8x64x64_S8x64_d2 h_S_) : (⟨S8x64x64, .f32⟩ : BufTy).Contents (Elt F) → (⟨S_, .f32⟩ : BufTy).Contents (Elt F) → (⟨S8x64, .f32⟩ : BufTy).Contents (Elt F)) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub ..⟩
/-- 4 host operations of @dynamic_update_index_in_dim (main_while0b_call6), in order. -/
abbrev while0Ops0_7 : List (HloOp τ sig (Elt F)) :=
  [ StableHlo.TRef.unary (.of main_while0b_v63 : StableHlo.TRef sig ⟨S8x64, .f32⟩) (.of main_while0b_call6_v0 : StableHlo.TRef sig ⟨S1x8x64, .f32⟩) (broadcastInDim S1x8x64 ![1, 2] bcast_S8x64_S1x8x64_1_2),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.binaryIndexed (.of main_v17_8 : StableHlo.TRef sig ⟨S2048x8x64, .f32⟩) (.of main_while0b_call6_v0 : StableHlo.TRef sig ⟨S1x8x64, .f32⟩) ![(.of main_v17_6 : StableHlo.TRef sig ⟨S_, .i32⟩), (.of main_while0b_call6_c : StableHlo.TRef sig ⟨S_, .i32⟩), (.of main_while0b_call6_c_0 : StableHlo.TRef sig ⟨S_, .i32⟩)] (.of main_while0b_v64 : StableHlo.TRef sig ⟨S2048x8x64, .f32⟩) (fun x u i => Host.dynamicUpdateSlice x u (fun k => (i k (Shape.Idx.first h_S_)).toInt) updateFits_S2048x8x64_S1x8x64) ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 5 host operations of @dynamic_update_index_in_dim_0 (main_while0b_call7), in order. -/
abbrev while0Ops0_8 : List (HloOp τ sig (Elt F)) :=
  [ StableHlo.TRef.unary (.of main_while0b_v41 : StableHlo.TRef sig ⟨S8x1x64, .f32⟩) (.of main_while0b_call7_v0 : StableHlo.TRef sig ⟨S1x8x1x64, .f32⟩) (broadcastInDim S1x8x1x64 ![1, 2, 3] bcast_S8x1x64_S1x8x1x64_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v17_9 : StableHlo.TRef sig ⟨S2048x8x1x64, .f32⟩) (.of main_while0b_call7_v0 : StableHlo.TRef sig ⟨S1x8x1x64, .f32⟩) ![(.of main_v17_6 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v65 : StableHlo.TRef sig ⟨S2048x8x1x64, .f32⟩) (fun x u i => Host.dynamicUpdateSlice x u (fun k => (i k (Shape.Idx.first h_S_)).toInt) updateFits_S2048x8x1x64_S1x8x1x64) ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_1 (main_while0b_call8), in order. -/
abbrev while0Ops0_9 : List (HloOp τ sig (Elt F)) :=
  [ StableHlo.TRef.unary (.of main_v17_7 : StableHlo.TRef sig ⟨S8x64x64, .f32⟩) (.of main_while0b_call8_v0 : StableHlo.TRef sig ⟨S1x8x64x64, .f32⟩) (broadcastInDim S1x8x64x64 ![1, 2, 3] bcast_S8x64x64_S1x8x64x64_1_2_3),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.binaryIndexed (.of main_v17_10 : StableHlo.TRef sig ⟨S2048x8x64x64, .f32⟩) (.of main_while0b_call8_v0 : StableHlo.TRef sig ⟨S1x8x64x64, .f32⟩) ![(.of main_v17_6 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v66 : StableHlo.TRef sig ⟨S2048x8x64x64, .f32⟩) (fun x u i => Host.dynamicUpdateSlice x u (fun k => (i k (Shape.Idx.first h_S_)).toInt) updateFits_S2048x8x64x64_S1x8x64x64) ]
/-- Each touches TensorCore references only (`HostSeg.ofOps` over `StableHlo.tcRefs`, or a subset by `sub_ucRefs`). -/
theorem while0Ops0_9_sub : (while0Ops0_9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_0 (main_while0b_call9), in order. -/
abbrev while0Ops0_10 : List (HloOp τ sig (Elt F)) :=
  [ StableHlo.TRef.unary (.of main_while0b_v45 : StableHlo.TRef sig ⟨S8x1x64, .f32⟩) (.of main_while0b_call9_v0 : StableHlo.TRef sig ⟨S1x8x1x64, .f32⟩) (broadcastInDim S1x8x1x64 ![1, 2, 3] bcast_S8x1x64_S1x8x1x64_1_2_3),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.nullary (.of main_while0b_call9_c_1 : StableHlo.TRef sig ⟨S_, .i32⟩) (constantI S_ 32 0#32),
    StableHlo.TRef.binaryIndexed (.of main_v17_11 : StableHlo.TRef sig ⟨S2048x8x1x64, .f32⟩) (.of main_while0b_call9_v0 : StableHlo.TRef sig ⟨S1x8x1x64, .f32⟩) ![(.of main_v17_6 : StableHlo.TRef sig ⟨S_, .i32⟩), (.of main_while0b_call9_c : StableHlo.TRef sig ⟨S_, .i32⟩), (.of main_while0b_call9_c_0 : StableHlo.TRef sig ⟨S_, .i32⟩), (.of main_while0b_call9_c_1 : StableHlo.TRef sig ⟨S_, .i32⟩)] (.of main_while0b_v67 : StableHlo.TRef sig ⟨S2048x8x1x64, .f32⟩) (fun x u i => Host.dynamicUpdateSlice x u (fun k => (i k (Shape.Idx.first h_S_)).toInt) updateFits_S2048x8x1x64_S1x8x1x64) ]
/-- Each touches TensorCore references only (`HostSeg.ofOps` over `StableHlo.tcRefs`, or a subset by `sub_ucRefs`). -/
theorem while0Ops0_10_sub : (while0Ops0_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_0 (main_while0b_call10), in order. -/
abbrev while0Ops0_11 : List (HloOp τ sig (Elt F)) :=
  [ StableHlo.TRef.unary (.of main_while0b_v49 : StableHlo.TRef sig ⟨S8x1x64, .f32⟩) (.of main_while0b_call10_v0 : StableHlo.TRef sig ⟨S1x8x1x64, .f32⟩) (broadcastInDim S1x8x1x64 ![1, 2, 3] bcast_S8x1x64_S1x8x1x64_1_2_3),
    StableHlo.TRef.nullary (.of main_while0b_call10_c : StableHlo.TRef sig ⟨S_, .i32⟩) (constantI S_ 32 0#32),
    StableHlo.TRef.nullary (.of main_while0b_call10_c_0 : StableHlo.TRef sig ⟨S_, .i32⟩) (constantI S_ 32 0#32),
    StableHlo.TRef.nullary (.of main_while0b_call10_c_1 : StableHlo.TRef sig ⟨S_, .i32⟩) (constantI S_ 32 0#32),
    StableHlo.TRef.binaryIndexed (.of main_v17_12 : StableHlo.TRef sig ⟨S2048x8x1x64, .f32⟩) (.of main_while0b_call10_v0 : StableHlo.TRef sig ⟨S1x8x1x64, .f32⟩) ![(.of main_v17_6 : StableHlo.TRef sig ⟨S_, .i32⟩), (.of main_while0b_call10_c : StableHlo.TRef sig ⟨S_, .i32⟩), (.of main_while0b_call10_c_0 : StableHlo.TRef sig ⟨S_, .i32⟩), (.of main_while0b_call10_c_1 : StableHlo.TRef sig ⟨S_, .i32⟩)] (.of main_while0b_v68 : StableHlo.TRef sig ⟨S2048x8x1x64, .f32⟩) (fun x u i => Host.dynamicUpdateSlice x u (fun k => (i k (Shape.Idx.first h_S_)).toInt) updateFits_S2048x8x1x64_S1x8x1x64) ]
/-- Each touches TensorCore references only (`HostSeg.ofOps` over `StableHlo.tcRefs`, or a subset by `sub_ucRefs`). -/
theorem while0Ops0_11_sub : (while0Ops0_11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_2 (main_while0b_call11), in order. -/
abbrev while0Ops0_12 : List (HloOp τ sig (Elt F)) :=
  [ StableHlo.TRef.unary (.of main_while0b_v48 : StableHlo.TRef sig ⟨S8x64x1, .f32⟩) (.of main_while0b_call11_v0 : StableHlo.TRef sig ⟨S1x8x64x1, .f32⟩) (broadcastInDim S1x8x64x1 ![1, 2, 3] bcast_S8x64x1_S1x8x64x1_1_2_3),
    StableHlo.TRef.nullary (.of main_while0b_call11_c : StableHlo.TRef sig ⟨S_, .i32⟩) (constantI S_ 32 0#32),
    StableHlo.TRef.nullary (.of main_while0b_call11_c_0 : StableHlo.TRef sig ⟨S_, .i32⟩) (constantI S_ 32 0#32),
    StableHlo.TRef.nullary (.of main_while0b_call11_c_1 : StableHlo.TRef sig ⟨S_, .i32⟩) (constantI S_ 32 0#32),
    StableHlo.TRef.binaryIndexed (.of main_v17_13 : StableHlo.TRef sig ⟨S2048x8x64x1, .f32⟩) (.of main_while0b_call11_v0 : StableHlo.TRef sig ⟨S1x8x64x1, .f32⟩) ![(.of main_v17_6 : StableHlo.TRef sig ⟨S_, .i32⟩), (.of main_while0b_call11_c : StableHlo.TRef sig ⟨S_, .i32⟩), (.of main_while0b_call11_c_0 : StableHlo.TRef sig ⟨S_, .i32⟩), (.of main_while0b_call11_c_1 : StableHlo.TRef sig ⟨S_, .i32⟩)] (.of main_while0b_v69 : StableHlo.TRef sig ⟨S2048x8x64x1, .f32⟩) (fun x u i => Host.dynamicUpdateSlice x u (fun k => (i k (Shape.Idx.first h_S_)).toInt) updateFits_S2048x8x64x1_S1x8x64x1) ]
/-- Each touches TensorCore references only (`HostSeg.ofOps` over `StableHlo.tcRefs`, or a subset by `sub_ucRefs`). -/
theorem while0Ops0_12_sub : (while0Ops0_12 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_0 (main_while0b_call12), in order. -/
abbrev while0Ops0_13 : List (HloOp τ sig (Elt F)) :=
  [ StableHlo.TRef.unary (.of main_while0b_v55 : StableHlo.TRef sig ⟨S8x1x64, .f32⟩) (.of main_while0b_call12_v0 : StableHlo.TRef sig ⟨S1x8x1x64, .f32⟩) (broadcastInDim S1x8x1x64 ![1, 2, 3] bcast_S8x1x64_S1x8x1x64_1_2_3),
    StableHlo.TRef.nullary (.of main_while0b_call12_c : StableHlo.TRef sig ⟨S_, .i32⟩) (constantI S_ 32 0#32),
    StableHlo.TRef.nullary (.of main_while0b_call12_c_0 : StableHlo.TRef sig ⟨S_, .i32⟩) (constantI S_ 32 0#32),
    StableHlo.TRef.nullary (.of main_while0b_call12_c_1 : StableHlo.TRef sig ⟨S_, .i32⟩) (constantI S_ 32 0#32),
    StableHlo.TRef.binaryIndexed (.of main_v17_14 : StableHlo.TRef sig ⟨S2048x8x1x64, .f32⟩) (.of main_while0b_call12_v0 : StableHlo.TRef sig ⟨S1x8x1x64, .f32⟩) ![(.of main_v17_6 : StableHlo.TRef sig ⟨S_, .i32⟩), (.of main_while0b_call12_c : StableHlo.TRef sig ⟨S_, .i32⟩), (.of main_while0b_call12_c_0 : StableHlo.TRef sig ⟨S_, .i32⟩), (.of main_while0b_call12_c_1 : StableHlo.TRef sig ⟨S_, .i32⟩)] (.of main_while0b_v70 : StableHlo.TRef sig ⟨S2048x8x1x64, .f32⟩) (fun x u i => Host.dynamicUpdateSlice x u (fun k => (i k (Shape.Idx.first h_S_)).toInt) updateFits_S2048x8x1x64_S1x8x1x64) ]
/-- Each touches TensorCore references only (`HostSeg.ofOps` over `StableHlo.tcRefs`, or a subset by `sub_ucRefs`). -/
theorem while0Ops0_13_sub : (while0Ops0_13 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_2 (main_while0b_call13), in order. -/
abbrev while0Ops0_14 : List (HloOp τ sig (Elt F)) :=
  [ StableHlo.TRef.unary (.of main_while0b_v54 : StableHlo.TRef sig ⟨S8x64x1, .f32⟩) (.of main_while0b_call13_v0 : StableHlo.TRef sig ⟨S1x8x64x1, .f32⟩) (broadcastInDim S1x8x64x1 ![1, 2, 3] bcast_S8x64x1_S1x8x64x1_1_2_3),
    StableHlo.TRef.nullary (.of main_while0b_call13_c : StableHlo.TRef sig ⟨S_, .i32⟩) (constantI S_ 32 0#32),
    StableHlo.TRef.nullary (.of main_while0b_call13_c_0 : StableHlo.TRef sig ⟨S_, .i32⟩) (constantI S_ 32 0#32),
    StableHlo.TRef.nullary (.of main_while0b_call13_c_1 : StableHlo.TRef sig ⟨S_, .i32⟩) (constantI S_ 32 0#32),
    StableHlo.TRef.binaryIndexed (.of main_v17_15 : StableHlo.TRef sig ⟨S2048x8x64x1, .f32⟩) (.of main_while0b_call13_v0 : StableHlo.TRef sig ⟨S1x8x64x1, .f32⟩) ![(.of main_v17_6 : StableHlo.TRef sig ⟨S_, .i32⟩), (.of main_while0b_call13_c : StableHlo.TRef sig ⟨S_, .i32⟩), (.of main_while0b_call13_c_0 : StableHlo.TRef sig ⟨S_, .i32⟩), (.of main_while0b_call13_c_1 : StableHlo.TRef sig ⟨S_, .i32⟩)] (.of main_while0b_v71 : StableHlo.TRef sig ⟨S2048x8x64x1, .f32⟩) (fun x u i => Host.dynamicUpdateSlice x u (fun k => (i k (Shape.Idx.first h_S_)).toInt) updateFits_S2048x8x64x1_S1x8x64x1) ]
/-- Each touches TensorCore references only (`HostSeg.ofOps` over `StableHlo.tcRefs`, or a subset by `sub_ucRefs`). -/
theorem while0Ops0_14_sub : (while0Ops0_14 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_0 (main_while0b_call14), in order. -/
abbrev while0Ops0_15 : List (HloOp τ sig (Elt F)) :=
  [ StableHlo.TRef.unary (.of main_while0b_v60 : StableHlo.TRef sig ⟨S8x1x64, .f32⟩) (.of main_while0b_call14_v0 : StableHlo.TRef sig ⟨S1x8x1x64, .f32⟩) (broadcastInDim S1x8x1x64 ![1, 2, 3] bcast_S8x1x64_S1x8x1x64_1_2_3),
    StableHlo.TRef.nullary (.of main_while0b_call14_c : StableHlo.TRef sig ⟨S_, .i32⟩) (constantI S_ 32 0#32),
    StableHlo.TRef.nullary (.of main_while0b_call14_c_0 : StableHlo.TRef sig ⟨S_, .i32⟩) (constantI S_ 32 0#32),
    StableHlo.TRef.nullary (.of main_while0b_call14_c_1 : StableHlo.TRef sig ⟨S_, .i32⟩) (constantI S_ 32 0#32),
    StableHlo.TRef.binaryIndexed (.of main_v17_16 : StableHlo.TRef sig ⟨S2048x8x1x64, .f32⟩) (.of main_while0b_call14_v0 : StableHlo.TRef sig ⟨S1x8x1x64, .f32⟩) ![(.of main_v17_6 : StableHlo.TRef sig ⟨S_, .i32⟩), (.of main_while0b_call14_c : StableHlo.TRef sig ⟨S_, .i32⟩), (.of main_while0b_call14_c_0 : StableHlo.TRef sig ⟨S_, .i32⟩), (.of main_while0b_call14_c_1 : StableHlo.TRef sig ⟨S_, .i32⟩)] (.of main_while0b_v72 : StableHlo.TRef sig ⟨S2048x8x1x64, .f32⟩) (fun x u i => Host.dynamicUpdateSlice x u (fun k => (i k (Shape.Idx.first h_S_)).toInt) updateFits_S2048x8x1x64_S1x8x1x64) ]
/-- Each touches TensorCore references only (`HostSeg.ofOps` over `StableHlo.tcRefs`, or a subset by `sub_ucRefs`). -/
theorem while0Ops0_15_sub : (while0Ops0_15 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_1 (main_while0b_call15), in order. -/
abbrev while0Ops0_16 : List (HloOp τ sig (Elt F)) :=
  [ StableHlo.TRef.unary (.of main_while0b_v59 : StableHlo.TRef sig ⟨S8x64x64, .f32⟩) (.of main_while0b_call15_v0 : StableHlo.TRef sig ⟨S1x8x64x64, .f32⟩) (broadcastInDim S1x8x64x64 ![1, 2, 3] bcast_S8x64x64_S1x8x64x64_1_2_3),
    StableHlo.TRef.nullary (.of main_while0b_call15_c : StableHlo.TRef sig ⟨S_, .i32⟩) (constantI S_ 32 0#32),
    StableHlo.TRef.nullary (.of main_while0b_call15_c_0 : StableHlo.TRef sig ⟨S_, .i32⟩) (constantI S_ 32 0#32),
    StableHlo.TRef.nullary (.of main_while0b_call15_c_1 : StableHlo.TRef sig ⟨S_, .i32⟩) (constantI S_ 32 0#32),
    StableHlo.TRef.binaryIndexed (.of main_v17_17 : StableHlo.TRef sig ⟨S2048x8x64x64, .f32⟩) (.of main_while0b_call15_v0 : StableHlo.TRef sig ⟨S1x8x64x64, .f32⟩) ![(.of main_v17_6 : StableHlo.TRef sig ⟨S_, .i32⟩), (.of main_while0b_call15_c : StableHlo.TRef sig ⟨S_, .i32⟩), (.of main_while0b_call15_c_0 : StableHlo.TRef sig ⟨S_, .i32⟩), (.of main_while0b_call15_c_1 : StableHlo.TRef sig ⟨S_, .i32⟩)] (.of main_while0b_v73 : StableHlo.TRef sig ⟨S2048x8x64x64, .f32⟩) (fun x u i => Host.dynamicUpdateSlice x u (fun k => (i k (Shape.Idx.first h_S_)).toInt) updateFits_S2048x8x64x64_S1x8x64x64) ]
/-- Each touches TensorCore references only (`HostSeg.ofOps` over `StableHlo.tcRefs`, or a subset by `sub_ucRefs`). -/
theorem while0Ops0_16_sub : (while0Ops0_16 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 14 host operations of host loop 0's body region, in order. -/
abbrev while0Ops0_17 : List (HloOp τ sig (Elt F)) :=
  [ StableHlo.nullary main_while0b_c_38 (constantI S_ 32 1#32),
    StableHlo.binary main_v17_6 main_while0b_c_38 main_while0b_v74 (addi : (⟨S_, .i32⟩ : BufTy).Contents (Elt F) → (⟨S_, .i32⟩ : BufTy).Contents (Elt F) → (⟨S_, .i32⟩ : BufTy).Contents (Elt F)),
    StableHlo.unary main_while0b_v74 main_v17_6 id,
    StableHlo.unary main_while0b_v59 main_v17_7 id,
    StableHlo.unary main_while0b_v64 main_v17_8 id,
    StableHlo.unary main_while0b_v65 main_v17_9 id,
    StableHlo.unary main_while0b_v66 main_v17_10 id,
    StableHlo.unary main_while0b_v67 main_v17_11 id,
    StableHlo.unary main_while0b_v68 main_v17_12 id,
    StableHlo.unary main_while0b_v69 main_v17_13 id,
    StableHlo.unary main_while0b_v70 main_v17_14 id,
    StableHlo.unary main_while0b_v71 main_v17_15 id,
    StableHlo.unary main_while0b_v72 main_v17_16 id,
    StableHlo.unary main_while0b_v73 main_v17_17 id ]
/-- Each touches TensorCore references only (`HostSeg.ofOps` over `StableHlo.tcRefs`, or a subset by `sub_ucRefs`). -/
theorem while0Ops0_17_sub : (while0Ops0_17 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11,
    StableHlo.seq while0Ops0_12,
    StableHlo.seq while0Ops0_13,
    StableHlo.seq while0Ops0_14,
    StableHlo.seq while0Ops0_15,
    StableHlo.seq while0Ops0_16,
    StableHlo.seq while0Ops0_17 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, Pipeline.chain_cons, Pipeline.chain_cons, Pipeline.chain_cons, Pipeline.chain_cons, StableHlo.chain_seq_cons]
  chain_rfl

/-- 4 host operations of host loop 1's body region, in order. -/
abbrev while1Ops0 : List (HloOp τ sig (Elt F)) :=
  [ StableHlo.nullary main_while1b_c_36 (constantI S_ 32 2048#32),
    StableHlo.binary main_while1b_c_36 main_v28_10 main_while1b_v35 (subi : (⟨S_, .i32⟩ : BufTy).Contents (Elt F) → (⟨S_, .i32⟩ : BufTy).Contents (Elt F) → (⟨S_, .i32⟩ : BufTy).Contents (Elt F)),
    StableHlo.nullary main_while1b_c_37 (constantI S_ 32 1#32),
    StableHlo.binary main_while1b_v35 main_while1b_c_37 main_while1b_v36 (subi : (⟨S_, .i32⟩ : BufTy).Contents (Elt F) → (⟨S_, .i32⟩ : BufTy).Contents (Elt F) → (⟨S_, .i32⟩ : BufTy).Contents (Elt F)) ]
/-- Each touches TensorCore references only (`HostSeg.ofOps` over `StableHlo.tcRefs`, or a subset by `sub_ucRefs`). -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- 4 host operations of @dynamic_index_in_dim (main_while1b_call16), in order. -/
abbrev while1Ops0_1 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.unaryIndexed (.of main_v28_0 : StableHlo.TRef sig ⟨S2048x8x64, .f32⟩) ![(.of main_while1b_v36 : StableHlo.TRef sig ⟨S_, .i32⟩), (.of main_while1b_call16_c : StableHlo.TRef sig ⟨S_, .i32⟩), (.of main_while1b_call16_c_0 : StableHlo.TRef sig ⟨S_, .i32⟩)] (.of main_while1b_call16_v0 : StableHlo.TRef sig ⟨S1x8x64, .f32⟩) (fun x i => Host.dynamicSlice S1x8x64 x (fun k => (i k (Shape.Idx.first h_S_)).toInt) sliceFits_S2048x8x64_S1x8x64),
    StableHlo.TRef.reshape (.of main_while1b_call16_v0 : StableHlo.TRef sig ⟨S1x8x64, .f32⟩) (.of main_while1b_v37 : StableHlo.TRef sig ⟨S8x64, .f32⟩) (rfl : (.f32 : EltTy) = .f32) shapeCasts_S1x8x64_S8x64 ]
/-- Each touches TensorCore references only (`HostSeg.ofOps` over `StableHlo.tcRefs`, or a subset by `sub_ucRefs`). -/
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 5 host operations of @dynamic_index_in_dim_3 (main_while1b_call17), in order. -/
abbrev while1Ops0_2 : List (HloOp τ sig (Elt F)) :=
  [ StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.unaryIndexed (.of main_v28_1 : StableHlo.TRef sig ⟨S2048x8x1x64, .f32⟩) ![(.of main_while1b_v36 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_call17_v0 : StableHlo.TRef sig ⟨S1x8x1x64, .f32⟩) (fun x i => Host.dynamicSlice S1x8x1x64 x (fun k => (i k (Shape.Idx.first h_S_)).toInt) sliceFits_S2048x8x1x64_S1x8x1x64),
    StableHlo.TRef.reshape (.of main_while1b_call17_v0 : StableHlo.TRef sig ⟨S1x8x1x64, .f32⟩) (.of main_while1b_v38 : StableHlo.TRef sig ⟨S8x1x64, .f32⟩) (rfl : (.f32 : EltTy) = .f32) shapeCasts_S1x8x1x64_S8x1x64 ]
/-- Each touches TensorCore references only (`HostSeg.ofOps` over `StableHlo.tcRefs`, or a subset by `sub_ucRefs`). -/
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_4 (main_while1b_call18), in order. -/
abbrev while1Ops0_3 : List (HloOp τ sig (Elt F)) :=
  [ StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.unaryIndexed (.of main_v28_2 : StableHlo.TRef sig ⟨S2048x8x64x64, .f32⟩) ![(.of main_while1b_v36 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_call18_v0 : StableHlo.TRef sig ⟨S1x8x64x64, .f32⟩) (fun x i => Host.dynamicSlice S1x8x64x64 x (fun k => (i k (Shape.Idx.first h_S_)).toInt) sliceFits_S2048x8x64x64_S1x8x64x64),
    StableHlo.TRef.reshape (.of main_while1b_call18_v0 : StableHlo.TRef sig ⟨S1x8x64x64, .f32⟩) (.of main_while1b_v39 : StableHlo.TRef sig ⟨S8x64x64, .f32⟩) (rfl : (.f32 : EltTy) = .f32) shapeCasts_S1x8x64x64_S8x64x64 ]
/-- Each touches TensorCore references only (`HostSeg.ofOps` over `StableHlo.tcRefs`, or a subset by `sub_ucRefs`). -/
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_3 (main_while1b_call19), in order. -/
abbrev while1Ops0_4 : List (HloOp τ sig (Elt F)) :=
  [ StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.unaryIndexed (.of main_v28_3 : StableHlo.TRef sig ⟨S2048x8x1x64, .f32⟩) ![(.of main_while1b_v36 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩)] (.of main_while1b_call19_v0 : StableHlo.TRef sig ⟨S1x8x1x64, .f32⟩) (fun x i => Host.dynamicSlice S1x8x1x64 x (fun k => (i k (Shape.Idx.first h_S_)).toInt) sliceFits_S2048x8x1x64_S1x8x1x64),
    StableHlo.TRef.reshape (.of main_while1b_call19_v0 : StableHlo.TRef sig ⟨S1x8x1x64, .f32⟩) (.of main_while1b_v40 : StableHlo.TRef sig ⟨S8x1x64, .f32⟩) (rfl : (.f32 : EltTy) = .f32) shapeCasts_S1x8x1x64_S8x1x64 ]
/-- Each touches TensorCore references only (`HostSeg.ofOps` over `StableHlo.tcRefs`, or a subset by `sub_ucRefs`). -/
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_3 (main_while1b_call20), in order. -/
abbrev while1Ops0_5 : List (HloOp τ sig (Elt F)) :=
  [ StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.unaryIndexed (.of main_v28_4 : StableHlo.TRef sig ⟨S2048x8x1x64, .f32⟩) ![(.of main_while1b_v36 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩)] (.of main_while1b_call20_v0 : StableHlo.TRef sig ⟨S1x8x1x64, .f32⟩) (fun x i => Host.dynamicSlice S1x8x1x64 x (fun k => (i k (Shape.Idx.first h_S_)).toInt) sliceFits_S2048x8x1x64_S1x8x1x64),
    StableHlo.TRef.reshape (.of main_while1b_call20_v0 : StableHlo.TRef sig ⟨S1x8x1x64, .f32⟩) (.of main_while1b_v41 : StableHlo.TRef sig ⟨S8x1x64, .f32⟩) (rfl : (.f32 : EltTy) = .f32) shapeCasts_S1x8x1x64_S8x1x64 ]
/-- Each touches TensorCore references only (`HostSeg.ofOps` over `StableHlo.tcRefs`, or a subset by `sub_ucRefs`). -/
theorem while1Ops0_5_sub : (while1Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_5 (main_while1b_call21), in order. -/
abbrev while1Ops0_6 : List (HloOp τ sig (Elt F)) :=
  [ StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.unaryIndexed (.of main_v28_5 : StableHlo.TRef sig ⟨S2048x8x64x1, .f32⟩) ![(.of main_while1b_v36 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩)] (.of main_while1b_call21_v0 : StableHlo.TRef sig ⟨S1x8x64x1, .f32⟩) (fun x i => Host.dynamicSlice S1x8x64x1 x (fun k => (i k (Shape.Idx.first h_S_)).toInt) sliceFits_S2048x8x64x1_S1x8x64x1),
    StableHlo.TRef.reshape (.of main_while1b_call21_v0 : StableHlo.TRef sig ⟨S1x8x64x1, .f32⟩) (.of main_while1b_v42 : StableHlo.TRef sig ⟨S8x64x1, .f32⟩) (rfl : (.f32 : EltTy) = .f32) shapeCasts_S1x8x64x1_S8x64x1 ]
/-- Each touches TensorCore references only (`HostSeg.ofOps` over `StableHlo.tcRefs`, or a subset by `sub_ucRefs`). -/
theorem while1Ops0_6_sub : (while1Ops0_6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_3 (main_while1b_call22), in order. -/
abbrev while1Ops0_7 : List (HloOp τ sig (Elt F)) :=
  [ StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.unaryIndexed (.of main_v28_6 : StableHlo.TRef sig ⟨S2048x8x1x64, .f32⟩) ![(.of main_while1b_v36 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩)] (.of main_while1b_call22_v0 : StableHlo.TRef sig ⟨S1x8x1x64, .f32⟩) (fun x i => Host.dynamicSlice S1x8x1x64 x (fun k => (i k (Shape.Idx.first h_S_)).toInt) sliceFits_S2048x8x1x64_S1x8x1x64),
    StableHlo.TRef.reshape (.of main_while1b_call22_v0 : StableHlo.TRef sig ⟨S1x8x1x64, .f32⟩) (.of main_while1b_v43 : StableHlo.TRef sig ⟨S8x1x64, .f32⟩) (rfl : (.f32 : EltTy) = .f32) shapeCasts_S1x8x1x64_S8x1x64 ]
/-- Each touches TensorCore references only (`HostSeg.ofOps` over `StableHlo.tcRefs`, or a subset by `sub_ucRefs`). -/
theorem while1Ops0_7_sub : (while1Ops0_7 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_5 (main_while1b_call23), in order. -/
abbrev while1Ops0_8 : List (HloOp τ sig (Elt F)) :=
  [ StableHlo.TRef.nullary (.of main_while1b_call23_c : StableHlo.TRef sig ⟨S_, .i32⟩) (constantI S_ 32 0#32),
    StableHlo.TRef.nullary (.of main_while1b_call23_c_0 : StableHlo.TRef sig ⟨S_, .i32⟩) (constantI S_ 32 0#32),
    StableHlo.TRef.nullary (.of main_while1b_call23_c_1 : StableHlo.TRef sig ⟨S_, .i32⟩) (constantI S_ 32 0#32),
    StableHlo.TRef.unaryIndexed (.of main_v28_7 : StableHlo.TRef sig ⟨S2048x8x64x1, .f32⟩) ![(.of main_while1b_v36 : StableHlo.TRef sig ⟨S_, .i32⟩), (.of main_while1b_call23_c : StableHlo.TRef sig ⟨S_, .i32⟩), (.of main_while1b_call23_c_0 : StableHlo.TRef sig ⟨S_, .i32⟩), (.of main_while1b_call23_c_1 : StableHlo.TRef sig ⟨S_, .i32⟩)] (.of main_while1b_call23_v0 : StableHlo.TRef sig ⟨S1x8x64x1, .f32⟩) (fun x i => Host.dynamicSlice S1x8x64x1 x (fun k => (i k (Shape.Idx.first h_S_)).toInt) sliceFits_S2048x8x64x1_S1x8x64x1),
    StableHlo.TRef.reshape (.of main_while1b_call23_v0 : StableHlo.TRef sig ⟨S1x8x64x1, .f32⟩) (.of main_while1b_v44 : StableHlo.TRef sig ⟨S8x64x1, .f32⟩) (rfl : (.f32 : EltTy) = .f32) shapeCasts_S1x8x64x1_S8x64x1 ]
/-- Each touches TensorCore references only (`HostSeg.ofOps` over `StableHlo.tcRefs`, or a subset by `sub_ucRefs`). -/
theorem while1Ops0_8_sub : (while1Ops0_8 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_3 (main_while1b_call24), in order. -/
abbrev while1Ops0_9 : List (HloOp τ sig (Elt F)) :=
  [ StableHlo.TRef.nullary (.of main_while1b_call24_c : StableHlo.TRef sig ⟨S_, .i32⟩) (constantI S_ 32 0#32),
    StableHlo.TRef.nullary (.of main_while1b_call24_c_0 : StableHlo.TRef sig ⟨S_, .i32⟩) (constantI S_ 32 0#32),
    StableHlo.TRef.nullary (.of main_while1b_call24_c_1 : StableHlo.TRef sig ⟨S_, .i32⟩) (constantI S_ 32 0#32),
    StableHlo.TRef.unaryIndexed (.of main_v28_8 : StableHlo.TRef sig ⟨S2048x8x1x64, .f32⟩) ![(.of main_while1b_v36 : StableHlo.TRef sig ⟨S_, .i32⟩), (.of main_while1b_call24_c : StableHlo.TRef sig ⟨S_, .i32⟩), (.of main_while1b_call24_c_0 : StableHlo.TRef sig ⟨S_, .i32⟩), (.of main_while1b_call24_c_1 : StableHlo.TRef sig ⟨S_, .i32⟩)] (.of main_while1b_call24_v0 : StableHlo.TRef sig ⟨S1x8x1x64, .f32⟩) (fun x i => Host.dynamicSlice S1x8x1x64 x (fun k => (i k (Shape.Idx.first h_S_)).toInt) sliceFits_S2048x8x1x64_S1x8x1x64),
    StableHlo.TRef.reshape (.of main_while1b_call24_v0 : StableHlo.TRef sig ⟨S1x8x1x64, .f32⟩) (.of main_while1b_v45 : StableHlo.TRef sig ⟨S8x1x64, .f32⟩) (rfl : (.f32 : EltTy) = .f32) shapeCasts_S1x8x1x64_S8x1x64 ]
/-- Each touches TensorCore references only (`HostSeg.ofOps` over `StableHlo.tcRefs`, or a subset by `sub_ucRefs`). -/
theorem while1Ops0_9_sub : (while1Ops0_9 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_4 (main_while1b_call25), in order. -/
abbrev while1Ops0_10 : List (HloOp τ sig (Elt F)) :=
  [ StableHlo.TRef.nullary (.of main_while1b_call25_c : StableHlo.TRef sig ⟨S_, .i32⟩) (constantI S_ 32 0#32),
    StableHlo.TRef.nullary (.of main_while1b_call25_c_0 : StableHlo.TRef sig ⟨S_, .i32⟩) (constantI S_ 32 0#32),
    StableHlo.TRef.nullary (.of main_while1b_call25_c_1 : StableHlo.TRef sig ⟨S_, .i32⟩) (constantI S_ 32 0#32),
    StableHlo.TRef.unaryIndexed (.of main_v28_9 : StableHlo.TRef sig ⟨S2048x8x64x64, .f32⟩) ![(.of main_while1b_v36 : StableHlo.TRef sig ⟨S_, .i32⟩), (.of main_while1b_call25_c : StableHlo.TRef sig ⟨S_, .i32⟩), (.of main_while1b_call25_c_0 : StableHlo.TRef sig ⟨S_, .i32⟩), (.of main_while1b_call25_c_1 : StableHlo.TRef sig ⟨S_, .i32⟩)] (.of main_while1b_call25_v0 : StableHlo.TRef sig ⟨S1x8x64x64, .f32⟩) (fun x i => Host.dynamicSlice S1x8x64x64 x (fun k => (i k (Shape.Idx.first h_S_)).toInt) sliceFits_S2048x8x64x64_S1x8x64x64),
    StableHlo.TRef.reshape (.of main_while1b_call25_v0 : StableHlo.TRef sig ⟨S1x8x64x64, .f32⟩) (.of main_while1b_v46 : StableHlo.TRef sig ⟨S8x64x64, .f32⟩) (rfl : (.f32 : EltTy) = .f32) shapeCasts_S1x8x64x64_S8x64x64 ]
/-- Each touches TensorCore references only (`HostSeg.ofOps` over `StableHlo.tcRefs`, or a subset by `sub_ucRefs`). -/
theorem while1Ops0_10_sub : (while1Ops0_10 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 56 host operations of host loop 1's body region, in order. -/
abbrev while1Ops0_11 : List (HloOp τ sig (Elt F)) :=
  ( StableHlo.unary main_while1b_v37 main_while1b_v47 (broadcastInDim S8x64x64 ![0, 1] bcast_S8x64_S8x64x64_0_1 : (⟨S8x64, .f32⟩ : BufTy).Contents (Elt F) → (⟨S8x64x64, .f32⟩ : BufTy).Contents (Elt F))
  :: StableHlo.binary main_while1b_v46 main_while1b_v47 main_while1b_v48 (mulf : (⟨S8x64x64, .f32⟩ : BufTy).Contents (Elt F) → (⟨S8x64x64, .f32⟩ : BufTy).Contents (Elt F) → (⟨S8x64x64, .f32⟩ : BufTy).Contents (Elt F))
  :: StableHlo.nullary main_while1b_cst_38 (constant S_ .f32 0x00000000#32)
  :: StableHlo.binary main_while1b_v48 main_while1b_cst_38 main_while1b_v49 ((fun x v => Host.reduceAdd x v reducesTo_S8x64x64_S8x64_d1 h_S_) : (⟨S8x64x64, .f32⟩ : BufTy).Contents (Elt F) → (⟨S_, .f32⟩ : BufTy).Contents (Elt F) → (⟨S8x64, .f32⟩ : BufTy).Contents (Elt F))
  :: StableHlo.reshape main_while1b_v49 main_while1b_v50 (rfl : (.f32 : EltTy) = .f32) shapeCasts_S8x64_S8x1x64
  :: StableHlo.unary main_while1b_v45 main_while1b_v51 (broadcastInDim S8x64x64 ![0, 1, 2] bcast_S8x1x64_S8x64x64_0_1_2 : (⟨S8x1x64, .f32⟩ : BufTy).Contents (Elt F) → (⟨S8x64x64, .f32⟩ : BufTy).Contents (Elt F))
  :: StableHlo.binary main_while1b_v47 main_while1b_v51 main_while1b_v52 (mulf : (⟨S8x64x64, .f32⟩ : BufTy).Contents (Elt F) → (⟨S8x64x64, .f32⟩ : BufTy).Contents (Elt F) → (⟨S8x64x64, .f32⟩ : BufTy).Contents (Elt F))
  :: StableHlo.binary main_v28_11 main_while1b_v52 main_while1b_v53 (addf : (⟨S8x64x64, .f32⟩ : BufTy).Contents (Elt F) → (⟨S8x64x64, .f32⟩ : BufTy).Contents (Elt F) → (⟨S8x64x64, .f32⟩ : BufTy).Contents (Elt F))
  :: StableHlo.nullary main_while1b_cst_39 (constant S_ .f32 0x00000000#32)
  :: StableHlo.binary main_while1b_v50 main_while1b_cst_39 main_while1b_v54 ((fun x v => Host.reduceAdd x v reducesTo_S8x1x64_S8x64_d1 h_S_) : (⟨S8x1x64, .f32⟩ : BufTy).Contents (Elt F) → (⟨S_, .f32⟩ : BufTy).Contents (Elt F) → (⟨S8x64, .f32⟩ : BufTy).Contents (Elt F))
  :: StableHlo.unary main_while1b_v44 main_while1b_v55 (broadcastInDim S8x64x64 ![0, 1, 2] bcast_S8x64x1_S8x64x64_0_1_2 : (⟨S8x64x1, .f32⟩ : BufTy).Contents (Elt F) → (⟨S8x64x64, .f32⟩ : BufTy).Contents (Elt F))
  :: StableHlo.binary main_while1b_v55 main_while1b_v53 main_while1b_v56 (mulf : (⟨S8x64x64, .f32⟩ : BufTy).Contents (Elt F) → (⟨S8x64x64, .f32⟩ : BufTy).Contents (Elt F) → (⟨S8x64x64, .f32⟩ : BufTy).Contents (Elt F))
  :: StableHlo.nullary main_while1b_cst_40 (constant S_ .f32 0x00000000#32)
  :: StableHlo.binary main_while1b_v56 main_while1b_cst_40 main_while1b_v57 ((fun x v => Host.reduceAdd x v reducesTo_S8x64x64_S8x64_d1 h_S_) : (⟨S8x64x64, .f32⟩ : BufTy).Contents (Elt F) → (⟨S_, .f32⟩ : BufTy).Contents (Elt F) → (⟨S8x64, .f32⟩ : BufTy).Contents (Elt F))
  :: StableHlo.reshape main_while1b_v57 main_while1b_v58 (rfl : (.f32 : EltTy) = .f32) shapeCasts_S8x64_S8x1x64
  :: StableHlo.unary main_while1b_v43 main_while1b_v59 (broadcastInDim S8x64x64 ![0, 1, 2] bcast_S8x1x64_S8x64x64_0_1_2 : (⟨S8x1x64, .f32⟩ : BufTy).Contents (Elt F) → (⟨S8x64x64, .f32⟩ : BufTy).Contents (Elt F))
  :: StableHlo.binary main_while1b_v53 main_while1b_v59 main_while1b_v60 (mulf : (⟨S8x64x64, .f32⟩ : BufTy).Contents (Elt F) → (⟨S8x64x64, .f32⟩ : BufTy).Contents (Elt F) → (⟨S8x64x64, .f32⟩ : BufTy).Contents (Elt F))
  :: StableHlo.nullary main_while1b_cst_41 (constant S_ .f32 0x00000000#32)
  :: StableHlo.binary main_while1b_v60 main_while1b_cst_41 main_while1b_v61 ((fun x v => Host.reduceAdd x v reducesTo_S8x64x64_S8x64_d2 h_S_) : (⟨S8x64x64, .f32⟩ : BufTy).Contents (Elt F) → (⟨S_, .f32⟩ : BufTy).Contents (Elt F) → (⟨S8x64, .f32⟩ : BufTy).Contents (Elt F))
  :: StableHlo.reshape main_while1b_v61 main_while1b_v62 (rfl : (.f32 : EltTy) = .f32) shapeCasts_S8x64_S8x64x1
  :: StableHlo.nullary main_while1b_cst_42 (constant S_ .f32 0x00000000#32)
  :: StableHlo.binary main_while1b_v58 main_while1b_cst_42 main_while1b_v63 ((fun x v => Host.reduceAdd x v reducesTo_S8x1x64_S8x64_d1 h_S_) : (⟨S8x1x64, .f32⟩ : BufTy).Contents (Elt F) → (⟨S_, .f32⟩ : BufTy).Contents (Elt F) → (⟨S8x64, .f32⟩ : BufTy).Contents (Elt F))
  :: StableHlo.nullary main_while1b_cst_43 (constant S_ .f32 0x00000000#32)
  :: StableHlo.binary main_while1b_v62 main_while1b_cst_43 main_while1b_v64 ((fun x v => Host.reduceAdd x v reducesTo_S8x64x1_S8x64_d2 h_S_) : (⟨S8x64x1, .f32⟩ : BufTy).Contents (Elt F) → (⟨S_, .f32⟩ : BufTy).Contents (Elt F) → (⟨S8x64, .f32⟩ : BufTy).Contents (Elt F))
  :: StableHlo.unary main_while1b_v42 main_while1b_v65 (broadcastInDim S8x64x64 ![0, 1, 2] bcast_S8x64x1_S8x64x64_0_1_2 : (⟨S8x64x1, .f32⟩ : BufTy).Contents (Elt F) → (⟨S8x64x64, .f32⟩ : BufTy).Contents (Elt F))
  :: StableHlo.binary main_while1b_v65 main_while1b_v53 main_while1b_v66 (mulf : (⟨S8x64x64, .f32⟩ : BufTy).Contents (Elt F) → (⟨S8x64x64, .f32⟩ : BufTy).Contents (Elt F) → (⟨S8x64x64, .f32⟩ : BufTy).Contents (Elt F))
  :: StableHlo.nullary main_while1b_cst_44 (constant S_ .f32 0x00000000#32)
  :: StableHlo.binary main_while1b_v66 main_while1b_cst_44 main_while1b_v67 ((fun x v => Host.reduceAdd x v reducesTo_S8x64x64_S8x64_d1 h_S_) : (⟨S8x64x64, .f32⟩ : BufTy).Contents (Elt F) → (⟨S_, .f32⟩ : BufTy).Contents (Elt F) → (⟨S8x64, .f32⟩ : BufTy).Contents (Elt F))
  :: StableHlo.reshape main_while1b_v67 main_while1b_v68 (rfl : (.f32 : EltTy) = .f32) shapeCasts_S8x64_S8x1x64
  :: StableHlo.unary main_while1b_v41 main_while1b_v69 (broadcastInDim S8x64x64 ![0, 1, 2] bcast_S8x1x64_S8x64x64_0_1_2 : (⟨S8x1x64, .f32⟩ : BufTy).Contents (Elt F) → (⟨S8x64x64, .f32⟩ : BufTy).Contents (Elt F))
  :: StableHlo.binary main_while1b_v53 main_while1b_v69 main_while1b_v70 (mulf : (⟨S8x64x64, .f32⟩ : BufTy).Contents (Elt F) → (⟨S8x64x64, .f32⟩ : BufTy).Contents (Elt F) → (⟨S8x64x64, .f32⟩ : BufTy).Contents (Elt F))
  :: StableHlo.nullary main_while1b_cst_45 (constant S_ .f32 0x00000000#32)
  :: StableHlo.binary main_while1b_v70 main_while1b_cst_45 main_while1b_v71 ((fun x v => Host.reduceAdd x v reducesTo_S8x64x64_S8x64_d2 h_S_) : (⟨S8x64x64, .f32⟩ : BufTy).Contents (Elt F) → (⟨S_, .f32⟩ : BufTy).Contents (Elt F) → (⟨S8x64, .f32⟩ : BufTy).Contents (Elt F))
  :: StableHlo.reshape main_while1b_v71 main_while1b_v72 (rfl : (.f32 : EltTy) = .f32) shapeCasts_S8x64_S8x64x1
  :: StableHlo.nullary main_while1b_cst_46 (constant S_ .f32 0x00000000#32)
  :: StableHlo.binary main_while1b_v68 main_while1b_cst_46 main_while1b_v73 ((fun x v => Host.reduceAdd x v reducesTo_S8x1x64_S8x64_d1 h_S_) : (⟨S8x1x64, .f32⟩ : BufTy).Contents (Elt F) → (⟨S_, .f32⟩ : BufTy).Contents (Elt F) → (⟨S8x64, .f32⟩ : BufTy).Contents (Elt F))
  :: StableHlo.nullary main_while1b_cst_47 (constant S_ .f32 0x00000000#32)
  :: StableHlo.binary main_while1b_v72 main_while1b_cst_47 main_while1b_v74 ((fun x v => Host.reduceAdd x v reducesTo_S8x64x1_S8x64_d2 h_S_) : (⟨S8x64x1, .f32⟩ : BufTy).Contents (Elt F) → (⟨S_, .f32⟩ : BufTy).Contents (Elt F) → (⟨S8x64, .f32⟩ : BufTy).Contents (Elt F))
  :: StableHlo.binary main_while1b_v39 main_while1b_v53 main_while1b_v75 (mulf : (⟨S8x64x64, .f32⟩ : BufTy).Contents (Elt F) → (⟨S8x64x64, .f32⟩ : BufTy).Contents (Elt F) → (⟨S8x64x64, .f32⟩ : BufTy).Contents (Elt F))
  :: StableHlo.nullary main_while1b_cst_48 (constant S_ .f32 0x00000000#32)
  :: StableHlo.binary main_while1b_v75 main_while1b_cst_48 main_while1b_v76 ((fun x v => Host.reduceAdd x v reducesTo_S8x64x64_S8x64_d1 h_S_) : (⟨S8x64x64, .f32⟩ : BufTy).Contents (Elt F) → (⟨S_, .f32⟩ : BufTy).Contents (Elt F) → (⟨S8x64, .f32⟩ : BufTy).Contents (Elt F))
  :: StableHlo.reshape main_while1b_v76 main_while1b_v77 (rfl : (.f32 : EltTy) = .f32) shapeCasts_S8x64_S8x1x64
  :: StableHlo.unary main_while1b_v40 main_while1b_v78 (broadcastInDim S8x64x64 ![0, 1, 2] bcast_S8x1x64_S8x64x64_0_1_2 : (⟨S8x1x64, .f32⟩ : BufTy).Contents (Elt F) → (⟨S8x64x64, .f32⟩ : BufTy).Contents (Elt F))
  :: StableHlo.binary main_while1b_v53 main_while1b_v78 main_while1b_v79 (mulf : (⟨S8x64x64, .f32⟩ : BufTy).Contents (Elt F) → (⟨S8x64x64, .f32⟩ : BufTy).Contents (Elt F) → (⟨S8x64x64, .f32⟩ : BufTy).Contents (Elt F))
  :: StableHlo.nullary main_while1b_cst_49 (constant S_ .f32 0x00000000#32)
  :: StableHlo.binary main_while1b_v77 main_while1b_cst_49 main_while1b_v80 ((fun x v => Host.reduceAdd x v reducesTo_S8x1x64_S8x64_d1 h_S_) : (⟨S8x1x64, .f32⟩ : BufTy).Contents (Elt F) → (⟨S_, .f32⟩ : BufTy).Contents (Elt F) → (⟨S8x64, .f32⟩ : BufTy).Contents (Elt F))
  :: StableHlo.unary main_while1b_v74 main_while1b_v81 (broadcastInDim S8x64x64 ![0, 1] bcast_S8x64_S8x64x64_0_1 : (⟨S8x64, .f32⟩ : BufTy).Contents (Elt F) → (⟨S8x64x64, .f32⟩ : BufTy).Contents (Elt F))
  :: StableHlo.binary main_while1b_v39 main_while1b_v81 main_while1b_v82 (mulf : (⟨S8x64x64, .f32⟩ : BufTy).Contents (Elt F) → (⟨S8x64x64, .f32⟩ : BufTy).Contents (Elt F) → (⟨S8x64x64, .f32⟩ : BufTy).Contents (Elt F))
  :: StableHlo.nullary main_while1b_cst_50 (constant S_ .f32 0x00000000#32)
  :: StableHlo.binary main_while1b_v82 main_while1b_cst_50 main_while1b_v83 ((fun x v => Host.reduceAdd x v reducesTo_S8x64x64_S8x64_d1 h_S_) : (⟨S8x64x64, .f32⟩ : BufTy).Contents (Elt F) → (⟨S_, .f32⟩ : BufTy).Contents (Elt F) → (⟨S8x64, .f32⟩ : BufTy).Contents (Elt F))
  :: StableHlo.reshape main_while1b_v83 main_while1b_v84 (rfl : (.f32 : EltTy) = .f32) shapeCasts_S8x64_S8x1x64
  :: StableHlo.unary main_while1b_v38 main_while1b_v85 (broadcastInDim S8x64x64 ![0, 1, 2] bcast_S8x1x64_S8x64x64_0_1_2 : (⟨S8x1x64, .f32⟩ : BufTy).Contents (Elt F) → (⟨S8x64x64, .f32⟩ : BufTy).Contents (Elt F))
  :: StableHlo.binary main_while1b_v81 main_while1b_v85 main_while1b_v86 (mulf : (⟨S8x64x64, .f32⟩ : BufTy).Contents (Elt F) → (⟨S8x64x64, .f32⟩ : BufTy).Contents (Elt F) → (⟨S8x64x64, .f32⟩ : BufTy).Contents (Elt F))
  :: StableHlo.binary main_while1b_v79 main_while1b_v86 main_while1b_v87 (addf : (⟨S8x64x64, .f32⟩ : BufTy).Contents (Elt F) → (⟨S8x64x64, .f32⟩ : BufTy).Contents (Elt F) → (⟨S8x64x64, .f32⟩ : BufTy).Contents (Elt F))
  :: StableHlo.nullary main_while1b_cst_51 (constant S_ .f32 0x00000000#32)
  :: StableHlo.binary main_while1b_v84 main_while1b_cst_51 main_while1b_v88 ((fun x v => Host.reduceAdd x v reducesTo_S8x1x64_S8x64_d1 h_S_) : (⟨S8x1x64, .f32⟩ : BufTy).Contents (Elt F) → (⟨S_, .f32⟩ : BufTy).Contents (Elt F) → (⟨S8x64, .f32⟩ : BufTy).Contents (Elt F))
  :: [] )
/-- Each touches TensorCore references only (`HostSeg.ofOps` over `StableHlo.tcRefs`, or a subset by `sub_ucRefs`). -/
theorem while1Ops0_11_sub : (while1Ops0_11 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.nullary_bufs_sub .., StableHlo.binary_bufs_sub ..⟩
/-- 4 host operations of @dynamic_update_index_in_dim (main_while1b_call26), in order. -/
abbrev while1Ops0_12 : List (HloOp τ sig (Elt F)) :=
  [ StableHlo.TRef.unary (.of main_while1b_v54 : StableHlo.TRef sig ⟨S8x64, .f32⟩) (.of main_while1b_call26_v0 : StableHlo.TRef sig ⟨S1x8x64, .f32⟩) (broadcastInDim S1x8x64 ![1, 2] bcast_S8x64_S1x8x64_1_2),
    StableHlo.TRef.nullary (.of main_while1b_call26_c : StableHlo.TRef sig ⟨S_, .i32⟩) (constantI S_ 32 0#32),
    StableHlo.TRef.nullary (.of main_while1b_call26_c_0 : StableHlo.TRef sig ⟨S_, .i32⟩) (constantI S_ 32 0#32),
    StableHlo.TRef.binaryIndexed (.of main_v28_12 : StableHlo.TRef sig ⟨S2048x8x64, .f32⟩) (.of main_while1b_call26_v0 : StableHlo.TRef sig ⟨S1x8x64, .f32⟩) ![(.of main_while1b_v36 : StableHlo.TRef sig ⟨S_, .i32⟩), (.of main_while1b_call26_c : StableHlo.TRef sig ⟨S_, .i32⟩), (.of main_while1b_call26_c_0 : StableHlo.TRef sig ⟨S_, .i32⟩)] (.of main_while1b_v89 : StableHlo.TRef sig ⟨S2048x8x64, .f32⟩) (fun x u i => Host.dynamicUpdateSlice x u (fun k => (i k (Shape.Idx.first h_S_)).toInt) updateFits_S2048x8x64_S1x8x64) ]
/-- Each touches TensorCore references only (`HostSeg.ofOps` over `StableHlo.tcRefs`, or a subset by `sub_ucRefs`). -/
theorem while1Ops0_12_sub : (while1Ops0_12 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while1b_call27), in order. -/
abbrev while1Ops0_13 : List (HloOp τ sig (Elt F)) :=
  [ StableHlo.TRef.unary (.of main_while1b_v80 : StableHlo.TRef sig ⟨S8x64, .f32⟩) (.of main_while1b_call27_v0 : StableHlo.TRef sig ⟨S1x8x64, .f32⟩) (broadcastInDim S1x8x64 ![1, 2] bcast_S8x64_S1x8x64_1_2),
    StableHlo.TRef.nullary (.of main_while1b_call27_c : StableHlo.TRef sig ⟨S_, .i32⟩) (constantI S_ 32 0#32),
    StableHlo.TRef.nullary (.of main_while1b_call27_c_0 : StableHlo.TRef sig ⟨S_, .i32⟩) (constantI S_ 32 0#32),
    StableHlo.TRef.binaryIndexed (.of main_v28_13 : StableHlo.TRef sig ⟨S2048x8x64, .f32⟩) (.of main_while1b_call27_v0 : StableHlo.TRef sig ⟨S1x8x64, .f32⟩) ![(.of main_while1b_v36 : StableHlo.TRef sig ⟨S_, .i32⟩), (.of main_while1b_call27_c : StableHlo.TRef sig ⟨S_, .i32⟩), (.of main_while1b_call27_c_0 : StableHlo.TRef sig ⟨S_, .i32⟩)] (.of main_while1b_v90 : StableHlo.TRef sig ⟨S2048x8x64, .f32⟩) (fun x u i => Host.dynamicUpdateSlice x u (fun k => (i k (Shape.Idx.first h_S_)).toInt) updateFits_S2048x8x64_S1x8x64) ]
/-- Each touches TensorCore references only (`HostSeg.ofOps` over `StableHlo.tcRefs`, or a subset by `sub_ucRefs`). -/
theorem while1Ops0_13_sub : (while1Ops0_13 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while1b_call28), in order. -/
abbrev while1Ops0_14 : List (HloOp τ sig (Elt F)) :=
  [ StableHlo.TRef.unary (.of main_while1b_v63 : StableHlo.TRef sig ⟨S8x64, .f32⟩) (.of main_while1b_call28_v0 : StableHlo.TRef sig ⟨S1x8x64, .f32⟩) (broadcastInDim S1x8x64 ![1, 2] bcast_S8x64_S1x8x64_1_2),
    StableHlo.TRef.nullary (.of main_while1b_call28_c : StableHlo.TRef sig ⟨S_, .i32⟩) (constantI S_ 32 0#32),
    StableHlo.TRef.nullary (.of main_while1b_call28_c_0 : StableHlo.TRef sig ⟨S_, .i32⟩) (constantI S_ 32 0#32),
    StableHlo.TRef.binaryIndexed (.of main_v28_14 : StableHlo.TRef sig ⟨S2048x8x64, .f32⟩) (.of main_while1b_call28_v0 : StableHlo.TRef sig ⟨S1x8x64, .f32⟩) ![(.of main_while1b_v36 : StableHlo.TRef sig ⟨S_, .i32⟩), (.of main_while1b_call28_c : StableHlo.TRef sig ⟨S_, .i32⟩), (.of main_while1b_call28_c_0 : StableHlo.TRef sig ⟨S_, .i32⟩)] (.of main_while1b_v91 : StableHlo.TRef sig ⟨S2048x8x64, .f32⟩) (fun x u i => Host.dynamicUpdateSlice x u (fun k => (i k (Shape.Idx.first h_S_)).toInt) updateFits_S2048x8x64_S1x8x64) ]
/-- Each touches TensorCore references only (`HostSeg.ofOps` over `StableHlo.tcRefs`, or a subset by `sub_ucRefs`). -/
theorem while1Ops0_14_sub : (while1Ops0_14 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while1b_call29), in order. -/
abbrev while1Ops0_15 : List (HloOp τ sig (Elt F)) :=
  [ StableHlo.TRef.unary (.of main_while1b_v64 : StableHlo.TRef sig ⟨S8x64, .f32⟩) (.of main_while1b_call29_v0 : StableHlo.TRef sig ⟨S1x8x64, .f32⟩) (broadcastInDim S1x8x64 ![1, 2] bcast_S8x64_S1x8x64_1_2),
    StableHlo.TRef.nullary (.of main_while1b_call29_c : StableHlo.TRef sig ⟨S_, .i32⟩) (constantI S_ 32 0#32),
    StableHlo.TRef.nullary (.of main_while1b_call29_c_0 : StableHlo.TRef sig ⟨S_, .i32⟩) (constantI S_ 32 0#32),
    StableHlo.TRef.binaryIndexed (.of main_v28_15 : StableHlo.TRef sig ⟨S2048x8x64, .f32⟩) (.of main_while1b_call29_v0 : StableHlo.TRef sig ⟨S1x8x64, .f32⟩) ![(.of main_while1b_v36 : StableHlo.TRef sig ⟨S_, .i32⟩), (.of main_while1b_call29_c : StableHlo.TRef sig ⟨S_, .i32⟩), (.of main_while1b_call29_c_0 : StableHlo.TRef sig ⟨S_, .i32⟩)] (.of main_while1b_v92 : StableHlo.TRef sig ⟨S2048x8x64, .f32⟩) (fun x u i => Host.dynamicUpdateSlice x u (fun k => (i k (Shape.Idx.first h_S_)).toInt) updateFits_S2048x8x64_S1x8x64) ]
/-- Each touches TensorCore references only (`HostSeg.ofOps` over `StableHlo.tcRefs`, or a subset by `sub_ucRefs`). -/
theorem while1Ops0_15_sub : (while1Ops0_15 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while1b_call30), in order. -/
abbrev while1Ops0_16 : List (HloOp τ sig (Elt F)) :=
  [ StableHlo.TRef.unary (.of main_while1b_v88 : StableHlo.TRef sig ⟨S8x64, .f32⟩) (.of main_while1b_call30_v0 : StableHlo.TRef sig ⟨S1x8x64, .f32⟩) (broadcastInDim S1x8x64 ![1, 2] bcast_S8x64_S1x8x64_1_2),
    StableHlo.TRef.nullary (.of main_while1b_call30_c : StableHlo.TRef sig ⟨S_, .i32⟩) (constantI S_ 32 0#32),
    StableHlo.TRef.nullary (.of main_while1b_call30_c_0 : StableHlo.TRef sig ⟨S_, .i32⟩) (constantI S_ 32 0#32),
    StableHlo.TRef.binaryIndexed (.of main_v28_16 : StableHlo.TRef sig ⟨S2048x8x64, .f32⟩) (.of main_while1b_call30_v0 : StableHlo.TRef sig ⟨S1x8x64, .f32⟩) ![(.of main_while1b_v36 : StableHlo.TRef sig ⟨S_, .i32⟩), (.of main_while1b_call30_c : StableHlo.TRef sig ⟨S_, .i32⟩), (.of main_while1b_call30_c_0 : StableHlo.TRef sig ⟨S_, .i32⟩)] (.of main_while1b_v93 : StableHlo.TRef sig ⟨S2048x8x64, .f32⟩) (fun x u i => Host.dynamicUpdateSlice x u (fun k => (i k (Shape.Idx.first h_S_)).toInt) updateFits_S2048x8x64_S1x8x64) ]
/-- Each touches TensorCore references only (`HostSeg.ofOps` over `StableHlo.tcRefs`, or a subset by `sub_ucRefs`). -/
theorem while1Ops0_16_sub : (while1Ops0_16 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim (main_while1b_call31), in order. -/
abbrev while1Ops0_17 : List (HloOp τ sig (Elt F)) :=
  [ StableHlo.TRef.unary (.of main_while1b_v73 : StableHlo.TRef sig ⟨S8x64, .f32⟩) (.of main_while1b_call31_v0 : StableHlo.TRef sig ⟨S1x8x64, .f32⟩) (broadcastInDim S1x8x64 ![1, 2] bcast_S8x64_S1x8x64_1_2),
    StableHlo.TRef.nullary (.of main_while1b_call31_c : StableHlo.TRef sig ⟨S_, .i32⟩) (constantI S_ 32 0#32),
    StableHlo.TRef.nullary (.of main_while1b_call31_c_0 : StableHlo.TRef sig ⟨S_, .i32⟩) (constantI S_ 32 0#32),
    StableHlo.TRef.binaryIndexed (.of main_v28_17 : StableHlo.TRef sig ⟨S2048x8x64, .f32⟩) (.of main_while1b_call31_v0 : StableHlo.TRef sig ⟨S1x8x64, .f32⟩) ![(.of main_while1b_v36 : StableHlo.TRef sig ⟨S_, .i32⟩), (.of main_while1b_call31_c : StableHlo.TRef sig ⟨S_, .i32⟩), (.of main_while1b_call31_c_0 : StableHlo.TRef sig ⟨S_, .i32⟩)] (.of main_while1b_v94 : StableHlo.TRef sig ⟨S2048x8x64, .f32⟩) (fun x u i => Host.dynamicUpdateSlice x u (fun k => (i k (Shape.Idx.first h_S_)).toInt) updateFits_S2048x8x64_S1x8x64) ]
/-- Each touches TensorCore references only (`HostSeg.ofOps` over `StableHlo.tcRefs`, or a subset by `sub_ucRefs`). -/
theorem while1Ops0_17_sub : (while1Ops0_17 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 10 host operations of host loop 1's body region, in order. -/
abbrev while1Ops0_18 : List (HloOp τ sig (Elt F)) :=
  [ StableHlo.nullary main_while1b_c_52 (constantI S_ 32 1#32),
    StableHlo.binary main_v28_10 main_while1b_c_52 main_while1b_v95 (addi : (⟨S_, .i32⟩ : BufTy).Contents (Elt F) → (⟨S_, .i32⟩ : BufTy).Contents (Elt F) → (⟨S_, .i32⟩ : BufTy).Contents (Elt F)),
    StableHlo.unary main_while1b_v95 main_v28_10 id,
    StableHlo.unary main_while1b_v87 main_v28_11 id,
    StableHlo.unary main_while1b_v89 main_v28_12 id,
    StableHlo.unary main_while1b_v90 main_v28_13 id,
    StableHlo.unary main_while1b_v91 main_v28_14 id,
    StableHlo.unary main_while1b_v92 main_v28_15 id,
    StableHlo.unary main_while1b_v93 main_v28_16 id,
    StableHlo.unary main_while1b_v94 main_v28_17 id ]
/-- Each touches TensorCore references only (`HostSeg.ofOps` over `StableHlo.tcRefs`, or a subset by `sub_ucRefs`). -/
theorem while1Ops0_18_sub : (while1Ops0_18 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- `main_while1_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9,
    StableHlo.seq while1Ops0_10,
    StableHlo.seq while1Ops0_11,
    StableHlo.seq while1Ops0_12,
    StableHlo.seq while1Ops0_13,
    StableHlo.seq while1Ops0_14,
    StableHlo.seq while1Ops0_15,
    StableHlo.seq while1Ops0_16,
    StableHlo.seq while1Ops0_17,
    StableHlo.seq while1Ops0_18 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

end Cert.ReferenceIdeal.Scan

end
-- ==== Proof.Scan.RefLoops.lean ====
/- The two loops of the reference, forward and backward, and its run. -/
module

public import proofs.«01_k».proof.Proof.Scan.RefChain
public import Idealize.ShloMosaic.Lib.Pipeline.RegionsLoop
public import Idealize.ShloMosaic.Lib.Pipeline.RegionsOwned
public import Idealize.ShloMosaic.Lib.StableHlo.RunLoop
public import Idealize.ShloMosaic.Lib.Scf.ExitTest
public import Idealize.ShloMosaic.Lib.Scf.Counter

@[expose] public section

set_option maxRecDepth 16384

noncomputable section

namespace Cert.ReferenceIdeal.Scan

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the proof. -/
abbrev UU : Type := Rounds.URounds (GSem nD τ sig) Unit
abbrev 𝒱₀ : Variants := Variants.none
local notation "𝕄" => MT nD τ sig Unit (Elt F) ℕ UU ℕ

/-- The arguments. -/
abbrev argRefs : List (Ref sig .tc) := [main_arg0, main_arg1, main_arg2, main_arg3, main_arg4, main_arg5, main_arg6]

theorem hostOps0_fresh : (hostOps0 : List (HloOp τ sig (Elt F))).Forall fun op => op.fresh = ∅ := by
  simp only [List.Forall]; repeat' constructor
/-- What `hostOps0` writes, in order. -/
abbrev hostOps0_W : List (Ref sig .tc) := [main_v0, main_v1, main_v2, main_v3, main_v4, main_v5, main_cst, main_v6, main_cst_0, main_v7, main_cst_1, main_v8, main_cst_2, main_v9, main_cst_3, main_v10, main_cst_4, main_v11, main_cst_5, main_v12, main_cst_6, main_v13, main_cst_7, main_v14, main_cst_8, main_v15, main_cst_9, main_v16, main_c, main_v17_0, main_v17_1, main_v17_2, main_v17_3, main_v17_4, main_v17_5, main_v17_6, main_v17_7, main_v17_8, main_v17_9, main_v17_10, main_v17_11, main_v17_12, main_v17_13, main_v17_14, main_v17_15, main_v17_16, main_v17_17]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := by decide

theorem hostOps0_1_fresh : (hostOps0_1 : List (HloOp τ sig (Elt F))).Forall fun op => op.fresh = ∅ := by
  simp only [List.Forall]; repeat' constructor
/-- What `hostOps0_1` writes, in order. -/
abbrev hostOps0_1_W : List (Ref sig .tc) := [main_v18, main_cst_10, main_v19, main_v20, main_cst_11, main_v21, main_cst_12, main_v22, main_cst_13, main_v23, main_cst_14, main_v24, main_cst_15, main_v25, main_cst_16, main_v26, main_cst_17, main_v27, main_c_18, main_v28_0, main_v28_1, main_v28_2, main_v28_3, main_v28_4, main_v28_5, main_v28_6, main_v28_7, main_v28_8, main_v28_9, main_v28_10, main_v28_11, main_v28_12, main_v28_13, main_v28_14, main_v28_15, main_v28_16, main_v28_17]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := by decide

theorem hostOps0_2_fresh : (hostOps0_2 : List (HloOp τ sig (Elt F))).Forall fun op => op.fresh = ∅ := by
  simp only [List.Forall]; repeat' constructor
/-- What `hostOps0_2` writes, in order. -/
abbrev hostOps0_2_W : List (Ref sig .tc) := [main_v29, main_v30, main_v31, main_v32, main_v33, main_v34]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := by decide

/-- What `while0Ops0` writes, in order. -/
abbrev while0Ops0_W : List (Ref sig .tc) := [main_while0b_call0_c, main_while0b_call0_c_0, main_while0b_call0_v0, main_while0b_v35]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_args : ∀ a ∈ argRefs, a ∉ while0Ops0_W := by decide

/-- What `while0Ops0_1` writes, in order. -/
abbrev while0Ops0_1_W : List (Ref sig .tc) := [main_while0b_call1_c, main_while0b_call1_c_0, main_while0b_call1_v0, main_while0b_v36]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_1_args : ∀ a ∈ argRefs, a ∉ while0Ops0_1_W := by decide

/-- What `while0Ops0_2` writes, in order. -/
abbrev while0Ops0_2_W : List (Ref sig .tc) := [main_while0b_call2_c, main_while0b_call2_c_0, main_while0b_call2_v0, main_while0b_v37]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_2_args : ∀ a ∈ argRefs, a ∉ while0Ops0_2_W := by decide

/-- What `while0Ops0_3` writes, in order. -/
abbrev while0Ops0_3_W : List (Ref sig .tc) := [main_while0b_call3_c, main_while0b_call3_c_0, main_while0b_call3_v0, main_while0b_v38]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_3_args : ∀ a ∈ argRefs, a ∉ while0Ops0_3_W := by decide

/-- What `while0Ops0_4` writes, in order. -/
abbrev while0Ops0_4_W : List (Ref sig .tc) := [main_while0b_call4_c, main_while0b_call4_c_0, main_while0b_call4_v0, main_while0b_v39]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_4_args : ∀ a ∈ argRefs, a ∉ while0Ops0_4_W := by decide

/-- What `while0Ops0_5` writes, in order. -/
abbrev while0Ops0_5_W : List (Ref sig .tc) := [main_while0b_call5_c, main_while0b_call5_c_0, main_while0b_call5_v0, main_while0b_v40]
theorem while0Ops0_5_writes : (while0Ops0_5 : List (HloOp τ sig (Elt F))).Forall fun op => op.writes ⊆ (while0Ops0_5_W.map (Proc.devRef (τ := τ) .tc)).toFinset :=
  StableHlo.forall_writes_sub_of_map rfl
theorem while0Ops0_5_args : ∀ a ∈ argRefs, a ∉ while0Ops0_5_W := by decide

/-- What `while0Ops0_6` writes, in order. -/
abbrev while0Ops0_6_W : List (Ref sig .tc) := [main_while0b_v41, main_while0b_v42, main_while0b_v43, main_while0b_cst_36, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_v62, main_while0b_cst_37, main_while0b_v63]
theorem while0Ops0_6_writes : (while0Ops0_6 : List (HloOp τ sig (Elt F))).Forall fun op => op.writes ⊆ (while0Ops0_6_W.map (Proc.devRef (τ := τ) .tc)).toFinset :=
  StableHlo.forall_writes_sub_of_map rfl
theorem while0Ops0_6_args : ∀ a ∈ argRefs, a ∉ while0Ops0_6_W := by decide

/-- What `while0Ops0_7` writes, in order. -/
abbrev while0Ops0_7_W : List (Ref sig .tc) := [main_while0b_call6_v0, main_while0b_call6_c, main_while0b_call6_c_0, main_while0b_v64]
theorem while0Ops0_7_writes : (while0Ops0_7 : List (HloOp τ sig (Elt F))).Forall fun op => op.writes ⊆ (while0Ops0_7_W.map (Proc.devRef (τ := τ) .tc)).toFinset :=
  StableHlo.forall_writes_sub_of_map rfl
theorem while0Ops0_7_args : ∀ a ∈ argRefs, a ∉ while0Ops0_7_W := by decide

/-- What `while0Ops0_8` writes, in order. -/
abbrev while0Ops0_8_W : List (Ref sig .tc) := [main_while0b_call7_v0, main_while0b_call7_c, main_while0b_call7_c_0, main_while0b_call7_c_1, main_while0b_v65]
theorem while0Ops0_8_writes : (while0Ops0_8 : List (HloOp τ sig (Elt F))).Forall fun op => op.writes ⊆ (while0Ops0_8_W.map (Proc.devRef (τ := τ) .tc)).toFinset :=
  StableHlo.forall_writes_sub_of_map rfl
theorem while0Ops0_8_args : ∀ a ∈ argRefs, a ∉ while0Ops0_8_W := by decide

/-- What `while0Ops0_9` writes, in order. -/
abbrev while0Ops0_9_W : List (Ref sig .tc) := [main_while0b_call8_v0, main_while0b_call8_c, main_while0b_call8_c_0, main_while0b_call8_c_1, main_while0b_v66]
theorem while0Ops0_9_writes : (while0Ops0_9 : List (HloOp τ sig (Elt F))).Forall fun op => op.writes ⊆ (while0Ops0_9_W.map (Proc.devRef (τ := τ) .tc)).toFinset :=
  StableHlo.forall_writes_sub_of_map rfl
theorem while0Ops0_9_args : ∀ a ∈ argRefs, a ∉ while0Ops0_9_W := by decide

/-- What `while0Ops0_10` writes, in order. -/
abbrev while0Ops0_10_W : List (Ref sig .tc) := [main_while0b_call9_v0, main_while0b_call9_c, main_while0b_call9_c_0, main_while0b_call9_c_1, main_while0b_v67]
theorem while0Ops0_10_writes : (while0Ops0_10 : List (HloOp τ sig (Elt F))).Forall fun op => op.writes ⊆ (while0Ops0_10_W.map (Proc.devRef (τ := τ) .tc)).toFinset :=
  StableHlo.forall_writes_sub_of_map rfl
theorem while0Ops0_10_args : ∀ a ∈ argRefs, a ∉ while0Ops0_10_W := by decide

/-- What `while0Ops0_11` writes, in order. -/
abbrev while0Ops0_11_W : List (Ref sig .tc) := [main_while0b_call10_v0, main_while0b_call10_c, main_while0b_call10_c_0, main_while0b_call10_c_1, main_while0b_v68]
theorem while0Ops0_11_writes : (while0Ops0_11 : List (HloOp τ sig (Elt F))).Forall fun op => op.writes ⊆ (while0Ops0_11_W.map (Proc.devRef (τ := τ) .tc)).toFinset :=
  StableHlo.forall_writes_sub_of_map rfl
theorem while0Ops0_11_args : ∀ a ∈ argRefs, a ∉ while0Ops0_11_W := by decide

/-- What `while0Ops0_12` writes, in order. -/
abbrev while0Ops0_12_W : List (Ref sig .tc) := [main_while0b_call11_v0, main_while0b_call11_c, main_while0b_call11_c_0, main_while0b_call11_c_1, main_while0b_v69]
theorem while0Ops0_12_writes : (while0Ops0_12 : List (HloOp τ sig (Elt F))).Forall fun op => op.writes ⊆ (while0Ops0_12_W.map (Proc.devRef (τ := τ) .tc)).toFinset :=
  StableHlo.forall_writes_sub_of_map rfl
theorem while0Ops0_12_args : ∀ a ∈ argRefs, a ∉ while0Ops0_12_W := by decide

/-- What `while0Ops0_13` writes, in order. -/
abbrev while0Ops0_13_W : List (Ref sig .tc) := [main_while0b_call12_v0, main_while0b_call12_c, main_while0b_call12_c_0, main_while0b_call12_c_1, main_while0b_v70]
theorem while0Ops0_13_writes : (while0Ops0_13 : List (HloOp τ sig (Elt F))).Forall fun op => op.writes ⊆ (while0Ops0_13_W.map (Proc.devRef (τ := τ) .tc)).toFinset :=
  StableHlo.forall_writes_sub_of_map rfl
theorem while0Ops0_13_args : ∀ a ∈ argRefs, a ∉ while0Ops0_13_W := by decide

/-- What `while0Ops0_14` writes, in order. -/
abbrev while0Ops0_14_W : List (Ref sig .tc) := [main_while0b_call13_v0, main_while0b_call13_c, main_while0b_call13_c_0, main_while0b_call13_c_1, main_while0b_v71]
theorem while0Ops0_14_writes : (while0Ops0_14 : List (HloOp τ sig (Elt F))).Forall fun op => op.writes ⊆ (while0Ops0_14_W.map (Proc.devRef (τ := τ) .tc)).toFinset :=
  StableHlo.forall_writes_sub_of_map rfl
theorem while0Ops0_14_args : ∀ a ∈ argRefs, a ∉ while0Ops0_14_W := by decide

/-- What `while0Ops0_15` writes, in order. -/
abbrev while0Ops0_15_W : List (Ref sig .tc) := [main_while0b_call14_v0, main_while0b_call14_c, main_while0b_call14_c_0, main_while0b_call14_c_1, main_while0b_v72]
theorem while0Ops0_15_writes : (while0Ops0_15 : List (HloOp τ sig (Elt F))).Forall fun op => op.writes ⊆ (while0Ops0_15_W.map (Proc.devRef (τ := τ) .tc)).toFinset :=
  StableHlo.forall_writes_sub_of_map rfl
theorem while0Ops0_15_args : ∀ a ∈ argRefs, a ∉ while0Ops0_15_W := by decide

/-- What `while0Ops0_16` writes, in order. -/
abbrev while0Ops0_16_W : List (Ref sig .tc) := [main_while0b_call15_v0, main_while0b_call15_c, main_while0b_call15_c_0, main_while0b_call15_c_1, main_while0b_v73]
theorem while0Ops0_16_writes : (while0Ops0_16 : List (HloOp τ sig (Elt F))).Forall fun op => op.writes ⊆ (while0Ops0_16_W.map (Proc.devRef (τ := τ) .tc)).toFinset :=
  StableHlo.forall_writes_sub_of_map rfl
theorem while0Ops0_16_args : ∀ a ∈ argRefs, a ∉ while0Ops0_16_W := by decide

/-- What `while0Ops0_17` writes, in order. -/
abbrev while0Ops0_17_W : List (Ref sig .tc) := [main_while0b_c_38, main_while0b_v74, main_v17_6, main_v17_7, main_v17_8, main_v17_9, main_v17_10, main_v17_11, main_v17_12, main_v17_13, main_v17_14, main_v17_15, main_v17_16, main_v17_17]
theorem while0Ops0_17_writes : (while0Ops0_17 : List (HloOp τ sig (Elt F))).Forall fun op => op.writes ⊆ (while0Ops0_17_W.map (Proc.devRef (τ := τ) .tc)).toFinset :=
  StableHlo.forall_writes_sub_of_map rfl
theorem while0Ops0_17_args : ∀ a ∈ argRefs, a ∉ while0Ops0_17_W := by decide

/-- What `while1Ops0` writes, in order. -/
abbrev while1Ops0_W : List (Ref sig .tc) := [main_while1b_c_36, main_while1b_v35, main_while1b_c_37, main_while1b_v36]
theorem while1Ops0_writes : (while1Ops0 : List (HloOp τ sig (Elt F))).Forall fun op => op.writes ⊆ (while1Ops0_W.map (Proc.devRef (τ := τ) .tc)).toFinset :=
  StableHlo.forall_writes_sub_of_map rfl
theorem while1Ops0_args : ∀ a ∈ argRefs, a ∉ while1Ops0_W := by decide

/-- What `while1Ops0_1` writes, in order. -/
abbrev while1Ops0_1_W : List (Ref sig .tc) := [main_while1b_call16_c, main_while1b_call16_c_0, main_while1b_call16_v0, main_while1b_v37]
theorem while1Ops0_1_writes : (while1Ops0_1 : List (HloOp τ sig (Elt F))).Forall fun op => op.writes ⊆ (while1Ops0_1_W.map (Proc.devRef (τ := τ) .tc)).toFinset :=
  StableHlo.forall_writes_sub_of_map rfl
theorem while1Ops0_1_args : ∀ a ∈ argRefs, a ∉ while1Ops0_1_W := by decide

/-- What `while1Ops0_2` writes, in order. -/
abbrev while1Ops0_2_W : List (Ref sig .tc) := [main_while1b_call17_c, main_while1b_call17_c_0, main_while1b_call17_c_1, main_while1b_call17_v0, main_while1b_v38]
theorem while1Ops0_2_writes : (while1Ops0_2 : List (HloOp τ sig (Elt F))).Forall fun op => op.writes ⊆ (while1Ops0_2_W.map (Proc.devRef (τ := τ) .tc)).toFinset :=
  StableHlo.forall_writes_sub_of_map rfl
theorem while1Ops0_2_args : ∀ a ∈ argRefs, a ∉ while1Ops0_2_W := by decide

/-- What `while1Ops0_3` writes, in order. -/
abbrev while1Ops0_3_W : List (Ref sig .tc) := [main_while1b_call18_c, main_while1b_call18_c_0, main_while1b_call18_c_1, main_while1b_call18_v0, main_while1b_v39]
theorem while1Ops0_3_writes : (while1Ops0_3 : List (HloOp τ sig (Elt F))).Forall fun op => op.writes ⊆ (while1Ops0_3_W.map (Proc.devRef (τ := τ) .tc)).toFinset :=
  StableHlo.forall_writes_sub_of_map rfl
theorem while1Ops0_3_args : ∀ a ∈ argRefs, a ∉ while1Ops0_3_W := by decide

/-- What `while1Ops0_4` writes, in order. -/
abbrev while1Ops0_4_W : List (Ref sig .tc) := [main_while1b_call19_c, main_while1b_call19_c_0, main_while1b_call19_c_1, main_while1b_call19_v0, main_while1b_v40]
theorem while1Ops0_4_writes : (while1Ops0_4 : List (HloOp τ sig (Elt F))).Forall fun op => op.writes ⊆ (while1Ops0_4_W.map (Proc.devRef (τ := τ) .tc)).toFinset :=
  StableHlo.forall_writes_sub_of_map rfl
theorem while1Ops0_4_args : ∀ a ∈ argRefs, a ∉ while1Ops0_4_W := by decide

/-- What `while1Ops0_5` writes, in order. -/
abbrev while1Ops0_5_W : List (Ref sig .tc) := [main_while1b_call20_c, main_while1b_call20_c_0, main_while1b_call20_c_1, main_while1b_call20_v0, main_while1b_v41]
theorem while1Ops0_5_writes : (while1Ops0_5 : List (HloOp τ sig (Elt F))).Forall fun op => op.writes ⊆ (while1Ops0_5_W.map (Proc.devRef (τ := τ) .tc)).toFinset :=
  StableHlo.forall_writes_sub_of_map rfl
theorem while1Ops0_5_args : ∀ a ∈ argRefs, a ∉ while1Ops0_5_W := by decide

/-- What `while1Ops0_6` writes, in order. -/
abbrev while1Ops0_6_W : List (Ref sig .tc) := [main_while1b_call21_c, main_while1b_call21_c_0, main_while1b_call21_c_1, main_while1b_call21_v0, main_while1b_v42]
theorem while1Ops0_6_writes : (while1Ops0_6 : List (HloOp τ sig (Elt F))).Forall fun op => op.writes ⊆ (while1Ops0_6_W.map (Proc.devRef (τ := τ) .tc)).toFinset :=
  StableHlo.forall_writes_sub_of_map rfl
theorem while1Ops0_6_args : ∀ a ∈ argRefs, a ∉ while1Ops0_6_W := by decide

/-- What `while1Ops0_7` writes, in order. -/
abbrev while1Ops0_7_W : List (Ref sig .tc) := [main_while1b_call22_c, main_while1b_call22_c_0, main_while1b_call22_c_1, main_while1b_call22_v0, main_while1b_v43]
theorem while1Ops0_7_writes : (while1Ops0_7 : List (HloOp τ sig (Elt F))).Forall fun op => op.writes ⊆ (while1Ops0_7_W.map (Proc.devRef (τ := τ) .tc)).toFinset :=
  StableHlo.forall_writes_sub_of_map rfl
theorem while1Ops0_7_args : ∀ a ∈ argRefs, a ∉ while1Ops0_7_W := by decide

/-- What `while1Ops0_8` writes, in order. -/
abbrev while1Ops0_8_W : List (Ref sig .tc) := [main_while1b_call23_c, main_while1b_call23_c_0, main_while1b_call23_c_1, main_while1b_call23_v0, main_while1b_v44]
theorem while1Ops0_8_writes : (while1Ops0_8 : List (HloOp τ sig (Elt F))).Forall fun op => op.writes ⊆ (while1Ops0_8_W.map (Proc.devRef (τ := τ) .tc)).toFinset :=
  StableHlo.forall_writes_sub_of_map rfl
theorem while1Ops0_8_args : ∀ a ∈ argRefs, a ∉ while1Ops0_8_W := by decide

/-- What `while1Ops0_9` writes, in order. -/
abbrev while1Ops0_9_W : List (Ref sig .tc) := [main_while1b_call24_c, main_while1b_call24_c_0, main_while1b_call24_c_1, main_while1b_call24_v0, main_while1b_v45]
theorem while1Ops0_9_writes : (while1Ops0_9 : List (HloOp τ sig (Elt F))).Forall fun op => op.writes ⊆ (while1Ops0_9_W.map (Proc.devRef (τ := τ) .tc)).toFinset :=
  StableHlo.forall_writes_sub_of_map rfl
theorem while1Ops0_9_args : ∀ a ∈ argRefs, a ∉ while1Ops0_9_W := by decide

/-- What `while1Ops0_10` writes, in order. -/
abbrev while1Ops0_10_W : List (Ref sig .tc) := [main_while1b_call25_c, main_while1b_call25_c_0, main_while1b_call25_c_1, main_while1b_call25_v0, main_while1b_v46]
theorem while1Ops0_10_writes : (while1Ops0_10 : List (HloOp τ sig (Elt F))).Forall fun op => op.writes ⊆ (while1Ops0_10_W.map (Proc.devRef (τ := τ) .tc)).toFinset :=
  StableHlo.forall_writes_sub_of_map rfl
theorem while1Ops0_10_args : ∀ a ∈ argRefs, a ∉ while1Ops0_10_W := by decide

/-- What `while1Ops0_11` writes, in order. -/
abbrev while1Ops0_11_W : List (Ref sig .tc) := [main_while1b_v47, main_while1b_v48, main_while1b_cst_38, main_while1b_v49, main_while1b_v50, main_while1b_v51, main_while1b_v52, main_while1b_v53, main_while1b_cst_39, main_while1b_v54, main_while1b_v55, main_while1b_v56, main_while1b_cst_40, main_while1b_v57, main_while1b_v58, main_while1b_v59, main_while1b_v60, main_while1b_cst_41, main_while1b_v61, main_while1b_v62, main_while1b_cst_42, main_while1b_v63, main_while1b_cst_43, main_while1b_v64, main_while1b_v65, main_while1b_v66, main_while1b_cst_44, main_while1b_v67, main_while1b_v68, main_while1b_v69, main_while1b_v70, main_while1b_cst_45, main_while1b_v71, main_while1b_v72, main_while1b_cst_46, main_while1b_v73, main_while1b_cst_47, main_while1b_v74, main_while1b_v75, main_while1b_cst_48, main_while1b_v76, main_while1b_v77, main_while1b_v78, main_while1b_v79, main_while1b_cst_49, main_while1b_v80, main_while1b_v81, main_while1b_v82, main_while1b_cst_50, main_while1b_v83, main_while1b_v84, main_while1b_v85, main_while1b_v86, main_while1b_v87, main_while1b_cst_51, main_while1b_v88]
theorem while1Ops0_11_writes : (while1Ops0_11 : List (HloOp τ sig (Elt F))).Forall fun op => op.writes ⊆ (while1Ops0_11_W.map (Proc.devRef (τ := τ) .tc)).toFinset :=
  StableHlo.forall_writes_sub_of_map rfl
theorem while1Ops0_11_args : ∀ a ∈ argRefs, a ∉ while1Ops0_11_W := by decide

/-- What `while1Ops0_12` writes, in order. -/
abbrev while1Ops0_12_W : List (Ref sig .tc) := [main_while1b_call26_v0, main_while1b_call26_c, main_while1b_call26_c_0, main_while1b_v89]
theorem while1Ops0_12_writes : (while1Ops0_12 : List (HloOp τ sig (Elt F))).Forall fun op => op.writes ⊆ (while1Ops0_12_W.map (Proc.devRef (τ := τ) .tc)).toFinset :=
  StableHlo.forall_writes_sub_of_map rfl
theorem while1Ops0_12_args : ∀ a ∈ argRefs, a ∉ while1Ops0_12_W := by decide

/-- What `while1Ops0_13` writes, in order. -/
abbrev while1Ops0_13_W : List (Ref sig .tc) := [main_while1b_call27_v0, main_while1b_call27_c, main_while1b_call27_c_0, main_while1b_v90]
theorem while1Ops0_13_writes : (while1Ops0_13 : List (HloOp τ sig (Elt F))).Forall fun op => op.writes ⊆ (while1Ops0_13_W.map (Proc.devRef (τ := τ) .tc)).toFinset :=
  StableHlo.forall_writes_sub_of_map rfl
theorem while1Ops0_13_args : ∀ a ∈ argRefs, a ∉ while1Ops0_13_W := by decide

/-- What `while1Ops0_14` writes, in order. -/
abbrev while1Ops0_14_W : List (Ref sig .tc) := [main_while1b_call28_v0, main_while1b_call28_c, main_while1b_call28_c_0, main_while1b_v91]
theorem while1Ops0_14_writes : (while1Ops0_14 : List (HloOp τ sig (Elt F))).Forall fun op => op.writes ⊆ (while1Ops0_14_W.map (Proc.devRef (τ := τ) .tc)).toFinset :=
  StableHlo.forall_writes_sub_of_map rfl
theorem while1Ops0_14_args : ∀ a ∈ argRefs, a ∉ while1Ops0_14_W := by decide

/-- What `while1Ops0_15` writes, in order. -/
abbrev while1Ops0_15_W : List (Ref sig .tc) := [main_while1b_call29_v0, main_while1b_call29_c, main_while1b_call29_c_0, main_while1b_v92]
theorem while1Ops0_15_writes : (while1Ops0_15 : List (HloOp τ sig (Elt F))).Forall fun op => op.writes ⊆ (while1Ops0_15_W.map (Proc.devRef (τ := τ) .tc)).toFinset :=
  StableHlo.forall_writes_sub_of_map rfl
theorem while1Ops0_15_args : ∀ a ∈ argRefs, a ∉ while1Ops0_15_W := by decide

/-- What `while1Ops0_16` writes, in order. -/
abbrev while1Ops0_16_W : List (Ref sig .tc) := [main_while1b_call30_v0, main_while1b_call30_c, main_while1b_call30_c_0, main_while1b_v93]
theorem while1Ops0_16_writes : (while1Ops0_16 : List (HloOp τ sig (Elt F))).Forall fun op => op.writes ⊆ (while1Ops0_16_W.map (Proc.devRef (τ := τ) .tc)).toFinset :=
  StableHlo.forall_writes_sub_of_map rfl
theorem while1Ops0_16_args : ∀ a ∈ argRefs, a ∉ while1Ops0_16_W := by decide

/-- What `while1Ops0_17` writes, in order. -/
abbrev while1Ops0_17_W : List (Ref sig .tc) := [main_while1b_call31_v0, main_while1b_call31_c, main_while1b_call31_c_0, main_while1b_v94]
theorem while1Ops0_17_writes : (while1Ops0_17 : List (HloOp τ sig (Elt F))).Forall fun op => op.writes ⊆ (while1Ops0_17_W.map (Proc.devRef (τ := τ) .tc)).toFinset :=
  StableHlo.forall_writes_sub_of_map rfl
theorem while1Ops0_17_args : ∀ a ∈ argRefs, a ∉ while1Ops0_17_W := by decide

/-- What `while1Ops0_18` writes, in order. -/
abbrev while1Ops0_18_W : List (Ref sig .tc) := [main_while1b_c_52, main_while1b_v95, main_v28_10, main_v28_11, main_v28_12, main_v28_13, main_v28_14, main_v28_15, main_v28_16, main_v28_17]
theorem while1Ops0_18_writes : (while1Ops0_18 : List (HloOp τ sig (Elt F))).Forall fun op => op.writes ⊆ (while1Ops0_18_W.map (Proc.devRef (τ := τ) .tc)).toFinset :=
  StableHlo.forall_writes_sub_of_map rfl
theorem while1Ops0_18_args : ∀ a ∈ argRefs, a ∉ while1Ops0_18_W := by decide

variable (m : (ℓ : Loc nD τ sig) → Buf (Elt F) ℓ)

/-- The buffers at launch; when the first loop is entered. -/
abbrev W0 : Dev nD → Valuation τ sig (Elt F) := fun c b => m (c, b)
abbrev Went : Dev nD → Valuation τ sig (Elt F) := fun c => StableHlo.after hostOps0 (W0 m c)

theorem Went_args (c : Dev nD) (a : Ref sig .tc) (ha : a ∈ argRefs) : Went m c (Proc.devRef .tc a) = m ((c : Thread nD τ).loc a) :=
  StableHlo.after_of_writes_sub hostOps0 _ hostOps0_writes (hostOps0_args a ha)
theorem Went_ctr (c : Dev nD) : Went m c (Proc.devRef .tc main_v17_6) = fun _ => (0#32 : BitVec 32) := by
  simp only [Went]
  open StableHlo in after_results
  rfl

section
open Idealize.ShloMosaic.StableHlo
/-- The two operations of the condition of loop 0. -/
abbrev cond0 : List (HloOp τ sig (Elt F)) :=
  [ StableHlo.nullary main_while0c_c_36 (constantI S_ 32 2048#32),
    StableHlo.binary main_v17_6 main_while0c_c_36 main_while0c_v35 (cmpi .slt) ]
/-- The stretches of the body of loop 0. -/
abbrev body0 : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14, while0Ops0_15, while0Ops0_16, while0Ops0_17]
theorem body0_plain : Plain (body0 (F := F)) := .cons while0Ops0_sub <| .cons while0Ops0_1_sub <| .cons while0Ops0_2_sub <| .cons while0Ops0_3_sub <| .cons while0Ops0_4_sub <| .cons while0Ops0_5_sub <| .cons while0Ops0_6_sub <| .cons while0Ops0_7_sub <| .cons while0Ops0_8_sub <| .cons while0Ops0_9_sub <| .cons while0Ops0_10_sub <| .cons while0Ops0_11_sub <| .cons while0Ops0_12_sub <| .cons while0Ops0_13_sub <| .cons while0Ops0_14_sub <| .cons while0Ops0_15_sub <| .cons while0Ops0_16_sub <| .cons while0Ops0_17_sub <| .nil
end
/-- What `cond0` writes, in order. -/
abbrev cond0_W : List (Ref sig .tc) := [main_while0c_c_36, main_while0c_v35]
theorem cond0_writes : (cond0 : List (HloOp τ sig (Elt F))).Forall fun op => op.writes ⊆ (cond0_W.map (Proc.devRef (τ := τ) .tc)).toFinset :=
  StableHlo.forall_writes_sub_of_map rfl
theorem cond0_args : ∀ a ∈ argRefs, a ∉ cond0_W := by decide

/-- The buffers before the `k`-th condition of loop 0, and after the loop. -/
abbrev at0 (k : ℕ) (c : Dev nD) : Valuation τ sig (Elt F) := StableHlo.atTrip cond0 body0 (Went m) k c
abbrev exit0 : Dev nD → Valuation τ sig (Elt F) := fun c => StableHlo.after cond0 (StableHlo.atTrip cond0 body0 (Went m) 2048 c)

/-- A trip of loop 0 leaves the arguments. -/
theorem trip0_args (V : Valuation τ sig (Elt F)) (a : Ref sig .tc) (ha : a ∈ argRefs) :
    StableHlo.afterL body0 (StableHlo.after cond0 V) (Proc.devRef .tc a) = V (Proc.devRef .tc a) := by
  simp only [StableHlo.afterL_cons, StableHlo.afterL_nil]
  rw [StableHlo.after_of_writes_sub while0Ops0_17 _ while0Ops0_17_writes (while0Ops0_17_args a ha), StableHlo.after_of_writes_sub while0Ops0_16 _ while0Ops0_16_writes (while0Ops0_16_args a ha), StableHlo.after_of_writes_sub while0Ops0_15 _ while0Ops0_15_writes (while0Ops0_15_args a ha), StableHlo.after_of_writes_sub while0Ops0_14 _ while0Ops0_14_writes (while0Ops0_14_args a ha), StableHlo.after_of_writes_sub while0Ops0_13 _ while0Ops0_13_writes (while0Ops0_13_args a ha), StableHlo.after_of_writes_sub while0Ops0_12 _ while0Ops0_12_writes (while0Ops0_12_args a ha), StableHlo.after_of_writes_sub while0Ops0_11 _ while0Ops0_11_writes (while0Ops0_11_args a ha), StableHlo.after_of_writes_sub while0Ops0_10 _ while0Ops0_10_writes (while0Ops0_10_args a ha), StableHlo.after_of_writes_sub while0Ops0_9 _ while0Ops0_9_writes (while0Ops0_9_args a ha), StableHlo.after_of_writes_sub while0Ops0_8 _ while0Ops0_8_writes (while0Ops0_8_args a ha), StableHlo.after_of_writes_sub while0Ops0_7 _ while0Ops0_7_writes (while0Ops0_7_args a ha), StableHlo.after_of_writes_sub while0Ops0_6 _ while0Ops0_6_writes (while0Ops0_6_args a ha), StableHlo.after_of_writes_sub while0Ops0_5 _ while0Ops0_5_writes (while0Ops0_5_args a ha), StableHlo.after_of_writes_sub while0Ops0_4 _ while0Ops0_4_writes (while0Ops0_4_args a ha), StableHlo.after_of_writes_sub while0Ops0_3 _ while0Ops0_3_writes (while0Ops0_3_args a ha), StableHlo.after_of_writes_sub while0Ops0_2 _ while0Ops0_2_writes (while0Ops0_2_args a ha), StableHlo.after_of_writes_sub while0Ops0_1 _ while0Ops0_1_writes (while0Ops0_1_args a ha), StableHlo.after_of_writes_sub while0Ops0 _ while0Ops0_writes (while0Ops0_args a ha), StableHlo.after_of_writes_sub cond0 _ cond0_writes (cond0_args a ha)]
theorem at0_args (c : Dev nD) : ∀ k, ∀ a ∈ argRefs, at0 m k c (Proc.devRef .tc a) = Went m c (Proc.devRef .tc a)
  | 0 => fun _ _ => rfl
  | k + 1 => fun a ha => (trip0_args _ a ha).trans (at0_args c k a ha)
theorem exit0_args (c : Dev nD) (a : Ref sig .tc) (ha : a ∈ argRefs) : exit0 m c (Proc.devRef .tc a) = Went m c (Proc.devRef .tc a) :=
  (StableHlo.after_of_writes_sub cond0 _ cond0_writes (cond0_args a ha)).trans (at0_args m c 2048 a ha)

section
open Idealize.ShloMosaic.StableHlo
open Idealize.ShloMosaic.Pipeline (ucRefs sub_ucRefs)
/-- The stretch with the step of the counter of loop 0. -/
theorem step0 (X : Valuation τ sig (Elt F)) :
    after while0Ops0_17 X (Proc.devRef .tc main_v17_6) = addi (X (Proc.devRef .tc main_v17_6)) (constantI S_ 32 1#32) := by
  after_results
  rfl
/-- A trip of loop 0 takes its counter one step on. -/
theorem trip0_ctr (V : Valuation τ sig (Elt F)) :
    afterL body0 (after cond0 V) (Proc.devRef .tc main_v17_6) = addi (V (Proc.devRef .tc main_v17_6)) (constantI S_ 32 1#32) := by
  simp only [afterL_cons, afterL_nil]
  rw [step0, after_of_writes_sub while0Ops0_16 _ while0Ops0_16_writes (by decide), after_of_writes_sub while0Ops0_15 _ while0Ops0_15_writes (by decide), after_of_writes_sub while0Ops0_14 _ while0Ops0_14_writes (by decide), after_of_writes_sub while0Ops0_13 _ while0Ops0_13_writes (by decide), after_of_writes_sub while0Ops0_12 _ while0Ops0_12_writes (by decide), after_of_writes_sub while0Ops0_11 _ while0Ops0_11_writes (by decide), after_of_writes_sub while0Ops0_10 _ while0Ops0_10_writes (by decide), after_of_writes_sub while0Ops0_9 _ while0Ops0_9_writes (by decide), after_of_writes_sub while0Ops0_8 _ while0Ops0_8_writes (by decide), after_of_writes_sub while0Ops0_7 _ while0Ops0_7_writes (by decide), after_of_writes_sub while0Ops0_6 _ while0Ops0_6_writes (by decide), after_of_writes_sub while0Ops0_5 _ while0Ops0_5_writes (by decide), after_of_writes_sub while0Ops0_4 _ while0Ops0_4_writes (by decide), after_of_writes_sub while0Ops0_3 _ while0Ops0_3_writes (by decide), after_of_writes_sub while0Ops0_2 _ while0Ops0_2_writes (by decide), after_of_writes_sub while0Ops0_1 _ while0Ops0_1_writes (by decide), after_of_writes_sub while0Ops0 _ while0Ops0_writes (by decide), after_of_writes_sub cond0 _ cond0_writes (by decide)]
/-- Before the `k`-th condition of loop 0 its counter is `k`. -/
theorem at0_ctr (c : Dev nD) : ∀ k, at0 m k c (Proc.devRef .tc main_v17_6) = fun _ => Scf.iv 0#32 1#32 k
  | 0 => by rw [show at0 m 0 c = Went m c from rfl, Went_ctr, Scf.iv_zero]
  | k + 1 => by
    rw [show at0 m (k + 1) c = afterL body0 (after cond0 (at0 m k c)) from rfl, trip0_ctr, at0_ctr c k, Scf.iv_succ]
    rfl

set_option backward.isDefEq.respectTransparency.types false in
/-- The condition of loop 0 holds before trip `k` exactly when `k < 2048`. -/
theorem spec0 (R : Dev nD → sProp 𝕄) : LoopCond (pcfgs (F := F)) defs₀ 𝒱₀ loops R (main_while0_cond (F := F)) cond0 body0 (Went m) 2048 := by
  intro k hk c bd
  have hctr := at0_ctr m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v17_6 HostLoop.idx0)
        (HloOp.result _ (at0 m k c) main_while0c_c_36 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR
end

/-- The buffers when the second loop is entered. -/
abbrev Went1 : Dev nD → Valuation τ sig (Elt F) := fun c => StableHlo.after hostOps0_1 (exit0 m c)
theorem Went1_args (c : Dev nD) (a : Ref sig .tc) (ha : a ∈ argRefs) : Went1 m c (Proc.devRef .tc a) = m ((c : Thread nD τ).loc a) :=
  (StableHlo.after_of_writes_sub hostOps0_1 _ hostOps0_1_writes (hostOps0_1_args a ha)).trans ((exit0_args m c a ha).trans (Went_args m c a ha))
theorem Went1_ctr (c : Dev nD) : Went1 m c (Proc.devRef .tc main_v28_10) = fun _ => (0#32 : BitVec 32) := by
  simp only [Went1]
  open StableHlo in after_results
  rfl

section
open Idealize.ShloMosaic.StableHlo
/-- The two operations of the condition of loop 1. -/
abbrev cond1 : List (HloOp τ sig (Elt F)) :=
  [ StableHlo.nullary main_while1c_c_36 (constantI S_ 32 2048#32),
    StableHlo.binary main_v28_10 main_while1c_c_36 main_while1c_v35 (cmpi .slt) ]
/-- The stretches of the body of loop 1. -/
abbrev body1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16, while1Ops0_17, while1Ops0_18]
theorem body1_plain : Plain (body1 (F := F)) := .cons while1Ops0_sub <| .cons while1Ops0_1_sub <| .cons while1Ops0_2_sub <| .cons while1Ops0_3_sub <| .cons while1Ops0_4_sub <| .cons while1Ops0_5_sub <| .cons while1Ops0_6_sub <| .cons while1Ops0_7_sub <| .cons while1Ops0_8_sub <| .cons while1Ops0_9_sub <| .cons while1Ops0_10_sub <| .cons while1Ops0_11_sub <| .cons while1Ops0_12_sub <| .cons while1Ops0_13_sub <| .cons while1Ops0_14_sub <| .cons while1Ops0_15_sub <| .cons while1Ops0_16_sub <| .cons while1Ops0_17_sub <| .cons while1Ops0_18_sub <| .nil
end
/-- What `cond1` writes, in order. -/
abbrev cond1_W : List (Ref sig .tc) := [main_while1c_c_36, main_while1c_v35]
theorem cond1_writes : (cond1 : List (HloOp τ sig (Elt F))).Forall fun op => op.writes ⊆ (cond1_W.map (Proc.devRef (τ := τ) .tc)).toFinset :=
  StableHlo.forall_writes_sub_of_map rfl
theorem cond1_args : ∀ a ∈ argRefs, a ∉ cond1_W := by decide

/-- The buffers before the `k`-th condition of loop 1, and after the loop. -/
abbrev at1 (k : ℕ) (c : Dev nD) : Valuation τ sig (Elt F) := StableHlo.atTrip cond1 body1 (Went1 m) k c
abbrev exit1 : Dev nD → Valuation τ sig (Elt F) := fun c => StableHlo.after cond1 (StableHlo.atTrip cond1 body1 (Went1 m) 2048 c)

/-- A trip of loop 1 leaves the arguments. -/
theorem trip1_args (V : Valuation τ sig (Elt F)) (a : Ref sig .tc) (ha : a ∈ argRefs) :
    StableHlo.afterL body1 (StableHlo.after cond1 V) (Proc.devRef .tc a) = V (Proc.devRef .tc a) := by
  simp only [StableHlo.afterL_cons, StableHlo.afterL_nil]
  rw [StableHlo.after_of_writes_sub while1Ops0_18 _ while1Ops0_18_writes (while1Ops0_18_args a ha), StableHlo.after_of_writes_sub while1Ops0_17 _ while1Ops0_17_writes (while1Ops0_17_args a ha), StableHlo.after_of_writes_sub while1Ops0_16 _ while1Ops0_16_writes (while1Ops0_16_args a ha), StableHlo.after_of_writes_sub while1Ops0_15 _ while1Ops0_15_writes (while1Ops0_15_args a ha), StableHlo.after_of_writes_sub while1Ops0_14 _ while1Ops0_14_writes (while1Ops0_14_args a ha), StableHlo.after_of_writes_sub while1Ops0_13 _ while1Ops0_13_writes (while1Ops0_13_args a ha), StableHlo.after_of_writes_sub while1Ops0_12 _ while1Ops0_12_writes (while1Ops0_12_args a ha), StableHlo.after_of_writes_sub while1Ops0_11 _ while1Ops0_11_writes (while1Ops0_11_args a ha), StableHlo.after_of_writes_sub while1Ops0_10 _ while1Ops0_10_writes (while1Ops0_10_args a ha), StableHlo.after_of_writes_sub while1Ops0_9 _ while1Ops0_9_writes (while1Ops0_9_args a ha), StableHlo.after_of_writes_sub while1Ops0_8 _ while1Ops0_8_writes (while1Ops0_8_args a ha), StableHlo.after_of_writes_sub while1Ops0_7 _ while1Ops0_7_writes (while1Ops0_7_args a ha), StableHlo.after_of_writes_sub while1Ops0_6 _ while1Ops0_6_writes (while1Ops0_6_args a ha), StableHlo.after_of_writes_sub while1Ops0_5 _ while1Ops0_5_writes (while1Ops0_5_args a ha), StableHlo.after_of_writes_sub while1Ops0_4 _ while1Ops0_4_writes (while1Ops0_4_args a ha), StableHlo.after_of_writes_sub while1Ops0_3 _ while1Ops0_3_writes (while1Ops0_3_args a ha), StableHlo.after_of_writes_sub while1Ops0_2 _ while1Ops0_2_writes (while1Ops0_2_args a ha), StableHlo.after_of_writes_sub while1Ops0_1 _ while1Ops0_1_writes (while1Ops0_1_args a ha), StableHlo.after_of_writes_sub while1Ops0 _ while1Ops0_writes (while1Ops0_args a ha), StableHlo.after_of_writes_sub cond1 _ cond1_writes (cond1_args a ha)]
theorem at1_args (c : Dev nD) : ∀ k, ∀ a ∈ argRefs, at1 m k c (Proc.devRef .tc a) = Went1 m c (Proc.devRef .tc a)
  | 0 => fun _ _ => rfl
  | k + 1 => fun a ha => (trip1_args _ a ha).trans (at1_args c k a ha)
theorem exit1_args (c : Dev nD) (a : Ref sig .tc) (ha : a ∈ argRefs) : exit1 m c (Proc.devRef .tc a) = Went1 m c (Proc.devRef .tc a) :=
  (StableHlo.after_of_writes_sub cond1 _ cond1_writes (cond1_args a ha)).trans (at1_args m c 2048 a ha)

section
open Idealize.ShloMosaic.StableHlo
open Idealize.ShloMosaic.Pipeline (ucRefs sub_ucRefs)
/-- The stretch with the step of the counter of loop 1. -/
theorem step1 (X : Valuation τ sig (Elt F)) :
    after while1Ops0_18 X (Proc.devRef .tc main_v28_10) = addi (X (Proc.devRef .tc main_v28_10)) (constantI S_ 32 1#32) := by
  after_results
  rfl
/-- A trip of loop 1 takes its counter one step on. -/
theorem trip1_ctr (V : Valuation τ sig (Elt F)) :
    afterL body1 (after cond1 V) (Proc.devRef .tc main_v28_10) = addi (V (Proc.devRef .tc main_v28_10)) (constantI S_ 32 1#32) := by
  simp only [afterL_cons, afterL_nil]
  rw [step1, after_of_writes_sub while1Ops0_17 _ while1Ops0_17_writes (by decide), after_of_writes_sub while1Ops0_16 _ while1Ops0_16_writes (by decide), after_of_writes_sub while1Ops0_15 _ while1Ops0_15_writes (by decide), after_of_writes_sub while1Ops0_14 _ while1Ops0_14_writes (by decide), after_of_writes_sub while1Ops0_13 _ while1Ops0_13_writes (by decide), after_of_writes_sub while1Ops0_12 _ while1Ops0_12_writes (by decide), after_of_writes_sub while1Ops0_11 _ while1Ops0_11_writes (by decide), after_of_writes_sub while1Ops0_10 _ while1Ops0_10_writes (by decide), after_of_writes_sub while1Ops0_9 _ while1Ops0_9_writes (by decide), after_of_writes_sub while1Ops0_8 _ while1Ops0_8_writes (by decide), after_of_writes_sub while1Ops0_7 _ while1Ops0_7_writes (by decide), after_of_writes_sub while1Ops0_6 _ while1Ops0_6_writes (by decide), after_of_writes_sub while1Ops0_5 _ while1Ops0_5_writes (by decide), after_of_writes_sub while1Ops0_4 _ while1Ops0_4_writes (by decide), after_of_writes_sub while1Ops0_3 _ while1Ops0_3_writes (by decide), after_of_writes_sub while1Ops0_2 _ while1Ops0_2_writes (by decide), after_of_writes_sub while1Ops0_1 _ while1Ops0_1_writes (by decide), after_of_writes_sub while1Ops0 _ while1Ops0_writes (by decide), after_of_writes_sub cond1 _ cond1_writes (by decide)]
/-- Before the `k`-th condition of loop 1 its counter is `k`. -/
theorem at1_ctr (c : Dev nD) : ∀ k, at1 m k c (Proc.devRef .tc main_v28_10) = fun _ => Scf.iv 0#32 1#32 k
  | 0 => by rw [show at1 m 0 c = Went1 m c from rfl, Went1_ctr, Scf.iv_zero]
  | k + 1 => by
    rw [show at1 m (k + 1) c = afterL body1 (after cond1 (at1 m k c)) from rfl, trip1_ctr, at1_ctr c k, Scf.iv_succ]
    rfl

set_option backward.isDefEq.respectTransparency.types false in
/-- The condition of loop 1 holds before trip `k` exactly when `k < 2048`. -/
theorem spec1 (R : Dev nD → sProp 𝕄) : LoopCond (pcfgs (F := F)) defs₀ 𝒱₀ loops R (main_while1_cond (F := F)) cond1 body1 (Went1 m) 2048 := by
  intro k hk c bd
  have hctr := at1_ctr m c k
  unfold main_while1_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v28_10 HostLoop.idx0)
        (HloOp.result _ (at1 m k c) main_while1c_c_36 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR
end

/-- The buffers in the end. -/
abbrev Wend : Dev nD → Valuation τ sig (Elt F) := fun c => StableHlo.after hostOps0_2 (exit1 m c)
theorem Wend_args (c : Dev nD) (a : Ref sig .tc) (ha : a ∈ argRefs) : Wend m c (Proc.devRef .tc a) = m ((c : Thread nD τ).loc a) :=
  (StableHlo.after_of_writes_sub hostOps0_2 _ hostOps0_2_writes (hostOps0_2_args a ha)).trans ((exit1_args m c a ha).trans (Went1_args m c a ha))

end Cert.ReferenceIdeal.Scan

end
-- ==== Proof.Scan.RefRun.lean ====
/- The reference run as a whole: three straight stretches around the two loops; its arguments end unchanged. -/
module

public import proofs.«01_k».proof.Proof.Scan.RefLoops

@[expose] public section

set_option maxRecDepth 16384

noncomputable section

namespace Cert.ReferenceIdeal.Scan

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

abbrev adm : (p : Fin 0) → (pcfgs (F := F) p).Adm := fun p => p.elim0
abbrev tk : Fin 0 → Pipeline.Ticket (Ix := Unit) (Name := ℕ) (U := UU) (Lvl := ℕ) (nD := nD) (τ := τ) (pcfgs (F := F)) adm := fun j => j.elim0
abbrev L : GSem nD τ sig → Finset Unit := fun _ => ∅
abbrev lv : GSem nD τ sig → Unit → ℕ := fun _ _ => 0
abbrev KitSeg : Type 1 := Pipeline.CSeg (Ix := Unit) (Name := ℕ) (U := UU) (Lvl := ℕ) (nD := nD) (τ := τ) (pcfgs (F := F)) adm defs₀ 𝒱₀ L lv loops tk

/-- The device owes nothing. -/
abbrev Rc (c : Dev nD) : sProp 𝕄 := iprop(∃ W : Waits sig Unit, owes (c : Thread nD τ) (0 : CellTallies nD τ sig Unit) W)

variable (m : (ℓ : Loc nD τ sig) → Buf (Elt F) ℓ)

abbrev seg0 : KitSeg (F := F) := Pipeline.CSeg.ofOps _ _ _ _ _ _ _ _ (Pipeline.ucRefs τ sig) hostOps0
  (fun op h => Pipeline.sub_ucRefs op ((List.forall_iff_forall_mem.mp hostOps0_sub) op h)) (fun op h => (List.forall_iff_forall_mem.mp hostOps0_fresh) op h) (W0 m) Rc
abbrev seg1 : KitSeg (F := F) := StableHlo.loopSeg _ _ _ _ _ _ _ _ 0 (main_while0_cond (F := F)) (main_while0_body (F := F)) rfl cond0 body0 body0_plain
  (by rw [while0_body_chain]; rfl) 2048 (Went m) Rc (spec0 m Rc)
abbrev seg2 : KitSeg (F := F) := Pipeline.CSeg.ofOps _ _ _ _ _ _ _ _ (Pipeline.ucRefs τ sig) hostOps0_1
  (fun op h => Pipeline.sub_ucRefs op ((List.forall_iff_forall_mem.mp hostOps0_1_sub) op h)) (fun op h => (List.forall_iff_forall_mem.mp hostOps0_1_fresh) op h) (exit0 m) Rc
abbrev seg3 : KitSeg (F := F) := StableHlo.loopSeg _ _ _ _ _ _ _ _ 1 (main_while1_cond (F := F)) (main_while1_body (F := F)) rfl cond1 body1 body1_plain
  (by rw [while1_body_chain]; rfl) 2048 (Went1 m) Rc (spec1 m Rc)
abbrev seg4 : KitSeg (F := F) := Pipeline.CSeg.ofOps _ _ _ _ _ _ _ _ (Pipeline.ucRefs τ sig) hostOps0_2
  (fun op h => Pipeline.sub_ucRefs op ((List.forall_iff_forall_mem.mp hostOps0_2_sub) op h)) (fun op h => (List.forall_iff_forall_mem.mp hostOps0_2_fresh) op h) (exit1 m) Rc

/-- The stretches and the loops, in order. -/
abbrev segs : List (KitSeg (F := F)) := [seg0 m, seg1 m, seg2 m, seg3 m, seg4 m]
theorem main_run (c : Dev nD) : main (F := F) c = Pipeline.CSeg.runL (segs m) := (main_chain c).trans (by chain_rfl)
/-- There is no kernel call, so no segment spends a ticket. -/
theorem all_disjoint (l : List (KitSeg (F := F))) : l.Pairwise fun s s' => Disjoint s.T s'.T := by
  refine List.pairwise_iff_getElem.2 fun i j _ _ _ => ?_
  rw [Finset.eq_empty_of_isEmpty (l[i]).T]
  exact Finset.disjoint_empty_left _
theorem segs_disjoint : (segs m).Pairwise fun s s' => Disjoint s.T s'.T :=
  all_disjoint _

abbrev T₀ (c : Dev nD) : sProp 𝕄 := iprop(StableHlo.held (c : Thread nD τ) (Pipeline.ucRefs τ sig) (W0 m c) ∗ Rc c)
abbrev Tₙ (c : Dev nD) : sProp 𝕄 := StableHlo.held (c : Thread nD τ) (Pipeline.ucRefs τ sig) (Wend m c)

theorem hinj : Function.Injective (Pipeline.cellOf (nD := nD) (τ := τ) (Pipeline.pin (pcfgs (F := F)) adm)) := fun p _ _ => p.1.elim0

theorem hinit (g : Dev nD → PrngReg) :
    iprop((bigSep Finset.univ fun c : Dev nD => iprop(unscopedBufs c (fun b => m ((c.tc : Thread nD τ).loc b)) ∗ unscopedSems0 c ∗ owes (c.tc : Thread nD τ) (0 : CellTallies nD τ sig Unit) ∅
          ∗ Pipeline.launchCred (fun _ => (0 : CellTallies nD τ sig Unit)) c ∗ prngReg c (g c) ∗ BI.emp)) ∗ levAts L lv)
      ⊢ (|={Set.univ}=> bigSep Finset.univ (T₀ m) : sProp 𝕄) := by
  have h1 (c : Dev nD) : iprop(unscopedBufs c (fun b => m ((c.tc : Thread nD τ).loc b)) ∗ unscopedSems0 c ∗ owes (c.tc : Thread nD τ) (0 : CellTallies nD τ sig Unit) ∅
      ∗ Pipeline.launchCred (fun _ => (0 : CellTallies nD τ sig Unit)) c ∗ prngReg c (g c) ∗ BI.emp) ⊢ (T₀ m c : sProp 𝕄) := by
    rw [show unscopedBufs c (fun b => m ((c : Thread nD τ).loc b)) = StableHlo.held (c : Thread nD τ) (Pipeline.ucRefs τ sig) (W0 m c) from Pipeline.unscopedBufs_held c (W0 m c)]
    iintro ⟨Hh, -, HO, -, -, -⟩
    isplitl [Hh]; · iexact Hh
    iexists ∅; iexact HO
  iintro ⟨H, -⟩
  imodintro
  iapply (show (bigSep Finset.univ fun c : Dev nD => iprop(unscopedBufs c (fun b => m ((c.tc : Thread nD τ).loc b)) ∗ unscopedSems0 c ∗ owes (c.tc : Thread nD τ) (0 : CellTallies nD τ sig Unit) ∅
      ∗ Pipeline.launchCred (fun _ => (0 : CellTallies nD τ sig Unit)) c ∗ prngReg c (g c) ∗ BI.emp) : sProp 𝕄) ⊢ bigSep Finset.univ (T₀ m) from bigSep_mono fun c _ => h1 c)
  iexact H

set_option backward.isDefEq.respectTransparency.types false in
/-- Every run of the reference ends, every buffer as its straight code says, every semaphore at zero. -/
theorem run_main (g : Dev nD → PrngReg) : θ_run defs (onTc (τ := τ) (main (F := F))) ⟨m, fun _ => 0, g⟩
    (fun r => (∀ (c : Dev nD), ∀ b ∈ Pipeline.ucRefs τ sig, r.2.mem (((c : Thread nD τ)).1, b) = Wend m c b) ∧ r.2.sem = fun _ => 0) :=
  Pipeline.θ_run_regions_loop_kit_sems (pcfgs (F := F)) adm hinj defs₀ 𝒱₀ L lv loops tk m g main (segs m)
    (fun c Q => by rw [main_run m c]) (segs_disjoint m)
    (O₀ := fun _ => 0) (hL := fun _ _ => rfl) (G := fun _ => BI.emp)
    (u₀ := (Rounds.initOf (Pipeline.cells (Pipeline.pin (pcfgs (F := F)) adm) hinj) (Pipeline.launchToks (Pipeline.pin (pcfgs (F := F)) adm) hinj)))
    (hu₀ := by
      iintro -
      imodintro
      isplitr
      · rw [Finset.univ_eq_empty, BI.bigSep_empty]; iempintro
      iapply (Entails.of_eq (BI.bigSep_emp_const _).symm)
      iempintro)
    (T₀ := T₀ m) (Tₙ := Tₙ m)
    (hch := ⟨fun _ => .rfl, fun _ => .rfl, fun _ => .rfl, fun _ => .rfl, fun _ => .rfl, fun _ => .rfl⟩)
    (hinit := hinit m g)
    (QY := fun c s => ∀ b ∈ Pipeline.ucRefs τ sig, s.mem (((c : Thread nD τ)).1, b) = Wend m c b)
    (hfin := fun c s' => by
      unfold Tₙ StableHlo.held
      iintro ⟨Hh, HSI⟩
      ihave Hp := (pointsTo_read_all (Pipeline.ucRefs τ sig) (fun b => (((c : Thread nD τ)).1, b)) (Wend m c) s') $$ [Hh HSI]
      · isplitl [Hh] <;> iassumption
      icases Hp with ⟨%hb, HSI⟩
      imodintro
      isplitr; · ipureintro; exact hb
      iexact HSI)
    (hQ := fun s h hs => ⟨fun c => h c, sem_eq_zero hs fun c sm hsm => absurd hsm (by revert sm; decide)⟩)

/-- The arguments end as they began. -/
theorem frame_any (g : Dev nD → PrngReg) : θ_run defs (onTc (τ := τ) (main (F := F))) ⟨m, fun _ => 0, g⟩
    (fun r => (∀ (c : Dev nD), ∀ a ∈ argRefs, r.2.mem ((c : Thread nD τ).loc a) = m ((c : Thread nD τ).loc a)) ∧ r.2.sem = fun _ => 0) :=
  (θ_run defs _ _).mono (fun _ h => ⟨fun c a ha => (h.1 c _ (Finset.mem_filter.mpr ⟨StableHlo.devRef_mem_tcRefs a,
    (by revert a ha; decide : ¬ (Proc.devRef .tc a : DevRef τ sig).isScoped)⟩)).trans (Wend_args m c a ha), h.2⟩) (run_main m g)

end Cert.ReferenceIdeal.Scan

end
-- ==== Proof.Mlp.Dh.lean ====
module

public import proofs.«01_k».proof.Defs
public import proofs.«01_k».proof.Proof.Gen.MlpDh.Frame
public import proofs.«01_k».proof.Proof.Gen.MlpDhIdeal.Value
public import proofs.«01_k».proof.Proof.Gen.MlpDhRefIdeal.Run
public import Idealize.ShloMosaic.Lib.Pointwise

/-! The gradient of the MLP's hidden layer: the kernel's array is the gradient of the output times the transposed second
matrix, each entry times twice the positive part of the hidden layer's entry, and so is the reference's. -/

@[expose] public section

set_option maxRecDepth 16384

noncomputable section

namespace Cert.MlpDhIdeal.Prod

open Cert.MlpDhIdeal Cert.MlpDhIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The slope of the squared positive part. -/
def slope (h : EReal) : EReal := Scalar.ofBits (F := Ideal) .f32 0x40000000#32 * max h 0

/-- The product of a matrix and a transposed one, each entry times the slope at the hidden layer's entry. -/
def prod (A : Vec Ideal S2048x1024 .bf16) (B : Vec Ideal S4096x1024 .bf16) (H : Vec Ideal S2048x4096 .f32) : Vec Ideal S2048x4096 .bf16 :=
  fun i => ((∑ k : Fin 1024, (A (ix2 (i 0) k) : EReal) * (B (ix2 (i 1) k) : EReal)) * slope (H i) : EReal)

/-- What the body stores at an entry of its block. -/
theorem pay_apply (x0 : Vec Ideal S2048x1024 .bf16) (x1 : Vec Ideal S512x1024 .bf16) (x2 : Vec Ideal S2048x512 .f32) (j : S2048x512.Idx) :
    k0_pay1 x0 x1 x2 j = ((∑ k : Fin 1024, (x0 (ix2 (j 0) k) : EReal) * (x1 (ix2 (j 1) k) : EReal)) * slope (x2 j) : EReal) := by
  idx_vars j
  pointwise! [k0_pay1, slope]

theorem hz : (![0, 0] : Fin 2 → Nat) = fun _ => 0 := by
  funext a
  fin_cases a <;> rfl

/-- Which block each window is on: the first stays, the others move with the result. -/
theorem idx_facts : ∀ t : Fin cfg0.N, win0_0.index t (0 : Fin 2) = 0 ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) = 0 :=
  (by decide +kernel : ∀ t : Fin grid0.N, _)

/-- Every block of the result is some point's. -/
theorem idx_onto : ∀ q : Fin 8, ∃ t : Fin cfg0.N, (cfg0.win 3).flush t = true ∧ win0_3.index t (0 : Fin 2) = 0
    ∧ win0_3.index t (1 : Fin 2) = q.val :=
  (by decide +kernel : ∀ q : Fin 8, ∃ t : Fin grid0.N, _)

/-- Each point writes its block of the result. -/
theorem flushed_eq (c : Dev nD) (t : Fin cfg0.N) :
    (dats m 0 c).flushed 3 t = ((cfg0.win 3).blk t).view.read (Elt Ideal) (prod (V m c main_v0) (V m c main_v1) (V m c main_arg0)) := by
  rw [Value.flushed3]
  unfold out0_3
  rw [View.canon_unit_zero hz, View.ld_unit_zero hz, View.ld_unit_zero hz, View.ld_unit_zero hz]
  obtain ⟨a0, a1, b0, b1, d0, d1, e0⟩ := idx_facts t
  funext y
  have h0 : (((cfg0.win 3).blk t).view.emb y 0).val = win0_3.index t (0 : Fin 2) * 2048 + 1 * (y 0).val := rfl
  have h1 : (((cfg0.win 3).blk t).view.emb y 1).val = win0_3.index t (1 : Fin 2) * 512 + 1 * (y 1).val := rfl
  show k0_pay1 (iblk m c 0 t) (iblk m c 1 t) (iblk m c 2 t) ((cfg0.win 3).xinj (grid0.coords t) y)
    = prod (V m c main_v0) (V m c main_v1) (V m c main_arg0) (((cfg0.win 3).blk t).view.emb y)
  rw [pay_apply]
  unfold prod
  have hd : ((cfg0.win 2).blk t).view.emb ((cfg0.win 3).xinj (grid0.coords t) y) = ((cfg0.win 3).blk t).view.emb y := by
    funext a; apply Fin.ext
    match a with
    | ⟨0, _⟩ => show win0_2.index t (0 : Fin 2) * 2048 + 1 * (y 0).val = (((cfg0.win 3).blk t).view.emb y 0).val; rw [h0]; omega
    | ⟨1, _⟩ => show win0_2.index t (1 : Fin 2) * 512 + 1 * (y 1).val = (((cfg0.win 3).blk t).view.emb y 1).val; rw [h1]; omega
  refine congrArg₂ (fun a b : EReal => a * b) (Finset.sum_congr rfl fun k _ => ?_) (congrArg slope (congrArg (V m c main_arg0) hd))
  have ha : ((cfg0.win 0).blk t).view.emb (ix2 ((cfg0.win 3).xinj (grid0.coords t) y 0) k) = ix2 (((cfg0.win 3).blk t).view.emb y 0) k := by
    funext a; apply Fin.ext
    match a with
    | ⟨0, _⟩ => show win0_0.index t (0 : Fin 2) * 2048 + 1 * (y 0).val = (((cfg0.win 3).blk t).view.emb y 0).val; rw [h0]; omega
    | ⟨1, _⟩ => show win0_0.index t (1 : Fin 2) * 1024 + 1 * k.val = k.val; omega
  have hb : ((cfg0.win 1).blk t).view.emb (ix2 ((cfg0.win 3).xinj (grid0.coords t) y 1) k) = ix2 (((cfg0.win 3).blk t).view.emb y 1) k := by
    funext a; apply Fin.ext
    match a with
    | ⟨0, _⟩ => show win0_1.index t (0 : Fin 2) * 512 + 1 * (y 1).val = (((cfg0.win 3).blk t).view.emb y 1).val; rw [h1]; omega
    | ⟨1, _⟩ => show win0_1.index t (1 : Fin 2) * 1024 + 1 * k.val = k.val; omega
  exact congrArg₂ (fun a b : EReal => a * b) (congrArg (V m c main_v0) ha) (congrArg (V m c main_v1) hb)

theorem mem_blk (t : Fin cfg0.N) (i : S2048x4096.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v2).slice (win0_3.rect t)).set ↔ _
  rw [View.set_slice_whole, Rect.mem_set_unit]
  exact Iff.rfl

/-- The blocks fill the result. -/
theorem cover (i : S2048x4096.Idx) : ∃ t : Fin cfg0.N, (cfg0.win 3).flush t = true ∧ i ∈ ((cfg0.win 3).blk t).view.set := by
  have hi0 : (i 0).val < 2048 := (i 0).isLt
  have hi1 : (i 1).val < 4096 := (i 1).isLt
  obtain ⟨t, hf, q0, q1⟩ := idx_onto ⟨(i 1).val / 512, by omega⟩
  have q1' : win0_3.index t (1 : Fin 2) = (i 1).val / 512 := q1
  refine ⟨t, hf, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- The array after the run, from the arrays the call is given. -/
theorem final (c : Dev nD) : (dats m 0 c).arrAt 3 cfg0.N = prod (V m c main_v0) (V m c main_v1) (V m c main_arg0) :=
  (dats m 0 c).arrAt_eq_of_cover 3 _ (fun t _ => flushed_eq m c t) cover

/-- The two converted arrays the call is given. -/
theorem left_eq (c : Dev nD) : V m c main_v0 = truncf (F := Ideal) .bf16 (m ((c.tc : Thread nD τ).loc main_arg2)) bitsLt_bf16_f32 := by
  simp only [V]
  open StableHlo in after_results

theorem right_eq (c : Dev nD) : V m c main_v1 = truncf (F := Ideal) .bf16 (m ((c.tc : Thread nD τ).loc main_arg1)) bitsLt_bf16_f32 := by
  simp only [V]
  open StableHlo in after_results

/-- Where the hidden layer is not positive its slope is zero, so cutting the entry there changes nothing. -/
theorem cut_slope (h s : EReal) : (if 0 < h then s * slope h else 0) = s * slope h := by
  split
  · rfl
  · next hn =>
    unfold slope
    rw [max_eq_right (not_lt.mp hn), mul_zero, mul_zero]

open Cert.MlpDhRefIdeal in
/-- The reference's result as a function of its three arguments. -/
def ref (H : FVec Ideal S2048x4096 .f32) (W : FVec Ideal S4096x1024 .f32) (Y : FVec Ideal S2048x1024 .f32) : FVec Ideal S2048x4096 .bf16 :=
  truncf .bf16 (select (cmpf .ogt H (broadcastInDim S2048x4096 ![] Cert.MlpDhRefIdeal.Gen.bcast_S_S2048x4096 (constant (F := Ideal) S_ .f32 0x00000000#32))) (mulf (Host.dotGeneral dot_S2048x1024_S4096x1024_S2048x4096_1_1_0_0_n_n none Y W) (mulf (broadcastInDim S2048x4096 ![] Cert.MlpDhRefIdeal.Gen.bcast_S_S2048x4096 (constant (F := Ideal) S_ .f32 0x40000000#32)) (maximumf H (broadcastInDim S2048x4096 ![] Cert.MlpDhRefIdeal.Gen.bcast_S_S2048x4096 (constant (F := Ideal) S_ .f32 0x00000000#32))))) (broadcastInDim S2048x4096 ![] Cert.MlpDhRefIdeal.Gen.bcast_S_S2048x4096 (constant (F := Ideal) S_ .f32 0x00000000#32))) Cert.MlpDhRefIdeal.Gen.bitsLt_bf16_f32

/-- The kernel's array is the reference's result, from the same arguments. -/
theorem prod_eq (H : FVec Ideal S2048x4096 .f32) (W : FVec Ideal S4096x1024 .f32) (Y : FVec Ideal S2048x1024 .f32) :
    prod (truncf (F := Ideal) .bf16 Y bitsLt_bf16_f32) (truncf (F := Ideal) .bf16 W bitsLt_bf16_f32) H = ref H W Y := by
  funext i
  idx_vars i
  refine (cut_slope _ _).symm.trans ?_
  pointwise [prod, ref, slope]

/-- The claim: from equal arguments both programs end, with equal results. -/
theorem algebraic : Cert.algebraic_MlpDhIdeal_MlpDhRefIdeal := by
  intro m g m' g' _ hargs
  refine ⟨fun c => (dats m 0 c).arrAt 3 cfg0.N, Value.run_blocks m g, ?_⟩
  refine (θ_run _ _ _).mono (fun r h c => ⟨?_, (h c).2⟩) (Cert.MlpDhRefIdeal.Value.run m' g')
  show _ = (dats m 0 c).arrAt 3 cfg0.N
  rw [(h c).1, final, left_eq, right_eq, V_main_arg0, prod_eq, (hargs c).1, (hargs c).2.1, (hargs c).2.2]
  rfl

/-- The three frames: as printed, over the extended reals, and of the reference, which has no semaphore. -/
theorem frame_printed : Cert.quiescent_MlpDh := fun m ρ _ => Cert.MlpDh.Gen.frame m ρ

theorem frame_ideal : Cert.quiescent_MlpDhIdeal := fun m ρ _ => Gen.frame m ρ

theorem frame_reference : Cert.quiescent_MlpDhRefIdeal := fun m ρ _ =>
  (θ_run Cert.MlpDhRefIdeal.defs _ _).mono (fun r h => ⟨fun c => (h c).2, sem_eq_zero_of_no_sems (by decide) r.2⟩) (Cert.MlpDhRefIdeal.Value.run m ρ)

end Cert.MlpDhIdeal.Prod

end
-- ==== Proof.Mlp.Dw2.lean ====
module

public import proofs.«01_k».proof.Defs
public import proofs.«01_k».proof.Proof.Gen.MlpDw2.Frame
public import proofs.«01_k».proof.Proof.Gen.MlpDw2Ideal.Value
public import proofs.«01_k».proof.Proof.Gen.MlpDw2RefIdeal.Run
public import Idealize.ShloMosaic.Lib.Pointwise

/-! The gradient of the MLP's second matrix: the kernel's array is the product of the transposed hidden layer (squared
positive part) and the gradient of the output, summed over all 2048 rows, and so is the reference's. -/

@[expose] public section

set_option maxRecDepth 16384

noncomputable section

namespace Cert.MlpDw2Ideal.Prod

open Cert.MlpDw2Ideal Cert.MlpDw2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of two matrices, entry by entry. -/
def prod (A : Vec Ideal S4096x2048 .bf16) (B : Vec Ideal S2048x1024 .bf16) : Vec Ideal S4096x1024 .f32 :=
  fun i => (∑ k : Fin 2048, (A (ix2 (i 0) k) : EReal) * (B (ix2 k (i 1)) : EReal) : EReal)

/-- What the body stores at an entry of its block. -/
theorem pay_apply (x0 : Vec Ideal S2048x2048 .bf16) (x1 : Vec Ideal S2048x512 .bf16) (j : S2048x512.Idx) :
    k0_pay1 x0 x1 j = (∑ k : Fin 2048, (x0 (ix2 (j 0) k) : EReal) * (x1 (ix2 k (j 1)) : EReal) : EReal) := by
  idx_vars j
  pointwise! [k0_pay1]

theorem hz : (![0, 0] : Fin 2 → Nat) = fun _ => 0 := by
  funext a
  fin_cases a <;> rfl

/-- Which block each window is on: the first moves with the result's rows, the second with its columns. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block of the result is some point's. -/
theorem idx_onto : ∀ p q : Fin 2, ∃ t : Fin cfg0.N, (cfg0.win 2).flush t = true ∧ win0_2.index t (0 : Fin 2) = p.val
    ∧ win0_2.index t (1 : Fin 2) = q.val :=
  (by decide +kernel : ∀ p q : Fin 2, ∃ t : Fin grid0.N, _)

/-- Each point writes its block of the product. -/
theorem flushed_eq (c : Dev nD) (t : Fin cfg0.N) :
    (dats m 0 c).flushed 2 t = ((cfg0.win 2).blk t).view.read (Elt Ideal) (prod (V m c main_v4) (V m c main_v5)) := by
  rw [Value.flushed2]
  unfold out0_2
  rw [View.canon_unit_zero hz, View.ld_unit_zero hz, View.ld_unit_zero hz]
  obtain ⟨a0, a1, b0, b1⟩ := idx_facts t
  funext y
  have h0 : (((cfg0.win 2).blk t).view.emb y 0).val = win0_2.index t (0 : Fin 2) * 2048 + 1 * (y 0).val := rfl
  have h1 : (((cfg0.win 2).blk t).view.emb y 1).val = win0_2.index t (1 : Fin 2) * 512 + 1 * (y 1).val := rfl
  show k0_pay1 (iblk m c 0 t) (iblk m c 1 t) ((cfg0.win 2).xinj (grid0.coords t) y)
    = prod (V m c main_v4) (V m c main_v5) (((cfg0.win 2).blk t).view.emb y)
  rw [pay_apply]
  unfold prod
  refine Finset.sum_congr rfl fun k _ => ?_
  have ha : ((cfg0.win 0).blk t).view.emb (ix2 ((cfg0.win 2).xinj (grid0.coords t) y 0) k) = ix2 (((cfg0.win 2).blk t).view.emb y 0) k := by
    funext a; apply Fin.ext
    match a with
    | ⟨0, _⟩ => show win0_0.index t (0 : Fin 2) * 2048 + 1 * (y 0).val = (((cfg0.win 2).blk t).view.emb y 0).val; rw [h0]; omega
    | ⟨1, _⟩ => show win0_0.index t (1 : Fin 2) * 2048 + 1 * k.val = k.val; omega
  have hb : ((cfg0.win 1).blk t).view.emb (ix2 k ((cfg0.win 2).xinj (grid0.coords t) y 1)) = ix2 k (((cfg0.win 2).blk t).view.emb y 1) := by
    funext a; apply Fin.ext
    match a with
    | ⟨0, _⟩ => show win0_1.index t (0 : Fin 2) * 2048 + 1 * k.val = k.val; omega
    | ⟨1, _⟩ => show win0_1.index t (1 : Fin 2) * 512 + 1 * (y 1).val = (((cfg0.win 2).blk t).view.emb y 1).val; rw [h1]; omega
  exact congrArg₂ (fun a b : EReal => a * b) (congrArg (V m c main_v4) ha) (congrArg (V m c main_v5) hb)

theorem mem_blk (t : Fin cfg0.N) (i : S4096x1024.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v6).slice (win0_2.rect t)).set ↔ _
  rw [View.set_slice_whole, Rect.mem_set_unit]
  exact Iff.rfl

/-- The blocks fill the result. -/
theorem cover (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, hf, q0, q1⟩ := idx_onto ⟨(i 0).val / 2048, by omega⟩ ⟨(i 1).val / 512, by omega⟩
  have q0' : win0_2.index t (0 : Fin 2) = (i 0).val / 2048 := q0
  have q1' : win0_2.index t (1 : Fin 2) = (i 1).val / 512 := q1
  refine ⟨t, hf, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- The array after the run is the product of the two arrays the call is given. -/
theorem final (c : Dev nD) : (dats m 0 c).arrAt 2 cfg0.N = prod (V m c main_v4) (V m c main_v5) :=
  (dats m 0 c).arrAt_eq_of_cover 2 _ (fun t _ => flushed_eq m c t) cover

/-- The squared positive part of the hidden layer, as the call's host lines make it. -/
def act (H : FVec Ideal S2048x4096 .f32) : FVec Ideal S2048x4096 .f32 :=
  mulf (maximumf H (broadcastInDim S2048x4096 ![] bcast_S_S2048x4096 (constant (F := Ideal) S_ .f32 0x00000000#32))) (maximumf H (broadcastInDim S2048x4096 ![] bcast_S_S2048x4096 (constant (F := Ideal) S_ .f32 0x00000000#32)))

/-- The two arrays the call is given, from the arguments. -/
theorem left_eq (c : Dev nD) : V m c main_v4 = truncf (F := Ideal) .bf16 (transpose S4096x2048 [1, 0] (act (m ((c.tc : Thread nD τ).loc main_arg0))) transposes_S2048x4096_S4096x2048_1_0) bitsLt_bf16_f32 := by
  simp only [V, act]
  open StableHlo in after_results

theorem right_eq (c : Dev nD) : V m c main_v5 = truncf (F := Ideal) .bf16 (m ((c.tc : Thread nD τ).loc main_arg1)) bitsLt_bf16_f32 := by
  simp only [V]
  open StableHlo in after_results

/-- The product of the two arrays is the reference's result, from the same arguments. -/
theorem prod_eq (X : FVec Ideal S2048x4096 .f32) (Y : FVec Ideal S2048x1024 .f32) :
    prod (truncf (F := Ideal) .bf16 (transpose S4096x2048 [1, 0] (act X) transposes_S2048x4096_S4096x2048_1_0) bitsLt_bf16_f32) (truncf (F := Ideal) .bf16 Y bitsLt_bf16_f32)
      = transpose Cert.MlpDw2RefIdeal.S4096x1024 [1, 0] (Host.dotGeneral (F := Ideal) Cert.MlpDw2RefIdeal.dot_S2048x1024_S2048x4096_S1024x4096_0_0_1_1_n_n none Y (act X) : FVec Ideal Cert.MlpDw2RefIdeal.S1024x4096 .f32) Cert.MlpDw2RefIdeal.Gen.transposes_S1024x4096_S4096x1024_1_0 := by
  funext i
  idx_vars i
  pointwise [prod]
  exact Finset.sum_congr rfl fun k _ => mul_comm _ _

/-- The claim: from equal arguments both programs end, with equal results. -/
theorem algebraic : Cert.algebraic_MlpDw2Ideal_MlpDw2RefIdeal := by
  intro m g m' g' _ hargs
  refine ⟨fun c => (dats m 0 c).arrAt 2 cfg0.N, Value.run_blocks m g, ?_⟩
  refine (θ_run _ _ _).mono (fun r h c => ⟨?_, (h c).2⟩) (Cert.MlpDw2RefIdeal.Value.run m' g')
  show _ = (dats m 0 c).arrAt 2 cfg0.N
  rw [(h c).1, final, left_eq, right_eq, prod_eq, (hargs c).1, (hargs c).2]
  rfl

/-- The three frames: as printed, over the extended reals, and of the reference, which has no semaphore. -/
theorem frame_printed : Cert.quiescent_MlpDw2 := fun m ρ _ => Cert.MlpDw2.Gen.frame m ρ

theorem frame_ideal : Cert.quiescent_MlpDw2Ideal := fun m ρ _ => Gen.frame m ρ

theorem frame_reference : Cert.quiescent_MlpDw2RefIdeal := fun m ρ _ =>
  (θ_run Cert.MlpDw2RefIdeal.defs _ _).mono (fun r h => ⟨fun c => (h c).2, sem_eq_zero_of_no_sems (by decide) r.2⟩) (Cert.MlpDw2RefIdeal.Value.run m ρ)

end Cert.MlpDw2Ideal.Prod

end
-- ==== Proof.Mlp.Du.lean ====
module

public import proofs.«01_k».proof.Defs
public import proofs.«01_k».proof.Proof.Gen.MlpDu.Frame
public import proofs.«01_k».proof.Proof.Gen.MlpDuIdeal.Value
public import proofs.«01_k».proof.Proof.Gen.MlpDuRefIdeal.Run
public import Idealize.ShloMosaic.Lib.Pointwise

/-! The gradient of the MLP's input: the kernel's array is the gradient of the hidden layer times the transposed first
matrix. The sum over the 4096 columns is taken in two halves, the first kept in scratch and the second added to it; it
is the reference's sum. -/

@[expose] public section

set_option maxRecDepth 16384

noncomputable section

namespace Cert.MlpDuIdeal.Prod

open Cert.MlpDuIdeal Cert.MlpDuIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One column's part of an entry of the product. -/
def term (A : Vec Ideal S2048x4096 .bf16) (B : Vec Ideal S1024x4096 .bf16) (i : S2048x1024.Idx) (k : Fin 4096) : EReal :=
  (A (ix2 (i 0) k) : EReal) * (B (ix2 (i 1) k) : EReal)

/-- The product of a matrix and a transposed one, entry by entry. -/
def prod (A : Vec Ideal S2048x4096 .bf16) (B : Vec Ideal S1024x4096 .bf16) : Vec Ideal S2048x1024 .f32 :=
  fun i => (∑ k : Fin 4096, term A B i k : EReal)

theorem hz : (![0, 0] : Fin 2 → Nat) = fun _ => 0 := by
  funext a
  fin_cases a <;> rfl

/-- A point's part of an entry: the sum over its half of the columns. -/
def part (x0 : Vec Ideal S2048x2048 .bf16) (x1 : Vec Ideal S512x2048 .bf16) (j : S2048x512.Idx) : EReal :=
  ∑ k : Fin 2048, (x0 (ix2 (j 0) k) : EReal) * (x1 (ix2 (j 1) k) : EReal)

/-- What the first point of a pair stores in scratch. -/
theorem pay2_apply (x0 : Vec Ideal S2048x2048 .bf16) (x1 : Vec Ideal S512x2048 .bf16) (j : S2048x512.Idx) :
    k0_pay2 x0 x1 j = part x0 x1 j := by
  idx_vars j
  pointwise! [k0_pay2, k0_pay1, part]

/-- What the second point of a pair stores, over the scratch's contents. -/
theorem pay3_apply (x0 : Vec Ideal S2048x2048 .bf16) (x1 : Vec Ideal S512x2048 .bf16) (xs : Vec Ideal S2048x512 .f32) (j : S2048x512.Idx) :
    k0_pay3 x0 x1 xs j = ((xs j : EReal) + part x0 x1 j : EReal) := by
  idx_vars j
  pointwise! [k0_pay3, k0_pay1, part]

/-- The first point of a pair leaves its part in scratch. -/
theorem first_left (c : Dev nD) (i : grid0.Coords) (a3 : Memref sig .tc .vmem S2048x2048 .bf16) (h3 : a3.IsWhole) (a4 : Memref sig .tc .vmem S512x2048 .bf16) (h4 : a4.IsWhole)
    (a5 : Memref sig .tc .vmem S2048x512 .f32) (h5 : a5.IsWhole) (a6 : Memref sig .tc .vmem S2048x512 .f32) (h6 : a6.IsWhole) (hc0 : cond0_0 i) (hc1 : ¬cond0_1 i) (hc2 : ¬cond0_2 i)
    (x0 : Vec Ideal S2048x2048 .bf16) (x1 : Vec Ideal S512x2048 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x2048) hz, View.ld_unit_zero (S := S512x2048) hz]

/-- The second point of a pair leaves the scratch's contents plus its part in the result's block. -/
theorem second_left (c : Dev nD) (i : grid0.Coords) (a3 : Memref sig .tc .vmem S2048x2048 .bf16) (h3 : a3.IsWhole) (a4 : Memref sig .tc .vmem S512x2048 .bf16) (h4 : a4.IsWhole)
    (a5 : Memref sig .tc .vmem S2048x512 .f32) (h5 : a5.IsWhole) (a6 : Memref sig .tc .vmem S2048x512 .f32) (h6 : a6.IsWhole) (hc0 : ¬cond0_0 i) (hc1 : cond0_1 i) (hc2 : cond0_2 i)
    (x0 : Vec Ideal S2048x2048 .bf16) (x1 : Vec Ideal S512x2048 .bf16) (xs : Vec Ideal S2048x512 .f32) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  rw [View.readCov_unit_zero (S := S2048x512) _ hz]
  simp only [View.readAt_eq_ld, h3.read_unread, h4.read_unread, h6.read_unread, View.ld_unit_zero (S := S2048x2048) hz, View.ld_unit_zero (S := S512x2048) hz, View.ld_unit_zero (S := S2048x512) hz]

/-- Which block each window is on: the points come in pairs, one pair for each block of the result, and the two points of a
pair take the two halves of the columns. -/
theorem idx_facts : ∀ t : Fin cfg0.N, win0_0.index t (0 : Fin 2) = 0 ∧ win0_0.index t (1 : Fin 2) = t.val % 2
    ∧ win0_1.index t (0 : Fin 2) = t.val / 2 ∧ win0_1.index t (1 : Fin 2) = t.val % 2
    ∧ win0_2.index t (0 : Fin 2) = 0 ∧ win0_2.index t (1 : Fin 2) = t.val / 2 :=
  (by decide +kernel : ∀ t : Fin grid0.N, _)

/-- Every block of the result is written back at some point. -/
theorem idx_onto : ∀ q : Fin 2, ∃ t : Fin cfg0.N, (cfg0.win 2).flush t = true ∧ win0_2.index t (0 : Fin 2) = 0
    ∧ win0_2.index t (1 : Fin 2) = q.val :=
  (by decide +kernel : ∀ q : Fin 2, ∃ t : Fin grid0.N, _)

/-- What is written back at the second point of a pair: the two points' parts, added. -/
theorem pair_apply (c : Dev nD) (t : Fin cfg0.N) (hm : t.val % 2 = 1) (hp : t.val - 1 < cfg0.N) (j : S2048x512.Idx) :
    (outsAt0 m c t.val t.isLt).1 j = (part (iblk m c 0 ⟨t.val - 1, hp⟩) (iblk m c 1 ⟨t.val - 1, hp⟩) j + part (iblk m c 0 t) (iblk m c 1 t) j : EReal) := by
  rw [outsAt0_B m c t (by omega) hm hm]
  dsimp only
  rw [second_left, pay3_apply]
  have hp0 : (⟨t.val - 1, hp⟩ : Fin cfg0.N).val % 2 = 0 := by dsimp only; omega
  have hp1 : ¬(⟨t.val - 1, hp⟩ : Fin cfg0.N).val % 2 = 1 := by dsimp only; omega
  have e := congrArg Prod.snd (outsAt0_A m c ⟨t.val - 1, hp⟩ hp0 hp1 hp1)
  dsimp only at e
  rw [e, first_left, pay2_apply]

/-- A point's part, in the entries of the whole arrays: the columns of the point's half. -/
theorem part_eq (c : Dev nD) (t : Fin cfg0.N) (j : S2048x512.Idx) (i : S2048x1024.Idx) (hi0 : (i 0).val = (j 0).val) (hi1 : (i 1).val = t.val / 2 * 512 + (j 1).val)
    (col : Fin 2048 → Fin 4096) (hcol : ∀ k, (col k).val = t.val % 2 * 2048 + k.val) :
    part (iblk m c 0 t) (iblk m c 1 t) j = ∑ k : Fin 2048, term (V m c main_v0) (V m c main_v1) i (col k) := by
  obtain ⟨a0, a1, b0, b1, -, -⟩ := idx_facts t
  unfold part
  refine Finset.sum_congr rfl fun k _ => ?_
  have hk := hcol k
  have ha : ((cfg0.win 0).blk t).view.emb (ix2 (j 0) k) = ix2 (i 0) (col k) := by
    funext a; apply Fin.ext
    match a with
    | ⟨0, _⟩ => show win0_0.index t (0 : Fin 2) * 2048 + 1 * (j 0).val = (i 0).val; omega
    | ⟨1, _⟩ => show win0_0.index t (1 : Fin 2) * 2048 + 1 * k.val = (col k).val; omega
  have hb : ((cfg0.win 1).blk t).view.emb (ix2 (j 1) k) = ix2 (i 1) (col k) := by
    funext a; apply Fin.ext
    match a with
    | ⟨0, _⟩ => show win0_1.index t (0 : Fin 2) * 512 + 1 * (j 1).val = (i 1).val; omega
    | ⟨1, _⟩ => show win0_1.index t (1 : Fin 2) * 2048 + 1 * k.val = (col k).val; omega
  exact congrArg₂ (fun a b : EReal => a * b) (congrArg (V m c main_v0) ha) (congrArg (V m c main_v1) hb)

/-- A sum over 4096 columns is the sum over the first half plus the sum over the second. -/
theorem sum_halves (f : Fin 4096 → EReal) :
    (∑ k : Fin 4096, f k) = (∑ k : Fin 2048, f ⟨k.val, by omega⟩) + ∑ k : Fin 2048, f ⟨2048 + k.val, by omega⟩ :=
  Fin.sum_univ_add (a := 2048) (b := 2048) f

/-- Each point that writes back writes its block of the product. -/
theorem flushed_eq (c : Dev nD) (t : Fin cfg0.N) (hf : (cfg0.win 2).flush t = true) :
    (dats m 0 c).flushed 2 t = ((cfg0.win 2).blk t).view.read (Elt Ideal) (prod (V m c main_v0) (V m c main_v1)) := by
  have hm : t.val % 2 = 1 := (flush0_2 t).mp hf
  have hp : t.val - 1 < cfg0.N := Nat.lt_of_le_of_lt (Nat.sub_le _ _) t.isLt
  rw [Value.flushed2]
  obtain ⟨-, -, -, -, e0, e1⟩ := idx_facts t
  funext y
  have h0 : (((cfg0.win 2).blk t).view.emb y 0).val = win0_2.index t (0 : Fin 2) * 2048 + 1 * (y 0).val := rfl
  have h1 : (((cfg0.win 2).blk t).view.emb y 1).val = win0_2.index t (1 : Fin 2) * 512 + 1 * (y 1).val := rfl
  have x0 : ((cfg0.win 2).xinj (grid0.coords t) y 0).val = (y 0).val := rfl
  have x1 : ((cfg0.win 2).xinj (grid0.coords t) y 1).val = (y 1).val := rfl
  show (outsAt0 m c t.val t.isLt).1 ((cfg0.win 2).xinj (grid0.coords t) y)
    = prod (V m c main_v0) (V m c main_v1) (((cfg0.win 2).blk t).view.emb y)
  rw [pair_apply m c t hm hp]
  unfold prod
  rw [sum_halves]
  refine congrArg₂ (fun a b : EReal => a + b) (part_eq m c ⟨t.val - 1, hp⟩ _ _ ?_ ?_ _ ?_) (part_eq m c t _ _ ?_ ?_ _ ?_)
  · rw [h0, x0]; omega
  · rw [h1, x1]; dsimp only; omega
  · intro k; dsimp only; omega
  · rw [h0, x0]; omega
  · rw [h1, x1]; omega
  · intro k; dsimp only; omega

theorem mem_blk (t : Fin cfg0.N) (i : S2048x1024.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v2).slice (win0_2.rect t)).set ↔ _
  rw [View.set_slice_whole, Rect.mem_set_unit]
  exact Iff.rfl

/-- The blocks written back fill the result. -/
theorem cover (i : S2048x1024.Idx) : ∃ t : Fin cfg0.N, (cfg0.win 2).flush t = true ∧ i ∈ ((cfg0.win 2).blk t).view.set := by
  have hi0 : (i 0).val < 2048 := (i 0).isLt
  have hi1 : (i 1).val < 1024 := (i 1).isLt
  obtain ⟨t, hf, q0, q1⟩ := idx_onto ⟨(i 1).val / 512, by omega⟩
  have q1' : win0_2.index t (1 : Fin 2) = (i 1).val / 512 := q1
  refine ⟨t, hf, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- The array after the run is the product of the two arrays the call is given. -/
theorem final (c : Dev nD) : (dats m 0 c).arrAt 2 cfg0.N = prod (V m c main_v0) (V m c main_v1) :=
  (dats m 0 c).arrAt_eq_of_cover 2 _ (fun t hf => flushed_eq m c t hf) cover

/-- The two converted arrays the call is given. -/
theorem left_eq (c : Dev nD) : V m c main_v0 = truncf (F := Ideal) .bf16 (m ((c.tc : Thread nD τ).loc main_arg1)) bitsLt_bf16_f32 := by
  simp only [V]
  open StableHlo in after_results

theorem right_eq (c : Dev nD) : V m c main_v1 = truncf (F := Ideal) .bf16 (m ((c.tc : Thread nD τ).loc main_arg0)) bitsLt_bf16_f32 := by
  simp only [V]
  open StableHlo in after_results

/-- The product of the two arrays is the reference's result, from the same arguments. -/
theorem prod_eq (W : FVec Ideal S1024x4096 .f32) (D : FVec Ideal S2048x4096 .f32) :
    prod (truncf (F := Ideal) .bf16 D bitsLt_bf16_f32) (truncf (F := Ideal) .bf16 W bitsLt_bf16_f32)
      = (Host.dotGeneral (F := Ideal) Cert.MlpDuRefIdeal.dot_S2048x4096_S1024x4096_S2048x1024_1_1_0_0_n_n none D W : FVec Ideal Cert.MlpDuRefIdeal.S2048x1024 .f32) := by
  funext i
  idx_vars i
  pointwise [prod, term]

/-- The claim: from equal arguments both programs end, with equal results. -/
theorem algebraic : Cert.algebraic_MlpDuIdeal_MlpDuRefIdeal := by
  intro m g m' g' _ hargs
  refine ⟨fun c => (dats m 0 c).arrAt 2 cfg0.N, Value.run_blocks m g, ?_⟩
  refine (θ_run _ _ _).mono (fun r h c => ⟨?_, (h c).2⟩) (Cert.MlpDuRefIdeal.Value.run m' g')
  show _ = (dats m 0 c).arrAt 2 cfg0.N
  rw [(h c).1, final, left_eq, right_eq, prod_eq, (hargs c).1, (hargs c).2]

/-- The three frames: as printed, over the extended reals, and of the reference, which has no semaphore. -/
theorem frame_printed : Cert.quiescent_MlpDu := fun m ρ _ => Cert.MlpDu.Gen.frame m ρ

theorem frame_ideal : Cert.quiescent_MlpDuIdeal := fun m ρ _ => Gen.frame m ρ

theorem frame_reference : Cert.quiescent_MlpDuRefIdeal := fun m ρ _ =>
  (θ_run Cert.MlpDuRefIdeal.defs _ _).mono (fun r h => ⟨fun c => (h c).2, sem_eq_zero_of_no_sems (by decide) r.2⟩) (Cert.MlpDuRefIdeal.Value.run m ρ)

end Cert.MlpDuIdeal.Prod

end
-- ==== Proof.Mlp.Dw1.lean ====
module

public import proofs.«01_k».proof.Defs
public import proofs.«01_k».proof.Proof.Gen.MlpDw1.Frame
public import proofs.«01_k».proof.Proof.Gen.MlpDw1Ideal.Value
public import proofs.«01_k».proof.Proof.Gen.MlpDw1RefIdeal.Run
public import Idealize.ShloMosaic.Lib.Pointwise

/-! The gradient of the MLP's first matrix: the kernel's array is the product of the transposed input and the gradient
of the hidden layer, summed over all 2048 rows, and so is the reference's. -/

@[expose] public section

set_option maxRecDepth 16384

noncomputable section

namespace Cert.MlpDw1Ideal.Prod

open Cert.MlpDw1Ideal Cert.MlpDw1Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of two matrices, entry by entry. -/
def prod (A : Vec Ideal S1024x2048 .bf16) (B : Vec Ideal S2048x4096 .bf16) : Vec Ideal S1024x4096 .f32 :=
  fun i => (∑ k : Fin 2048, (A (ix2 (i 0) k) : EReal) * (B (ix2 k (i 1)) : EReal) : EReal)

/-- What the body stores at an entry of its block. -/
theorem pay_apply (x0 : Vec Ideal S1024x2048 .bf16) (x1 : Vec Ideal S2048x512 .bf16) (j : S1024x512.Idx) :
    k0_pay1 x0 x1 j = (∑ k : Fin 2048, (x0 (ix2 (j 0) k) : EReal) * (x1 (ix2 k (j 1)) : EReal) : EReal) := by
  idx_vars j
  pointwise! [k0_pay1]

theorem hz : (![0, 0] : Fin 2 → Nat) = fun _ => 0 := by
  funext a
  fin_cases a <;> rfl

/-- Which block each window is on: the first stays, the other two move together. -/
theorem idx_facts : ∀ t : Fin cfg0.N, win0_0.index t (0 : Fin 2) = 0 ∧ win0_0.index t (1 : Fin 2) = 0
    ∧ win0_1.index t (0 : Fin 2) = 0 ∧ win0_1.index t (1 : Fin 2) = win0_2.index t (1 : Fin 2)
    ∧ win0_2.index t (0 : Fin 2) = 0 :=
  (by decide +kernel : ∀ t : Fin grid0.N, _)

/-- Every block of the result is some point's. -/
theorem idx_onto : ∀ q : Fin 8, ∃ t : Fin cfg0.N, (cfg0.win 2).flush t = true ∧ win0_2.index t (0 : Fin 2) = 0
    ∧ win0_2.index t (1 : Fin 2) = q.val :=
  (by decide +kernel : ∀ q : Fin 8, ∃ t : Fin grid0.N, _)

/-- Each point writes its block of the product. -/
theorem flushed_eq (c : Dev nD) (t : Fin cfg0.N) :
    (dats m 0 c).flushed 2 t = ((cfg0.win 2).blk t).view.read (Elt Ideal) (prod (V m c main_v1) (V m c main_v2)) := by
  rw [Value.flushed2]
  unfold out0_2
  rw [View.canon_unit_zero hz, View.ld_unit_zero hz, View.ld_unit_zero hz]
  obtain ⟨a0, a1, b0, b1, e0⟩ := idx_facts t
  funext y
  have h0 : (((cfg0.win 2).blk t).view.emb y 0).val = win0_2.index t (0 : Fin 2) * 1024 + 1 * (y 0).val := rfl
  have h1 : (((cfg0.win 2).blk t).view.emb y 1).val = win0_2.index t (1 : Fin 2) * 512 + 1 * (y 1).val := rfl
  show k0_pay1 (iblk m c 0 t) (iblk m c 1 t) ((cfg0.win 2).xinj (grid0.coords t) y)
    = prod (V m c main_v1) (V m c main_v2) (((cfg0.win 2).blk t).view.emb y)
  rw [pay_apply]
  unfold prod
  refine Finset.sum_congr rfl fun k _ => ?_
  have ha : ((cfg0.win 0).blk t).view.emb (ix2 ((cfg0.win 2).xinj (grid0.coords t) y 0) k) = ix2 (((cfg0.win 2).blk t).view.emb y 0) k := by
    funext a; apply Fin.ext
    match a with
    | ⟨0, _⟩ => show win0_0.index t (0 : Fin 2) * 1024 + 1 * (y 0).val = (((cfg0.win 2).blk t).view.emb y 0).val; rw [h0]; omega
    | ⟨1, _⟩ => show win0_0.index t (1 : Fin 2) * 2048 + 1 * k.val = k.val; omega
  have hb : ((cfg0.win 1).blk t).view.emb (ix2 k ((cfg0.win 2).xinj (grid0.coords t) y 1)) = ix2 k (((cfg0.win 2).blk t).view.emb y 1) := by
    funext a; apply Fin.ext
    match a with
    | ⟨0, _⟩ => show win0_1.index t (0 : Fin 2) * 2048 + 1 * k.val = k.val; omega
    | ⟨1, _⟩ => show win0_1.index t (1 : Fin 2) * 512 + 1 * (y 1).val = (((cfg0.win 2).blk t).view.emb y 1).val; rw [h1]; omega
  exact congrArg₂ (fun a b : EReal => a * b) (congrArg (V m c main_v1) ha) (congrArg (V m c main_v2) hb)

theorem mem_blk (t : Fin cfg0.N) (i : S1024x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v3).slice (win0_2.rect t)).set ↔ _
  rw [View.set_slice_whole, Rect.mem_set_unit]
  exact Iff.rfl

/-- The blocks fill the result. -/
theorem cover (i : S1024x4096.Idx) : ∃ t : Fin cfg0.N, (cfg0.win 2).flush t = true ∧ i ∈ ((cfg0.win 2).blk t).view.set := by
  have hi0 : (i 0).val < 1024 := (i 0).isLt
  have hi1 : (i 1).val < 4096 := (i 1).isLt
  obtain ⟨t, hf, q0, q1⟩ := idx_onto ⟨(i 1).val / 512, by omega⟩
  have q1' : win0_2.index t (1 : Fin 2) = (i 1).val / 512 := q1
  refine ⟨t, hf, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The array after the run is the product of the two arrays the call is given. -/
theorem final (c : Dev nD) : (dats m 0 c).arrAt 2 cfg0.N = prod (V m c main_v1) (V m c main_v2) :=
  (dats m 0 c).arrAt_eq_of_cover 2 _ (fun t _ => flushed_eq m c t) cover

/-- The two arrays the call is given, in the arguments' entries. -/
theorem left_eq (c : Dev nD) : V m c main_v1 = transpose S1024x2048 [1, 0] (truncf (F := Ideal) .bf16 (m ((c.tc : Thread nD τ).loc main_arg0)) bitsLt_bf16_f32) transposes_S2048x1024_S1024x2048_1_0 := by
  simp only [V]
  open StableHlo in after_results

theorem right_eq (c : Dev nD) : V m c main_v2 = truncf (F := Ideal) .bf16 (m ((c.tc : Thread nD τ).loc main_arg1)) bitsLt_bf16_f32 := by
  simp only [V]
  open StableHlo in after_results

/-- The product of the two arrays is the reference's result, from the same arguments. -/
theorem prod_eq (X : FVec Ideal S2048x1024 .f32) (Y : FVec Ideal S2048x4096 .f32) :
    prod (transpose S1024x2048 [1, 0] (truncf (F := Ideal) .bf16 X bitsLt_bf16_f32) transposes_S2048x1024_S1024x2048_1_0) (truncf (F := Ideal) .bf16 Y bitsLt_bf16_f32)
      = transpose Cert.MlpDw1RefIdeal.S1024x4096 [1, 0] (Host.dotGeneral (F := Ideal) Cert.MlpDw1RefIdeal.dot_S2048x4096_S2048x1024_S4096x1024_0_0_1_1_n_n none Y X : FVec Ideal Cert.MlpDw1RefIdeal.S4096x1024 .f32) Cert.MlpDw1RefIdeal.Gen.transposes_S4096x1024_S1024x4096_1_0 := by
  funext i
  idx_vars i
  pointwise [prod]
  exact Finset.sum_congr rfl fun k _ => mul_comm _ _

/-- The claim: from equal arguments both programs end, with equal results. -/
theorem algebraic : Cert.algebraic_MlpDw1Ideal_MlpDw1RefIdeal := by
  intro m g m' g' _ hargs
  refine ⟨fun c => (dats m 0 c).arrAt 2 cfg0.N, Value.run_blocks m g, ?_⟩
  refine (θ_run _ _ _).mono (fun r h c => ⟨?_, (h c).2⟩) (Cert.MlpDw1RefIdeal.Value.run m' g')
  show _ = (dats m 0 c).arrAt 2 cfg0.N
  rw [(h c).1, final, left_eq, right_eq, prod_eq, (hargs c).1, (hargs c).2]

/-- The three frames: as printed, over the extended reals, and of the reference, which has no semaphore. -/
theorem frame_printed : Cert.quiescent_MlpDw1 := fun m ρ _ => Cert.MlpDw1.Gen.frame m ρ

theorem frame_ideal : Cert.quiescent_MlpDw1Ideal := fun m ρ _ => Gen.frame m ρ

theorem frame_reference : Cert.quiescent_MlpDw1RefIdeal := fun m ρ _ =>
  (θ_run Cert.MlpDw1RefIdeal.defs _ _).mono (fun r h => ⟨fun c => (h c).2, sem_eq_zero_of_no_sems (by decide) r.2⟩) (Cert.MlpDw1RefIdeal.Value.run m ρ)

end Cert.MlpDw1Ideal.Prod

end
-- ==== Proof.Products.Common.lean ====
module

public import Idealize.ShloMosaic.Lib.Pointwise
public import Idealize.ShloMosaic.Lib.Pipeline.ValueKit.Geometry
public import Idealize.ShloMosaic.Lib.Pipeline.ValueKit.Acc

/-! Products of two matrices over the extended reals, entry by entry, and how a product is made of the products of blocks. -/

@[expose] public section

noncomputable section

namespace Cert.Products

open Idealize.ShloMosaic

variable {M K N m n b : Nat}

/-- The product of two matrices, entry by entry. -/
def mul (A : FVec Ideal ⟨2, ![M, K]⟩ .bf16) (B : FVec Ideal ⟨2, ![K, N]⟩ .bf16) : FVec Ideal ⟨2, ![M, N]⟩ .f32 :=
  fun i => (∑ k : Fin K, (A (ix2 (i 0) k) : EReal) * (B (ix2 k (i 1)) : EReal) : EReal)

/-- The product of a matrix and a transposed one. -/
def mulT (A : FVec Ideal ⟨2, ![M, K]⟩ .bf16) (B : FVec Ideal ⟨2, ![N, K]⟩ .bf16) : FVec Ideal ⟨2, ![M, N]⟩ .f32 :=
  fun i => (∑ k : Fin K, (A (ix2 (i 0) k) : EReal) * (B (ix2 (i 1) k) : EReal) : EReal)

/-- An entry of a product needs one row of the left matrix and one column of the right one. -/
theorem mul_congr (x : FVec Ideal ⟨2, ![m, K]⟩ .bf16) (y : FVec Ideal ⟨2, ![K, n]⟩ .bf16) (A : FVec Ideal ⟨2, ![M, K]⟩ .bf16) (B : FVec Ideal ⟨2, ![K, N]⟩ .bf16)
    (j : Shape.Idx ⟨2, ![m, n]⟩) (i : Shape.Idx ⟨2, ![M, N]⟩)
    (hx : ∀ k, x (ix2 (j 0) k) = A (ix2 (i 0) k)) (hy : ∀ k, y (ix2 k (j 1)) = B (ix2 k (i 1))) : mul x y j = mul A B i :=
  Finset.sum_congr rfl fun k _ => congrArg₂ (fun a b : EReal => a * b) (hx k) (hy k)

/-- The same, where the right matrix is transposed. -/
theorem mulT_congr (x : FVec Ideal ⟨2, ![m, K]⟩ .bf16) (y : FVec Ideal ⟨2, ![n, K]⟩ .bf16) (A : FVec Ideal ⟨2, ![M, K]⟩ .bf16) (B : FVec Ideal ⟨2, ![N, K]⟩ .bf16)
    (j : Shape.Idx ⟨2, ![m, n]⟩) (i : Shape.Idx ⟨2, ![M, N]⟩)
    (hx : ∀ k, x (ix2 (j 0) k) = A (ix2 (i 0) k)) (hy : ∀ k, y (ix2 (j 1) k) = B (ix2 (i 1) k)) : mulT x y j = mulT A B i :=
  Finset.sum_congr rfl fun k _ => congrArg₂ (fun a b : EReal => a * b) (hx k) (hy k)

/-- A product whose sum is cut in two halves. -/
theorem mul_halves (x x' : FVec Ideal ⟨2, ![m, b]⟩ .bf16) (y y' : FVec Ideal ⟨2, ![b, n]⟩ .bf16) (A : FVec Ideal ⟨2, ![M, b + b]⟩ .bf16) (B : FVec Ideal ⟨2, ![b + b, N]⟩ .bf16)
    (j : Shape.Idx ⟨2, ![m, n]⟩) (i : Shape.Idx ⟨2, ![M, N]⟩)
    (hx : ∀ k : Fin b, x (ix2 (j 0) k) = A (ix2 (i 0) (k.castAdd b))) (hy : ∀ k : Fin b, y (ix2 k (j 1)) = B (ix2 (k.castAdd b) (i 1)))
    (hx' : ∀ k : Fin b, x' (ix2 (j 0) k) = A (ix2 (i 0) (k.natAdd b))) (hy' : ∀ k : Fin b, y' (ix2 k (j 1)) = B (ix2 (k.natAdd b) (i 1))) :
    ((mul x y j : EReal) + mul x' y' j : EReal) = mul A B i :=
  (congrArg₂ (fun a b : EReal => a + b) (Finset.sum_congr rfl fun k _ => congrArg₂ (fun a b : EReal => a * b) (hx k) (hy k))
    (Finset.sum_congr rfl fun k _ => congrArg₂ (fun a b : EReal => a * b) (hx' k) (hy' k))).trans
    (Fin.sum_univ_add fun k : Fin (b + b) => ((A (ix2 (i 0) k) : EReal) * (B (ix2 k (i 1)) : EReal) : EReal)).symm

/-- The same, where the right matrix is transposed. -/
theorem mulT_halves (x x' : FVec Ideal ⟨2, ![m, b]⟩ .bf16) (y y' : FVec Ideal ⟨2, ![n, b]⟩ .bf16) (A : FVec Ideal ⟨2, ![M, b + b]⟩ .bf16) (B : FVec Ideal ⟨2, ![N, b + b]⟩ .bf16)
    (j : Shape.Idx ⟨2, ![m, n]⟩) (i : Shape.Idx ⟨2, ![M, N]⟩)
    (hx : ∀ k : Fin b, x (ix2 (j 0) k) = A (ix2 (i 0) (k.castAdd b))) (hy : ∀ k : Fin b, y (ix2 (j 1) k) = B (ix2 (i 1) (k.castAdd b)))
    (hx' : ∀ k : Fin b, x' (ix2 (j 0) k) = A (ix2 (i 0) (k.natAdd b))) (hy' : ∀ k : Fin b, y' (ix2 (j 1) k) = B (ix2 (i 1) (k.natAdd b))) :
    ((mulT x y j : EReal) + mulT x' y' j : EReal) = mulT A B i :=
  (congrArg₂ (fun a b : EReal => a + b) (Finset.sum_congr rfl fun k _ => congrArg₂ (fun a b : EReal => a * b) (hx k) (hy k))
    (Finset.sum_congr rfl fun k _ => congrArg₂ (fun a b : EReal => a * b) (hx' k) (hy' k))).trans
    (Fin.sum_univ_add fun k : Fin (b + b) => ((A (ix2 (i 0) k) : EReal) * (B (ix2 (i 1) k) : EReal) : EReal)).symm

/-- A product with a transposed matrix whose sum is cut in three. -/
theorem mulT_thirds (x x' x'' : FVec Ideal ⟨2, ![m, b]⟩ .bf16) (y y' y'' : FVec Ideal ⟨2, ![n, b]⟩ .bf16) (A : FVec Ideal ⟨2, ![M, b + b + b]⟩ .bf16) (B : FVec Ideal ⟨2, ![N, b + b + b]⟩ .bf16)
    (j : Shape.Idx ⟨2, ![m, n]⟩) (i : Shape.Idx ⟨2, ![M, N]⟩)
    (hx : ∀ k : Fin b, x (ix2 (j 0) k) = A (ix2 (i 0) ((k.castAdd b).castAdd b))) (hy : ∀ k : Fin b, y (ix2 (j 1) k) = B (ix2 (i 1) ((k.castAdd b).castAdd b)))
    (hx' : ∀ k : Fin b, x' (ix2 (j 0) k) = A (ix2 (i 0) ((k.natAdd b).castAdd b))) (hy' : ∀ k : Fin b, y' (ix2 (j 1) k) = B (ix2 (i 1) ((k.natAdd b).castAdd b)))
    (hx'' : ∀ k : Fin b, x'' (ix2 (j 0) k) = A (ix2 (i 0) (k.natAdd (b + b)))) (hy'' : ∀ k : Fin b, y'' (ix2 (j 1) k) = B (ix2 (i 1) (k.natAdd (b + b)))) :
    ((mulT x y j : EReal) + mulT x' y' j + mulT x'' y'' j : EReal) = mulT A B i := by
  refine Eq.trans ?_ (Fin.sum_univ_add fun k : Fin (b + b + b) => ((A (ix2 (i 0) k) : EReal) * (B (ix2 (i 1) k) : EReal) : EReal)).symm
  refine congrArg₂ (fun a b : EReal => a + b) ?_ (Finset.sum_congr rfl fun k _ => congrArg₂ (fun a b : EReal => a * b) (hx'' k) (hy'' k))
  refine Eq.trans ?_ (Fin.sum_univ_add fun k : Fin (b + b) => ((A (ix2 (i 0) (k.castAdd b)) : EReal) * (B (ix2 (i 1) (k.castAdd b)) : EReal) : EReal)).symm
  exact congrArg₂ (fun a b : EReal => a + b) (Finset.sum_congr rfl fun k _ => congrArg₂ (fun a b : EReal => a * b) (hx k) (hy k))
    (Finset.sum_congr rfl fun k _ => congrArg₂ (fun a b : EReal => a * b) (hx' k) (hy' k))

end Cert.Products

end
-- ==== Proof.Products.MlpUp.lean ====
module

public import proofs.«01_k».proof.Defs
public import proofs.«01_k».proof.Proof.Gen.MlpUp.Frame
public import proofs.«01_k».proof.Proof.Gen.MlpUpIdeal.Value
public import proofs.«01_k».proof.Proof.Gen.MlpUpRefIdeal.Run
public import proofs.«01_k».proof.Proof.Products.Common

/-! The MLP's first product: the kernel's three arrays are the hidden layer, its squared positive part, and that part
transposed. -/

@[expose] public section

set_option maxRecDepth 16384

noncomputable section

namespace Cert.MlpUpIdeal.Prod

open Cert.MlpUpIdeal Cert.MlpUpIdeal.Gen Cert.Products Idealize.ShloMosaic Idealize.ShloMosaic.TcCoe Idealize.SL.Sem
open Idealize.ShloMosaic.Pipeline (Dat)

variable (m : (ℓ : Loc nD τ sig) → Buf (Elt Ideal) ℓ)

/-- The square of the positive part. -/
def sq (x : EReal) : EReal := max x 0 * max x 0

/-- The square of the positive part of a product's entries. -/
def act (A : FVec Ideal S2048x1024 .bf16) (B : FVec Ideal S1024x4096 .bf16) : FVec Ideal S2048x4096 .bf16 :=
  fun i => sq (mul A B i)

/-- The same, transposed. -/
def actT (A : FVec Ideal S2048x1024 .bf16) (B : FVec Ideal S1024x4096 .bf16) : FVec Ideal S4096x2048 .bf16 :=
  fun i => sq (mul A B (ix2 (i 1) (i 0)))

theorem pay_eq (x0 : Vec Ideal S2048x1024 .bf16) (x1 : Vec Ideal S1024x512 .bf16) : k0_pay1 x0 x1 = mul x0 x1 := by
  funext j
  idx_vars j
  pointwise! [k0_pay1, mul]

theorem pay_act (x0 : Vec Ideal S2048x1024 .bf16) (x1 : Vec Ideal S1024x512 .bf16) (j : S2048x512.Idx) :
    k0_pay3 x0 x1 j = sq (mul x0 x1 j) := by
  idx_vars j
  pointwise! [k0_pay3, k0_pay2, k0_pay1, mul, sq]

theorem pay_actT (x0 : Vec Ideal S2048x1024 .bf16) (x1 : Vec Ideal S1024x512 .bf16) (j : S512x2048.Idx) :
    k0_pay4 x0 x1 j = sq (mul x0 x1 (ix2 (j 1) (j 0))) := by
  idx_vars j
  pointwise! [k0_pay4, k0_pay2, k0_pay1, mul, sq]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![t.val, 0] := (by decide +kernel : ∀ t : Fin grid0.N, _)

/-- The first array after the run is the product of the two arrays the call is given. -/
theorem final_hidden (c : Dev nD) : (dats m 0 c).arrAt 2 cfg0.N = mul (V m c main_v0) (V m c main_v1) := by
  refine (dats m 0 c).arrAt_eq_of_covers 2 _ (by decide +kernel) fun t hf y => ?_
  blk_simp
  rw [after0_2]
  frame_out
  rw [pay_eq]
  refine mul_congr _ _ _ _ _ _ (fun k => congrArg (V m c main_v0) ?_) (fun k => congrArg (V m c main_v1) ?_)
  · blk_ext [idx0, idx2]
  · blk_ext [idx1, idx2]

theorem final_act (c : Dev nD) : (dats m 0 c).arrAt 3 cfg0.N = act (V m c main_v0) (V m c main_v1) := by
  refine (dats m 0 c).arrAt_eq_of_covers 3 _ (by decide +kernel) fun t hf y => ?_
  blk_simp
  rw [after0_3]
  frame_out
  refine (pay_act _ _ y).trans (congrArg sq ?_)
  refine mul_congr _ _ _ _ _ _ (fun k => congrArg (V m c main_v0) ?_) (fun k => congrArg (V m c main_v1) ?_)
  · blk_ext [idx0, idx3]
  · blk_ext [idx1, idx3]

theorem final_actT (c : Dev nD) : (dats m 0 c).arrAt 4 cfg0.N = actT (V m c main_v0) (V m c main_v1) := by
  refine (dats m 0 c).arrAt_eq_of_covers 4 _ (by decide +kernel) fun t hf y => ?_
  blk_simp
  rw [after0_4]
  frame_out
  refine (pay_actT _ _ y).trans (congrArg sq ?_)
  refine mul_congr _ _ _ _ _ _ (fun k => congrArg (V m c main_v0) ?_) (fun k => congrArg (V m c main_v1) ?_)
  · blk_ext [idx0, idx4]
  · blk_ext [idx1, idx4]

theorem left_eq (c : Dev nD) : V m c main_v0 = truncf (F := Ideal) .bf16 (m ((c.tc : Thread nD τ).loc main_arg0)) bitsLt_bf16_f32 := by
  simp only [V]
  open StableHlo in after_results

theorem right_eq (c : Dev nD) : V m c main_v1 = truncf (F := Ideal) .bf16 (m ((c.tc : Thread nD τ).loc main_arg1)) bitsLt_bf16_f32 := by
  simp only [V]
  open StableHlo in after_results

open Cert.MlpUpRefIdeal in
/-- The reference's hidden layer. -/
def refHidden (X : FVec Ideal S2048x1024 .f32) (W : FVec Ideal S1024x4096 .f32) : FVec Ideal S2048x4096 .f32 :=
  Host.dotGeneral (F := Ideal) dot_S2048x1024_S1024x4096_S2048x4096_1_0_0_1_n_n none X W

open Cert.MlpUpRefIdeal Cert.MlpUpRefIdeal.Gen in
/-- The reference's squared positive part. -/
def refAct (X : FVec Ideal S2048x1024 .f32) (W : FVec Ideal S1024x4096 .f32) : FVec Ideal S2048x4096 .bf16 :=
  truncf .bf16 (mulf (maximumf (refHidden X W) (broadcastInDim S2048x4096 ![] bcast_S_S2048x4096 (constant (F := Ideal) S_ .f32 0x00000000#32))) (maximumf (refHidden X W) (broadcastInDim S2048x4096 ![] bcast_S_S2048x4096 (constant (F := Ideal) S_ .f32 0x00000000#32)))) Cert.MlpUpRefIdeal.Gen.bitsLt_bf16_f32

theorem hidden_eq (X : FVec Ideal S2048x1024 .f32) (W : FVec Ideal S1024x4096 .f32) :
    mul (truncf (F := Ideal) .bf16 X bitsLt_bf16_f32) (truncf (F := Ideal) .bf16 W bitsLt_bf16_f32) = refHidden X W := by
  funext i
  idx_vars i
  pointwise [mul, refHidden]

theorem act_eq (X : FVec Ideal S2048x1024 .f32) (W : FVec Ideal S1024x4096 .f32) :
    act (truncf (F := Ideal) .bf16 X bitsLt_bf16_f32) (truncf (F := Ideal) .bf16 W bitsLt_bf16_f32) = refAct X W := by
  funext i
  unfold act refAct
  rw [hidden_eq]
  idx_vars i
  pointwise [sq]

theorem actT_eq (X : FVec Ideal S2048x1024 .f32) (W : FVec Ideal S1024x4096 .f32) :
    actT (truncf (F := Ideal) .bf16 X bitsLt_bf16_f32) (truncf (F := Ideal) .bf16 W bitsLt_bf16_f32)
      = transpose Cert.MlpUpRefIdeal.S4096x2048 [1, 0] (refAct X W) Cert.MlpUpRefIdeal.Gen.transposes_S2048x4096_S4096x2048_1_0 := by
  rw [← act_eq]
  funext i
  idx_vars i
  pointwise [actT, act]

/-- From equal arguments both programs end, with the three results equal. -/
theorem algebraic : Cert.algebraic_MlpUpIdeal_MlpUpRefIdeal := by
  intro m g m' g' _ hargs
  refine ⟨fun c => (dats m 0 c).arrAt 2 cfg0.N, fun c => (dats m 0 c).arrAt 3 cfg0.N, fun c => (dats m 0 c).arrAt 4 cfg0.N, Value.run_blocks m g, ?_⟩
  refine (θ_run _ _ _).mono (fun r h c => ⟨?_, ?_, ?_, (h c).2.2.2⟩) (Cert.MlpUpRefIdeal.Value.run m' g')
  · show _ = (dats m 0 c).arrAt 2 cfg0.N
    rw [(h c).1, final_hidden, left_eq, right_eq, hidden_eq, (hargs c).1, (hargs c).2]
    rfl
  · show _ = (dats m 0 c).arrAt 3 cfg0.N
    rw [(h c).2.1, final_act, left_eq, right_eq, act_eq, (hargs c).1, (hargs c).2]
    rfl
  · show _ = (dats m 0 c).arrAt 4 cfg0.N
    rw [(h c).2.2.1, final_actT, left_eq, right_eq, actT_eq, (hargs c).1, (hargs c).2]
    rfl

theorem frame_printed : Cert.quiescent_MlpUp := fun m ρ _ => Cert.MlpUp.Gen.frame m ρ
theorem frame_ideal : Cert.quiescent_MlpUpIdeal := fun m ρ _ => Gen.frame m ρ
theorem frame_reference : Cert.quiescent_MlpUpRefIdeal := fun m ρ _ =>
  (θ_run Cert.MlpUpRefIdeal.defs _ _).mono (fun r h => ⟨fun c => (h c).2.2.2, sem_eq_zero_of_no_sems (by decide) r.2⟩) (Cert.MlpUpRefIdeal.Value.run m ρ)

end Cert.MlpUpIdeal.Prod

end
-- ==== Proof.Products.MlpDown.lean ====
module

public import proofs.«01_k».proof.Defs
public import proofs.«01_k».proof.Proof.Gen.MlpDown.Frame
public import proofs.«01_k».proof.Proof.Gen.MlpDownIdeal.Value
public import proofs.«01_k».proof.Proof.Gen.MlpDownRefIdeal.Run
public import proofs.«01_k».proof.Proof.Products.Common

/-! The MLP's second product: the kernel's array is the squared positive part of the hidden layer times the second matrix. The
sum over the 4096 columns is taken in two halves, the first kept in scratch. -/

@[expose] public section

set_option maxRecDepth 16384

noncomputable section

namespace Cert.MlpDownIdeal.Prod

open Cert.MlpDownIdeal Cert.MlpDownIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_first (x0 : Vec Ideal S2048x2048 .bf16) (x1 : Vec Ideal S2048x512 .bf16) : k0_pay2 x0 x1 = mul x0 x1 := by
  funext j
  idx_vars j
  pointwise! [k0_pay2, k0_pay1, mul]

theorem pay_second (x0 : Vec Ideal S2048x2048 .bf16) (x1 : Vec Ideal S2048x512 .bf16) (xs : Vec Ideal S2048x512 .f32) (j : S2048x512.Idx) :
    k0_pay3 x0 x1 xs j = ((xs j : EReal) + mul x0 x1 j : EReal) := by
  idx_vars j
  pointwise! [k0_pay3, k0_pay1, mul]

theorem idx0 : ∀ t : Fin cfg0.N, win0_0.index t = ![0, t.val % 2] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![0, t.val / 2] := (by decide +kernel : ∀ t : Fin grid0.N, _)

/-- The first point of a pair leaves its half's product in scratch. -/
theorem first_left (c : Dev nD) (t : Fin cfg0.N) (h : t.val % 2 = 0) :
    (outsAt0 m c t.val t.isLt).2 = mul (iblk m c 0 t) (iblk m c 1 t) := by
  rw [outsAt0_A m c t h (by omega) (by omega)]
  frame_out
  rw [pay_first]

/-- The second point of a pair leaves the sum of both in the result's block. -/
theorem second_left (c : Dev nD) (t : Fin cfg0.N) (h : t.val % 2 = 1) (hp : t.val - 1 < cfg0.N) (j : S2048x512.Idx) :
    (outsAt0 m c t.val t.isLt).1 j = ((mul (iblk m c 0 ⟨t.val - 1, hp⟩) (iblk m c 1 ⟨t.val - 1, hp⟩) j : EReal) + mul (iblk m c 0 t) (iblk m c 1 t) j : EReal) := by
  have e := first_left m c ⟨t.val - 1, hp⟩ (by dsimp only; omega)
  dsimp only at e
  rw [outsAt0_B m c t (by omega) (by omega) h]
  frame_out
  rw [pay_second, e, (Memref.isWhole_whole _).read_unread]

/-- The array after the run is the product of the two arrays the call is given. -/
theorem final (c : Dev nD) : (dats m 0 c).arrAt 2 cfg0.N = mul (V m c main_v3) (V m c main_v4) := by
  refine (dats m 0 c).arrAt_eq_of_covers 2 _ (by decide +kernel) fun t hf y => ?_
  have h : t.val % 2 = 1 := (flush0_2 t).mp hf
  have hp : t.val - 1 < cfg0.N := Nat.lt_of_le_of_lt (Nat.sub_le _ _) t.isLt
  have q : (t.val - 1) / 2 = t.val / 2 := by omega
  have p : (t.val - 1) % 2 = 0 := by omega
  blk_simp
  rw [after0_2]
  refine (second_left m c t h hp y).trans ?_
  refine mul_halves (b := 2048) _ _ _ _ _ _ _ _ (fun k => congrArg (V m c main_v3) ?_) (fun k => congrArg (V m c main_v4) ?_)
    (fun k => congrArg (V m c main_v3) ?_) (fun k => congrArg (V m c main_v4) ?_)
  · blk_ext [idx0, idx2, p, Fin.val_castAdd]
  · blk_ext [idx1, idx2, p, q, Fin.val_castAdd]
  · blk_ext [idx0, idx2, h, Fin.val_natAdd]
  · blk_ext [idx1, idx2, h, Fin.val_natAdd]

/-- The squared positive part of the hidden layer. -/
def act (H : FVec Ideal S2048x4096 .f32) : FVec Ideal S2048x4096 .f32 :=
  mulf (maximumf H (broadcastInDim S2048x4096 ![] bcast_S_S2048x4096 (constant S_ .f32 0x00000000#32))) (maximumf H (broadcastInDim S2048x4096 ![] bcast_S_S2048x4096 (constant S_ .f32 0x00000000#32)))

theorem left_eq (c : Dev nD) : V m c main_v3 = truncf (F := Ideal) .bf16 (act (m ((c.tc : Thread nD τ).loc main_arg0))) bitsLt_bf16_f32 := by
  simp only [V, act]
  open StableHlo in after_results

theorem right_eq (c : Dev nD) : V m c main_v4 = truncf (F := Ideal) .bf16 (m ((c.tc : Thread nD τ).loc main_arg1)) bitsLt_bf16_f32 := by
  simp only [V]
  open StableHlo in after_results

/-- The product is the reference's result, from the same arguments. -/
theorem ref_eq (H : FVec Ideal S2048x4096 .f32) (W : FVec Ideal S4096x1024 .f32) :
    mul (truncf (F := Ideal) .bf16 (act H) bitsLt_bf16_f32) (truncf (F := Ideal) .bf16 W bitsLt_bf16_f32)
      = (Host.dotGeneral (F := Ideal) Cert.MlpDownRefIdeal.dot_S2048x4096_S4096x1024_S2048x1024_1_0_0_1_n_n none (act H) W : FVec Ideal S2048x1024 .f32) := by
  funext i
  idx_vars i
  pointwise [mul]

/-- From equal arguments both programs end, with equal results. -/
theorem algebraic : Cert.algebraic_MlpDownIdeal_MlpDownRefIdeal := by
  intro m g m' g' _ hargs
  refine ⟨fun c => (dats m 0 c).arrAt 2 cfg0.N, Value.run_blocks m g, ?_⟩
  refine (θ_run _ _ _).mono (fun r h c => ⟨?_, (h c).2⟩) (Cert.MlpDownRefIdeal.Value.run m' g')
  show _ = (dats m 0 c).arrAt 2 cfg0.N
  rw [(h c).1, final, left_eq, right_eq, ref_eq, (hargs c).1, (hargs c).2]
  rfl

theorem frame_printed : Cert.quiescent_MlpDown := fun m ρ _ => Cert.MlpDown.Gen.frame m ρ
theorem frame_ideal : Cert.quiescent_MlpDownIdeal := fun m ρ _ => Gen.frame m ρ
theorem frame_reference : Cert.quiescent_MlpDownRefIdeal := fun m ρ _ =>
  (θ_run Cert.MlpDownRefIdeal.defs _ _).mono (fun r h => ⟨fun c => (h c).2, sem_eq_zero_of_no_sems (by decide) r.2⟩) (Cert.MlpDownRefIdeal.Value.run m ρ)

end Cert.MlpDownIdeal.Prod

end
-- ==== Proof.Products.AbIn.lean ====
module

public import proofs.«01_k».proof.Defs
public import proofs.«01_k».proof.Proof.Gen.AbIn.Frame
public import proofs.«01_k».proof.Proof.Gen.AbInIdeal.Value
public import proofs.«01_k».proof.Proof.Gen.AbInRefIdeal.Run
public import proofs.«01_k».proof.Proof.Products.Common

/-! The recurrent mixer's first projection: the kernel's array is the product of the layer's input and the weights. -/

@[expose] public section

set_option maxRecDepth 16384

noncomputable section

namespace Cert.AbInIdeal.Prod

open Cert.AbInIdeal Cert.AbInIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_eq (x0 : Vec Ideal S2048x1024 .bf16) (x1 : Vec Ideal S1024x512 .bf16) : k0_pay1 x0 x1 = mul x0 x1 := by
  funext j
  idx_vars j
  pointwise! [k0_pay1, mul]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The array after the run is the product of the two arrays the call is given. -/
theorem final (c : Dev nD) : (dats m 0 c).arrAt 2 cfg0.N = mul (V m c main_v0) (V m c main_v1) := by
  refine (dats m 0 c).arrAt_eq_of_covers 2 _ (by decide +kernel) fun t hf y => ?_
  blk_simp
  rw [after0_2]
  frame_out
  rw [pay_eq]
  refine mul_congr _ _ _ _ _ _ (fun k => congrArg (V m c main_v0) ?_) (fun k => congrArg (V m c main_v1) ?_)
  · blk_ext [idx0, idx2]
  · blk_ext [idx1, idx2]

theorem left_eq (c : Dev nD) : V m c main_v0 = truncf (F := Ideal) .bf16 (m ((c.tc : Thread nD τ).loc main_arg0)) bitsLt_bf16_f32 := by
  simp only [V]
  open StableHlo in after_results

theorem right_eq (c : Dev nD) : V m c main_v1 = truncf (F := Ideal) .bf16 (m ((c.tc : Thread nD τ).loc main_arg1)) bitsLt_bf16_f32 := by
  simp only [V]
  open StableHlo in after_results

/-- The product is the reference's result, from the same arguments. -/
theorem ref_eq (X : FVec Ideal S2048x1024 .f32) (W : FVec Ideal S1024x3584 .f32) :
    mul (truncf (F := Ideal) .bf16 X bitsLt_bf16_f32) (truncf (F := Ideal) .bf16 W bitsLt_bf16_f32)
      = (Host.dotGeneral (F := Ideal) Cert.AbInRefIdeal.dot_S2048x1024_S1024x3584_S2048x3584_1_0_0_1_n_n none X W : FVec Ideal S2048x3584 .f32) := by
  funext i
  idx_vars i
  pointwise [mul]

/-- From equal arguments both programs end, with equal results. -/
theorem algebraic : Cert.algebraic_AbInIdeal_AbInRefIdeal := by
  intro m g m' g' _ hargs
  refine ⟨fun c => (dats m 0 c).arrAt 2 cfg0.N, Value.run_blocks m g, ?_⟩
  refine (θ_run _ _ _).mono (fun r h c => ⟨?_, (h c).2⟩) (Cert.AbInRefIdeal.Value.run m' g')
  show _ = (dats m 0 c).arrAt 2 cfg0.N
  rw [(h c).1, final, left_eq, right_eq, ref_eq, (hargs c).1, (hargs c).2]

theorem frame_printed : Cert.quiescent_AbIn := fun m ρ _ => Cert.AbIn.Gen.frame m ρ
theorem frame_ideal : Cert.quiescent_AbInIdeal := fun m ρ _ => Gen.frame m ρ
theorem frame_reference : Cert.quiescent_AbInRefIdeal := fun m ρ _ =>
  (θ_run Cert.AbInRefIdeal.defs _ _).mono (fun r h => ⟨fun c => (h c).2, sem_eq_zero_of_no_sems (by decide) r.2⟩) (Cert.AbInRefIdeal.Value.run m ρ)

end Cert.AbInIdeal.Prod

end
-- ==== Proof.Products.AbInDw.lean ====
module

public import proofs.«01_k».proof.Defs
public import proofs.«01_k».proof.Proof.Gen.AbInDw.Frame
public import proofs.«01_k».proof.Proof.Gen.AbInDwIdeal.Value
public import proofs.«01_k».proof.Proof.Gen.AbInDwRefIdeal.Run
public import proofs.«01_k».proof.Proof.Products.Common

/-! The gradient of the recurrent mixer's first weights: the kernel's array is the product of the transposed
input and the gradient of the projection, summed over all 2048 rows. -/

@[expose] public section

set_option maxRecDepth 16384

noncomputable section

namespace Cert.AbInDwIdeal.Prod

open Cert.AbInDwIdeal Cert.AbInDwIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_eq (x0 : Vec Ideal S1024x2048 .bf16) (x1 : Vec Ideal S2048x512 .bf16) : k0_pay1 x0 x1 = mul x0 x1 := by
  funext j
  idx_vars j
  pointwise! [k0_pay1, mul]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The array after the run is the product of the two arrays the call is given. -/
theorem final (c : Dev nD) : (dats m 0 c).arrAt 2 cfg0.N = mul (V m c main_v1) (V m c main_v2) := by
  refine (dats m 0 c).arrAt_eq_of_covers 2 _ (by decide +kernel) fun t hf y => ?_
  blk_simp
  rw [after0_2]
  frame_out
  rw [pay_eq]
  refine mul_congr _ _ _ _ _ _ (fun k => congrArg (V m c main_v1) ?_) (fun k => congrArg (V m c main_v2) ?_)
  · blk_ext [idx0, idx2]
  · blk_ext [idx1, idx2]

theorem left_eq (c : Dev nD) : V m c main_v1 = transpose S1024x2048 [1, 0] (truncf (F := Ideal) .bf16 (m ((c.tc : Thread nD τ).loc main_arg0)) bitsLt_bf16_f32) transposes_S2048x1024_S1024x2048_1_0 := by
  simp only [V]
  open StableHlo in after_results

theorem right_eq (c : Dev nD) : V m c main_v2 = truncf (F := Ideal) .bf16 (m ((c.tc : Thread nD τ).loc main_arg1)) bitsLt_bf16_f32 := by
  simp only [V]
  open StableHlo in after_results

/-- The product is the reference's result, from the same arguments: the reference multiplies the other way round and transposes. -/
theorem ref_eq (X : FVec Ideal S2048x1024 .f32) (Y : FVec Ideal S2048x3584 .f32) :
    mul (transpose S1024x2048 [1, 0] (truncf (F := Ideal) .bf16 X bitsLt_bf16_f32) transposes_S2048x1024_S1024x2048_1_0) (truncf (F := Ideal) .bf16 Y bitsLt_bf16_f32)
      = transpose Cert.AbInDwRefIdeal.S1024x3584 [1, 0] (Host.dotGeneral (F := Ideal) Cert.AbInDwRefIdeal.dot_S2048x3584_S2048x1024_S3584x1024_0_0_1_1_n_n none Y X : FVec Ideal Cert.AbInDwRefIdeal.S3584x1024 .f32) Cert.AbInDwRefIdeal.Gen.transposes_S3584x1024_S1024x3584_1_0 := by
  funext i
  idx_vars i
  pointwise [mul]
  exact Finset.sum_congr rfl fun k _ => mul_comm _ _

/-- From equal arguments both programs end, with equal results. -/
theorem algebraic : Cert.algebraic_AbInDwIdeal_AbInDwRefIdeal := by
  intro m g m' g' _ hargs
  refine ⟨fun c => (dats m 0 c).arrAt 2 cfg0.N, Value.run_blocks m g, ?_⟩
  refine (θ_run _ _ _).mono (fun r h c => ⟨?_, (h c).2⟩) (Cert.AbInDwRefIdeal.Value.run m' g')
  show _ = (dats m 0 c).arrAt 2 cfg0.N
  rw [(h c).1, final, left_eq, right_eq, ref_eq, (hargs c).1, (hargs c).2]

theorem frame_printed : Cert.quiescent_AbInDw := fun m ρ _ => Cert.AbInDw.Gen.frame m ρ
theorem frame_ideal : Cert.quiescent_AbInDwIdeal := fun m ρ _ => Gen.frame m ρ
theorem frame_reference : Cert.quiescent_AbInDwRefIdeal := fun m ρ _ =>
  (θ_run Cert.AbInDwRefIdeal.defs _ _).mono (fun r h => ⟨fun c => (h c).2, sem_eq_zero_of_no_sems (by decide) r.2⟩) (Cert.AbInDwRefIdeal.Value.run m ρ)

end Cert.AbInDwIdeal.Prod

end
-- ==== Proof.Products.AbInDx.lean ====
module

public import proofs.«01_k».proof.Defs
public import proofs.«01_k».proof.Proof.Gen.AbInDx.Frame
public import proofs.«01_k».proof.Proof.Gen.AbInDxIdeal.Value
public import proofs.«01_k».proof.Proof.Gen.AbInDxRefIdeal.Run
public import proofs.«01_k».proof.Proof.Products.Common

/-! The gradient through the recurrent mixer's first projection: the kernel's array is the gradient of the projection times
the transposed weights. The sum over the 3584 columns is taken in two halves, the first kept in scratch. -/

@[expose] public section

set_option maxRecDepth 16384

noncomputable section

namespace Cert.AbInDxIdeal.Prod

open Cert.AbInDxIdeal Cert.AbInDxIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_first (x0 : Vec Ideal S2048x1792 .bf16) (x1 : Vec Ideal S512x1792 .bf16) : k0_pay2 x0 x1 = mulT x0 x1 := by
  funext j
  idx_vars j
  pointwise! [k0_pay2, k0_pay1, mulT]

theorem pay_second (x0 : Vec Ideal S2048x1792 .bf16) (x1 : Vec Ideal S512x1792 .bf16) (xs : Vec Ideal S2048x512 .f32) (j : S2048x512.Idx) :
    k0_pay3 x0 x1 xs j = ((xs j : EReal) + mulT x0 x1 j : EReal) := by
  idx_vars j
  pointwise! [k0_pay3, k0_pay1, mulT]

theorem idx0 : ∀ t : Fin cfg0.N, win0_0.index t = ![0, t.val % 2] := (by decide +kernel : ∀ t : Fin grid0.N, _)
theorem idx1 : ∀ t : Fin cfg0.N, win0_1.index t = ![t.val / 2, t.val % 2] := (by decide +kernel : ∀ t : Fin grid0.N, _)
theorem idx2 : ∀ t : Fin cfg0.N, win0_2.index t = ![0, t.val / 2] := (by decide +kernel : ∀ t : Fin grid0.N, _)

/-- The first point of a pair leaves its half's product in scratch. -/
theorem first_left (c : Dev nD) (t : Fin cfg0.N) (h : t.val % 2 = 0) :
    (outsAt0 m c t.val t.isLt).2 = mulT (iblk m c 0 t) (iblk m c 1 t) := by
  rw [outsAt0_A m c t h (by omega) (by omega)]
  frame_out
  rw [pay_first]

/-- The second point of a pair leaves the sum of both in the result's block. -/
theorem second_left (c : Dev nD) (t : Fin cfg0.N) (h : t.val % 2 = 1) (hp : t.val - 1 < cfg0.N) (j : S2048x512.Idx) :
    (outsAt0 m c t.val t.isLt).1 j = ((mulT (iblk m c 0 ⟨t.val - 1, hp⟩) (iblk m c 1 ⟨t.val - 1, hp⟩) j : EReal) + mulT (iblk m c 0 t) (iblk m c 1 t) j : EReal) := by
  have e := first_left m c ⟨t.val - 1, hp⟩ (by dsimp only; omega)
  dsimp only at e
  rw [outsAt0_B m c t (by omega) (by omega) h]
  frame_out
  rw [pay_second, e, (Memref.isWhole_whole _).read_unread]

/-- The array after the run is the product of the two arrays the call is given. -/
theorem final (c : Dev nD) : (dats m 0 c).arrAt 2 cfg0.N = mulT (V m c main_v0) (V m c main_v1) := by
  refine (dats m 0 c).arrAt_eq_of_covers 2 _ (by decide +kernel) fun t hf y => ?_
  have h : t.val % 2 = 1 := (flush0_2 t).mp hf
  have hp : t.val - 1 < cfg0.N := Nat.lt_of_le_of_lt (Nat.sub_le _ _) t.isLt
  have q : (t.val - 1) / 2 = t.val / 2 := by omega
  have p : (t.val - 1) % 2 = 0 := by omega
  blk_simp
  rw [after0_2]
  refine (second_left m c t h hp y).trans ?_
  refine mulT_halves (b := 1792) _ _ _ _ _ _ _ _ (fun k => congrArg (V m c main_v0) ?_) (fun k => congrArg (V m c main_v1) ?_)
    (fun k => congrArg (V m c main_v0) ?_) (fun k => congrArg (V m c main_v1) ?_)
  · blk_ext [idx0, idx2, p, Fin.val_castAdd]
  · blk_ext [idx1, idx2, p, q, Fin.val_castAdd]
  · blk_ext [idx0, idx2, h, Fin.val_natAdd]
  · blk_ext [idx1, idx2, h, Fin.val_natAdd]

theorem left_eq (c : Dev nD) : V m c main_v0 = truncf (F := Ideal) .bf16 (m ((c.tc : Thread nD τ).loc main_arg1)) bitsLt_bf16_f32 := by
  simp only [V]
  open StableHlo in after_results

theorem right_eq (c : Dev nD) : V m c main_v1 = truncf (F := Ideal) .bf16 (m ((c.tc : Thread nD τ).loc main_arg0)) bitsLt_bf16_f32 := by
  simp only [V]
  open StableHlo in after_results

/-- The product is the reference's result, from the same arguments. -/
theorem ref_eq (W : FVec Ideal S1024x3584 .f32) (Y : FVec Ideal S2048x3584 .f32) :
    mulT (truncf (F := Ideal) .bf16 Y bitsLt_bf16_f32) (truncf (F := Ideal) .bf16 W bitsLt_bf16_f32)
      = (Host.dotGeneral (F := Ideal) Cert.AbInDxRefIdeal.dot_S2048x3584_S1024x3584_S2048x1024_1_1_0_0_n_n none Y W : FVec Ideal S2048x1024 .f32) := by
  funext i
  idx_vars i
  pointwise [mulT]

/-- From equal arguments both programs end, with equal results. -/
theorem algebraic : Cert.algebraic_AbInDxIdeal_AbInDxRefIdeal := by
  intro m g m' g' _ hargs
  refine ⟨fun c => (dats m 0 c).arrAt 2 cfg0.N, Value.run_blocks m g, ?_⟩
  refine (θ_run _ _ _).mono (fun r h c => ⟨?_, (h c).2⟩) (Cert.AbInDxRefIdeal.Value.run m' g')
  show _ = (dats m 0 c).arrAt 2 cfg0.N
  rw [(h c).1, final, left_eq, right_eq, ref_eq, (hargs c).1, (hargs c).2]

theorem frame_printed : Cert.quiescent_AbInDx := fun m ρ _ => Cert.AbInDx.Gen.frame m ρ
theorem frame_ideal : Cert.quiescent_AbInDxIdeal := fun m ρ _ => Gen.frame m ρ
theorem frame_reference : Cert.quiescent_AbInDxRefIdeal := fun m ρ _ =>
  (θ_run Cert.AbInDxRefIdeal.defs _ _).mono (fun r h => ⟨fun c => (h c).2, sem_eq_zero_of_no_sems (by decide) r.2⟩) (Cert.AbInDxRefIdeal.Value.run m ρ)

end Cert.AbInDxIdeal.Prod

end
-- ==== Proof.Products.AbOut.lean ====
module

public import proofs.«01_k».proof.Defs
public import proofs.«01_k».proof.Proof.Gen.AbOut.Frame
public import proofs.«01_k».proof.Proof.Gen.AbOutIdeal.Value
public import proofs.«01_k».proof.Proof.Gen.AbOutRefIdeal.Run
public import proofs.«01_k».proof.Proof.Products.Common

/-! The recurrent mixer's last projection: the kernel's array is the product of its input and the weights. -/

@[expose] public section

set_option maxRecDepth 16384

noncomputable section

namespace Cert.AbOutIdeal.Prod

open Cert.AbOutIdeal Cert.AbOutIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_eq (x0 : Vec Ideal S2048x1024 .bf16) (x1 : Vec Ideal S1024x512 .bf16) : k0_pay1 x0 x1 = mul x0 x1 := by
  funext j
  idx_vars j
  pointwise! [k0_pay1, mul]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The array after the run is the product of the two arrays the call is given. -/
theorem final (c : Dev nD) : (dats m 0 c).arrAt 2 cfg0.N = mul (V m c main_v0) (V m c main_v1) := by
  refine (dats m 0 c).arrAt_eq_of_covers 2 _ (by decide +kernel) fun t hf y => ?_
  blk_simp
  rw [after0_2]
  frame_out
  rw [pay_eq]
  refine mul_congr _ _ _ _ _ _ (fun k => congrArg (V m c main_v0) ?_) (fun k => congrArg (V m c main_v1) ?_)
  · blk_ext [idx0, idx2]
  · blk_ext [idx1, idx2]

theorem left_eq (c : Dev nD) : V m c main_v0 = truncf (F := Ideal) .bf16 (m ((c.tc : Thread nD τ).loc main_arg0)) bitsLt_bf16_f32 := by
  simp only [V]
  open StableHlo in after_results

theorem right_eq (c : Dev nD) : V m c main_v1 = truncf (F := Ideal) .bf16 (m ((c.tc : Thread nD τ).loc main_arg1)) bitsLt_bf16_f32 := by
  simp only [V]
  open StableHlo in after_results

/-- The product is the reference's result, from the same arguments. -/
theorem ref_eq (X : FVec Ideal S2048x1024 .f32) (W : FVec Ideal S1024x1024 .f32) :
    mul (truncf (F := Ideal) .bf16 X bitsLt_bf16_f32) (truncf (F := Ideal) .bf16 W bitsLt_bf16_f32)
      = (Host.dotGeneral (F := Ideal) Cert.AbOutRefIdeal.dot_S2048x1024_S1024x1024_S2048x1024_1_0_0_1_n_n none X W : FVec Ideal S2048x1024 .f32) := by
  funext i
  idx_vars i
  pointwise [mul]

/-- From equal arguments both programs end, with equal results. -/
theorem algebraic : Cert.algebraic_AbOutIdeal_AbOutRefIdeal := by
  intro m g m' g' _ hargs
  refine ⟨fun c => (dats m 0 c).arrAt 2 cfg0.N, Value.run_blocks m g, ?_⟩
  refine (θ_run _ _ _).mono (fun r h c => ⟨?_, (h c).2⟩) (Cert.AbOutRefIdeal.Value.run m' g')
  show _ = (dats m 0 c).arrAt 2 cfg0.N
  rw [(h c).1, final, left_eq, right_eq, ref_eq, (hargs c).1, (hargs c).2]

theorem frame_printed : Cert.quiescent_AbOut := fun m ρ _ => Cert.AbOut.Gen.frame m ρ
theorem frame_ideal : Cert.quiescent_AbOutIdeal := fun m ρ _ => Gen.frame m ρ
theorem frame_reference : Cert.quiescent_AbOutRefIdeal := fun m ρ _ =>
  (θ_run Cert.AbOutRefIdeal.defs _ _).mono (fun r h => ⟨fun c => (h c).2, sem_eq_zero_of_no_sems (by decide) r.2⟩) (Cert.AbOutRefIdeal.Value.run m ρ)

end Cert.AbOutIdeal.Prod

end
-- ==== Proof.Products.AbOutDw.lean ====
module

public import proofs.«01_k».proof.Defs
public import proofs.«01_k».proof.Proof.Gen.AbOutDw.Frame
public import proofs.«01_k».proof.Proof.Gen.AbOutDwIdeal.Value
public import proofs.«01_k».proof.Proof.Gen.AbOutDwRefIdeal.Run
public import proofs.«01_k».proof.Proof.Products.Common

/-! The gradient of the recurrent mixer's last weights: the kernel's array is the product of the transposed
input and the gradient of the projection, summed over all 2048 rows. -/

@[expose] public section

set_option maxRecDepth 16384

noncomputable section

namespace Cert.AbOutDwIdeal.Prod

open Cert.AbOutDwIdeal Cert.AbOutDwIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_eq (x0 : Vec Ideal S1024x2048 .bf16) (x1 : Vec Ideal S2048x512 .bf16) : k0_pay1 x0 x1 = mul x0 x1 := by
  funext j
  idx_vars j
  pointwise! [k0_pay1, mul]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The array after the run is the product of the two arrays the call is given. -/
theorem final (c : Dev nD) : (dats m 0 c).arrAt 2 cfg0.N = mul (V m c main_v1) (V m c main_v2) := by
  refine (dats m 0 c).arrAt_eq_of_covers 2 _ (by decide +kernel) fun t hf y => ?_
  blk_simp
  rw [after0_2]
  frame_out
  rw [pay_eq]
  refine mul_congr _ _ _ _ _ _ (fun k => congrArg (V m c main_v1) ?_) (fun k => congrArg (V m c main_v2) ?_)
  · blk_ext [idx0, idx2]
  · blk_ext [idx1, idx2]

theorem left_eq (c : Dev nD) : V m c main_v1 = transpose S1024x2048 [1, 0] (truncf (F := Ideal) .bf16 (m ((c.tc : Thread nD τ).loc main_arg0)) bitsLt_bf16_f32) transposes_S2048x1024_S1024x2048_1_0 := by
  simp only [V]
  open StableHlo in after_results

theorem right_eq (c : Dev nD) : V m c main_v2 = truncf (F := Ideal) .bf16 (m ((c.tc : Thread nD τ).loc main_arg1)) bitsLt_bf16_f32 := by
  simp only [V]
  open StableHlo in after_results

/-- The product is the reference's result, from the same arguments: the reference multiplies the other way round and transposes. -/
theorem ref_eq (X : FVec Ideal S2048x1024 .f32) (Y : FVec Ideal S2048x1024 .f32) :
    mul (transpose S1024x2048 [1, 0] (truncf (F := Ideal) .bf16 X bitsLt_bf16_f32) transposes_S2048x1024_S1024x2048_1_0) (truncf (F := Ideal) .bf16 Y bitsLt_bf16_f32)
      = transpose Cert.AbOutDwRefIdeal.S1024x1024 [1, 0] (Host.dotGeneral (F := Ideal) Cert.AbOutDwRefIdeal.dot_S2048x1024_S2048x1024_S1024x1024_0_0_1_1_n_n none Y X : FVec Ideal Cert.AbOutDwRefIdeal.S1024x1024 .f32) Cert.AbOutDwRefIdeal.Gen.transposes_S1024x1024_S1024x1024_1_0 := by
  funext i
  idx_vars i
  pointwise [mul]
  exact Finset.sum_congr rfl fun k _ => mul_comm _ _

/-- From equal arguments both programs end, with equal results. -/
theorem algebraic : Cert.algebraic_AbOutDwIdeal_AbOutDwRefIdeal := by
  intro m g m' g' _ hargs
  refine ⟨fun c => (dats m 0 c).arrAt 2 cfg0.N, Value.run_blocks m g, ?_⟩
  refine (θ_run _ _ _).mono (fun r h c => ⟨?_, (h c).2⟩) (Cert.AbOutDwRefIdeal.Value.run m' g')
  show _ = (dats m 0 c).arrAt 2 cfg0.N
  rw [(h c).1, final, left_eq, right_eq, ref_eq, (hargs c).1, (hargs c).2]

theorem frame_printed : Cert.quiescent_AbOutDw := fun m ρ _ => Cert.AbOutDw.Gen.frame m ρ
theorem frame_ideal : Cert.quiescent_AbOutDwIdeal := fun m ρ _ => Gen.frame m ρ
theorem frame_reference : Cert.quiescent_AbOutDwRefIdeal := fun m ρ _ =>
  (θ_run Cert.AbOutDwRefIdeal.defs _ _).mono (fun r h => ⟨fun c => (h c).2, sem_eq_zero_of_no_sems (by decide) r.2⟩) (Cert.AbOutDwRefIdeal.Value.run m ρ)

end Cert.AbOutDwIdeal.Prod

end
-- ==== Proof.Products.AbOutDx.lean ====
module

public import proofs.«01_k».proof.Defs
public import proofs.«01_k».proof.Proof.Gen.AbOutDx.Frame
public import proofs.«01_k».proof.Proof.Gen.AbOutDxIdeal.Value
public import proofs.«01_k».proof.Proof.Gen.AbOutDxRefIdeal.Run
public import proofs.«01_k».proof.Proof.Products.Common

/-! The gradient through the recurrent mixer's last projection: the kernel's array is the gradient of its output times the
transposed weights. -/

@[expose] public section

set_option maxRecDepth 16384

noncomputable section

namespace Cert.AbOutDxIdeal.Prod

open Cert.AbOutDxIdeal Cert.AbOutDxIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_eq (x0 : Vec Ideal S2048x1024 .bf16) (x1 : Vec Ideal S512x1024 .bf16) : k0_pay1 x0 x1 = mulT x0 x1 := by
  funext j
  idx_vars j
  pointwise! [k0_pay1, mulT]

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)

/-- The array after the run is the product of the two arrays the call is given. -/
theorem final (c : Dev nD) : (dats m 0 c).arrAt 2 cfg0.N = mulT (V m c main_v0) (V m c main_v1) := by
  refine (dats m 0 c).arrAt_eq_of_covers 2 _ (by decide +kernel) fun t hf y => ?_
  blk_simp
  rw [after0_2]
  frame_out
  rw [pay_eq]
  refine mulT_congr _ _ _ _ _ _ (fun k => congrArg (V m c main_v0) ?_) (fun k => congrArg (V m c main_v1) ?_)
  · blk_ext [idx0, idx2]
  · blk_ext [idx1, idx2]

theorem left_eq (c : Dev nD) : V m c main_v0 = truncf (F := Ideal) .bf16 (m ((c.tc : Thread nD τ).loc main_arg1)) bitsLt_bf16_f32 := by
  simp only [V]
  open StableHlo in after_results

theorem right_eq (c : Dev nD) : V m c main_v1 = truncf (F := Ideal) .bf16 (m ((c.tc : Thread nD τ).loc main_arg0)) bitsLt_bf16_f32 := by
  simp only [V]
  open StableHlo in after_results

/-- The product is the reference's result, from the same arguments. -/
theorem ref_eq (W : FVec Ideal S1024x1024 .f32) (Y : FVec Ideal S2048x1024 .f32) :
    mulT (truncf (F := Ideal) .bf16 Y bitsLt_bf16_f32) (truncf (F := Ideal) .bf16 W bitsLt_bf16_f32)
      = (Host.dotGeneral (F := Ideal) Cert.AbOutDxRefIdeal.dot_S2048x1024_S1024x1024_S2048x1024_1_1_0_0_n_n none Y W : FVec Ideal S2048x1024 .f32) := by
  funext i
  idx_vars i
  pointwise [mulT]

/-- From equal arguments both programs end, with equal results. -/
theorem algebraic : Cert.algebraic_AbOutDxIdeal_AbOutDxRefIdeal := by
  intro m g m' g' _ hargs
  refine ⟨fun c => (dats m 0 c).arrAt 2 cfg0.N, Value.run_blocks m g, ?_⟩
  refine (θ_run _ _ _).mono (fun r h c => ⟨?_, (h c).2⟩) (Cert.AbOutDxRefIdeal.Value.run m' g')
  show _ = (dats m 0 c).arrAt 2 cfg0.N
  rw [(h c).1, final, left_eq, right_eq, ref_eq, (hargs c).1, (hargs c).2]

theorem frame_printed : Cert.quiescent_AbOutDx := fun m ρ _ => Cert.AbOutDx.Gen.frame m ρ
theorem frame_ideal : Cert.quiescent_AbOutDxIdeal := fun m ρ _ => Gen.frame m ρ
theorem frame_reference : Cert.quiescent_AbOutDxRefIdeal := fun m ρ _ =>
  (θ_run Cert.AbOutDxRefIdeal.defs _ _).mono (fun r h => ⟨fun c => (h c).2, sem_eq_zero_of_no_sems (by decide) r.2⟩) (Cert.AbOutDxRefIdeal.Value.run m ρ)

end Cert.AbOutDxIdeal.Prod

end
-- ==== Proof.Products.Qkv.lean ====
module

public import proofs.«01_k».proof.Defs
public import proofs.«01_k».proof.Proof.Gen.Qkv.Frame
public import proofs.«01_k».proof.Proof.Gen.QkvIdeal.Value
public import proofs.«01_k».proof.Proof.Gen.QkvRefIdeal.Run
public import proofs.«01_k».proof.Proof.Products.Common

/-! The attention's first projection: the kernel's array is the product of the layer's input and the weights. -/

@[expose] public section

set_option maxRecDepth 16384

noncomputable section

namespace Cert.QkvIdeal.Prod

open Cert.QkvIdeal Cert.QkvIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_eq (x0 : Vec Ideal S2048x1024 .bf16) (x1 : Vec Ideal S1024x512 .bf16) : k0_pay1 x0 x1 = mul x0 x1 := by
  funext j
  idx_vars j
  pointwise! [k0_pay1, mul]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The array after the run is the product of the two arrays the call is given. -/
theorem final (c : Dev nD) : (dats m 0 c).arrAt 2 cfg0.N = mul (V m c main_v0) (V m c main_v1) := by
  refine (dats m 0 c).arrAt_eq_of_covers 2 _ (by decide +kernel) fun t hf y => ?_
  blk_simp
  rw [after0_2]
  frame_out
  rw [pay_eq]
  refine mul_congr _ _ _ _ _ _ (fun k => congrArg (V m c main_v0) ?_) (fun k => congrArg (V m c main_v1) ?_)
  · blk_ext [idx0, idx2]
  · blk_ext [idx1, idx2]

theorem left_eq (c : Dev nD) : V m c main_v0 = truncf (F := Ideal) .bf16 (m ((c.tc : Thread nD τ).loc main_arg0)) bitsLt_bf16_f32 := by
  simp only [V]
  open StableHlo in after_results

theorem right_eq (c : Dev nD) : V m c main_v1 = truncf (F := Ideal) .bf16 (m ((c.tc : Thread nD τ).loc main_arg1)) bitsLt_bf16_f32 := by
  simp only [V]
  open StableHlo in after_results

/-- The product is the reference's result, from the same arguments. -/
theorem ref_eq (X : FVec Ideal S2048x1024 .f32) (W : FVec Ideal S1024x4608 .f32) :
    mul (truncf (F := Ideal) .bf16 X bitsLt_bf16_f32) (truncf (F := Ideal) .bf16 W bitsLt_bf16_f32)
      = (Host.dotGeneral (F := Ideal) Cert.QkvRefIdeal.dot_S2048x1024_S1024x4608_S2048x4608_1_0_0_1_n_n none X W : FVec Ideal S2048x4608 .f32) := by
  funext i
  idx_vars i
  pointwise [mul]

/-- From equal arguments both programs end, with equal results. -/
theorem algebraic : Cert.algebraic_QkvIdeal_QkvRefIdeal := by
  intro m g m' g' _ hargs
  refine ⟨fun c => (dats m 0 c).arrAt 2 cfg0.N, Value.run_blocks m g, ?_⟩
  refine (θ_run _ _ _).mono (fun r h c => ⟨?_, (h c).2⟩) (Cert.QkvRefIdeal.Value.run m' g')
  show _ = (dats m 0 c).arrAt 2 cfg0.N
  rw [(h c).1, final, left_eq, right_eq, ref_eq, (hargs c).1, (hargs c).2]

theorem frame_printed : Cert.quiescent_Qkv := fun m ρ _ => Cert.Qkv.Gen.frame m ρ
theorem frame_ideal : Cert.quiescent_QkvIdeal := fun m ρ _ => Gen.frame m ρ
theorem frame_reference : Cert.quiescent_QkvRefIdeal := fun m ρ _ =>
  (θ_run Cert.QkvRefIdeal.defs _ _).mono (fun r h => ⟨fun c => (h c).2, sem_eq_zero_of_no_sems (by decide) r.2⟩) (Cert.QkvRefIdeal.Value.run m ρ)

end Cert.QkvIdeal.Prod

end
-- ==== Proof.Products.QkvDw.lean ====
module

public import proofs.«01_k».proof.Defs
public import proofs.«01_k».proof.Proof.Gen.QkvDw.Frame
public import proofs.«01_k».proof.Proof.Gen.QkvDwIdeal.Value
public import proofs.«01_k».proof.Proof.Gen.QkvDwRefIdeal.Run
public import proofs.«01_k».proof.Proof.Products.Common

/-! The gradient of the attention's first weights: the kernel's array is the product of the transposed input and the
gradient of the projection, summed over all 2048 rows. -/

@[expose] public section

set_option maxRecDepth 16384

noncomputable section

namespace Cert.QkvDwIdeal.Prod

open Cert.QkvDwIdeal Cert.QkvDwIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_eq (x0 : Vec Ideal S1024x2048 .bf16) (x1 : Vec Ideal S2048x512 .bf16) : k0_pay1 x0 x1 = mul x0 x1 := by
  funext j
  idx_vars j
  pointwise! [k0_pay1, mul]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The array after the run is the product of the two arrays the call is given. -/
theorem final (c : Dev nD) : (dats m 0 c).arrAt 2 cfg0.N = mul (V m c main_v1) (V m c main_v2) := by
  refine (dats m 0 c).arrAt_eq_of_covers 2 _ (by decide +kernel) fun t hf y => ?_
  blk_simp
  rw [after0_2]
  frame_out
  rw [pay_eq]
  refine mul_congr _ _ _ _ _ _ (fun k => congrArg (V m c main_v1) ?_) (fun k => congrArg (V m c main_v2) ?_)
  · blk_ext [idx0, idx2]
  · blk_ext [idx1, idx2]

theorem left_eq (c : Dev nD) : V m c main_v1 = transpose S1024x2048 [1, 0] (truncf (F := Ideal) .bf16 (m ((c.tc : Thread nD τ).loc main_arg0)) bitsLt_bf16_f32) transposes_S2048x1024_S1024x2048_1_0 := by
  simp only [V]
  open StableHlo in after_results

theorem right_eq (c : Dev nD) : V m c main_v2 = truncf (F := Ideal) .bf16 (m ((c.tc : Thread nD τ).loc main_arg1)) bitsLt_bf16_f32 := by
  simp only [V]
  open StableHlo in after_results

/-- The product is the reference's result, from the same arguments: the reference multiplies the other way round and transposes. -/
theorem ref_eq (X : FVec Ideal S2048x1024 .f32) (Y : FVec Ideal S2048x4608 .f32) :
    mul (transpose S1024x2048 [1, 0] (truncf (F := Ideal) .bf16 X bitsLt_bf16_f32) transposes_S2048x1024_S1024x2048_1_0) (truncf (F := Ideal) .bf16 Y bitsLt_bf16_f32)
      = transpose Cert.QkvDwRefIdeal.S1024x4608 [1, 0] (Host.dotGeneral (F := Ideal) Cert.QkvDwRefIdeal.dot_S2048x4608_S2048x1024_S4608x1024_0_0_1_1_n_n none Y X : FVec Ideal Cert.QkvDwRefIdeal.S4608x1024 .f32) Cert.QkvDwRefIdeal.Gen.transposes_S4608x1024_S1024x4608_1_0 := by
  funext i
  idx_vars i
  pointwise [mul]
  exact Finset.sum_congr rfl fun k _ => mul_comm _ _

/-- From equal arguments both programs end, with equal results. -/
theorem algebraic : Cert.algebraic_QkvDwIdeal_QkvDwRefIdeal := by
  intro m g m' g' _ hargs
  refine ⟨fun c => (dats m 0 c).arrAt 2 cfg0.N, Value.run_blocks m g, ?_⟩
  refine (θ_run _ _ _).mono (fun r h c => ⟨?_, (h c).2⟩) (Cert.QkvDwRefIdeal.Value.run m' g')
  show _ = (dats m 0 c).arrAt 2 cfg0.N
  rw [(h c).1, final, left_eq, right_eq, ref_eq, (hargs c).1, (hargs c).2]

theorem frame_printed : Cert.quiescent_QkvDw := fun m ρ _ => Cert.QkvDw.Gen.frame m ρ
theorem frame_ideal : Cert.quiescent_QkvDwIdeal := fun m ρ _ => Gen.frame m ρ
theorem frame_reference : Cert.quiescent_QkvDwRefIdeal := fun m ρ _ =>
  (θ_run Cert.QkvDwRefIdeal.defs _ _).mono (fun r h => ⟨fun c => (h c).2, sem_eq_zero_of_no_sems (by decide) r.2⟩) (Cert.QkvDwRefIdeal.Value.run m ρ)

end Cert.QkvDwIdeal.Prod

end
-- ==== Proof.Products.QkvDx.lean ====
module

public import proofs.«01_k».proof.Defs
public import proofs.«01_k».proof.Proof.Gen.QkvDx.Frame
public import proofs.«01_k».proof.Proof.Gen.QkvDxIdeal.Value
public import proofs.«01_k».proof.Proof.Gen.QkvDxRefIdeal.Run
public import proofs.«01_k».proof.Proof.Products.Common

/-! The gradient through the attention's first projection: the kernel's array is the gradient of the projection times
the transposed weights. The sum over the 4608 columns is taken in three parts, kept in scratch. -/

@[expose] public section

set_option maxRecDepth 16384

noncomputable section

namespace Cert.QkvDxIdeal.Prod

open Cert.QkvDxIdeal Cert.QkvDxIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_first (x0 : Vec Ideal S2048x1536 .bf16) (x1 : Vec Ideal S512x1536 .bf16) : k0_pay2 x0 x1 = mulT x0 x1 := by
  funext j
  idx_vars j
  pointwise! [k0_pay2, k0_pay1, mulT]

theorem pay_second (x0 : Vec Ideal S2048x1536 .bf16) (x1 : Vec Ideal S512x1536 .bf16) (xs : Vec Ideal S2048x512 .f32) (j : S2048x512.Idx) :
    k0_pay3 x0 x1 xs j = ((xs j : EReal) + mulT x0 x1 j : EReal) := by
  idx_vars j
  pointwise! [k0_pay3, k0_pay1, mulT]

theorem idx0 : ∀ t : Fin cfg0.N, win0_0.index t = ![0, t.val % 3] := (by decide +kernel : ∀ t : Fin grid0.N, _)
theorem idx1 : ∀ t : Fin cfg0.N, win0_1.index t = ![t.val / 3, t.val % 3] := (by decide +kernel : ∀ t : Fin grid0.N, _)
theorem idx2 : ∀ t : Fin cfg0.N, win0_2.index t = ![0, t.val / 3] := (by decide +kernel : ∀ t : Fin grid0.N, _)

/-- The first point of three leaves its part's product in scratch. -/
theorem first_left (c : Dev nD) (t : Fin cfg0.N) (h : t.val % 3 = 0) :
    (outsAt0 m c t.val t.isLt).2 = mulT (iblk m c 0 t) (iblk m c 1 t) := by
  rw [outsAt0_A m c t h (by omega) (by omega)]
  frame_out
  rw [pay_first]

/-- The second point leaves the sum of two parts in scratch. -/
theorem second_left (c : Dev nD) (t : Fin cfg0.N) (h : t.val % 3 = 1) (hp : t.val - 1 < cfg0.N) (j : S2048x512.Idx) :
    (outsAt0 m c t.val t.isLt).2 j = ((mulT (iblk m c 0 ⟨t.val - 1, hp⟩) (iblk m c 1 ⟨t.val - 1, hp⟩) j : EReal) + mulT (iblk m c 0 t) (iblk m c 1 t) j : EReal) := by
  have e := first_left m c ⟨t.val - 1, hp⟩ (by dsimp only; omega)
  dsimp only at e
  rw [outsAt0_B m c t (by omega) (by omega) (by omega)]
  frame_out
  rw [pay_second, e, (Memref.isWhole_whole _).read_unread]

/-- The third point leaves the sum of all three in the result's block. -/
theorem third_left (c : Dev nD) (t : Fin cfg0.N) (h : t.val % 3 = 2) (hp : t.val - 1 < cfg0.N) (hq : t.val - 1 - 1 < cfg0.N) (j : S2048x512.Idx) :
    (outsAt0 m c t.val t.isLt).1 j = ((mulT (iblk m c 0 ⟨t.val - 1 - 1, hq⟩) (iblk m c 1 ⟨t.val - 1 - 1, hq⟩) j : EReal) + mulT (iblk m c 0 ⟨t.val - 1, hp⟩) (iblk m c 1 ⟨t.val - 1, hp⟩) j + mulT (iblk m c 0 t) (iblk m c 1 t) j : EReal) := by
  have e := second_left m c ⟨t.val - 1, hp⟩ (by dsimp only; omega) hq j
  dsimp only at e
  rw [outsAt0_C m c t (by omega) (by omega) h]
  frame_out
  rw [pay_second, (Memref.isWhole_whole _).read_unread, e]

/-- The array after the run is the product of the two arrays the call is given. -/
theorem final (c : Dev nD) : (dats m 0 c).arrAt 2 cfg0.N = mulT (V m c main_v0) (V m c main_v1) := by
  refine (dats m 0 c).arrAt_eq_of_covers 2 _ (by decide +kernel) fun t hf y => ?_
  have h : t.val % 3 = 2 := (flush0_2 t).mp hf
  have hp : t.val - 1 < cfg0.N := Nat.lt_of_le_of_lt (Nat.sub_le _ _) t.isLt
  have hq : t.val - 1 - 1 < cfg0.N := Nat.lt_of_le_of_lt (Nat.sub_le _ _) hp
  have p : (t.val - 1) % 3 = 1 := by omega
  have p' : (t.val - 1 - 1) % 3 = 0 := by omega
  have q : (t.val - 1) / 3 = t.val / 3 := by omega
  have q' : (t.val - 1 - 1) / 3 = t.val / 3 := by omega
  blk_simp
  rw [after0_2]
  refine (third_left m c t h hp hq y).trans ?_
  refine mulT_thirds (b := 1536) _ _ _ _ _ _ _ _ _ _ (fun k => congrArg (V m c main_v0) ?_) (fun k => congrArg (V m c main_v1) ?_)
    (fun k => congrArg (V m c main_v0) ?_) (fun k => congrArg (V m c main_v1) ?_) (fun k => congrArg (V m c main_v0) ?_) (fun k => congrArg (V m c main_v1) ?_)
  · blk_ext [idx0, idx2, p', Fin.val_castAdd]
  · blk_ext [idx1, idx2, p', q', Fin.val_castAdd]
  · blk_ext [idx0, idx2, p, Fin.val_castAdd, Fin.val_natAdd]
  · blk_ext [idx1, idx2, p, q, Fin.val_castAdd, Fin.val_natAdd]
  · blk_ext [idx0, idx2, h, Fin.val_natAdd]
  · blk_ext [idx1, idx2, h, Fin.val_natAdd]

theorem left_eq (c : Dev nD) : V m c main_v0 = truncf (F := Ideal) .bf16 (m ((c.tc : Thread nD τ).loc main_arg1)) bitsLt_bf16_f32 := by
  simp only [V]
  open StableHlo in after_results

theorem right_eq (c : Dev nD) : V m c main_v1 = truncf (F := Ideal) .bf16 (m ((c.tc : Thread nD τ).loc main_arg0)) bitsLt_bf16_f32 := by
  simp only [V]
  open StableHlo in after_results

/-- The product is the reference's result, from the same arguments. -/
theorem ref_eq (W : FVec Ideal S1024x4608 .f32) (Y : FVec Ideal S2048x4608 .f32) :
    mulT (truncf (F := Ideal) .bf16 Y bitsLt_bf16_f32) (truncf (F := Ideal) .bf16 W bitsLt_bf16_f32)
      = (Host.dotGeneral (F := Ideal) Cert.QkvDxRefIdeal.dot_S2048x4608_S1024x4608_S2048x1024_1_1_0_0_n_n none Y W : FVec Ideal S2048x1024 .f32) := by
  funext i
  idx_vars i
  pointwise [mulT]

/-- From equal arguments both programs end, with equal results. -/
theorem algebraic : Cert.algebraic_QkvDxIdeal_QkvDxRefIdeal := by
  intro m g m' g' _ hargs
  refine ⟨fun c => (dats m 0 c).arrAt 2 cfg0.N, Value.run_blocks m g, ?_⟩
  refine (θ_run _ _ _).mono (fun r h c => ⟨?_, (h c).2⟩) (Cert.QkvDxRefIdeal.Value.run m' g')
  show _ = (dats m 0 c).arrAt 2 cfg0.N
  rw [(h c).1, final, left_eq, right_eq, ref_eq, (hargs c).1, (hargs c).2]

theorem frame_printed : Cert.quiescent_QkvDx := fun m ρ _ => Cert.QkvDx.Gen.frame m ρ
theorem frame_ideal : Cert.quiescent_QkvDxIdeal := fun m ρ _ => Gen.frame m ρ
theorem frame_reference : Cert.quiescent_QkvDxRefIdeal := fun m ρ _ =>
  (θ_run Cert.QkvDxRefIdeal.defs _ _).mono (fun r h => ⟨fun c => (h c).2, sem_eq_zero_of_no_sems (by decide) r.2⟩) (Cert.QkvDxRefIdeal.Value.run m ρ)

end Cert.QkvDxIdeal.Prod

end
-- ==== Proof.Products.DilOut.lean ====
module

public import proofs.«01_k».proof.Defs
public import proofs.«01_k».proof.Proof.Gen.DilOut.Frame
public import proofs.«01_k».proof.Proof.Gen.DilOutIdeal.Value
public import proofs.«01_k».proof.Proof.Gen.DilOutRefIdeal.Run
public import proofs.«01_k».proof.Proof.Products.Common

/-! The attention's last projection: the kernel's array is the product of its input and the weights. -/

@[expose] public section

set_option maxRecDepth 16384

noncomputable section

namespace Cert.DilOutIdeal.Prod

open Cert.DilOutIdeal Cert.DilOutIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_eq (x0 : Vec Ideal S2048x512 .bf16) (x1 : Vec Ideal S512x512 .bf16) : k0_pay1 x0 x1 = mul x0 x1 := by
  funext j
  idx_vars j
  pointwise! [k0_pay1, mul]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The array after the run is the product of the two arrays the call is given. -/
theorem final (c : Dev nD) : (dats m 0 c).arrAt 2 cfg0.N = mul (V m c main_v0) (V m c main_v1) := by
  refine (dats m 0 c).arrAt_eq_of_covers 2 _ (by decide +kernel) fun t hf y => ?_
  blk_simp
  rw [after0_2]
  frame_out
  rw [pay_eq]
  refine mul_congr _ _ _ _ _ _ (fun k => congrArg (V m c main_v0) ?_) (fun k => congrArg (V m c main_v1) ?_)
  · blk_ext [idx0, idx2]
  · blk_ext [idx1, idx2]

theorem left_eq (c : Dev nD) : V m c main_v0 = truncf (F := Ideal) .bf16 (m ((c.tc : Thread nD τ).loc main_arg0)) bitsLt_bf16_f32 := by
  simp only [V]
  open StableHlo in after_results

theorem right_eq (c : Dev nD) : V m c main_v1 = truncf (F := Ideal) .bf16 (m ((c.tc : Thread nD τ).loc main_arg1)) bitsLt_bf16_f32 := by
  simp only [V]
  open StableHlo in after_results

/-- The product is the reference's result, from the same arguments. -/
theorem ref_eq (X : FVec Ideal S2048x512 .f32) (W : FVec Ideal S512x1024 .f32) :
    mul (truncf (F := Ideal) .bf16 X bitsLt_bf16_f32) (truncf (F := Ideal) .bf16 W bitsLt_bf16_f32)
      = (Host.dotGeneral (F := Ideal) Cert.DilOutRefIdeal.dot_S2048x512_S512x1024_S2048x1024_1_0_0_1_n_n none X W : FVec Ideal S2048x1024 .f32) := by
  funext i
  idx_vars i
  pointwise [mul]

/-- From equal arguments both programs end, with equal results. -/
theorem algebraic : Cert.algebraic_DilOutIdeal_DilOutRefIdeal := by
  intro m g m' g' _ hargs
  refine ⟨fun c => (dats m 0 c).arrAt 2 cfg0.N, Value.run_blocks m g, ?_⟩
  refine (θ_run _ _ _).mono (fun r h c => ⟨?_, (h c).2⟩) (Cert.DilOutRefIdeal.Value.run m' g')
  show _ = (dats m 0 c).arrAt 2 cfg0.N
  rw [(h c).1, final, left_eq, right_eq, ref_eq, (hargs c).1, (hargs c).2]

theorem frame_printed : Cert.quiescent_DilOut := fun m ρ _ => Cert.DilOut.Gen.frame m ρ
theorem frame_ideal : Cert.quiescent_DilOutIdeal := fun m ρ _ => Gen.frame m ρ
theorem frame_reference : Cert.quiescent_DilOutRefIdeal := fun m ρ _ =>
  (θ_run Cert.DilOutRefIdeal.defs _ _).mono (fun r h => ⟨fun c => (h c).2, sem_eq_zero_of_no_sems (by decide) r.2⟩) (Cert.DilOutRefIdeal.Value.run m ρ)

end Cert.DilOutIdeal.Prod

end
-- ==== Proof.Products.DilOutDw.lean ====
module

public import proofs.«01_k».proof.Defs
public import proofs.«01_k».proof.Proof.Gen.DilOutDw.Frame
public import proofs.«01_k».proof.Proof.Gen.DilOutDwIdeal.Value
public import proofs.«01_k».proof.Proof.Gen.DilOutDwRefIdeal.Run
public import proofs.«01_k».proof.Proof.Products.Common

/-! The gradient of the attention's last weights: the kernel's array is the product of the transposed
input and the gradient of the projection, summed over all 2048 rows. -/

@[expose] public section

set_option maxRecDepth 16384

noncomputable section

namespace Cert.DilOutDwIdeal.Prod

open Cert.DilOutDwIdeal Cert.DilOutDwIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_eq (x0 : Vec Ideal S512x2048 .bf16) (x1 : Vec Ideal S2048x512 .bf16) : k0_pay1 x0 x1 = mul x0 x1 := by
  funext j
  idx_vars j
  pointwise! [k0_pay1, mul]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The array after the run is the product of the two arrays the call is given. -/
theorem final (c : Dev nD) : (dats m 0 c).arrAt 2 cfg0.N = mul (V m c main_v1) (V m c main_v2) := by
  refine (dats m 0 c).arrAt_eq_of_covers 2 _ (by decide +kernel) fun t hf y => ?_
  blk_simp
  rw [after0_2]
  frame_out
  rw [pay_eq]
  refine mul_congr _ _ _ _ _ _ (fun k => congrArg (V m c main_v1) ?_) (fun k => congrArg (V m c main_v2) ?_)
  · blk_ext [idx0, idx2]
  · blk_ext [idx1, idx2]

theorem left_eq (c : Dev nD) : V m c main_v1 = transpose S512x2048 [1, 0] (truncf (F := Ideal) .bf16 (m ((c.tc : Thread nD τ).loc main_arg0)) bitsLt_bf16_f32) transposes_S2048x512_S512x2048_1_0 := by
  simp only [V]
  open StableHlo in after_results

theorem right_eq (c : Dev nD) : V m c main_v2 = truncf (F := Ideal) .bf16 (m ((c.tc : Thread nD τ).loc main_arg1)) bitsLt_bf16_f32 := by
  simp only [V]
  open StableHlo in after_results

/-- The product is the reference's result, from the same arguments: the reference multiplies the other way round and transposes. -/
theorem ref_eq (X : FVec Ideal S2048x512 .f32) (Y : FVec Ideal S2048x1024 .f32) :
    mul (transpose S512x2048 [1, 0] (truncf (F := Ideal) .bf16 X bitsLt_bf16_f32) transposes_S2048x512_S512x2048_1_0) (truncf (F := Ideal) .bf16 Y bitsLt_bf16_f32)
      = transpose Cert.DilOutDwRefIdeal.S512x1024 [1, 0] (Host.dotGeneral (F := Ideal) Cert.DilOutDwRefIdeal.dot_S2048x1024_S2048x512_S1024x512_0_0_1_1_n_n none Y X : FVec Ideal Cert.DilOutDwRefIdeal.S1024x512 .f32) Cert.DilOutDwRefIdeal.Gen.transposes_S1024x512_S512x1024_1_0 := by
  funext i
  idx_vars i
  pointwise [mul]
  exact Finset.sum_congr rfl fun k _ => mul_comm _ _

/-- From equal arguments both programs end, with equal results. -/
theorem algebraic : Cert.algebraic_DilOutDwIdeal_DilOutDwRefIdeal := by
  intro m g m' g' _ hargs
  refine ⟨fun c => (dats m 0 c).arrAt 2 cfg0.N, Value.run_blocks m g, ?_⟩
  refine (θ_run _ _ _).mono (fun r h c => ⟨?_, (h c).2⟩) (Cert.DilOutDwRefIdeal.Value.run m' g')
  show _ = (dats m 0 c).arrAt 2 cfg0.N
  rw [(h c).1, final, left_eq, right_eq, ref_eq, (hargs c).1, (hargs c).2]

theorem frame_printed : Cert.quiescent_DilOutDw := fun m ρ _ => Cert.DilOutDw.Gen.frame m ρ
theorem frame_ideal : Cert.quiescent_DilOutDwIdeal := fun m ρ _ => Gen.frame m ρ
theorem frame_reference : Cert.quiescent_DilOutDwRefIdeal := fun m ρ _ =>
  (θ_run Cert.DilOutDwRefIdeal.defs _ _).mono (fun r h => ⟨fun c => (h c).2, sem_eq_zero_of_no_sems (by decide) r.2⟩) (Cert.DilOutDwRefIdeal.Value.run m ρ)

end Cert.DilOutDwIdeal.Prod

end
-- ==== Proof.Products.DilOutDx.lean ====
module

public import proofs.«01_k».proof.Defs
public import proofs.«01_k».proof.Proof.Gen.DilOutDx.Frame
public import proofs.«01_k».proof.Proof.Gen.DilOutDxIdeal.Value
public import proofs.«01_k».proof.Proof.Gen.DilOutDxRefIdeal.Run
public import proofs.«01_k».proof.Proof.Products.Common

/-! The gradient through the attention's last projection: the kernel's array is the gradient of its output times the
transposed weights. -/

@[expose] public section

set_option maxRecDepth 16384

noncomputable section

namespace Cert.DilOutDxIdeal.Prod

open Cert.DilOutDxIdeal Cert.DilOutDxIdeal.Gen Cert.Products Idealize.ShloMosaic Idealize.ShloMosaic.TcCoe Idealize.SL.Sem
open Idealize.ShloMosaic.Pipeline (Dat)

variable (m : (ℓ : Loc nD τ sig) → Buf (Elt Ideal) ℓ)

theorem pay_eq (x0 : Vec Ideal S2048x1024 .bf16) (x1 : Vec Ideal S512x1024 .bf16) : k0_pay1 x0 x1 = mulT x0 x1 := by
  funext j
  idx_vars j
  pointwise! [k0_pay1, mulT]

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)

/-- The array after the run is the product of the two arrays the call is given. -/
theorem final (c : Dev nD) : (dats m 0 c).arrAt 2 cfg0.N = mulT (V m c main_v0) (V m c main_v1) := by
  refine (dats m 0 c).arrAt_eq_of_covers 2 _ (by decide +kernel) fun t hf y => ?_
  blk_simp
  rw [after0_2]
  frame_out
  rw [pay_eq]
  refine mulT_congr _ _ _ _ _ _ (fun k => congrArg (V m c main_v0) ?_) (fun k => congrArg (V m c main_v1) ?_)
  · blk_ext [idx0, idx2]
  · blk_ext [idx1, idx2]

theorem left_eq (c : Dev nD) : V m c main_v0 = truncf (F := Ideal) .bf16 (m ((c.tc : Thread nD τ).loc main_arg1)) bitsLt_bf16_f32 := by
  simp only [V]
  open StableHlo in after_results

theorem right_eq (c : Dev nD) : V m c main_v1 = truncf (F := Ideal) .bf16 (m ((c.tc : Thread nD τ).loc main_arg0)) bitsLt_bf16_f32 := by
  simp only [V]
  open StableHlo in after_results

/-- The product is the reference's result, from the same arguments. -/
theorem ref_eq (W : FVec Ideal S512x1024 .f32) (Y : FVec Ideal S2048x1024 .f32) :
    mulT (truncf (F := Ideal) .bf16 Y bitsLt_bf16_f32) (truncf (F := Ideal) .bf16 W bitsLt_bf16_f32)
      = (Host.dotGeneral (F := Ideal) Cert.DilOutDxRefIdeal.dot_S2048x1024_S512x1024_S2048x512_1_1_0_0_n_n none Y W : FVec Ideal S2048x512 .f32) := by
  funext i
  idx_vars i
  pointwise [mulT]

/-- From equal arguments both programs end, with equal results. -/
theorem algebraic : Cert.algebraic_DilOutDxIdeal_DilOutDxRefIdeal := by
  intro m g m' g' _ hargs
  refine ⟨fun c => (dats m 0 c).arrAt 2 cfg0.N, Value.run_blocks m g, ?_⟩
  refine (θ_run _ _ _).mono (fun r h c => ⟨?_, (h c).2⟩) (Cert.DilOutDxRefIdeal.Value.run m' g')
  show _ = (dats m 0 c).arrAt 2 cfg0.N
  rw [(h c).1, final, left_eq, right_eq, ref_eq, (hargs c).1, (hargs c).2]

theorem frame_printed : Cert.quiescent_DilOutDx := fun m ρ _ => Cert.DilOutDx.Gen.frame m ρ
theorem frame_ideal : Cert.quiescent_DilOutDxIdeal := fun m ρ _ => Gen.frame m ρ
theorem frame_reference : Cert.quiescent_DilOutDxRefIdeal := fun m ρ _ =>
  (θ_run Cert.DilOutDxRefIdeal.defs _ _).mono (fun r h => ⟨fun c => (h c).2, sem_eq_zero_of_no_sems (by decide) r.2⟩) (Cert.DilOutDxRefIdeal.Value.run m ρ)

end Cert.DilOutDxIdeal.Prod

end
-- ==== Proof.lean ====
/- The claim: the frames of the recurrence's backward call and of its reference, and the frames and values of the products of
   the square-relu MLP and of the mixers' projections, with their gradients. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Scan.Run
public import proofs.«01_k».proof.Proof.Scan.RefRun
public import proofs.«01_k».proof.Proof.ScanBits.Run
public import proofs.«01_k».proof.Proof.Mlp.Dh
public import proofs.«01_k».proof.Proof.Mlp.Dw2
public import proofs.«01_k».proof.Proof.Mlp.Du
public import proofs.«01_k».proof.Proof.Mlp.Dw1
public import proofs.«01_k».proof.Proof.Products.MlpUp
public import proofs.«01_k».proof.Proof.Products.MlpDown
public import proofs.«01_k».proof.Proof.Products.AbIn
public import proofs.«01_k».proof.Proof.Products.AbInDw
public import proofs.«01_k».proof.Proof.Products.AbInDx
public import proofs.«01_k».proof.Proof.Products.AbOut
public import proofs.«01_k».proof.Proof.Products.AbOutDw
public import proofs.«01_k».proof.Proof.Products.AbOutDx
public import proofs.«01_k».proof.Proof.Products.Qkv
public import proofs.«01_k».proof.Proof.Products.QkvDw
public import proofs.«01_k».proof.Proof.Products.QkvDx
public import proofs.«01_k».proof.Proof.Products.DilOut
public import proofs.«01_k».proof.Proof.Products.DilOutDw
public import proofs.«01_k».proof.Proof.Products.DilOutDx

@[expose] public section

noncomputable section

namespace Cert.Proof

open Idealize.ShloMosaic Idealize.ShloMosaic.TcCoe

instance : Cert.Kernel.Facts := Cert.Kernel.Gen.facts
instance : Cert.KernelIdeal.Facts := Cert.KernelIdeal.Gen.facts
instance : Cert.ReferenceIdeal.Facts := Cert.ReferenceIdeal.Gen.facts

open Cert.Kernel in
/-- What the frame says of the seven arguments of the program as printed, from what it says of a list of them. -/
theorem seven₀ {α : Ref sig .tc → Prop} (h : ∀ a ∈ Cert.Kernel.Scan.argRefs, α a) :
    α main_arg0 ∧ α main_arg1 ∧ α main_arg2 ∧ α main_arg3 ∧ α main_arg4 ∧ α main_arg5 ∧ α main_arg6 :=
  ⟨h _ (by decide), h _ (by decide), h _ (by decide), h _ (by decide), h _ (by decide), h _ (by decide), h _ (by decide)⟩

open Cert.KernelIdeal in
/-- What the frame says of the seven arguments, from what it says of a list of them. -/
theorem seven {α : Ref sig .tc → Prop} (h : ∀ a ∈ Cert.KernelIdeal.Scan.argRefs, α a) :
    α main_arg0 ∧ α main_arg1 ∧ α main_arg2 ∧ α main_arg3 ∧ α main_arg4 ∧ α main_arg5 ∧ α main_arg6 :=
  ⟨h _ (by decide), h _ (by decide), h _ (by decide), h _ (by decide), h _ (by decide), h _ (by decide), h _ (by decide)⟩

open Cert.ReferenceIdeal in
/-- The same of the reference's. -/
theorem seven' {α : Ref sig .tc → Prop} (h : ∀ a ∈ Cert.ReferenceIdeal.Scan.argRefs, α a) :
    α main_arg0 ∧ α main_arg1 ∧ α main_arg2 ∧ α main_arg3 ∧ α main_arg4 ∧ α main_arg5 ∧ α main_arg6 :=
  ⟨h _ (by decide), h _ (by decide), h _ (by decide), h _ (by decide), h _ (by decide), h _ (by decide), h _ (by decide)⟩

theorem frame_kernel : Cert.quiescent_Kernel := fun m ρ _ =>
  (θ_run Cert.Kernel.defs _ _).mono (fun _ h => ⟨fun c => seven₀ (h.1 c), h.2⟩) (Cert.Kernel.Scan.frame_any (F := Bits) m ρ)

theorem frame_ideal : Cert.quiescent_KernelIdeal := fun m ρ _ =>
  (θ_run Cert.KernelIdeal.defs _ _).mono (fun _ h => ⟨fun c => seven (h.1 c), h.2⟩) (Cert.KernelIdeal.Scan.frame_any (F := Ideal) m ρ)

theorem frame_reference : Cert.quiescent_ReferenceIdeal := fun m ρ _ =>
  (θ_run Cert.ReferenceIdeal.defs _ _).mono (fun _ h => ⟨fun c => seven' (h.1 c), h.2⟩) (Cert.ReferenceIdeal.Scan.frame_any (F := Ideal) m ρ)

theorem claim : Cert.Claim :=
  ⟨Cert.Kernel.Gen.facts, Cert.KernelIdeal.Gen.facts, Cert.ReferenceIdeal.Gen.facts, Cert.MlpDh.Gen.facts, Cert.MlpDhIdeal.Gen.facts, Cert.MlpDhRefIdeal.Gen.facts, Cert.MlpDw2.Gen.facts, Cert.MlpDw2Ideal.Gen.facts, Cert.MlpDw2RefIdeal.Gen.facts, Cert.MlpDu.Gen.facts, Cert.MlpDuIdeal.Gen.facts, Cert.MlpDuRefIdeal.Gen.facts, Cert.MlpDw1.Gen.facts, Cert.MlpDw1Ideal.Gen.facts, Cert.MlpDw1RefIdeal.Gen.facts,
    Cert.MlpUp.Gen.facts, Cert.MlpUpIdeal.Gen.facts, Cert.MlpUpRefIdeal.Gen.facts,
    Cert.MlpDown.Gen.facts, Cert.MlpDownIdeal.Gen.facts, Cert.MlpDownRefIdeal.Gen.facts,
    Cert.AbIn.Gen.facts, Cert.AbInIdeal.Gen.facts, Cert.AbInRefIdeal.Gen.facts,
    Cert.AbInDw.Gen.facts, Cert.AbInDwIdeal.Gen.facts, Cert.AbInDwRefIdeal.Gen.facts,
    Cert.AbInDx.Gen.facts, Cert.AbInDxIdeal.Gen.facts, Cert.AbInDxRefIdeal.Gen.facts,
    Cert.AbOut.Gen.facts, Cert.AbOutIdeal.Gen.facts, Cert.AbOutRefIdeal.Gen.facts,
    Cert.AbOutDw.Gen.facts, Cert.AbOutDwIdeal.Gen.facts, Cert.AbOutDwRefIdeal.Gen.facts,
    Cert.AbOutDx.Gen.facts, Cert.AbOutDxIdeal.Gen.facts, Cert.AbOutDxRefIdeal.Gen.facts,
    Cert.Qkv.Gen.facts, Cert.QkvIdeal.Gen.facts, Cert.QkvRefIdeal.Gen.facts,
    Cert.QkvDw.Gen.facts, Cert.QkvDwIdeal.Gen.facts, Cert.QkvDwRefIdeal.Gen.facts,
    Cert.QkvDx.Gen.facts, Cert.QkvDxIdeal.Gen.facts, Cert.QkvDxRefIdeal.Gen.facts,
    Cert.DilOut.Gen.facts, Cert.DilOutIdeal.Gen.facts, Cert.DilOutRefIdeal.Gen.facts,
    Cert.DilOutDw.Gen.facts, Cert.DilOutDwIdeal.Gen.facts, Cert.DilOutDwRefIdeal.Gen.facts,
    Cert.DilOutDx.Gen.facts, Cert.DilOutDxIdeal.Gen.facts, Cert.DilOutDxRefIdeal.Gen.facts,
    frame_kernel, frame_ideal, frame_reference,
    Cert.MlpDhIdeal.Prod.frame_printed, Cert.MlpDhIdeal.Prod.frame_ideal, Cert.MlpDhIdeal.Prod.frame_reference,
    Cert.MlpDw2Ideal.Prod.frame_printed, Cert.MlpDw2Ideal.Prod.frame_ideal, Cert.MlpDw2Ideal.Prod.frame_reference,
    Cert.MlpDuIdeal.Prod.frame_printed, Cert.MlpDuIdeal.Prod.frame_ideal, Cert.MlpDuIdeal.Prod.frame_reference,
    Cert.MlpDw1Ideal.Prod.frame_printed, Cert.MlpDw1Ideal.Prod.frame_ideal, Cert.MlpDw1Ideal.Prod.frame_reference,
    Cert.MlpUpIdeal.Prod.frame_printed, Cert.MlpUpIdeal.Prod.frame_ideal, Cert.MlpUpIdeal.Prod.frame_reference,
    Cert.MlpDownIdeal.Prod.frame_printed, Cert.MlpDownIdeal.Prod.frame_ideal, Cert.MlpDownIdeal.Prod.frame_reference,
    Cert.AbInIdeal.Prod.frame_printed, Cert.AbInIdeal.Prod.frame_ideal, Cert.AbInIdeal.Prod.frame_reference,
    Cert.AbInDwIdeal.Prod.frame_printed, Cert.AbInDwIdeal.Prod.frame_ideal, Cert.AbInDwIdeal.Prod.frame_reference,
    Cert.AbInDxIdeal.Prod.frame_printed, Cert.AbInDxIdeal.Prod.frame_ideal, Cert.AbInDxIdeal.Prod.frame_reference,
    Cert.AbOutIdeal.Prod.frame_printed, Cert.AbOutIdeal.Prod.frame_ideal, Cert.AbOutIdeal.Prod.frame_reference,
    Cert.AbOutDwIdeal.Prod.frame_printed, Cert.AbOutDwIdeal.Prod.frame_ideal, Cert.AbOutDwIdeal.Prod.frame_reference,
    Cert.AbOutDxIdeal.Prod.frame_printed, Cert.AbOutDxIdeal.Prod.frame_ideal, Cert.AbOutDxIdeal.Prod.frame_reference,
    Cert.QkvIdeal.Prod.frame_printed, Cert.QkvIdeal.Prod.frame_ideal, Cert.QkvIdeal.Prod.frame_reference,
    Cert.QkvDwIdeal.Prod.frame_printed, Cert.QkvDwIdeal.Prod.frame_ideal, Cert.QkvDwIdeal.Prod.frame_reference,
    Cert.QkvDxIdeal.Prod.frame_printed, Cert.QkvDxIdeal.Prod.frame_ideal, Cert.QkvDxIdeal.Prod.frame_reference,
    Cert.DilOutIdeal.Prod.frame_printed, Cert.DilOutIdeal.Prod.frame_ideal, Cert.DilOutIdeal.Prod.frame_reference,
    Cert.DilOutDwIdeal.Prod.frame_printed, Cert.DilOutDwIdeal.Prod.frame_ideal, Cert.DilOutDwIdeal.Prod.frame_reference,
    Cert.DilOutDxIdeal.Prod.frame_printed, Cert.DilOutDxIdeal.Prod.frame_ideal, Cert.DilOutDxIdeal.Prod.frame_reference,
    trivial,
    trivial, Cert.MlpDhIdeal.Prod.algebraic,
    trivial, Cert.MlpDw2Ideal.Prod.algebraic,
    trivial, Cert.MlpDuIdeal.Prod.algebraic,
    trivial, Cert.MlpDw1Ideal.Prod.algebraic,
    trivial, Cert.MlpUpIdeal.Prod.algebraic,
    trivial, Cert.MlpDownIdeal.Prod.algebraic,
    trivial, Cert.AbInIdeal.Prod.algebraic,
    trivial, Cert.AbInDwIdeal.Prod.algebraic,
    trivial, Cert.AbInDxIdeal.Prod.algebraic,
    trivial, Cert.AbOutIdeal.Prod.algebraic,
    trivial, Cert.AbOutDwIdeal.Prod.algebraic,
    trivial, Cert.AbOutDxIdeal.Prod.algebraic,
    trivial, Cert.QkvIdeal.Prod.algebraic,
    trivial, Cert.QkvDwIdeal.Prod.algebraic,
    trivial, Cert.QkvDxIdeal.Prod.algebraic,
    trivial, Cert.DilOutIdeal.Prod.algebraic,
    trivial, Cert.DilOutDwIdeal.Prod.algebraic,
    trivial, Cert.DilOutDxIdeal.Prod.algebraic⟩

end Cert.Proof

end
